-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_MgProj (m : (ℓ : Loc Cert.MgProj.nD Cert.MgProj.τ Cert.MgProj.sig) → Buf (Elt Bits) ℓ) : Prop :=
  True

def Pre_MgProjIdeal (m : (ℓ : Loc Cert.MgProjIdeal.nD Cert.MgProjIdeal.τ Cert.MgProjIdeal.sig) → Buf (Elt Ideal) ℓ) : Prop :=
  True

def Pre_MgProjRefIdeal (m : (ℓ : Loc Cert.MgProjRefIdeal.nD Cert.MgProjRefIdeal.τ Cert.MgProjRefIdeal.sig) → Buf (Elt Ideal) ℓ) : Prop :=
  True

def Pre_QgProj (m : (ℓ : Loc Cert.QgProj.nD Cert.QgProj.τ Cert.QgProj.sig) → Buf (Elt Bits) ℓ) : Prop :=
  True

def Pre_QgProjIdeal (m : (ℓ : Loc Cert.QgProjIdeal.nD Cert.QgProjIdeal.τ Cert.QgProjIdeal.sig) → Buf (Elt Ideal) ℓ) : Prop :=
  True

def Pre_QgProjRefIdeal (m : (ℓ : Loc Cert.QgProjRefIdeal.nD Cert.QgProjRefIdeal.τ Cert.QgProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_KvProj (m : (ℓ : Loc Cert.KvProj.nD Cert.KvProj.τ Cert.KvProj.sig) → Buf (Elt Bits) ℓ) : Prop :=
  True

def Pre_KvProjIdeal (m : (ℓ : Loc Cert.KvProjIdeal.nD Cert.KvProjIdeal.τ Cert.KvProjIdeal.sig) → Buf (Elt Ideal) ℓ) : Prop :=
  True

def Pre_KvProjRefIdeal (m : (ℓ : Loc Cert.KvProjRefIdeal.nD Cert.KvProjRefIdeal.τ Cert.KvProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_me_finite [hPre_me_finite : Cert.Pre_me_finite.Facts] (m : (ℓ : Loc Cert.MergeIdeal.nD Cert.MergeIdeal.τ Cert.MergeIdeal.sig) → Buf (Elt Ideal) ℓ) : Prop :=
  ∀ c : Dev Cert.MergeIdeal.nD,
    (Cert.Pre_me_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7))).1 = (fun _ => 1#1)
    ∧ (Cert.Pre_me_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7))).2.1 = (fun _ => 1#1)
    ∧ (Cert.Pre_me_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7))).2.2.1 = (fun _ => 1#1)
    ∧ (Cert.Pre_me_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7))).2.2.2.1 = (fun _ => 1#1)
    ∧ (Cert.Pre_me_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7))).2.2.2.2.1 = (fun _ => 1#1)
    ∧ (Cert.Pre_me_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7))).2.2.2.2.2.1 = (fun _ => 1#1)
    ∧ (Cert.Pre_me_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7))).2.2.2.2.2.2.1 = (fun _ => 1#1)
    ∧ (Cert.Pre_me_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7))).2.2.2.2.2.2.2.1 = (fun _ => 1#1)
    ∧ (Cert.Pre_me_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7))).2.2.2.2.2.2.2.2 = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_me_finite [hPre_me_finite : Cert.Pre_me_finite.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_me_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7))).1 = (fun _ => 1#1)
    ∧ (Cert.Pre_me_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7))).2.1 = (fun _ => 1#1)
    ∧ (Cert.Pre_me_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7))).2.2.1 = (fun _ => 1#1)
    ∧ (Cert.Pre_me_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7))).2.2.2.1 = (fun _ => 1#1)
    ∧ (Cert.Pre_me_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7))).2.2.2.2.1 = (fun _ => 1#1)
    ∧ (Cert.Pre_me_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7))).2.2.2.2.2.1 = (fun _ => 1#1)
    ∧ (Cert.Pre_me_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7))).2.2.2.2.2.2.1 = (fun _ => 1#1)
    ∧ (Cert.Pre_me_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7))).2.2.2.2.2.2.2.1 = (fun _ => 1#1)
    ∧ (Cert.Pre_me_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7))).2.2.2.2.2.2.2.2 = (fun _ => 1#1)

def Pre_MergeOut (m : (ℓ : Loc Cert.MergeOut.nD Cert.MergeOut.τ Cert.MergeOut.sig) → Buf (Elt Bits) ℓ) : Prop :=
  True

def Pre_MergeOutIdeal (m : (ℓ : Loc Cert.MergeOutIdeal.nD Cert.MergeOutIdeal.τ Cert.MergeOutIdeal.sig) → Buf (Elt Ideal) ℓ) : Prop :=
  True

def Pre_MergeOutIdeal_mo_finite [hPre_mo_finite : Cert.Pre_mo_finite.Facts] (m : (ℓ : Loc Cert.MergeOutIdeal.nD Cert.MergeOutIdeal.τ Cert.MergeOutIdeal.sig) → Buf (Elt Ideal) ℓ) : Prop :=
  ∀ c : Dev Cert.MergeOutIdeal.nD,
    (Cert.Pre_mo_finite.fn (F := Ideal) (m ((c.tc : Thread Cert.MergeOutIdeal.nD Cert.MergeOutIdeal.τ).loc Cert.MergeOutIdeal.main_arg0)) (m ((c.tc : Thread Cert.MergeOutIdeal.nD Cert.MergeOutIdeal.τ).loc Cert.MergeOutIdeal.main_arg1)) (m ((c.tc : Thread Cert.MergeOutIdeal.nD Cert.MergeOutIdeal.τ).loc Cert.MergeOutIdeal.main_arg2)) (m ((c.tc : Thread Cert.MergeOutIdeal.nD Cert.MergeOutIdeal.τ).loc Cert.MergeOutIdeal.main_arg3)) (m ((c.tc : Thread Cert.MergeOutIdeal.nD Cert.MergeOutIdeal.τ).loc Cert.MergeOutIdeal.main_arg4)) (m ((c.tc : Thread Cert.MergeOutIdeal.nD Cert.MergeOutIdeal.τ).loc Cert.MergeOutIdeal.main_arg5)) (m ((c.tc : Thread Cert.MergeOutIdeal.nD Cert.MergeOutIdeal.τ).loc Cert.MergeOutIdeal.main_arg6)) (m ((c.tc : Thread Cert.MergeOutIdeal.nD Cert.MergeOutIdeal.τ).loc Cert.MergeOutIdeal.main_arg7)) (m ((c.tc : Thread Cert.MergeOutIdeal.nD Cert.MergeOutIdeal.τ).loc Cert.MergeOutIdeal.main_arg8)) (m ((c.tc : Thread Cert.MergeOutIdeal.nD Cert.MergeOutIdeal.τ).loc Cert.MergeOutIdeal.main_arg9)) (m ((c.tc : Thread Cert.MergeOutIdeal.nD Cert.MergeOutIdeal.τ).loc Cert.MergeOutIdeal.main_arg10))).1 = (fun _ => 1#1)
    ∧ (Cert.Pre_mo_finite.fn (F := Ideal) (m ((c.tc : Thread Cert.MergeOutIdeal.nD Cert.MergeOutIdeal.τ).loc Cert.MergeOutIdeal.main_arg0)) (m ((c.tc : Thread Cert.MergeOutIdeal.nD Cert.MergeOutIdeal.τ).loc Cert.MergeOutIdeal.main_arg1)) (m ((c.tc : Thread Cert.MergeOutIdeal.nD Cert.MergeOutIdeal.τ).loc Cert.MergeOutIdeal.main_arg2)) (m ((c.tc : Thread Cert.MergeOutIdeal.nD Cert.MergeOutIdeal.τ).loc Cert.MergeOutIdeal.main_arg3)) (m ((c.tc : Thread Cert.MergeOutIdeal.nD Cert.MergeOutIdeal.τ).loc Cert.MergeOutIdeal.main_arg4)) (m ((c.tc : Thread Cert.MergeOutIdeal.nD Cert.MergeOutIdeal.τ).loc Cert.MergeOutIdeal.main_arg5)) (m ((c.tc : Thread Cert.MergeOutIdeal.nD Cert.MergeOutIdeal.τ).loc Cert.MergeOutIdeal.main_arg6)) (m ((c.tc : Thread Cert.MergeOutIdeal.nD Cert.MergeOutIdeal.τ).loc Cert.MergeOutIdeal.main_arg7)) (m ((c.tc : Thread Cert.MergeOutIdeal.nD Cert.MergeOutIdeal.τ).loc Cert.MergeOutIdeal.main_arg8)) (m ((c.tc : Thread Cert.MergeOutIdeal.nD Cert.MergeOutIdeal.τ).loc Cert.MergeOutIdeal.main_arg9)) (m ((c.tc : Thread Cert.MergeOutIdeal.nD Cert.MergeOutIdeal.τ).loc Cert.MergeOutIdeal.main_arg10))).2.1 = (fun _ => 1#1)
    ∧ (Cert.Pre_mo_finite.fn (F := Ideal) (m ((c.tc : Thread Cert.MergeOutIdeal.nD Cert.MergeOutIdeal.τ).loc Cert.MergeOutIdeal.main_arg0)) (m ((c.tc : Thread Cert.MergeOutIdeal.nD Cert.MergeOutIdeal.τ).loc Cert.MergeOutIdeal.main_arg1)) (m ((c.tc : Thread Cert.MergeOutIdeal.nD Cert.MergeOutIdeal.τ).loc Cert.MergeOutIdeal.main_arg2)) (m ((c.tc : Thread Cert.MergeOutIdeal.nD Cert.MergeOutIdeal.τ).loc Cert.MergeOutIdeal.main_arg3)) (m ((c.tc : Thread Cert.MergeOutIdeal.nD Cert.MergeOutIdeal.τ).loc Cert.MergeOutIdeal.main_arg4)) (m ((c.tc : Thread Cert.MergeOutIdeal.nD Cert.MergeOutIdeal.τ).loc Cert.MergeOutIdeal.main_arg5)) (m ((c.tc : Thread Cert.MergeOutIdeal.nD Cert.MergeOutIdeal.τ).loc Cert.MergeOutIdeal.main_arg6)) (m ((c.tc : Thread Cert.MergeOutIdeal.nD Cert.MergeOutIdeal.τ).loc Cert.MergeOutIdeal.main_arg7)) (m ((c.tc : Thread Cert.MergeOutIdeal.nD Cert.MergeOutIdeal.τ).loc Cert.MergeOutIdeal.main_arg8)) (m ((c.tc : Thread Cert.MergeOutIdeal.nD Cert.MergeOutIdeal.τ).loc Cert.MergeOutIdeal.main_arg9)) (m ((c.tc : Thread Cert.MergeOutIdeal.nD Cert.MergeOutIdeal.τ).loc Cert.MergeOutIdeal.main_arg10))).2.2.1 = (fun _ => 1#1)
    ∧ (Cert.Pre_mo_finite.fn (F := Ideal) (m ((c.tc : Thread Cert.MergeOutIdeal.nD Cert.MergeOutIdeal.τ).loc Cert.MergeOutIdeal.main_arg0)) (m ((c.tc : Thread Cert.MergeOutIdeal.nD Cert.MergeOutIdeal.τ).loc Cert.MergeOutIdeal.main_arg1)) (m ((c.tc : Thread Cert.MergeOutIdeal.nD Cert.MergeOutIdeal.τ).loc Cert.MergeOutIdeal.main_arg2)) (m ((c.tc : Thread Cert.MergeOutIdeal.nD Cert.MergeOutIdeal.τ).loc Cert.MergeOutIdeal.main_arg3)) (m ((c.tc : Thread Cert.MergeOutIdeal.nD Cert.MergeOutIdeal.τ).loc Cert.MergeOutIdeal.main_arg4)) (m ((c.tc : Thread Cert.MergeOutIdeal.nD Cert.MergeOutIdeal.τ).loc Cert.MergeOutIdeal.main_arg5)) (m ((c.tc : Thread Cert.MergeOutIdeal.nD Cert.MergeOutIdeal.τ).loc Cert.MergeOutIdeal.main_arg6)) (m ((c.tc : Thread Cert.MergeOutIdeal.nD Cert.MergeOutIdeal.τ).loc Cert.MergeOutIdeal.main_arg7)) (m ((c.tc : Thread Cert.MergeOutIdeal.nD Cert.MergeOutIdeal.τ).loc Cert.MergeOutIdeal.main_arg8)) (m ((c.tc : Thread Cert.MergeOutIdeal.nD Cert.MergeOutIdeal.τ).loc Cert.MergeOutIdeal.main_arg9)) (m ((c.tc : Thread Cert.MergeOutIdeal.nD Cert.MergeOutIdeal.τ).loc Cert.MergeOutIdeal.main_arg10))).2.2.2.1 = (fun _ => 1#1)
    ∧ (Cert.Pre_mo_finite.fn (F := Ideal) (m ((c.tc : Thread Cert.MergeOutIdeal.nD Cert.MergeOutIdeal.τ).loc Cert.MergeOutIdeal.main_arg0)) (m ((c.tc : Thread Cert.MergeOutIdeal.nD Cert.MergeOutIdeal.τ).loc Cert.MergeOutIdeal.main_arg1)) (m ((c.tc : Thread Cert.MergeOutIdeal.nD Cert.MergeOutIdeal.τ).loc Cert.MergeOutIdeal.main_arg2)) (m ((c.tc : Thread Cert.MergeOutIdeal.nD Cert.MergeOutIdeal.τ).loc Cert.MergeOutIdeal.main_arg3)) (m ((c.tc : Thread Cert.MergeOutIdeal.nD Cert.MergeOutIdeal.τ).loc Cert.MergeOutIdeal.main_arg4)) (m ((c.tc : Thread Cert.MergeOutIdeal.nD Cert.MergeOutIdeal.τ).loc Cert.MergeOutIdeal.main_arg5)) (m ((c.tc : Thread Cert.MergeOutIdeal.nD Cert.MergeOutIdeal.τ).loc Cert.MergeOutIdeal.main_arg6)) (m ((c.tc : Thread Cert.MergeOutIdeal.nD Cert.MergeOutIdeal.τ).loc Cert.MergeOutIdeal.main_arg7)) (m ((c.tc : Thread Cert.MergeOutIdeal.nD Cert.MergeOutIdeal.τ).loc Cert.MergeOutIdeal.main_arg8)) (m ((c.tc : Thread Cert.MergeOutIdeal.nD Cert.MergeOutIdeal.τ).loc Cert.MergeOutIdeal.main_arg9)) (m ((c.tc : Thread Cert.MergeOutIdeal.nD Cert.MergeOutIdeal.τ).loc Cert.MergeOutIdeal.main_arg10))).2.2.2.2.1 = (fun _ => 1#1)
    ∧ (Cert.Pre_mo_finite.fn (F := Ideal) (m ((c.tc : Thread Cert.MergeOutIdeal.nD Cert.MergeOutIdeal.τ).loc Cert.MergeOutIdeal.main_arg0)) (m ((c.tc : Thread Cert.MergeOutIdeal.nD Cert.MergeOutIdeal.τ).loc Cert.MergeOutIdeal.main_arg1)) (m ((c.tc : Thread Cert.MergeOutIdeal.nD Cert.MergeOutIdeal.τ).loc Cert.MergeOutIdeal.main_arg2)) (m ((c.tc : Thread Cert.MergeOutIdeal.nD Cert.MergeOutIdeal.τ).loc Cert.MergeOutIdeal.main_arg3)) (m ((c.tc : Thread Cert.MergeOutIdeal.nD Cert.MergeOutIdeal.τ).loc Cert.MergeOutIdeal.main_arg4)) (m ((c.tc : Thread Cert.MergeOutIdeal.nD Cert.MergeOutIdeal.τ).loc Cert.MergeOutIdeal.main_arg5)) (m ((c.tc : Thread Cert.MergeOutIdeal.nD Cert.MergeOutIdeal.τ).loc Cert.MergeOutIdeal.main_arg6)) (m ((c.tc : Thread Cert.MergeOutIdeal.nD Cert.MergeOutIdeal.τ).loc Cert.MergeOutIdeal.main_arg7)) (m ((c.tc : Thread Cert.MergeOutIdeal.nD Cert.MergeOutIdeal.τ).loc Cert.MergeOutIdeal.main_arg8)) (m ((c.tc : Thread Cert.MergeOutIdeal.nD Cert.MergeOutIdeal.τ).loc Cert.MergeOutIdeal.main_arg9)) (m ((c.tc : Thread Cert.MergeOutIdeal.nD Cert.MergeOutIdeal.τ).loc Cert.MergeOutIdeal.main_arg10))).2.2.2.2.2.1 = (fun _ => 1#1)
    ∧ (Cert.Pre_mo_finite.fn (F := Ideal) (m ((c.tc : Thread Cert.MergeOutIdeal.nD Cert.MergeOutIdeal.τ).loc Cert.MergeOutIdeal.main_arg0)) (m ((c.tc : Thread Cert.MergeOutIdeal.nD Cert.MergeOutIdeal.τ).loc Cert.MergeOutIdeal.main_arg1)) (m ((c.tc : Thread Cert.MergeOutIdeal.nD Cert.MergeOutIdeal.τ).loc Cert.MergeOutIdeal.main_arg2)) (m ((c.tc : Thread Cert.MergeOutIdeal.nD Cert.MergeOutIdeal.τ).loc Cert.MergeOutIdeal.main_arg3)) (m ((c.tc : Thread Cert.MergeOutIdeal.nD Cert.MergeOutIdeal.τ).loc Cert.MergeOutIdeal.main_arg4)) (m ((c.tc : Thread Cert.MergeOutIdeal.nD Cert.MergeOutIdeal.τ).loc Cert.MergeOutIdeal.main_arg5)) (m ((c.tc : Thread Cert.MergeOutIdeal.nD Cert.MergeOutIdeal.τ).loc Cert.MergeOutIdeal.main_arg6)) (m ((c.tc : Thread Cert.MergeOutIdeal.nD Cert.MergeOutIdeal.τ).loc Cert.MergeOutIdeal.main_arg7)) (m ((c.tc : Thread Cert.MergeOutIdeal.nD Cert.MergeOutIdeal.τ).loc Cert.MergeOutIdeal.main_arg8)) (m ((c.tc : Thread Cert.MergeOutIdeal.nD Cert.MergeOutIdeal.τ).loc Cert.MergeOutIdeal.main_arg9)) (m ((c.tc : Thread Cert.MergeOutIdeal.nD Cert.MergeOutIdeal.τ).loc Cert.MergeOutIdeal.main_arg10))).2.2.2.2.2.2.1 = (fun _ => 1#1)
    ∧ (Cert.Pre_mo_finite.fn (F := Ideal) (m ((c.tc : Thread Cert.MergeOutIdeal.nD Cert.MergeOutIdeal.τ).loc Cert.MergeOutIdeal.main_arg0)) (m ((c.tc : Thread Cert.MergeOutIdeal.nD Cert.MergeOutIdeal.τ).loc Cert.MergeOutIdeal.main_arg1)) (m ((c.tc : Thread Cert.MergeOutIdeal.nD Cert.MergeOutIdeal.τ).loc Cert.MergeOutIdeal.main_arg2)) (m ((c.tc : Thread Cert.MergeOutIdeal.nD Cert.MergeOutIdeal.τ).loc Cert.MergeOutIdeal.main_arg3)) (m ((c.tc : Thread Cert.MergeOutIdeal.nD Cert.MergeOutIdeal.τ).loc Cert.MergeOutIdeal.main_arg4)) (m ((c.tc : Thread Cert.MergeOutIdeal.nD Cert.MergeOutIdeal.τ).loc Cert.MergeOutIdeal.main_arg5)) (m ((c.tc : Thread Cert.MergeOutIdeal.nD Cert.MergeOutIdeal.τ).loc Cert.MergeOutIdeal.main_arg6)) (m ((c.tc : Thread Cert.MergeOutIdeal.nD Cert.MergeOutIdeal.τ).loc Cert.MergeOutIdeal.main_arg7)) (m ((c.tc : Thread Cert.MergeOutIdeal.nD Cert.MergeOutIdeal.τ).loc Cert.MergeOutIdeal.main_arg8)) (m ((c.tc : Thread Cert.MergeOutIdeal.nD Cert.MergeOutIdeal.τ).loc Cert.MergeOutIdeal.main_arg9)) (m ((c.tc : Thread Cert.MergeOutIdeal.nD Cert.MergeOutIdeal.τ).loc Cert.MergeOutIdeal.main_arg10))).2.2.2.2.2.2.2.1 = (fun _ => 1#1)
    ∧ (Cert.Pre_mo_finite.fn (F := Ideal) (m ((c.tc : Thread Cert.MergeOutIdeal.nD Cert.MergeOutIdeal.τ).loc Cert.MergeOutIdeal.main_arg0)) (m ((c.tc : Thread Cert.MergeOutIdeal.nD Cert.MergeOutIdeal.τ).loc Cert.MergeOutIdeal.main_arg1)) (m ((c.tc : Thread Cert.MergeOutIdeal.nD Cert.MergeOutIdeal.τ).loc Cert.MergeOutIdeal.main_arg2)) (m ((c.tc : Thread Cert.MergeOutIdeal.nD Cert.MergeOutIdeal.τ).loc Cert.MergeOutIdeal.main_arg3)) (m ((c.tc : Thread Cert.MergeOutIdeal.nD Cert.MergeOutIdeal.τ).loc Cert.MergeOutIdeal.main_arg4)) (m ((c.tc : Thread Cert.MergeOutIdeal.nD Cert.MergeOutIdeal.τ).loc Cert.MergeOutIdeal.main_arg5)) (m ((c.tc : Thread Cert.MergeOutIdeal.nD Cert.MergeOutIdeal.τ).loc Cert.MergeOutIdeal.main_arg6)) (m ((c.tc : Thread Cert.MergeOutIdeal.nD Cert.MergeOutIdeal.τ).loc Cert.MergeOutIdeal.main_arg7)) (m ((c.tc : Thread Cert.MergeOutIdeal.nD Cert.MergeOutIdeal.τ).loc Cert.MergeOutIdeal.main_arg8)) (m ((c.tc : Thread Cert.MergeOutIdeal.nD Cert.MergeOutIdeal.τ).loc Cert.MergeOutIdeal.main_arg9)) (m ((c.tc : Thread Cert.MergeOutIdeal.nD Cert.MergeOutIdeal.τ).loc Cert.MergeOutIdeal.main_arg10))).2.2.2.2.2.2.2.2 = (fun _ => 1#1)

def Pre_MergeOutRefIdeal (m : (ℓ : Loc Cert.MergeOutRefIdeal.nD Cert.MergeOutRefIdeal.τ Cert.MergeOutRefIdeal.sig) → Buf (Elt Ideal) ℓ) : Prop :=
  True

def Pre_MergeOutRefIdeal_mo_finite [hPre_mo_finite : Cert.Pre_mo_finite.Facts] (m : (ℓ : Loc Cert.MergeOutRefIdeal.nD Cert.MergeOutRefIdeal.τ Cert.MergeOutRefIdeal.sig) → Buf (Elt Ideal) ℓ) : Prop :=
  ∀ c : Dev Cert.MergeOutRefIdeal.nD,
    (Cert.Pre_mo_finite.fn (F := Ideal) (m ((c.tc : Thread Cert.MergeOutRefIdeal.nD Cert.MergeOutRefIdeal.τ).loc Cert.MergeOutRefIdeal.main_arg0)) (m ((c.tc : Thread Cert.MergeOutRefIdeal.nD Cert.MergeOutRefIdeal.τ).loc Cert.MergeOutRefIdeal.main_arg1)) (m ((c.tc : Thread Cert.MergeOutRefIdeal.nD Cert.MergeOutRefIdeal.τ).loc Cert.MergeOutRefIdeal.main_arg2)) (m ((c.tc : Thread Cert.MergeOutRefIdeal.nD Cert.MergeOutRefIdeal.τ).loc Cert.MergeOutRefIdeal.main_arg3)) (m ((c.tc : Thread Cert.MergeOutRefIdeal.nD Cert.MergeOutRefIdeal.τ).loc Cert.MergeOutRefIdeal.main_arg4)) (m ((c.tc : Thread Cert.MergeOutRefIdeal.nD Cert.MergeOutRefIdeal.τ).loc Cert.MergeOutRefIdeal.main_arg5)) (m ((c.tc : Thread Cert.MergeOutRefIdeal.nD Cert.MergeOutRefIdeal.τ).loc Cert.MergeOutRefIdeal.main_arg6)) (m ((c.tc : Thread Cert.MergeOutRefIdeal.nD Cert.MergeOutRefIdeal.τ).loc Cert.MergeOutRefIdeal.main_arg7)) (m ((c.tc : Thread Cert.MergeOutRefIdeal.nD Cert.MergeOutRefIdeal.τ).loc Cert.MergeOutRefIdeal.main_arg8)) (m ((c.tc : Thread Cert.MergeOutRefIdeal.nD Cert.MergeOutRefIdeal.τ).loc Cert.MergeOutRefIdeal.main_arg9)) (m ((c.tc : Thread Cert.MergeOutRefIdeal.nD Cert.MergeOutRefIdeal.τ).loc Cert.MergeOutRefIdeal.main_arg10))).1 = (fun _ => 1#1)
    ∧ (Cert.Pre_mo_finite.fn (F := Ideal) (m ((c.tc : Thread Cert.MergeOutRefIdeal.nD Cert.MergeOutRefIdeal.τ).loc Cert.MergeOutRefIdeal.main_arg0)) (m ((c.tc : Thread Cert.MergeOutRefIdeal.nD Cert.MergeOutRefIdeal.τ).loc Cert.MergeOutRefIdeal.main_arg1)) (m ((c.tc : Thread Cert.MergeOutRefIdeal.nD Cert.MergeOutRefIdeal.τ).loc Cert.MergeOutRefIdeal.main_arg2)) (m ((c.tc : Thread Cert.MergeOutRefIdeal.nD Cert.MergeOutRefIdeal.τ).loc Cert.MergeOutRefIdeal.main_arg3)) (m ((c.tc : Thread Cert.MergeOutRefIdeal.nD Cert.MergeOutRefIdeal.τ).loc Cert.MergeOutRefIdeal.main_arg4)) (m ((c.tc : Thread Cert.MergeOutRefIdeal.nD Cert.MergeOutRefIdeal.τ).loc Cert.MergeOutRefIdeal.main_arg5)) (m ((c.tc : Thread Cert.MergeOutRefIdeal.nD Cert.MergeOutRefIdeal.τ).loc Cert.MergeOutRefIdeal.main_arg6)) (m ((c.tc : Thread Cert.MergeOutRefIdeal.nD Cert.MergeOutRefIdeal.τ).loc Cert.MergeOutRefIdeal.main_arg7)) (m ((c.tc : Thread Cert.MergeOutRefIdeal.nD Cert.MergeOutRefIdeal.τ).loc Cert.MergeOutRefIdeal.main_arg8)) (m ((c.tc : Thread Cert.MergeOutRefIdeal.nD Cert.MergeOutRefIdeal.τ).loc Cert.MergeOutRefIdeal.main_arg9)) (m ((c.tc : Thread Cert.MergeOutRefIdeal.nD Cert.MergeOutRefIdeal.τ).loc Cert.MergeOutRefIdeal.main_arg10))).2.1 = (fun _ => 1#1)
    ∧ (Cert.Pre_mo_finite.fn (F := Ideal) (m ((c.tc : Thread Cert.MergeOutRefIdeal.nD Cert.MergeOutRefIdeal.τ).loc Cert.MergeOutRefIdeal.main_arg0)) (m ((c.tc : Thread Cert.MergeOutRefIdeal.nD Cert.MergeOutRefIdeal.τ).loc Cert.MergeOutRefIdeal.main_arg1)) (m ((c.tc : Thread Cert.MergeOutRefIdeal.nD Cert.MergeOutRefIdeal.τ).loc Cert.MergeOutRefIdeal.main_arg2)) (m ((c.tc : Thread Cert.MergeOutRefIdeal.nD Cert.MergeOutRefIdeal.τ).loc Cert.MergeOutRefIdeal.main_arg3)) (m ((c.tc : Thread Cert.MergeOutRefIdeal.nD Cert.MergeOutRefIdeal.τ).loc Cert.MergeOutRefIdeal.main_arg4)) (m ((c.tc : Thread Cert.MergeOutRefIdeal.nD Cert.MergeOutRefIdeal.τ).loc Cert.MergeOutRefIdeal.main_arg5)) (m ((c.tc : Thread Cert.MergeOutRefIdeal.nD Cert.MergeOutRefIdeal.τ).loc Cert.MergeOutRefIdeal.main_arg6)) (m ((c.tc : Thread Cert.MergeOutRefIdeal.nD Cert.MergeOutRefIdeal.τ).loc Cert.MergeOutRefIdeal.main_arg7)) (m ((c.tc : Thread Cert.MergeOutRefIdeal.nD Cert.MergeOutRefIdeal.τ).loc Cert.MergeOutRefIdeal.main_arg8)) (m ((c.tc : Thread Cert.MergeOutRefIdeal.nD Cert.MergeOutRefIdeal.τ).loc Cert.MergeOutRefIdeal.main_arg9)) (m ((c.tc : Thread Cert.MergeOutRefIdeal.nD Cert.MergeOutRefIdeal.τ).loc Cert.MergeOutRefIdeal.main_arg10))).2.2.1 = (fun _ => 1#1)
    ∧ (Cert.Pre_mo_finite.fn (F := Ideal) (m ((c.tc : Thread Cert.MergeOutRefIdeal.nD Cert.MergeOutRefIdeal.τ).loc Cert.MergeOutRefIdeal.main_arg0)) (m ((c.tc : Thread Cert.MergeOutRefIdeal.nD Cert.MergeOutRefIdeal.τ).loc Cert.MergeOutRefIdeal.main_arg1)) (m ((c.tc : Thread Cert.MergeOutRefIdeal.nD Cert.MergeOutRefIdeal.τ).loc Cert.MergeOutRefIdeal.main_arg2)) (m ((c.tc : Thread Cert.MergeOutRefIdeal.nD Cert.MergeOutRefIdeal.τ).loc Cert.MergeOutRefIdeal.main_arg3)) (m ((c.tc : Thread Cert.MergeOutRefIdeal.nD Cert.MergeOutRefIdeal.τ).loc Cert.MergeOutRefIdeal.main_arg4)) (m ((c.tc : Thread Cert.MergeOutRefIdeal.nD Cert.MergeOutRefIdeal.τ).loc Cert.MergeOutRefIdeal.main_arg5)) (m ((c.tc : Thread Cert.MergeOutRefIdeal.nD Cert.MergeOutRefIdeal.τ).loc Cert.MergeOutRefIdeal.main_arg6)) (m ((c.tc : Thread Cert.MergeOutRefIdeal.nD Cert.MergeOutRefIdeal.τ).loc Cert.MergeOutRefIdeal.main_arg7)) (m ((c.tc : Thread Cert.MergeOutRefIdeal.nD Cert.MergeOutRefIdeal.τ).loc Cert.MergeOutRefIdeal.main_arg8)) (m ((c.tc : Thread Cert.MergeOutRefIdeal.nD Cert.MergeOutRefIdeal.τ).loc Cert.MergeOutRefIdeal.main_arg9)) (m ((c.tc : Thread Cert.MergeOutRefIdeal.nD Cert.MergeOutRefIdeal.τ).loc Cert.MergeOutRefIdeal.main_arg10))).2.2.2.1 = (fun _ => 1#1)
    ∧ (Cert.Pre_mo_finite.fn (F := Ideal) (m ((c.tc : Thread Cert.MergeOutRefIdeal.nD Cert.MergeOutRefIdeal.τ).loc Cert.MergeOutRefIdeal.main_arg0)) (m ((c.tc : Thread Cert.MergeOutRefIdeal.nD Cert.MergeOutRefIdeal.τ).loc Cert.MergeOutRefIdeal.main_arg1)) (m ((c.tc : Thread Cert.MergeOutRefIdeal.nD Cert.MergeOutRefIdeal.τ).loc Cert.MergeOutRefIdeal.main_arg2)) (m ((c.tc : Thread Cert.MergeOutRefIdeal.nD Cert.MergeOutRefIdeal.τ).loc Cert.MergeOutRefIdeal.main_arg3)) (m ((c.tc : Thread Cert.MergeOutRefIdeal.nD Cert.MergeOutRefIdeal.τ).loc Cert.MergeOutRefIdeal.main_arg4)) (m ((c.tc : Thread Cert.MergeOutRefIdeal.nD Cert.MergeOutRefIdeal.τ).loc Cert.MergeOutRefIdeal.main_arg5)) (m ((c.tc : Thread Cert.MergeOutRefIdeal.nD Cert.MergeOutRefIdeal.τ).loc Cert.MergeOutRefIdeal.main_arg6)) (m ((c.tc : Thread Cert.MergeOutRefIdeal.nD Cert.MergeOutRefIdeal.τ).loc Cert.MergeOutRefIdeal.main_arg7)) (m ((c.tc : Thread Cert.MergeOutRefIdeal.nD Cert.MergeOutRefIdeal.τ).loc Cert.MergeOutRefIdeal.main_arg8)) (m ((c.tc : Thread Cert.MergeOutRefIdeal.nD Cert.MergeOutRefIdeal.τ).loc Cert.MergeOutRefIdeal.main_arg9)) (m ((c.tc : Thread Cert.MergeOutRefIdeal.nD Cert.MergeOutRefIdeal.τ).loc Cert.MergeOutRefIdeal.main_arg10))).2.2.2.2.1 = (fun _ => 1#1)
    ∧ (Cert.Pre_mo_finite.fn (F := Ideal) (m ((c.tc : Thread Cert.MergeOutRefIdeal.nD Cert.MergeOutRefIdeal.τ).loc Cert.MergeOutRefIdeal.main_arg0)) (m ((c.tc : Thread Cert.MergeOutRefIdeal.nD Cert.MergeOutRefIdeal.τ).loc Cert.MergeOutRefIdeal.main_arg1)) (m ((c.tc : Thread Cert.MergeOutRefIdeal.nD Cert.MergeOutRefIdeal.τ).loc Cert.MergeOutRefIdeal.main_arg2)) (m ((c.tc : Thread Cert.MergeOutRefIdeal.nD Cert.MergeOutRefIdeal.τ).loc Cert.MergeOutRefIdeal.main_arg3)) (m ((c.tc : Thread Cert.MergeOutRefIdeal.nD Cert.MergeOutRefIdeal.τ).loc Cert.MergeOutRefIdeal.main_arg4)) (m ((c.tc : Thread Cert.MergeOutRefIdeal.nD Cert.MergeOutRefIdeal.τ).loc Cert.MergeOutRefIdeal.main_arg5)) (m ((c.tc : Thread Cert.MergeOutRefIdeal.nD Cert.MergeOutRefIdeal.τ).loc Cert.MergeOutRefIdeal.main_arg6)) (m ((c.tc : Thread Cert.MergeOutRefIdeal.nD Cert.MergeOutRefIdeal.τ).loc Cert.MergeOutRefIdeal.main_arg7)) (m ((c.tc : Thread Cert.MergeOutRefIdeal.nD Cert.MergeOutRefIdeal.τ).loc Cert.MergeOutRefIdeal.main_arg8)) (m ((c.tc : Thread Cert.MergeOutRefIdeal.nD Cert.MergeOutRefIdeal.τ).loc Cert.MergeOutRefIdeal.main_arg9)) (m ((c.tc : Thread Cert.MergeOutRefIdeal.nD Cert.MergeOutRefIdeal.τ).loc Cert.MergeOutRefIdeal.main_arg10))).2.2.2.2.2.1 = (fun _ => 1#1)
    ∧ (Cert.Pre_mo_finite.fn (F := Ideal) (m ((c.tc : Thread Cert.MergeOutRefIdeal.nD Cert.MergeOutRefIdeal.τ).loc Cert.MergeOutRefIdeal.main_arg0)) (m ((c.tc : Thread Cert.MergeOutRefIdeal.nD Cert.MergeOutRefIdeal.τ).loc Cert.MergeOutRefIdeal.main_arg1)) (m ((c.tc : Thread Cert.MergeOutRefIdeal.nD Cert.MergeOutRefIdeal.τ).loc Cert.MergeOutRefIdeal.main_arg2)) (m ((c.tc : Thread Cert.MergeOutRefIdeal.nD Cert.MergeOutRefIdeal.τ).loc Cert.MergeOutRefIdeal.main_arg3)) (m ((c.tc : Thread Cert.MergeOutRefIdeal.nD Cert.MergeOutRefIdeal.τ).loc Cert.MergeOutRefIdeal.main_arg4)) (m ((c.tc : Thread Cert.MergeOutRefIdeal.nD Cert.MergeOutRefIdeal.τ).loc Cert.MergeOutRefIdeal.main_arg5)) (m ((c.tc : Thread Cert.MergeOutRefIdeal.nD Cert.MergeOutRefIdeal.τ).loc Cert.MergeOutRefIdeal.main_arg6)) (m ((c.tc : Thread Cert.MergeOutRefIdeal.nD Cert.MergeOutRefIdeal.τ).loc Cert.MergeOutRefIdeal.main_arg7)) (m ((c.tc : Thread Cert.MergeOutRefIdeal.nD Cert.MergeOutRefIdeal.τ).loc Cert.MergeOutRefIdeal.main_arg8)) (m ((c.tc : Thread Cert.MergeOutRefIdeal.nD Cert.MergeOutRefIdeal.τ).loc Cert.MergeOutRefIdeal.main_arg9)) (m ((c.tc : Thread Cert.MergeOutRefIdeal.nD Cert.MergeOutRefIdeal.τ).loc Cert.MergeOutRefIdeal.main_arg10))).2.2.2.2.2.2.1 = (fun _ => 1#1)
    ∧ (Cert.Pre_mo_finite.fn (F := Ideal) (m ((c.tc : Thread Cert.MergeOutRefIdeal.nD Cert.MergeOutRefIdeal.τ).loc Cert.MergeOutRefIdeal.main_arg0)) (m ((c.tc : Thread Cert.MergeOutRefIdeal.nD Cert.MergeOutRefIdeal.τ).loc Cert.MergeOutRefIdeal.main_arg1)) (m ((c.tc : Thread Cert.MergeOutRefIdeal.nD Cert.MergeOutRefIdeal.τ).loc Cert.MergeOutRefIdeal.main_arg2)) (m ((c.tc : Thread Cert.MergeOutRefIdeal.nD Cert.MergeOutRefIdeal.τ).loc Cert.MergeOutRefIdeal.main_arg3)) (m ((c.tc : Thread Cert.MergeOutRefIdeal.nD Cert.MergeOutRefIdeal.τ).loc Cert.MergeOutRefIdeal.main_arg4)) (m ((c.tc : Thread Cert.MergeOutRefIdeal.nD Cert.MergeOutRefIdeal.τ).loc Cert.MergeOutRefIdeal.main_arg5)) (m ((c.tc : Thread Cert.MergeOutRefIdeal.nD Cert.MergeOutRefIdeal.τ).loc Cert.MergeOutRefIdeal.main_arg6)) (m ((c.tc : Thread Cert.MergeOutRefIdeal.nD Cert.MergeOutRefIdeal.τ).loc Cert.MergeOutRefIdeal.main_arg7)) (m ((c.tc : Thread Cert.MergeOutRefIdeal.nD Cert.MergeOutRefIdeal.τ).loc Cert.MergeOutRefIdeal.main_arg8)) (m ((c.tc : Thread Cert.MergeOutRefIdeal.nD Cert.MergeOutRefIdeal.τ).loc Cert.MergeOutRefIdeal.main_arg9)) (m ((c.tc : Thread Cert.MergeOutRefIdeal.nD Cert.MergeOutRefIdeal.τ).loc Cert.MergeOutRefIdeal.main_arg10))).2.2.2.2.2.2.2.1 = (fun _ => 1#1)
    ∧ (Cert.Pre_mo_finite.fn (F := Ideal) (m ((c.tc : Thread Cert.MergeOutRefIdeal.nD Cert.MergeOutRefIdeal.τ).loc Cert.MergeOutRefIdeal.main_arg0)) (m ((c.tc : Thread Cert.MergeOutRefIdeal.nD Cert.MergeOutRefIdeal.τ).loc Cert.MergeOutRefIdeal.main_arg1)) (m ((c.tc : Thread Cert.MergeOutRefIdeal.nD Cert.MergeOutRefIdeal.τ).loc Cert.MergeOutRefIdeal.main_arg2)) (m ((c.tc : Thread Cert.MergeOutRefIdeal.nD Cert.MergeOutRefIdeal.τ).loc Cert.MergeOutRefIdeal.main_arg3)) (m ((c.tc : Thread Cert.MergeOutRefIdeal.nD Cert.MergeOutRefIdeal.τ).loc Cert.MergeOutRefIdeal.main_arg4)) (m ((c.tc : Thread Cert.MergeOutRefIdeal.nD Cert.MergeOutRefIdeal.τ).loc Cert.MergeOutRefIdeal.main_arg5)) (m ((c.tc : Thread Cert.MergeOutRefIdeal.nD Cert.MergeOutRefIdeal.τ).loc Cert.MergeOutRefIdeal.main_arg6)) (m ((c.tc : Thread Cert.MergeOutRefIdeal.nD Cert.MergeOutRefIdeal.τ).loc Cert.MergeOutRefIdeal.main_arg7)) (m ((c.tc : Thread Cert.MergeOutRefIdeal.nD Cert.MergeOutRefIdeal.τ).loc Cert.MergeOutRefIdeal.main_arg8)) (m ((c.tc : Thread Cert.MergeOutRefIdeal.nD Cert.MergeOutRefIdeal.τ).loc Cert.MergeOutRefIdeal.main_arg9)) (m ((c.tc : Thread Cert.MergeOutRefIdeal.nD Cert.MergeOutRefIdeal.τ).loc Cert.MergeOutRefIdeal.main_arg10))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_MgProj [hMgProj : Cert.MgProj.Facts] : Prop :=
  ∀ (m : (ℓ : Loc Cert.MgProj.nD Cert.MgProj.τ Cert.MgProj.sig) → Buf (Elt Bits) ℓ) (g : Dev Cert.MgProj.nD → PrngReg), Pre_MgProj m →
    θ_run (Cert.MgProj.defs (F := Bits)) (onTc (τ := Cert.MgProj.τ) (Cert.MgProj.main (F := Bits))) ⟨m, fun _ => 0, g⟩ (fun r => (∀ c : Dev Cert.MgProj.nD,
      r.2.mem ((c.tc : Thread Cert.MgProj.nD Cert.MgProj.τ).loc Cert.MgProj.main_arg0) = m ((c.tc : Thread Cert.MgProj.nD Cert.MgProj.τ).loc Cert.MgProj.main_arg0)
      ∧ r.2.mem ((c.tc : Thread Cert.MgProj.nD Cert.MgProj.τ).loc Cert.MgProj.main_arg1) = m ((c.tc : Thread Cert.MgProj.nD Cert.MgProj.τ).loc Cert.MgProj.main_arg1)
      ∧ r.2.mem ((c.tc : Thread Cert.MgProj.nD Cert.MgProj.τ).loc Cert.MgProj.main_arg2) = m ((c.tc : Thread Cert.MgProj.nD Cert.MgProj.τ).loc Cert.MgProj.main_arg2))
      ∧ r.2.sem = fun _ => 0)

def quiescent_MgProjIdeal [hMgProjIdeal : Cert.MgProjIdeal.Facts] : Prop :=
  ∀ (m : (ℓ : Loc Cert.MgProjIdeal.nD Cert.MgProjIdeal.τ Cert.MgProjIdeal.sig) → Buf (Elt Ideal) ℓ) (g : Dev Cert.MgProjIdeal.nD → PrngReg), Pre_MgProjIdeal m →
    θ_run (Cert.MgProjIdeal.defs (F := Ideal)) (onTc (τ := Cert.MgProjIdeal.τ) (Cert.MgProjIdeal.main (F := Ideal))) ⟨m, fun _ => 0, g⟩ (fun r => (∀ c : Dev Cert.MgProjIdeal.nD,
      r.2.mem ((c.tc : Thread Cert.MgProjIdeal.nD Cert.MgProjIdeal.τ).loc Cert.MgProjIdeal.main_arg0) = m ((c.tc : Thread Cert.MgProjIdeal.nD Cert.MgProjIdeal.τ).loc Cert.MgProjIdeal.main_arg0)
      ∧ r.2.mem ((c.tc : Thread Cert.MgProjIdeal.nD Cert.MgProjIdeal.τ).loc Cert.MgProjIdeal.main_arg1) = m ((c.tc : Thread Cert.MgProjIdeal.nD Cert.MgProjIdeal.τ).loc Cert.MgProjIdeal.main_arg1)
      ∧ r.2.mem ((c.tc : Thread Cert.MgProjIdeal.nD Cert.MgProjIdeal.τ).loc Cert.MgProjIdeal.main_arg2) = m ((c.tc : Thread Cert.MgProjIdeal.nD Cert.MgProjIdeal.τ).loc Cert.MgProjIdeal.main_arg2))
      ∧ r.2.sem = fun _ => 0)

def quiescent_MgProjRefIdeal [hMgProjRefIdeal : Cert.MgProjRefIdeal.Facts] : Prop :=
  ∀ (m : (ℓ : Loc Cert.MgProjRefIdeal.nD Cert.MgProjRefIdeal.τ Cert.MgProjRefIdeal.sig) → Buf (Elt Ideal) ℓ) (g : Dev Cert.MgProjRefIdeal.nD → PrngReg), Pre_MgProjRefIdeal m →
    θ_run (Cert.MgProjRefIdeal.defs (F := Ideal)) (onTc (τ := Cert.MgProjRefIdeal.τ) (Cert.MgProjRefIdeal.main (F := Ideal))) ⟨m, fun _ => 0, g⟩ (fun r => (∀ c : Dev Cert.MgProjRefIdeal.nD,
      r.2.mem ((c.tc : Thread Cert.MgProjRefIdeal.nD Cert.MgProjRefIdeal.τ).loc Cert.MgProjRefIdeal.main_arg0) = m ((c.tc : Thread Cert.MgProjRefIdeal.nD Cert.MgProjRefIdeal.τ).loc Cert.MgProjRefIdeal.main_arg0)
      ∧ r.2.mem ((c.tc : Thread Cert.MgProjRefIdeal.nD Cert.MgProjRefIdeal.τ).loc Cert.MgProjRefIdeal.main_arg1) = m ((c.tc : Thread Cert.MgProjRefIdeal.nD Cert.MgProjRefIdeal.τ).loc Cert.MgProjRefIdeal.main_arg1)
      ∧ r.2.mem ((c.tc : Thread Cert.MgProjRefIdeal.nD Cert.MgProjRefIdeal.τ).loc Cert.MgProjRefIdeal.main_arg2) = m ((c.tc : Thread Cert.MgProjRefIdeal.nD Cert.MgProjRefIdeal.τ).loc Cert.MgProjRefIdeal.main_arg2))
      ∧ r.2.sem = fun _ => 0)

def quiescent_QgProj [hQgProj : Cert.QgProj.Facts] : Prop :=
  ∀ (m : (ℓ : Loc Cert.QgProj.nD Cert.QgProj.τ Cert.QgProj.sig) → Buf (Elt Bits) ℓ) (g : Dev Cert.QgProj.nD → PrngReg), Pre_QgProj m →
    θ_run (Cert.QgProj.defs (F := Bits)) (onTc (τ := Cert.QgProj.τ) (Cert.QgProj.main (F := Bits))) ⟨m, fun _ => 0, g⟩ (fun r => (∀ c : Dev Cert.QgProj.nD,
      r.2.mem ((c.tc : Thread Cert.QgProj.nD Cert.QgProj.τ).loc Cert.QgProj.main_arg0) = m ((c.tc : Thread Cert.QgProj.nD Cert.QgProj.τ).loc Cert.QgProj.main_arg0)
      ∧ r.2.mem ((c.tc : Thread Cert.QgProj.nD Cert.QgProj.τ).loc Cert.QgProj.main_arg1) = m ((c.tc : Thread Cert.QgProj.nD Cert.QgProj.τ).loc Cert.QgProj.main_arg1)
      ∧ r.2.mem ((c.tc : Thread Cert.QgProj.nD Cert.QgProj.τ).loc Cert.QgProj.main_arg2) = m ((c.tc : Thread Cert.QgProj.nD Cert.QgProj.τ).loc Cert.QgProj.main_arg2))
      ∧ r.2.sem = fun _ => 0)

def quiescent_QgProjIdeal [hQgProjIdeal : Cert.QgProjIdeal.Facts] : Prop :=
  ∀ (m : (ℓ : Loc Cert.QgProjIdeal.nD Cert.QgProjIdeal.τ Cert.QgProjIdeal.sig) → Buf (Elt Ideal) ℓ) (g : Dev Cert.QgProjIdeal.nD → PrngReg), Pre_QgProjIdeal m →
    θ_run (Cert.QgProjIdeal.defs (F := Ideal)) (onTc (τ := Cert.QgProjIdeal.τ) (Cert.QgProjIdeal.main (F := Ideal))) ⟨m, fun _ => 0, g⟩ (fun r => (∀ c : Dev Cert.QgProjIdeal.nD,
      r.2.mem ((c.tc : Thread Cert.QgProjIdeal.nD Cert.QgProjIdeal.τ).loc Cert.QgProjIdeal.main_arg0) = m ((c.tc : Thread Cert.QgProjIdeal.nD Cert.QgProjIdeal.τ).loc Cert.QgProjIdeal.main_arg0)
      ∧ r.2.mem ((c.tc : Thread Cert.QgProjIdeal.nD Cert.QgProjIdeal.τ).loc Cert.QgProjIdeal.main_arg1) = m ((c.tc : Thread Cert.QgProjIdeal.nD Cert.QgProjIdeal.τ).loc Cert.QgProjIdeal.main_arg1)
      ∧ r.2.mem ((c.tc : Thread Cert.QgProjIdeal.nD Cert.QgProjIdeal.τ).loc Cert.QgProjIdeal.main_arg2) = m ((c.tc : Thread Cert.QgProjIdeal.nD Cert.QgProjIdeal.τ).loc Cert.QgProjIdeal.main_arg2))
      ∧ r.2.sem = fun _ => 0)

def quiescent_QgProjRefIdeal [hQgProjRefIdeal : Cert.QgProjRefIdeal.Facts] : Prop :=
  ∀ (m : (ℓ : Loc Cert.QgProjRefIdeal.nD Cert.QgProjRefIdeal.τ Cert.QgProjRefIdeal.sig) → Buf (Elt Ideal) ℓ) (g : Dev Cert.QgProjRefIdeal.nD → PrngReg), Pre_QgProjRefIdeal m →
    θ_run (Cert.QgProjRefIdeal.defs (F := Ideal)) (onTc (τ := Cert.QgProjRefIdeal.τ) (Cert.QgProjRefIdeal.main (F := Ideal))) ⟨m, fun _ => 0, g⟩ (fun r => (∀ c : Dev Cert.QgProjRefIdeal.nD,
      r.2.mem ((c.tc : Thread Cert.QgProjRefIdeal.nD Cert.QgProjRefIdeal.τ).loc Cert.QgProjRefIdeal.main_arg0) = m ((c.tc : Thread Cert.QgProjRefIdeal.nD Cert.QgProjRefIdeal.τ).loc Cert.QgProjRefIdeal.main_arg0)
      ∧ r.2.mem ((c.tc : Thread Cert.QgProjRefIdeal.nD Cert.QgProjRefIdeal.τ).loc Cert.QgProjRefIdeal.main_arg1) = m ((c.tc : Thread Cert.QgProjRefIdeal.nD Cert.QgProjRefIdeal.τ).loc Cert.QgProjRefIdeal.main_arg1)
      ∧ r.2.mem ((c.tc : Thread Cert.QgProjRefIdeal.nD Cert.QgProjRefIdeal.τ).loc Cert.QgProjRefIdeal.main_arg2) = m ((c.tc : Thread Cert.QgProjRefIdeal.nD Cert.QgProjRefIdeal.τ).loc Cert.QgProjRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2))
      ∧ r.2.sem = fun _ => 0)

def quiescent_KvProj [hKvProj : Cert.KvProj.Facts] : Prop :=
  ∀ (m : (ℓ : Loc Cert.KvProj.nD Cert.KvProj.τ Cert.KvProj.sig) → Buf (Elt Bits) ℓ) (g : Dev Cert.KvProj.nD → PrngReg), Pre_KvProj m →
    θ_run (Cert.KvProj.defs (F := Bits)) (onTc (τ := Cert.KvProj.τ) (Cert.KvProj.main (F := Bits))) ⟨m, fun _ => 0, g⟩ (fun r => (∀ c : Dev Cert.KvProj.nD,
      r.2.mem ((c.tc : Thread Cert.KvProj.nD Cert.KvProj.τ).loc Cert.KvProj.main_arg0) = m ((c.tc : Thread Cert.KvProj.nD Cert.KvProj.τ).loc Cert.KvProj.main_arg0)
      ∧ r.2.mem ((c.tc : Thread Cert.KvProj.nD Cert.KvProj.τ).loc Cert.KvProj.main_arg1) = m ((c.tc : Thread Cert.KvProj.nD Cert.KvProj.τ).loc Cert.KvProj.main_arg1)
      ∧ r.2.mem ((c.tc : Thread Cert.KvProj.nD Cert.KvProj.τ).loc Cert.KvProj.main_arg2) = m ((c.tc : Thread Cert.KvProj.nD Cert.KvProj.τ).loc Cert.KvProj.main_arg2)
      ∧ r.2.mem ((c.tc : Thread Cert.KvProj.nD Cert.KvProj.τ).loc Cert.KvProj.main_arg3) = m ((c.tc : Thread Cert.KvProj.nD Cert.KvProj.τ).loc Cert.KvProj.main_arg3))
      ∧ r.2.sem = fun _ => 0)

def quiescent_KvProjIdeal [hKvProjIdeal : Cert.KvProjIdeal.Facts] : Prop :=
  ∀ (m : (ℓ : Loc Cert.KvProjIdeal.nD Cert.KvProjIdeal.τ Cert.KvProjIdeal.sig) → Buf (Elt Ideal) ℓ) (g : Dev Cert.KvProjIdeal.nD → PrngReg), Pre_KvProjIdeal m →
    θ_run (Cert.KvProjIdeal.defs (F := Ideal)) (onTc (τ := Cert.KvProjIdeal.τ) (Cert.KvProjIdeal.main (F := Ideal))) ⟨m, fun _ => 0, g⟩ (fun r => (∀ c : Dev Cert.KvProjIdeal.nD,
      r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
      ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1)
      ∧ r.2.mem ((c.tc : Thread Cert.KvProjIdeal.nD Cert.KvProjIdeal.τ).loc Cert.KvProjIdeal.main_arg2) = m ((c.tc : Thread Cert.KvProjIdeal.nD Cert.KvProjIdeal.τ).loc Cert.KvProjIdeal.main_arg2)
      ∧ r.2.mem ((c.tc : Thread Cert.KvProjIdeal.nD Cert.KvProjIdeal.τ).loc Cert.KvProjIdeal.main_arg3) = m ((c.tc : Thread Cert.KvProjIdeal.nD Cert.KvProjIdeal.τ).loc Cert.KvProjIdeal.main_arg3))
      ∧ r.2.sem = fun _ => 0)

def quiescent_KvProjRefIdeal [hKvProjRefIdeal : Cert.KvProjRefIdeal.Facts] : Prop :=
  ∀ (m : (ℓ : Loc Cert.KvProjRefIdeal.nD Cert.KvProjRefIdeal.τ Cert.KvProjRefIdeal.sig) → Buf (Elt Ideal) ℓ) (g : Dev Cert.KvProjRefIdeal.nD → PrngReg), Pre_KvProjRefIdeal m →
    θ_run (Cert.KvProjRefIdeal.defs (F := Ideal)) (onTc (τ := Cert.KvProjRefIdeal.τ) (Cert.KvProjRefIdeal.main (F := Ideal))) ⟨m, fun _ => 0, g⟩ (fun r => (∀ c : Dev Cert.KvProjRefIdeal.nD,
      r.2.mem ((c.tc : Thread Cert.KvProjRefIdeal.nD Cert.KvProjRefIdeal.τ).loc Cert.KvProjRefIdeal.main_arg0) = m ((c.tc : Thread Cert.KvProjRefIdeal.nD Cert.KvProjRefIdeal.τ).loc Cert.KvProjRefIdeal.main_arg0)
      ∧ r.2.mem ((c.tc : Thread Cert.KvProjRefIdeal.nD Cert.KvProjRefIdeal.τ).loc Cert.KvProjRefIdeal.main_arg1) = m ((c.tc : Thread Cert.KvProjRefIdeal.nD Cert.KvProjRefIdeal.τ).loc Cert.KvProjRefIdeal.main_arg1)
      ∧ r.2.mem ((c.tc : Thread Cert.KvProjRefIdeal.nD Cert.KvProjRefIdeal.τ).loc Cert.KvProjRefIdeal.main_arg2) = m ((c.tc : Thread Cert.KvProjRefIdeal.nD Cert.KvProjRefIdeal.τ).loc Cert.KvProjRefIdeal.main_arg2)
      ∧ r.2.mem ((c.tc : Thread Cert.KvProjRefIdeal.nD Cert.KvProjRefIdeal.τ).loc Cert.KvProjRefIdeal.main_arg3) = m ((c.tc : Thread Cert.KvProjRefIdeal.nD Cert.KvProjRefIdeal.τ).loc Cert.KvProjRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeIdeal_pre_me_finite [hMergeIdeal : Cert.MergeIdeal.Facts] [hPre_me_finite : Cert.Pre_me_finite.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_me_finite m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_MergeRefIdeal_pre_me_finite [hMergeRefIdeal : Cert.MergeRefIdeal.Facts] [hPre_me_finite : Cert.Pre_me_finite.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_me_finite m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_MergeOut [hMergeOut : Cert.MergeOut.Facts] : Prop :=
  ∀ (m : (ℓ : Loc Cert.MergeOut.nD Cert.MergeOut.τ Cert.MergeOut.sig) → Buf (Elt Bits) ℓ) (g : Dev Cert.MergeOut.nD → PrngReg), Pre_MergeOut m →
    θ_run (Cert.MergeOut.defs (F := Bits)) (onTc (τ := Cert.MergeOut.τ) (Cert.MergeOut.main (F := Bits))) ⟨m, fun _ => 0, g⟩ (fun r => (∀ c : Dev Cert.MergeOut.nD,
      r.2.mem ((c.tc : Thread Cert.MergeOut.nD Cert.MergeOut.τ).loc Cert.MergeOut.main_arg0) = m ((c.tc : Thread Cert.MergeOut.nD Cert.MergeOut.τ).loc Cert.MergeOut.main_arg0)
      ∧ r.2.mem ((c.tc : Thread Cert.MergeOut.nD Cert.MergeOut.τ).loc Cert.MergeOut.main_arg1) = m ((c.tc : Thread Cert.MergeOut.nD Cert.MergeOut.τ).loc Cert.MergeOut.main_arg1)
      ∧ r.2.mem ((c.tc : Thread Cert.MergeOut.nD Cert.MergeOut.τ).loc Cert.MergeOut.main_arg2) = m ((c.tc : Thread Cert.MergeOut.nD Cert.MergeOut.τ).loc Cert.MergeOut.main_arg2)
      ∧ r.2.mem ((c.tc : Thread Cert.MergeOut.nD Cert.MergeOut.τ).loc Cert.MergeOut.main_arg3) = m ((c.tc : Thread Cert.MergeOut.nD Cert.MergeOut.τ).loc Cert.MergeOut.main_arg3)
      ∧ r.2.mem ((c.tc : Thread Cert.MergeOut.nD Cert.MergeOut.τ).loc Cert.MergeOut.main_arg4) = m ((c.tc : Thread Cert.MergeOut.nD Cert.MergeOut.τ).loc Cert.MergeOut.main_arg4)
      ∧ r.2.mem ((c.tc : Thread Cert.MergeOut.nD Cert.MergeOut.τ).loc Cert.MergeOut.main_arg5) = m ((c.tc : Thread Cert.MergeOut.nD Cert.MergeOut.τ).loc Cert.MergeOut.main_arg5)
      ∧ r.2.mem ((c.tc : Thread Cert.MergeOut.nD Cert.MergeOut.τ).loc Cert.MergeOut.main_arg6) = m ((c.tc : Thread Cert.MergeOut.nD Cert.MergeOut.τ).loc Cert.MergeOut.main_arg6)
      ∧ r.2.mem ((c.tc : Thread Cert.MergeOut.nD Cert.MergeOut.τ).loc Cert.MergeOut.main_arg7) = m ((c.tc : Thread Cert.MergeOut.nD Cert.MergeOut.τ).loc Cert.MergeOut.main_arg7)
      ∧ r.2.mem ((c.tc : Thread Cert.MergeOut.nD Cert.MergeOut.τ).loc Cert.MergeOut.main_arg8) = m ((c.tc : Thread Cert.MergeOut.nD Cert.MergeOut.τ).loc Cert.MergeOut.main_arg8)
      ∧ r.2.mem ((c.tc : Thread Cert.MergeOut.nD Cert.MergeOut.τ).loc Cert.MergeOut.main_arg9) = m ((c.tc : Thread Cert.MergeOut.nD Cert.MergeOut.τ).loc Cert.MergeOut.main_arg9)
      ∧ r.2.mem ((c.tc : Thread Cert.MergeOut.nD Cert.MergeOut.τ).loc Cert.MergeOut.main_arg10) = m ((c.tc : Thread Cert.MergeOut.nD Cert.MergeOut.τ).loc Cert.MergeOut.main_arg10))
      ∧ r.2.sem = fun _ => 0)

def quiescent_MergeOutIdeal [hMergeOutIdeal : Cert.MergeOutIdeal.Facts] : Prop :=
  ∀ (m : (ℓ : Loc Cert.MergeOutIdeal.nD Cert.MergeOutIdeal.τ Cert.MergeOutIdeal.sig) → Buf (Elt Ideal) ℓ) (g : Dev Cert.MergeOutIdeal.nD → PrngReg), Pre_MergeOutIdeal m →
    θ_run (Cert.MergeOutIdeal.defs (F := Ideal)) (onTc (τ := Cert.MergeOutIdeal.τ) (Cert.MergeOutIdeal.main (F := Ideal))) ⟨m, fun _ => 0, g⟩ (fun r => (∀ c : Dev Cert.MergeOutIdeal.nD,
      r.2.mem ((c.tc : Thread Cert.MergeOutIdeal.nD Cert.MergeOutIdeal.τ).loc Cert.MergeOutIdeal.main_arg0) = m ((c.tc : Thread Cert.MergeOutIdeal.nD Cert.MergeOutIdeal.τ).loc Cert.MergeOutIdeal.main_arg0)
      ∧ r.2.mem ((c.tc : Thread Cert.MergeOutIdeal.nD Cert.MergeOutIdeal.τ).loc Cert.MergeOutIdeal.main_arg1) = m ((c.tc : Thread Cert.MergeOutIdeal.nD Cert.MergeOutIdeal.τ).loc Cert.MergeOutIdeal.main_arg1)
      ∧ r.2.mem ((c.tc : Thread Cert.MergeOutIdeal.nD Cert.MergeOutIdeal.τ).loc Cert.MergeOutIdeal.main_arg2) = m ((c.tc : Thread Cert.MergeOutIdeal.nD Cert.MergeOutIdeal.τ).loc Cert.MergeOutIdeal.main_arg2)
      ∧ r.2.mem ((c.tc : Thread Cert.MergeOutIdeal.nD Cert.MergeOutIdeal.τ).loc Cert.MergeOutIdeal.main_arg3) = m ((c.tc : Thread Cert.MergeOutIdeal.nD Cert.MergeOutIdeal.τ).loc Cert.MergeOutIdeal.main_arg3)
      ∧ r.2.mem ((c.tc : Thread Cert.MergeOutIdeal.nD Cert.MergeOutIdeal.τ).loc Cert.MergeOutIdeal.main_arg4) = m ((c.tc : Thread Cert.MergeOutIdeal.nD Cert.MergeOutIdeal.τ).loc Cert.MergeOutIdeal.main_arg4)
      ∧ r.2.mem ((c.tc : Thread Cert.MergeOutIdeal.nD Cert.MergeOutIdeal.τ).loc Cert.MergeOutIdeal.main_arg5) = m ((c.tc : Thread Cert.MergeOutIdeal.nD Cert.MergeOutIdeal.τ).loc Cert.MergeOutIdeal.main_arg5)
      ∧ r.2.mem ((c.tc : Thread Cert.MergeOutIdeal.nD Cert.MergeOutIdeal.τ).loc Cert.MergeOutIdeal.main_arg6) = m ((c.tc : Thread Cert.MergeOutIdeal.nD Cert.MergeOutIdeal.τ).loc Cert.MergeOutIdeal.main_arg6)
      ∧ r.2.mem ((c.tc : Thread Cert.MergeOutIdeal.nD Cert.MergeOutIdeal.τ).loc Cert.MergeOutIdeal.main_arg7) = m ((c.tc : Thread Cert.MergeOutIdeal.nD Cert.MergeOutIdeal.τ).loc Cert.MergeOutIdeal.main_arg7)
      ∧ r.2.mem ((c.tc : Thread Cert.MergeOutIdeal.nD Cert.MergeOutIdeal.τ).loc Cert.MergeOutIdeal.main_arg8) = m ((c.tc : Thread Cert.MergeOutIdeal.nD Cert.MergeOutIdeal.τ).loc Cert.MergeOutIdeal.main_arg8)
      ∧ r.2.mem ((c.tc : Thread Cert.MergeOutIdeal.nD Cert.MergeOutIdeal.τ).loc Cert.MergeOutIdeal.main_arg9) = m ((c.tc : Thread Cert.MergeOutIdeal.nD Cert.MergeOutIdeal.τ).loc Cert.MergeOutIdeal.main_arg9)
      ∧ r.2.mem ((c.tc : Thread Cert.MergeOutIdeal.nD Cert.MergeOutIdeal.τ).loc Cert.MergeOutIdeal.main_arg10) = m ((c.tc : Thread Cert.MergeOutIdeal.nD Cert.MergeOutIdeal.τ).loc Cert.MergeOutIdeal.main_arg10))
      ∧ r.2.sem = fun _ => 0)

def quiescent_MergeOutIdeal_pre_mo_finite [hMergeOutIdeal : Cert.MergeOutIdeal.Facts] [hPre_mo_finite : Cert.Pre_mo_finite.Facts] : Prop :=
  ∀ (m : (ℓ : Loc Cert.MergeOutIdeal.nD Cert.MergeOutIdeal.τ Cert.MergeOutIdeal.sig) → Buf (Elt Ideal) ℓ) (g : Dev Cert.MergeOutIdeal.nD → PrngReg), Pre_MergeOutIdeal_mo_finite m →
    θ_run (Cert.MergeOutIdeal.defs (F := Ideal)) (onTc (τ := Cert.MergeOutIdeal.τ) (Cert.MergeOutIdeal.main (F := Ideal))) ⟨m, fun _ => 0, g⟩ (fun r => (∀ c : Dev Cert.MergeOutIdeal.nD,
      r.2.mem ((c.tc : Thread Cert.MergeOutIdeal.nD Cert.MergeOutIdeal.τ).loc Cert.MergeOutIdeal.main_arg0) = m ((c.tc : Thread Cert.MergeOutIdeal.nD Cert.MergeOutIdeal.τ).loc Cert.MergeOutIdeal.main_arg0)
      ∧ r.2.mem ((c.tc : Thread Cert.MergeOutIdeal.nD Cert.MergeOutIdeal.τ).loc Cert.MergeOutIdeal.main_arg1) = m ((c.tc : Thread Cert.MergeOutIdeal.nD Cert.MergeOutIdeal.τ).loc Cert.MergeOutIdeal.main_arg1)
      ∧ r.2.mem ((c.tc : Thread Cert.MergeOutIdeal.nD Cert.MergeOutIdeal.τ).loc Cert.MergeOutIdeal.main_arg2) = m ((c.tc : Thread Cert.MergeOutIdeal.nD Cert.MergeOutIdeal.τ).loc Cert.MergeOutIdeal.main_arg2)
      ∧ r.2.mem ((c.tc : Thread Cert.MergeOutIdeal.nD Cert.MergeOutIdeal.τ).loc Cert.MergeOutIdeal.main_arg3) = m ((c.tc : Thread Cert.MergeOutIdeal.nD Cert.MergeOutIdeal.τ).loc Cert.MergeOutIdeal.main_arg3)
      ∧ r.2.mem ((c.tc : Thread Cert.MergeOutIdeal.nD Cert.MergeOutIdeal.τ).loc Cert.MergeOutIdeal.main_arg4) = m ((c.tc : Thread Cert.MergeOutIdeal.nD Cert.MergeOutIdeal.τ).loc Cert.MergeOutIdeal.main_arg4)
      ∧ r.2.mem ((c.tc : Thread Cert.MergeOutIdeal.nD Cert.MergeOutIdeal.τ).loc Cert.MergeOutIdeal.main_arg5) = m ((c.tc : Thread Cert.MergeOutIdeal.nD Cert.MergeOutIdeal.τ).loc Cert.MergeOutIdeal.main_arg5)
      ∧ r.2.mem ((c.tc : Thread Cert.MergeOutIdeal.nD Cert.MergeOutIdeal.τ).loc Cert.MergeOutIdeal.main_arg6) = m ((c.tc : Thread Cert.MergeOutIdeal.nD Cert.MergeOutIdeal.τ).loc Cert.MergeOutIdeal.main_arg6)
      ∧ r.2.mem ((c.tc : Thread Cert.MergeOutIdeal.nD Cert.MergeOutIdeal.τ).loc Cert.MergeOutIdeal.main_arg7) = m ((c.tc : Thread Cert.MergeOutIdeal.nD Cert.MergeOutIdeal.τ).loc Cert.MergeOutIdeal.main_arg7)
      ∧ r.2.mem ((c.tc : Thread Cert.MergeOutIdeal.nD Cert.MergeOutIdeal.τ).loc Cert.MergeOutIdeal.main_arg8) = m ((c.tc : Thread Cert.MergeOutIdeal.nD Cert.MergeOutIdeal.τ).loc Cert.MergeOutIdeal.main_arg8)
      ∧ r.2.mem ((c.tc : Thread Cert.MergeOutIdeal.nD Cert.MergeOutIdeal.τ).loc Cert.MergeOutIdeal.main_arg9) = m ((c.tc : Thread Cert.MergeOutIdeal.nD Cert.MergeOutIdeal.τ).loc Cert.MergeOutIdeal.main_arg9)
      ∧ r.2.mem ((c.tc : Thread Cert.MergeOutIdeal.nD Cert.MergeOutIdeal.τ).loc Cert.MergeOutIdeal.main_arg10) = m ((c.tc : Thread Cert.MergeOutIdeal.nD Cert.MergeOutIdeal.τ).loc Cert.MergeOutIdeal.main_arg10))
      ∧ r.2.sem = fun _ => 0)

def quiescent_MergeOutRefIdeal [hMergeOutRefIdeal : Cert.MergeOutRefIdeal.Facts] : Prop :=
  ∀ (m : (ℓ : Loc Cert.MergeOutRefIdeal.nD Cert.MergeOutRefIdeal.τ Cert.MergeOutRefIdeal.sig) → Buf (Elt Ideal) ℓ) (g : Dev Cert.MergeOutRefIdeal.nD → PrngReg), Pre_MergeOutRefIdeal m →
    θ_run (Cert.MergeOutRefIdeal.defs (F := Ideal)) (onTc (τ := Cert.MergeOutRefIdeal.τ) (Cert.MergeOutRefIdeal.main (F := Ideal))) ⟨m, fun _ => 0, g⟩ (fun r => (∀ c : Dev Cert.MergeOutRefIdeal.nD,
      r.2.mem ((c.tc : Thread Cert.MergeOutRefIdeal.nD Cert.MergeOutRefIdeal.τ).loc Cert.MergeOutRefIdeal.main_arg0) = m ((c.tc : Thread Cert.MergeOutRefIdeal.nD Cert.MergeOutRefIdeal.τ).loc Cert.MergeOutRefIdeal.main_arg0)
      ∧ r.2.mem ((c.tc : Thread Cert.MergeOutRefIdeal.nD Cert.MergeOutRefIdeal.τ).loc Cert.MergeOutRefIdeal.main_arg1) = m ((c.tc : Thread Cert.MergeOutRefIdeal.nD Cert.MergeOutRefIdeal.τ).loc Cert.MergeOutRefIdeal.main_arg1)
      ∧ r.2.mem ((c.tc : Thread Cert.MergeOutRefIdeal.nD Cert.MergeOutRefIdeal.τ).loc Cert.MergeOutRefIdeal.main_arg2) = m ((c.tc : Thread Cert.MergeOutRefIdeal.nD Cert.MergeOutRefIdeal.τ).loc Cert.MergeOutRefIdeal.main_arg2)
      ∧ r.2.mem ((c.tc : Thread Cert.MergeOutRefIdeal.nD Cert.MergeOutRefIdeal.τ).loc Cert.MergeOutRefIdeal.main_arg3) = m ((c.tc : Thread Cert.MergeOutRefIdeal.nD Cert.MergeOutRefIdeal.τ).loc Cert.MergeOutRefIdeal.main_arg3)
      ∧ r.2.mem ((c.tc : Thread Cert.MergeOutRefIdeal.nD Cert.MergeOutRefIdeal.τ).loc Cert.MergeOutRefIdeal.main_arg4) = m ((c.tc : Thread Cert.MergeOutRefIdeal.nD Cert.MergeOutRefIdeal.τ).loc Cert.MergeOutRefIdeal.main_arg4)
      ∧ r.2.mem ((c.tc : Thread Cert.MergeOutRefIdeal.nD Cert.MergeOutRefIdeal.τ).loc Cert.MergeOutRefIdeal.main_arg5) = m ((c.tc : Thread Cert.MergeOutRefIdeal.nD Cert.MergeOutRefIdeal.τ).loc Cert.MergeOutRefIdeal.main_arg5)
      ∧ r.2.mem ((c.tc : Thread Cert.MergeOutRefIdeal.nD Cert.MergeOutRefIdeal.τ).loc Cert.MergeOutRefIdeal.main_arg6) = m ((c.tc : Thread Cert.MergeOutRefIdeal.nD Cert.MergeOutRefIdeal.τ).loc Cert.MergeOutRefIdeal.main_arg6)
      ∧ r.2.mem ((c.tc : Thread Cert.MergeOutRefIdeal.nD Cert.MergeOutRefIdeal.τ).loc Cert.MergeOutRefIdeal.main_arg7) = m ((c.tc : Thread Cert.MergeOutRefIdeal.nD Cert.MergeOutRefIdeal.τ).loc Cert.MergeOutRefIdeal.main_arg7)
      ∧ r.2.mem ((c.tc : Thread Cert.MergeOutRefIdeal.nD Cert.MergeOutRefIdeal.τ).loc Cert.MergeOutRefIdeal.main_arg8) = m ((c.tc : Thread Cert.MergeOutRefIdeal.nD Cert.MergeOutRefIdeal.τ).loc Cert.MergeOutRefIdeal.main_arg8)
      ∧ r.2.mem ((c.tc : Thread Cert.MergeOutRefIdeal.nD Cert.MergeOutRefIdeal.τ).loc Cert.MergeOutRefIdeal.main_arg9) = m ((c.tc : Thread Cert.MergeOutRefIdeal.nD Cert.MergeOutRefIdeal.τ).loc Cert.MergeOutRefIdeal.main_arg9)
      ∧ r.2.mem ((c.tc : Thread Cert.MergeOutRefIdeal.nD Cert.MergeOutRefIdeal.τ).loc Cert.MergeOutRefIdeal.main_arg10) = m ((c.tc : Thread Cert.MergeOutRefIdeal.nD Cert.MergeOutRefIdeal.τ).loc Cert.MergeOutRefIdeal.main_arg10))
      ∧ r.2.sem = fun _ => 0)

def quiescent_MergeOutRefIdeal_pre_mo_finite [hMergeOutRefIdeal : Cert.MergeOutRefIdeal.Facts] [hPre_mo_finite : Cert.Pre_mo_finite.Facts] : Prop :=
  ∀ (m : (ℓ : Loc Cert.MergeOutRefIdeal.nD Cert.MergeOutRefIdeal.τ Cert.MergeOutRefIdeal.sig) → Buf (Elt Ideal) ℓ) (g : Dev Cert.MergeOutRefIdeal.nD → PrngReg), Pre_MergeOutRefIdeal_mo_finite m →
    θ_run (Cert.MergeOutRefIdeal.defs (F := Ideal)) (onTc (τ := Cert.MergeOutRefIdeal.τ) (Cert.MergeOutRefIdeal.main (F := Ideal))) ⟨m, fun _ => 0, g⟩ (fun r => (∀ c : Dev Cert.MergeOutRefIdeal.nD,
      r.2.mem ((c.tc : Thread Cert.MergeOutRefIdeal.nD Cert.MergeOutRefIdeal.τ).loc Cert.MergeOutRefIdeal.main_arg0) = m ((c.tc : Thread Cert.MergeOutRefIdeal.nD Cert.MergeOutRefIdeal.τ).loc Cert.MergeOutRefIdeal.main_arg0)
      ∧ r.2.mem ((c.tc : Thread Cert.MergeOutRefIdeal.nD Cert.MergeOutRefIdeal.τ).loc Cert.MergeOutRefIdeal.main_arg1) = m ((c.tc : Thread Cert.MergeOutRefIdeal.nD Cert.MergeOutRefIdeal.τ).loc Cert.MergeOutRefIdeal.main_arg1)
      ∧ r.2.mem ((c.tc : Thread Cert.MergeOutRefIdeal.nD Cert.MergeOutRefIdeal.τ).loc Cert.MergeOutRefIdeal.main_arg2) = m ((c.tc : Thread Cert.MergeOutRefIdeal.nD Cert.MergeOutRefIdeal.τ).loc Cert.MergeOutRefIdeal.main_arg2)
      ∧ r.2.mem ((c.tc : Thread Cert.MergeOutRefIdeal.nD Cert.MergeOutRefIdeal.τ).loc Cert.MergeOutRefIdeal.main_arg3) = m ((c.tc : Thread Cert.MergeOutRefIdeal.nD Cert.MergeOutRefIdeal.τ).loc Cert.MergeOutRefIdeal.main_arg3)
      ∧ r.2.mem ((c.tc : Thread Cert.MergeOutRefIdeal.nD Cert.MergeOutRefIdeal.τ).loc Cert.MergeOutRefIdeal.main_arg4) = m ((c.tc : Thread Cert.MergeOutRefIdeal.nD Cert.MergeOutRefIdeal.τ).loc Cert.MergeOutRefIdeal.main_arg4)
      ∧ r.2.mem ((c.tc : Thread Cert.MergeOutRefIdeal.nD Cert.MergeOutRefIdeal.τ).loc Cert.MergeOutRefIdeal.main_arg5) = m ((c.tc : Thread Cert.MergeOutRefIdeal.nD Cert.MergeOutRefIdeal.τ).loc Cert.MergeOutRefIdeal.main_arg5)
      ∧ r.2.mem ((c.tc : Thread Cert.MergeOutRefIdeal.nD Cert.MergeOutRefIdeal.τ).loc Cert.MergeOutRefIdeal.main_arg6) = m ((c.tc : Thread Cert.MergeOutRefIdeal.nD Cert.MergeOutRefIdeal.τ).loc Cert.MergeOutRefIdeal.main_arg6)
      ∧ r.2.mem ((c.tc : Thread Cert.MergeOutRefIdeal.nD Cert.MergeOutRefIdeal.τ).loc Cert.MergeOutRefIdeal.main_arg7) = m ((c.tc : Thread Cert.MergeOutRefIdeal.nD Cert.MergeOutRefIdeal.τ).loc Cert.MergeOutRefIdeal.main_arg7)
      ∧ r.2.mem ((c.tc : Thread Cert.MergeOutRefIdeal.nD Cert.MergeOutRefIdeal.τ).loc Cert.MergeOutRefIdeal.main_arg8) = m ((c.tc : Thread Cert.MergeOutRefIdeal.nD Cert.MergeOutRefIdeal.τ).loc Cert.MergeOutRefIdeal.main_arg8)
      ∧ r.2.mem ((c.tc : Thread Cert.MergeOutRefIdeal.nD Cert.MergeOutRefIdeal.τ).loc Cert.MergeOutRefIdeal.main_arg9) = m ((c.tc : Thread Cert.MergeOutRefIdeal.nD Cert.MergeOutRefIdeal.τ).loc Cert.MergeOutRefIdeal.main_arg9)
      ∧ r.2.mem ((c.tc : Thread Cert.MergeOutRefIdeal.nD Cert.MergeOutRefIdeal.τ).loc Cert.MergeOutRefIdeal.main_arg10) = m ((c.tc : Thread Cert.MergeOutRefIdeal.nD Cert.MergeOutRefIdeal.τ).loc Cert.MergeOutRefIdeal.main_arg10))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥
  ∧ IdealRules.named_const.Statement Cert.KernelIdeal.κ "dead" .f32 0xC3200000#32 ⊥

def preserves_MgProj_MgProjIdeal : Prop :=
  True

def algebraic_MgProjIdeal_MgProjRefIdeal [hMgProjIdeal : Cert.MgProjIdeal.Facts] [hMgProjRefIdeal : Cert.MgProjRefIdeal.Facts] : Prop :=
  ∀ (m : (ℓ : Loc Cert.MgProjIdeal.nD Cert.MgProjIdeal.τ Cert.MgProjIdeal.sig) → Buf (Elt Ideal) ℓ) (g : Dev Cert.MgProjIdeal.nD → PrngReg)
    (m' : (ℓ : Loc Cert.MgProjRefIdeal.nD Cert.MgProjRefIdeal.τ Cert.MgProjRefIdeal.sig) → Buf (Elt Ideal) ℓ) (g' : Dev Cert.MgProjRefIdeal.nD → PrngReg), Pre_MgProjIdeal m →
    (∀ c : Dev Cert.MgProjIdeal.nD,
      m' ((c.tc : Thread Cert.MgProjRefIdeal.nD Cert.MgProjRefIdeal.τ).loc Cert.MgProjRefIdeal.main_arg0) = m ((c.tc : Thread Cert.MgProjIdeal.nD Cert.MgProjIdeal.τ).loc Cert.MgProjIdeal.main_arg0)
      ∧ m' ((c.tc : Thread Cert.MgProjRefIdeal.nD Cert.MgProjRefIdeal.τ).loc Cert.MgProjRefIdeal.main_arg1) = m ((c.tc : Thread Cert.MgProjIdeal.nD Cert.MgProjIdeal.τ).loc Cert.MgProjIdeal.main_arg1)
      ∧ m' ((c.tc : Thread Cert.MgProjRefIdeal.nD Cert.MgProjRefIdeal.τ).loc Cert.MgProjRefIdeal.main_arg2) = m ((c.tc : Thread Cert.MgProjIdeal.nD Cert.MgProjIdeal.τ).loc Cert.MgProjIdeal.main_arg2)) →
    ∃ (v0 : (c : Dev Cert.MgProjIdeal.nD) → Buf (Elt Ideal) ((c.tc : Thread Cert.MgProjIdeal.nD Cert.MgProjIdeal.τ).loc Cert.MgProjIdeal.main_v6_0)) (v1 : (c : Dev Cert.MgProjIdeal.nD) → Buf (Elt Ideal) ((c.tc : Thread Cert.MgProjIdeal.nD Cert.MgProjIdeal.τ).loc Cert.MgProjIdeal.main_v6_1)),
      θ_run (Cert.MgProjIdeal.defs (F := Ideal)) (onTc (τ := Cert.MgProjIdeal.τ) (Cert.MgProjIdeal.main (F := Ideal))) ⟨m, fun _ => 0, g⟩ (fun r => ∀ c : Dev Cert.MgProjIdeal.nD,
          r.2.mem ((c.tc : Thread Cert.MgProjIdeal.nD Cert.MgProjIdeal.τ).loc Cert.MgProjIdeal.main_v6_0) = v0 c
          ∧ r.2.mem ((c.tc : Thread Cert.MgProjIdeal.nD Cert.MgProjIdeal.τ).loc Cert.MgProjIdeal.main_v6_1) = v1 c
          ∧ r.2.mem ((c.tc : Thread Cert.MgProjIdeal.nD Cert.MgProjIdeal.τ).loc Cert.MgProjIdeal.main_arg0) = m ((c.tc : Thread Cert.MgProjIdeal.nD Cert.MgProjIdeal.τ).loc Cert.MgProjIdeal.main_arg0)
          ∧ r.2.mem ((c.tc : Thread Cert.MgProjIdeal.nD Cert.MgProjIdeal.τ).loc Cert.MgProjIdeal.main_arg1) = m ((c.tc : Thread Cert.MgProjIdeal.nD Cert.MgProjIdeal.τ).loc Cert.MgProjIdeal.main_arg1)
          ∧ r.2.mem ((c.tc : Thread Cert.MgProjIdeal.nD Cert.MgProjIdeal.τ).loc Cert.MgProjIdeal.main_arg2) = m ((c.tc : Thread Cert.MgProjIdeal.nD Cert.MgProjIdeal.τ).loc Cert.MgProjIdeal.main_arg2))
      ∧ θ_run (Cert.MgProjRefIdeal.defs (F := Ideal)) (onTc (τ := Cert.MgProjRefIdeal.τ) (Cert.MgProjRefIdeal.main (F := Ideal))) ⟨m', fun _ => 0, g'⟩ (fun r => ∀ c : Dev Cert.MgProjRefIdeal.nD,
          r.2.mem ((c.tc : Thread Cert.MgProjRefIdeal.nD Cert.MgProjRefIdeal.τ).loc Cert.MgProjRefIdeal.main_v11) = v0 c
          ∧ r.2.mem ((c.tc : Thread Cert.MgProjRefIdeal.nD Cert.MgProjRefIdeal.τ).loc Cert.MgProjRefIdeal.main_v18) = v1 c
          ∧ r.2.mem ((c.tc : Thread Cert.MgProjRefIdeal.nD Cert.MgProjRefIdeal.τ).loc Cert.MgProjRefIdeal.main_arg0) = m' ((c.tc : Thread Cert.MgProjRefIdeal.nD Cert.MgProjRefIdeal.τ).loc Cert.MgProjRefIdeal.main_arg0)
          ∧ r.2.mem ((c.tc : Thread Cert.MgProjRefIdeal.nD Cert.MgProjRefIdeal.τ).loc Cert.MgProjRefIdeal.main_arg1) = m' ((c.tc : Thread Cert.MgProjRefIdeal.nD Cert.MgProjRefIdeal.τ).loc Cert.MgProjRefIdeal.main_arg1)
          ∧ r.2.mem ((c.tc : Thread Cert.MgProjRefIdeal.nD Cert.MgProjRefIdeal.τ).loc Cert.MgProjRefIdeal.main_arg2) = m' ((c.tc : Thread Cert.MgProjRefIdeal.nD Cert.MgProjRefIdeal.τ).loc Cert.MgProjRefIdeal.main_arg2))

def preserves_QgProj_QgProjIdeal : Prop :=
  True

def algebraic_QgProjIdeal_QgProjRefIdeal [hQgProjIdeal : Cert.QgProjIdeal.Facts] [hQgProjRefIdeal : Cert.QgProjRefIdeal.Facts] : Prop :=
  ∀ (m : (ℓ : Loc Cert.QgProjIdeal.nD Cert.QgProjIdeal.τ Cert.QgProjIdeal.sig) → Buf (Elt Ideal) ℓ) (g : Dev Cert.QgProjIdeal.nD → PrngReg)
    (m' : (ℓ : Loc Cert.QgProjRefIdeal.nD Cert.QgProjRefIdeal.τ Cert.QgProjRefIdeal.sig) → Buf (Elt Ideal) ℓ) (g' : Dev Cert.QgProjRefIdeal.nD → PrngReg), Pre_QgProjIdeal m →
    (∀ c : Dev Cert.QgProjIdeal.nD,
      m' ((c.tc : Thread Cert.QgProjRefIdeal.nD Cert.QgProjRefIdeal.τ).loc Cert.QgProjRefIdeal.main_arg0) = m ((c.tc : Thread Cert.QgProjIdeal.nD Cert.QgProjIdeal.τ).loc Cert.QgProjIdeal.main_arg0)
      ∧ m' ((c.tc : Thread Cert.QgProjRefIdeal.nD Cert.QgProjRefIdeal.τ).loc Cert.QgProjRefIdeal.main_arg1) = m ((c.tc : Thread Cert.QgProjIdeal.nD Cert.QgProjIdeal.τ).loc Cert.QgProjIdeal.main_arg1)
      ∧ m' ((c.tc : Thread Cert.QgProjRefIdeal.nD Cert.QgProjRefIdeal.τ).loc Cert.QgProjRefIdeal.main_arg2) = m ((c.tc : Thread Cert.QgProjIdeal.nD Cert.QgProjIdeal.τ).loc Cert.QgProjIdeal.main_arg2)) →
    ∃ (v0 : (c : Dev Cert.QgProjIdeal.nD) → Buf (Elt Ideal) ((c.tc : Thread Cert.QgProjIdeal.nD Cert.QgProjIdeal.τ).loc Cert.QgProjIdeal.main_v8_0)) (v1 : (c : Dev Cert.QgProjIdeal.nD) → Buf (Elt Ideal) ((c.tc : Thread Cert.QgProjIdeal.nD Cert.QgProjIdeal.τ).loc Cert.QgProjIdeal.main_v8_1)),
      θ_run (Cert.QgProjIdeal.defs (F := Ideal)) (onTc (τ := Cert.QgProjIdeal.τ) (Cert.QgProjIdeal.main (F := Ideal))) ⟨m, fun _ => 0, g⟩ (fun r => ∀ c : Dev Cert.QgProjIdeal.nD,
          r.2.mem ((c.tc : Thread Cert.QgProjIdeal.nD Cert.QgProjIdeal.τ).loc Cert.QgProjIdeal.main_v8_0) = v0 c
          ∧ r.2.mem ((c.tc : Thread Cert.QgProjIdeal.nD Cert.QgProjIdeal.τ).loc Cert.QgProjIdeal.main_v8_1) = v1 c
          ∧ r.2.mem ((c.tc : Thread Cert.QgProjIdeal.nD Cert.QgProjIdeal.τ).loc Cert.QgProjIdeal.main_arg0) = m ((c.tc : Thread Cert.QgProjIdeal.nD Cert.QgProjIdeal.τ).loc Cert.QgProjIdeal.main_arg0)
          ∧ r.2.mem ((c.tc : Thread Cert.QgProjIdeal.nD Cert.QgProjIdeal.τ).loc Cert.QgProjIdeal.main_arg1) = m ((c.tc : Thread Cert.QgProjIdeal.nD Cert.QgProjIdeal.τ).loc Cert.QgProjIdeal.main_arg1)
          ∧ r.2.mem ((c.tc : Thread Cert.QgProjIdeal.nD Cert.QgProjIdeal.τ).loc Cert.QgProjIdeal.main_arg2) = m ((c.tc : Thread Cert.QgProjIdeal.nD Cert.QgProjIdeal.τ).loc Cert.QgProjIdeal.main_arg2))
      ∧ θ_run (Cert.QgProjRefIdeal.defs (F := Ideal)) (onTc (τ := Cert.QgProjRefIdeal.τ) (Cert.QgProjRefIdeal.main (F := Ideal))) ⟨m', fun _ => 0, g'⟩ (fun r => ∀ c : Dev Cert.QgProjRefIdeal.nD,
          r.2.mem ((c.tc : Thread Cert.QgProjRefIdeal.nD Cert.QgProjRefIdeal.τ).loc Cert.QgProjRefIdeal.main_v18) = v0 c
          ∧ r.2.mem ((c.tc : Thread Cert.QgProjRefIdeal.nD Cert.QgProjRefIdeal.τ).loc Cert.QgProjRefIdeal.main_v37) = v1 c
          ∧ r.2.mem ((c.tc : Thread Cert.QgProjRefIdeal.nD Cert.QgProjRefIdeal.τ).loc Cert.QgProjRefIdeal.main_arg0) = m' ((c.tc : Thread Cert.QgProjRefIdeal.nD Cert.QgProjRefIdeal.τ).loc Cert.QgProjRefIdeal.main_arg0)
          ∧ r.2.mem ((c.tc : Thread Cert.QgProjRefIdeal.nD Cert.QgProjRefIdeal.τ).loc Cert.QgProjRefIdeal.main_arg1) = m' ((c.tc : Thread Cert.QgProjRefIdeal.nD Cert.QgProjRefIdeal.τ).loc Cert.QgProjRefIdeal.main_arg1)
          ∧ r.2.mem ((c.tc : Thread Cert.QgProjRefIdeal.nD Cert.QgProjRefIdeal.τ).loc Cert.QgProjRefIdeal.main_arg2) = m' ((c.tc : Thread Cert.QgProjRefIdeal.nD Cert.QgProjRefIdeal.τ).loc Cert.QgProjRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v15) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v1_0)) (v1 : (c : Dev Cert.MemKvIdeal.nD) → Buf (Elt Ideal) ((c.tc : Thread Cert.MemKvIdeal.nD Cert.MemKvIdeal.τ).loc Cert.MemKvIdeal.main_v1_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v1_0) = v0 c
          ∧ r.2.mem ((c.tc : Thread Cert.MemKvIdeal.nD Cert.MemKvIdeal.τ).loc Cert.MemKvIdeal.main_v1_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v14) = v0 c
          ∧ r.2.mem ((c.tc : Thread Cert.MemKvRefIdeal.nD Cert.MemKvRefIdeal.τ).loc Cert.MemKvRefIdeal.main_v15) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2))

def preserves_KvProj_KvProjIdeal : Prop :=
  True

def algebraic_KvProjIdeal_KvProjRefIdeal [hKvProjIdeal : Cert.KvProjIdeal.Facts] [hKvProjRefIdeal : Cert.KvProjRefIdeal.Facts] : Prop :=
  ∀ (m : (ℓ : Loc Cert.KvProjIdeal.nD Cert.KvProjIdeal.τ Cert.KvProjIdeal.sig) → Buf (Elt Ideal) ℓ) (g : Dev Cert.KvProjIdeal.nD → PrngReg)
    (m' : (ℓ : Loc Cert.KvProjRefIdeal.nD Cert.KvProjRefIdeal.τ Cert.KvProjRefIdeal.sig) → Buf (Elt Ideal) ℓ) (g' : Dev Cert.KvProjRefIdeal.nD → PrngReg), Pre_KvProjIdeal m →
    (∀ c : Dev Cert.KvProjIdeal.nD,
      m' ((c.tc : Thread Cert.KvProjRefIdeal.nD Cert.KvProjRefIdeal.τ).loc Cert.KvProjRefIdeal.main_arg0) = m ((c.tc : Thread Cert.KvProjIdeal.nD Cert.KvProjIdeal.τ).loc Cert.KvProjIdeal.main_arg0)
      ∧ m' ((c.tc : Thread Cert.KvProjRefIdeal.nD Cert.KvProjRefIdeal.τ).loc Cert.KvProjRefIdeal.main_arg1) = m ((c.tc : Thread Cert.KvProjIdeal.nD Cert.KvProjIdeal.τ).loc Cert.KvProjIdeal.main_arg1)
      ∧ m' ((c.tc : Thread Cert.KvProjRefIdeal.nD Cert.KvProjRefIdeal.τ).loc Cert.KvProjRefIdeal.main_arg2) = m ((c.tc : Thread Cert.KvProjIdeal.nD Cert.KvProjIdeal.τ).loc Cert.KvProjIdeal.main_arg2)
      ∧ m' ((c.tc : Thread Cert.KvProjRefIdeal.nD Cert.KvProjRefIdeal.τ).loc Cert.KvProjRefIdeal.main_arg3) = m ((c.tc : Thread Cert.KvProjIdeal.nD Cert.KvProjIdeal.τ).loc Cert.KvProjIdeal.main_arg3)) →
    ∃ (v0 : (c : Dev Cert.KvProjIdeal.nD) → Buf (Elt Ideal) ((c.tc : Thread Cert.KvProjIdeal.nD Cert.KvProjIdeal.τ).loc Cert.KvProjIdeal.main_v7_0)) (v1 : (c : Dev Cert.KvProjIdeal.nD) → Buf (Elt Ideal) ((c.tc : Thread Cert.KvProjIdeal.nD Cert.KvProjIdeal.τ).loc Cert.KvProjIdeal.main_v7_1)) (v2 : (c : Dev Cert.KvProjIdeal.nD) → Buf (Elt Ideal) ((c.tc : Thread Cert.KvProjIdeal.nD Cert.KvProjIdeal.τ).loc Cert.KvProjIdeal.main_v7_2)) (v3 : (c : Dev Cert.KvProjIdeal.nD) → Buf (Elt Ideal) ((c.tc : Thread Cert.KvProjIdeal.nD Cert.KvProjIdeal.τ).loc Cert.KvProjIdeal.main_v7_3)) (v4 : (c : Dev Cert.KvProjIdeal.nD) → Buf (Elt Ideal) ((c.tc : Thread Cert.KvProjIdeal.nD Cert.KvProjIdeal.τ).loc Cert.KvProjIdeal.main_v7_4)) (v5 : (c : Dev Cert.KvProjIdeal.nD) → Buf (Elt Ideal) ((c.tc : Thread Cert.KvProjIdeal.nD Cert.KvProjIdeal.τ).loc Cert.KvProjIdeal.main_v7_5)) (v6 : (c : Dev Cert.KvProjIdeal.nD) → Buf (Elt Ideal) ((c.tc : Thread Cert.KvProjIdeal.nD Cert.KvProjIdeal.τ).loc Cert.KvProjIdeal.main_v7_6)) (v7 : (c : Dev Cert.KvProjIdeal.nD) → Buf (Elt Ideal) ((c.tc : Thread Cert.KvProjIdeal.nD Cert.KvProjIdeal.τ).loc Cert.KvProjIdeal.main_v7_7)) (v8 : (c : Dev Cert.KvProjIdeal.nD) → Buf (Elt Ideal) ((c.tc : Thread Cert.KvProjIdeal.nD Cert.KvProjIdeal.τ).loc Cert.KvProjIdeal.main_v7_8)) (v9 : (c : Dev Cert.KvProjIdeal.nD) → Buf (Elt Ideal) ((c.tc : Thread Cert.KvProjIdeal.nD Cert.KvProjIdeal.τ).loc Cert.KvProjIdeal.main_v7_9)) (v10 : (c : Dev Cert.KvProjIdeal.nD) → Buf (Elt Ideal) ((c.tc : Thread Cert.KvProjIdeal.nD Cert.KvProjIdeal.τ).loc Cert.KvProjIdeal.main_v7_10)) (v11 : (c : Dev Cert.KvProjIdeal.nD) → Buf (Elt Ideal) ((c.tc : Thread Cert.KvProjIdeal.nD Cert.KvProjIdeal.τ).loc Cert.KvProjIdeal.main_v7_11)),
      θ_run (Cert.KvProjIdeal.defs (F := Ideal)) (onTc (τ := Cert.KvProjIdeal.τ) (Cert.KvProjIdeal.main (F := Ideal))) ⟨m, fun _ => 0, g⟩ (fun r => ∀ c : Dev Cert.KvProjIdeal.nD,
          r.2.mem ((c.tc : Thread Cert.KvProjIdeal.nD Cert.KvProjIdeal.τ).loc Cert.KvProjIdeal.main_v7_0) = v0 c
          ∧ r.2.mem ((c.tc : Thread Cert.KvProjIdeal.nD Cert.KvProjIdeal.τ).loc Cert.KvProjIdeal.main_v7_1) = v1 c
          ∧ r.2.mem ((c.tc : Thread Cert.KvProjIdeal.nD Cert.KvProjIdeal.τ).loc Cert.KvProjIdeal.main_v7_2) = v2 c
          ∧ r.2.mem ((c.tc : Thread Cert.KvProjIdeal.nD Cert.KvProjIdeal.τ).loc Cert.KvProjIdeal.main_v7_3) = v3 c
          ∧ r.2.mem ((c.tc : Thread Cert.KvProjIdeal.nD Cert.KvProjIdeal.τ).loc Cert.KvProjIdeal.main_v7_4) = v4 c
          ∧ r.2.mem ((c.tc : Thread Cert.KvProjIdeal.nD Cert.KvProjIdeal.τ).loc Cert.KvProjIdeal.main_v7_5) = v5 c
          ∧ r.2.mem ((c.tc : Thread Cert.KvProjIdeal.nD Cert.KvProjIdeal.τ).loc Cert.KvProjIdeal.main_v7_6) = v6 c
          ∧ r.2.mem ((c.tc : Thread Cert.KvProjIdeal.nD Cert.KvProjIdeal.τ).loc Cert.KvProjIdeal.main_v7_7) = v7 c
          ∧ r.2.mem ((c.tc : Thread Cert.KvProjIdeal.nD Cert.KvProjIdeal.τ).loc Cert.KvProjIdeal.main_v7_8) = v8 c
          ∧ r.2.mem ((c.tc : Thread Cert.KvProjIdeal.nD Cert.KvProjIdeal.τ).loc Cert.KvProjIdeal.main_v7_9) = v9 c
          ∧ r.2.mem ((c.tc : Thread Cert.KvProjIdeal.nD Cert.KvProjIdeal.τ).loc Cert.KvProjIdeal.main_v7_10) = v10 c
          ∧ r.2.mem ((c.tc : Thread Cert.KvProjIdeal.nD Cert.KvProjIdeal.τ).loc Cert.KvProjIdeal.main_v7_11) = v11 c
          ∧ r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
          ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1)
          ∧ r.2.mem ((c.tc : Thread Cert.KvProjIdeal.nD Cert.KvProjIdeal.τ).loc Cert.KvProjIdeal.main_arg2) = m ((c.tc : Thread Cert.KvProjIdeal.nD Cert.KvProjIdeal.τ).loc Cert.KvProjIdeal.main_arg2)
          ∧ r.2.mem ((c.tc : Thread Cert.KvProjIdeal.nD Cert.KvProjIdeal.τ).loc Cert.KvProjIdeal.main_arg3) = m ((c.tc : Thread Cert.KvProjIdeal.nD Cert.KvProjIdeal.τ).loc Cert.KvProjIdeal.main_arg3))
      ∧ θ_run (Cert.KvProjRefIdeal.defs (F := Ideal)) (onTc (τ := Cert.KvProjRefIdeal.τ) (Cert.KvProjRefIdeal.main (F := Ideal))) ⟨m', fun _ => 0, g'⟩ (fun r => ∀ c : Dev Cert.KvProjRefIdeal.nD,
          r.2.mem ((c.tc : Thread Cert.KvProjRefIdeal.nD Cert.KvProjRefIdeal.τ).loc Cert.KvProjRefIdeal.main_v19) = v0 c
          ∧ r.2.mem ((c.tc : Thread Cert.KvProjRefIdeal.nD Cert.KvProjRefIdeal.τ).loc Cert.KvProjRefIdeal.main_v20) = v1 c
          ∧ r.2.mem ((c.tc : Thread Cert.KvProjRefIdeal.nD Cert.KvProjRefIdeal.τ).loc Cert.KvProjRefIdeal.main_v22) = v2 c
          ∧ r.2.mem ((c.tc : Thread Cert.KvProjRefIdeal.nD Cert.KvProjRefIdeal.τ).loc Cert.KvProjRefIdeal.main_v24) = v3 c
          ∧ r.2.mem ((c.tc : Thread Cert.KvProjRefIdeal.nD Cert.KvProjRefIdeal.τ).loc Cert.KvProjRefIdeal.main_v27) = v4 c
          ∧ r.2.mem ((c.tc : Thread Cert.KvProjRefIdeal.nD Cert.KvProjRefIdeal.τ).loc Cert.KvProjRefIdeal.main_v30) = v5 c
          ∧ r.2.mem ((c.tc : Thread Cert.KvProjRefIdeal.nD Cert.KvProjRefIdeal.τ).loc Cert.KvProjRefIdeal.main_v50) = v6 c
          ∧ r.2.mem ((c.tc : Thread Cert.KvProjRefIdeal.nD Cert.KvProjRefIdeal.τ).loc Cert.KvProjRefIdeal.main_v51) = v7 c
          ∧ r.2.mem ((c.tc : Thread Cert.KvProjRefIdeal.nD Cert.KvProjRefIdeal.τ).loc Cert.KvProjRefIdeal.main_v53) = v8 c
          ∧ r.2.mem ((c.tc : Thread Cert.KvProjRefIdeal.nD Cert.KvProjRefIdeal.τ).loc Cert.KvProjRefIdeal.main_v55) = v9 c
          ∧ r.2.mem ((c.tc : Thread Cert.KvProjRefIdeal.nD Cert.KvProjRefIdeal.τ).loc Cert.KvProjRefIdeal.main_v57) = v10 c
          ∧ r.2.mem ((c.tc : Thread Cert.KvProjRefIdeal.nD Cert.KvProjRefIdeal.τ).loc Cert.KvProjRefIdeal.main_v59) = v11 c
          ∧ r.2.mem ((c.tc : Thread Cert.KvProjRefIdeal.nD Cert.KvProjRefIdeal.τ).loc Cert.KvProjRefIdeal.main_arg0) = m' ((c.tc : Thread Cert.KvProjRefIdeal.nD Cert.KvProjRefIdeal.τ).loc Cert.KvProjRefIdeal.main_arg0)
          ∧ r.2.mem ((c.tc : Thread Cert.KvProjRefIdeal.nD Cert.KvProjRefIdeal.τ).loc Cert.KvProjRefIdeal.main_arg1) = m' ((c.tc : Thread Cert.KvProjRefIdeal.nD Cert.KvProjRefIdeal.τ).loc Cert.KvProjRefIdeal.main_arg1)
          ∧ r.2.mem ((c.tc : Thread Cert.KvProjRefIdeal.nD Cert.KvProjRefIdeal.τ).loc Cert.KvProjRefIdeal.main_arg2) = m' ((c.tc : Thread Cert.KvProjRefIdeal.nD Cert.KvProjRefIdeal.τ).loc Cert.KvProjRefIdeal.main_arg2)
          ∧ r.2.mem ((c.tc : Thread Cert.KvProjRefIdeal.nD Cert.KvProjRefIdeal.τ).loc Cert.KvProjRefIdeal.main_arg3) = m' ((c.tc : Thread Cert.KvProjRefIdeal.nD Cert.KvProjRefIdeal.τ).loc Cert.KvProjRefIdeal.main_arg3))

def preserves_Merge_MergeIdeal : Prop :=
  True

def algebraic_MergeIdeal_MergeRefIdeal_pre_me_finite [hMergeIdeal : Cert.MergeIdeal.Facts] [hMergeRefIdeal : Cert.MergeRefIdeal.Facts] [hPre_me_finite : Cert.Pre_me_finite.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_me_finite m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v9)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v9) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v59) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_MergeOut_MergeOutIdeal : Prop :=
  True

def algebraic_MergeOutIdeal_MergeOutRefIdeal_pre_mo_finite [hMergeOutIdeal : Cert.MergeOutIdeal.Facts] [hMergeOutRefIdeal : Cert.MergeOutRefIdeal.Facts] [hPre_mo_finite : Cert.Pre_mo_finite.Facts] : Prop :=
  ∀ (m : (ℓ : Loc Cert.MergeOutIdeal.nD Cert.MergeOutIdeal.τ Cert.MergeOutIdeal.sig) → Buf (Elt Ideal) ℓ) (g : Dev Cert.MergeOutIdeal.nD → PrngReg)
    (m' : (ℓ : Loc Cert.MergeOutRefIdeal.nD Cert.MergeOutRefIdeal.τ Cert.MergeOutRefIdeal.sig) → Buf (Elt Ideal) ℓ) (g' : Dev Cert.MergeOutRefIdeal.nD → PrngReg), Pre_MergeOutIdeal_mo_finite m →
    (∀ c : Dev Cert.MergeOutIdeal.nD,
      m' ((c.tc : Thread Cert.MergeOutRefIdeal.nD Cert.MergeOutRefIdeal.τ).loc Cert.MergeOutRefIdeal.main_arg0) = m ((c.tc : Thread Cert.MergeOutIdeal.nD Cert.MergeOutIdeal.τ).loc Cert.MergeOutIdeal.main_arg0)
      ∧ m' ((c.tc : Thread Cert.MergeOutRefIdeal.nD Cert.MergeOutRefIdeal.τ).loc Cert.MergeOutRefIdeal.main_arg1) = m ((c.tc : Thread Cert.MergeOutIdeal.nD Cert.MergeOutIdeal.τ).loc Cert.MergeOutIdeal.main_arg1)
      ∧ m' ((c.tc : Thread Cert.MergeOutRefIdeal.nD Cert.MergeOutRefIdeal.τ).loc Cert.MergeOutRefIdeal.main_arg2) = m ((c.tc : Thread Cert.MergeOutIdeal.nD Cert.MergeOutIdeal.τ).loc Cert.MergeOutIdeal.main_arg2)
      ∧ m' ((c.tc : Thread Cert.MergeOutRefIdeal.nD Cert.MergeOutRefIdeal.τ).loc Cert.MergeOutRefIdeal.main_arg3) = m ((c.tc : Thread Cert.MergeOutIdeal.nD Cert.MergeOutIdeal.τ).loc Cert.MergeOutIdeal.main_arg3)
      ∧ m' ((c.tc : Thread Cert.MergeOutRefIdeal.nD Cert.MergeOutRefIdeal.τ).loc Cert.MergeOutRefIdeal.main_arg4) = m ((c.tc : Thread Cert.MergeOutIdeal.nD Cert.MergeOutIdeal.τ).loc Cert.MergeOutIdeal.main_arg4)
      ∧ m' ((c.tc : Thread Cert.MergeOutRefIdeal.nD Cert.MergeOutRefIdeal.τ).loc Cert.MergeOutRefIdeal.main_arg5) = m ((c.tc : Thread Cert.MergeOutIdeal.nD Cert.MergeOutIdeal.τ).loc Cert.MergeOutIdeal.main_arg5)
      ∧ m' ((c.tc : Thread Cert.MergeOutRefIdeal.nD Cert.MergeOutRefIdeal.τ).loc Cert.MergeOutRefIdeal.main_arg6) = m ((c.tc : Thread Cert.MergeOutIdeal.nD Cert.MergeOutIdeal.τ).loc Cert.MergeOutIdeal.main_arg6)
      ∧ m' ((c.tc : Thread Cert.MergeOutRefIdeal.nD Cert.MergeOutRefIdeal.τ).loc Cert.MergeOutRefIdeal.main_arg7) = m ((c.tc : Thread Cert.MergeOutIdeal.nD Cert.MergeOutIdeal.τ).loc Cert.MergeOutIdeal.main_arg7)
      ∧ m' ((c.tc : Thread Cert.MergeOutRefIdeal.nD Cert.MergeOutRefIdeal.τ).loc Cert.MergeOutRefIdeal.main_arg8) = m ((c.tc : Thread Cert.MergeOutIdeal.nD Cert.MergeOutIdeal.τ).loc Cert.MergeOutIdeal.main_arg8)
      ∧ m' ((c.tc : Thread Cert.MergeOutRefIdeal.nD Cert.MergeOutRefIdeal.τ).loc Cert.MergeOutRefIdeal.main_arg9) = m ((c.tc : Thread Cert.MergeOutIdeal.nD Cert.MergeOutIdeal.τ).loc Cert.MergeOutIdeal.main_arg9)
      ∧ m' ((c.tc : Thread Cert.MergeOutRefIdeal.nD Cert.MergeOutRefIdeal.τ).loc Cert.MergeOutRefIdeal.main_arg10) = m ((c.tc : Thread Cert.MergeOutIdeal.nD Cert.MergeOutIdeal.τ).loc Cert.MergeOutIdeal.main_arg10)) →
    ∃ (v0 : (c : Dev Cert.MergeOutIdeal.nD) → Buf (Elt Ideal) ((c.tc : Thread Cert.MergeOutIdeal.nD Cert.MergeOutIdeal.τ).loc Cert.MergeOutIdeal.main_v11)),
      θ_run (Cert.MergeOutIdeal.defs (F := Ideal)) (onTc (τ := Cert.MergeOutIdeal.τ) (Cert.MergeOutIdeal.main (F := Ideal))) ⟨m, fun _ => 0, g⟩ (fun r => ∀ c : Dev Cert.MergeOutIdeal.nD,
          r.2.mem ((c.tc : Thread Cert.MergeOutIdeal.nD Cert.MergeOutIdeal.τ).loc Cert.MergeOutIdeal.main_v11) = v0 c
          ∧ r.2.mem ((c.tc : Thread Cert.MergeOutIdeal.nD Cert.MergeOutIdeal.τ).loc Cert.MergeOutIdeal.main_arg0) = m ((c.tc : Thread Cert.MergeOutIdeal.nD Cert.MergeOutIdeal.τ).loc Cert.MergeOutIdeal.main_arg0)
          ∧ r.2.mem ((c.tc : Thread Cert.MergeOutIdeal.nD Cert.MergeOutIdeal.τ).loc Cert.MergeOutIdeal.main_arg1) = m ((c.tc : Thread Cert.MergeOutIdeal.nD Cert.MergeOutIdeal.τ).loc Cert.MergeOutIdeal.main_arg1)
          ∧ r.2.mem ((c.tc : Thread Cert.MergeOutIdeal.nD Cert.MergeOutIdeal.τ).loc Cert.MergeOutIdeal.main_arg2) = m ((c.tc : Thread Cert.MergeOutIdeal.nD Cert.MergeOutIdeal.τ).loc Cert.MergeOutIdeal.main_arg2)
          ∧ r.2.mem ((c.tc : Thread Cert.MergeOutIdeal.nD Cert.MergeOutIdeal.τ).loc Cert.MergeOutIdeal.main_arg3) = m ((c.tc : Thread Cert.MergeOutIdeal.nD Cert.MergeOutIdeal.τ).loc Cert.MergeOutIdeal.main_arg3)
          ∧ r.2.mem ((c.tc : Thread Cert.MergeOutIdeal.nD Cert.MergeOutIdeal.τ).loc Cert.MergeOutIdeal.main_arg4) = m ((c.tc : Thread Cert.MergeOutIdeal.nD Cert.MergeOutIdeal.τ).loc Cert.MergeOutIdeal.main_arg4)
          ∧ r.2.mem ((c.tc : Thread Cert.MergeOutIdeal.nD Cert.MergeOutIdeal.τ).loc Cert.MergeOutIdeal.main_arg5) = m ((c.tc : Thread Cert.MergeOutIdeal.nD Cert.MergeOutIdeal.τ).loc Cert.MergeOutIdeal.main_arg5)
          ∧ r.2.mem ((c.tc : Thread Cert.MergeOutIdeal.nD Cert.MergeOutIdeal.τ).loc Cert.MergeOutIdeal.main_arg6) = m ((c.tc : Thread Cert.MergeOutIdeal.nD Cert.MergeOutIdeal.τ).loc Cert.MergeOutIdeal.main_arg6)
          ∧ r.2.mem ((c.tc : Thread Cert.MergeOutIdeal.nD Cert.MergeOutIdeal.τ).loc Cert.MergeOutIdeal.main_arg7) = m ((c.tc : Thread Cert.MergeOutIdeal.nD Cert.MergeOutIdeal.τ).loc Cert.MergeOutIdeal.main_arg7)
          ∧ r.2.mem ((c.tc : Thread Cert.MergeOutIdeal.nD Cert.MergeOutIdeal.τ).loc Cert.MergeOutIdeal.main_arg8) = m ((c.tc : Thread Cert.MergeOutIdeal.nD Cert.MergeOutIdeal.τ).loc Cert.MergeOutIdeal.main_arg8)
          ∧ r.2.mem ((c.tc : Thread Cert.MergeOutIdeal.nD Cert.MergeOutIdeal.τ).loc Cert.MergeOutIdeal.main_arg9) = m ((c.tc : Thread Cert.MergeOutIdeal.nD Cert.MergeOutIdeal.τ).loc Cert.MergeOutIdeal.main_arg9)
          ∧ r.2.mem ((c.tc : Thread Cert.MergeOutIdeal.nD Cert.MergeOutIdeal.τ).loc Cert.MergeOutIdeal.main_arg10) = m ((c.tc : Thread Cert.MergeOutIdeal.nD Cert.MergeOutIdeal.τ).loc Cert.MergeOutIdeal.main_arg10))
      ∧ θ_run (Cert.MergeOutRefIdeal.defs (F := Ideal)) (onTc (τ := Cert.MergeOutRefIdeal.τ) (Cert.MergeOutRefIdeal.main (F := Ideal))) ⟨m', fun _ => 0, g'⟩ (fun r => ∀ c : Dev Cert.MergeOutRefIdeal.nD,
          r.2.mem ((c.tc : Thread Cert.MergeOutRefIdeal.nD Cert.MergeOutRefIdeal.τ).loc Cert.MergeOutRefIdeal.main_v73) = v0 c
          ∧ r.2.mem ((c.tc : Thread Cert.MergeOutRefIdeal.nD Cert.MergeOutRefIdeal.τ).loc Cert.MergeOutRefIdeal.main_arg0) = m' ((c.tc : Thread Cert.MergeOutRefIdeal.nD Cert.MergeOutRefIdeal.τ).loc Cert.MergeOutRefIdeal.main_arg0)
          ∧ r.2.mem ((c.tc : Thread Cert.MergeOutRefIdeal.nD Cert.MergeOutRefIdeal.τ).loc Cert.MergeOutRefIdeal.main_arg1) = m' ((c.tc : Thread Cert.MergeOutRefIdeal.nD Cert.MergeOutRefIdeal.τ).loc Cert.MergeOutRefIdeal.main_arg1)
          ∧ r.2.mem ((c.tc : Thread Cert.MergeOutRefIdeal.nD Cert.MergeOutRefIdeal.τ).loc Cert.MergeOutRefIdeal.main_arg2) = m' ((c.tc : Thread Cert.MergeOutRefIdeal.nD Cert.MergeOutRefIdeal.τ).loc Cert.MergeOutRefIdeal.main_arg2)
          ∧ r.2.mem ((c.tc : Thread Cert.MergeOutRefIdeal.nD Cert.MergeOutRefIdeal.τ).loc Cert.MergeOutRefIdeal.main_arg3) = m' ((c.tc : Thread Cert.MergeOutRefIdeal.nD Cert.MergeOutRefIdeal.τ).loc Cert.MergeOutRefIdeal.main_arg3)
          ∧ r.2.mem ((c.tc : Thread Cert.MergeOutRefIdeal.nD Cert.MergeOutRefIdeal.τ).loc Cert.MergeOutRefIdeal.main_arg4) = m' ((c.tc : Thread Cert.MergeOutRefIdeal.nD Cert.MergeOutRefIdeal.τ).loc Cert.MergeOutRefIdeal.main_arg4)
          ∧ r.2.mem ((c.tc : Thread Cert.MergeOutRefIdeal.nD Cert.MergeOutRefIdeal.τ).loc Cert.MergeOutRefIdeal.main_arg5) = m' ((c.tc : Thread Cert.MergeOutRefIdeal.nD Cert.MergeOutRefIdeal.τ).loc Cert.MergeOutRefIdeal.main_arg5)
          ∧ r.2.mem ((c.tc : Thread Cert.MergeOutRefIdeal.nD Cert.MergeOutRefIdeal.τ).loc Cert.MergeOutRefIdeal.main_arg6) = m' ((c.tc : Thread Cert.MergeOutRefIdeal.nD Cert.MergeOutRefIdeal.τ).loc Cert.MergeOutRefIdeal.main_arg6)
          ∧ r.2.mem ((c.tc : Thread Cert.MergeOutRefIdeal.nD Cert.MergeOutRefIdeal.τ).loc Cert.MergeOutRefIdeal.main_arg7) = m' ((c.tc : Thread Cert.MergeOutRefIdeal.nD Cert.MergeOutRefIdeal.τ).loc Cert.MergeOutRefIdeal.main_arg7)
          ∧ r.2.mem ((c.tc : Thread Cert.MergeOutRefIdeal.nD Cert.MergeOutRefIdeal.τ).loc Cert.MergeOutRefIdeal.main_arg8) = m' ((c.tc : Thread Cert.MergeOutRefIdeal.nD Cert.MergeOutRefIdeal.τ).loc Cert.MergeOutRefIdeal.main_arg8)
          ∧ r.2.mem ((c.tc : Thread Cert.MergeOutRefIdeal.nD Cert.MergeOutRefIdeal.τ).loc Cert.MergeOutRefIdeal.main_arg9) = m' ((c.tc : Thread Cert.MergeOutRefIdeal.nD Cert.MergeOutRefIdeal.τ).loc Cert.MergeOutRefIdeal.main_arg9)
          ∧ r.2.mem ((c.tc : Thread Cert.MergeOutRefIdeal.nD Cert.MergeOutRefIdeal.τ).loc Cert.MergeOutRefIdeal.main_arg10) = m' ((c.tc : Thread Cert.MergeOutRefIdeal.nD Cert.MergeOutRefIdeal.τ).loc Cert.MergeOutRefIdeal.main_arg10))

def Claim : Prop :=
  ∃ (hKernel : Cert.Kernel.Facts) (hKernelIdeal : Cert.KernelIdeal.Facts) (hReferenceIdeal : Cert.ReferenceIdeal.Facts) (hMgProj : Cert.MgProj.Facts) (hMgProjIdeal : Cert.MgProjIdeal.Facts) (hMgProjRefIdeal : Cert.MgProjRefIdeal.Facts) (hQgProj : Cert.QgProj.Facts) (hQgProjIdeal : Cert.QgProjIdeal.Facts) (hQgProjRefIdeal : Cert.QgProjRefIdeal.Facts) (hOutProj : Cert.OutProj.Facts) (hOutProjIdeal : Cert.OutProjIdeal.Facts) (hOutProjRefIdeal : Cert.OutProjRefIdeal.Facts) (hMemKv : Cert.MemKv.Facts) (hMemKvIdeal : Cert.MemKvIdeal.Facts) (hMemKvRefIdeal : Cert.MemKvRefIdeal.Facts) (hKvProj : Cert.KvProj.Facts) (hKvProjIdeal : Cert.KvProjIdeal.Facts) (hKvProjRefIdeal : Cert.KvProjRefIdeal.Facts) (hMerge : Cert.Merge.Facts) (hMergeIdeal : Cert.MergeIdeal.Facts) (hMergeRefIdeal : Cert.MergeRefIdeal.Facts) (hMergeOut : Cert.MergeOut.Facts) (hMergeOutIdeal : Cert.MergeOutIdeal.Facts) (hMergeOutRefIdeal : Cert.MergeOutRefIdeal.Facts) (hPre_me_finite : Cert.Pre_me_finite.Facts) (hPre_mo_finite : Cert.Pre_mo_finite.Facts),
    quiescent_Kernel (hKernel := hKernel)
    ∧ quiescent_KernelIdeal (hKernelIdeal := hKernelIdeal)
    ∧ quiescent_ReferenceIdeal (hReferenceIdeal := hReferenceIdeal)
    ∧ quiescent_MgProj (hMgProj := hMgProj)
    ∧ quiescent_MgProjIdeal (hMgProjIdeal := hMgProjIdeal)
    ∧ quiescent_MgProjRefIdeal (hMgProjRefIdeal := hMgProjRefIdeal)
    ∧ quiescent_QgProj (hQgProj := hQgProj)
    ∧ quiescent_QgProjIdeal (hQgProjIdeal := hQgProjIdeal)
    ∧ quiescent_QgProjRefIdeal (hQgProjRefIdeal := hQgProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_KvProj (hKvProj := hKvProj)
    ∧ quiescent_KvProjIdeal (hKvProjIdeal := hKvProjIdeal)
    ∧ quiescent_KvProjRefIdeal (hKvProjRefIdeal := hKvProjRefIdeal)
    ∧ quiescent_Merge (hMerge := hMerge)
    ∧ quiescent_MergeIdeal (hMergeIdeal := hMergeIdeal)
    ∧ quiescent_MergeIdeal_pre_me_finite (hMergeIdeal := hMergeIdeal) (hPre_me_finite := hPre_me_finite)
    ∧ quiescent_MergeRefIdeal (hMergeRefIdeal := hMergeRefIdeal)
    ∧ quiescent_MergeRefIdeal_pre_me_finite (hMergeRefIdeal := hMergeRefIdeal) (hPre_me_finite := hPre_me_finite)
    ∧ quiescent_MergeOut (hMergeOut := hMergeOut)
    ∧ quiescent_MergeOutIdeal (hMergeOutIdeal := hMergeOutIdeal)
    ∧ quiescent_MergeOutIdeal_pre_mo_finite (hMergeOutIdeal := hMergeOutIdeal) (hPre_mo_finite := hPre_mo_finite)
    ∧ quiescent_MergeOutRefIdeal (hMergeOutRefIdeal := hMergeOutRefIdeal)
    ∧ quiescent_MergeOutRefIdeal_pre_mo_finite (hMergeOutRefIdeal := hMergeOutRefIdeal) (hPre_mo_finite := hPre_mo_finite)
    ∧ preserves_Kernel_KernelIdeal
    ∧ preserves_MgProj_MgProjIdeal
    ∧ algebraic_MgProjIdeal_MgProjRefIdeal (hMgProjIdeal := hMgProjIdeal) (hMgProjRefIdeal := hMgProjRefIdeal)
    ∧ preserves_QgProj_QgProjIdeal
    ∧ algebraic_QgProjIdeal_QgProjRefIdeal (hQgProjIdeal := hQgProjIdeal) (hQgProjRefIdeal := hQgProjRefIdeal)
    ∧ preserves_OutProj_OutProjIdeal
    ∧ algebraic_OutProjIdeal_OutProjRefIdeal (hOutProjIdeal := hOutProjIdeal) (hOutProjRefIdeal := hOutProjRefIdeal)
    ∧ preserves_MemKv_MemKvIdeal
    ∧ algebraic_MemKvIdeal_MemKvRefIdeal (hMemKvIdeal := hMemKvIdeal) (hMemKvRefIdeal := hMemKvRefIdeal)
    ∧ preserves_KvProj_KvProjIdeal
    ∧ algebraic_KvProjIdeal_KvProjRefIdeal (hKvProjIdeal := hKvProjIdeal) (hKvProjRefIdeal := hKvProjRefIdeal)
    ∧ preserves_Merge_MergeIdeal
    ∧ algebraic_MergeIdeal_MergeRefIdeal_pre_me_finite (hMergeIdeal := hMergeIdeal) (hMergeRefIdeal := hMergeRefIdeal) (hPre_me_finite := hPre_me_finite)
    ∧ preserves_MergeOut_MergeOutIdeal
    ∧ algebraic_MergeOutIdeal_MergeOutRefIdeal_pre_mo_finite (hMergeOutIdeal := hMergeOutIdeal) (hMergeOutRefIdeal := hMergeOutRefIdeal) (hPre_mo_finite := hPre_mo_finite)
-- ==== Pre_me_finite.lean ====
abbrev S8192x3072 : Shape := ⟨2, ![8192, 3072]⟩
abbrev S8192x7168 : Shape := ⟨2, ![8192, 7168]⟩
abbrev S8192x768 : Shape := ⟨2, ![8192, 768]⟩
abbrev S8192x512 : Shape := ⟨2, ![8192, 512]⟩
abbrev S768x2048 : Shape := ⟨2, ![768, 2048]⟩
abbrev S512x2048 : Shape := ⟨2, ![512, 2048]⟩
abbrev S_ : Shape := ⟨0, ![]⟩

class Facts : Prop where
  slices_S8192x3072_S8192x768_0_768 : S8192x3072.Slices ![0, 768] S8192x768
  slices_S8192x3072_S8192x768_0_2304 : S8192x3072.Slices ![0, 2304] S8192x768
  slices_S8192x7168_S8192x512_0_512 : S8192x7168.Slices ![0, 512] S8192x512
  bitsLt_bf16_f32 : FTy.bits .bf16 < FTy.bits .f32
  bcast_S_S8192x768 : S_.BroadcastsInDim S8192x768 (![] : Fin 0 → Fin S8192x768.rank)
  bcast_S_S8192x512 : S_.BroadcastsInDim S8192x512 (![] : Fin 0 → Fin S8192x512.rank)
  bcast_S_S768x2048 : S_.BroadcastsInDim S768x2048 (![] : Fin 0 → Fin S768x2048.rank)
  bcast_S_S512x2048 : S_.BroadcastsInDim S512x2048 (![] : Fin 0 → Fin S512x2048.rank)

variable [Facts]

def fn_part2 {F : FTy → Type} [FloatOps F] (main_v7 : IVec S8192x768 1) (main_v12 : IVec S8192x768 1) (main_v17 : IVec S8192x512 1) (main_v22 : IVec S8192x768 1) (main_v27 : IVec S8192x768 1) (main_v32 : IVec S8192x512 1) (main_v35 : IVec S768x2048 1) (main_v38 : IVec S768x2048 1) (main_v39 : FVec F S512x2048 .f32) : IVec S8192x768 1 × IVec S8192x768 1 × IVec S8192x512 1 × IVec S8192x768 1 × IVec S8192x768 1 × IVec S8192x512 1 × IVec S768x2048 1 × IVec S768x2048 1 × IVec S512x2048 1 :=
  let main_cst_7 : FVec F S_ .f32 := constant S_ .f32 0x00000000#32
  let main_v40 : FVec F S512x2048 .f32 := broadcastInDim S512x2048 ![] bcast_S_S512x2048 main_cst_7
  let main_v41 : IVec S512x2048 1 := cmpf .oeq main_v39 main_v40
  (main_v7, main_v12, main_v17, main_v22, main_v27, main_v32, main_v35, main_v38, main_v41)

def fn_part1 {F : FTy → Type} [FloatOps F] (main_arg3 : FVec F S8192x768 .bf16) (main_arg4 : FVec F S8192x512 .bf16) (main_arg5 : FVec F S768x2048 .f32) (main_arg6 : FVec F S768x2048 .f32) (main_arg7 : FVec F S512x2048 .f32) (main_v7 : IVec S8192x768 1) (main_v12 : IVec S8192x768 1) (main_v17 : IVec S8192x512 1) (main_v20 : FVec F S8192x768 .f32) : IVec S8192x768 1 × IVec S8192x768 1 × IVec S8192x512 1 × IVec S8192x768 1 × IVec S8192x768 1 × IVec S8192x512 1 × IVec S768x2048 1 × IVec S768x2048 1 × IVec S512x2048 1 :=
  let main_cst_2 : FVec F S_ .f32 := constant S_ .f32 0x00000000#32
  let main_v21 : FVec F S8192x768 .f32 := broadcastInDim S8192x768 ![] bcast_S_S8192x768 main_cst_2
  let main_v22 : IVec S8192x768 1 := cmpf .oeq main_v20 main_v21
  let main_v23 : FVec F S8192x768 .f32 := (extf .f32 · bitsLt_bf16_f32) main_arg3
  let main_v24 : FVec F S8192x768 .f32 := (extf .f32 · bitsLt_bf16_f32) main_arg3
  let main_v25 : FVec F S8192x768 .f32 := subf main_v23 main_v24
  let main_cst_3 : FVec F S_ .f32 := constant S_ .f32 0x00000000#32
  let main_v26 : FVec F S8192x768 .f32 := broadcastInDim S8192x768 ![] bcast_S_S8192x768 main_cst_3
  let main_v27 : IVec S8192x768 1 := cmpf .oeq main_v25 main_v26
  let main_v28 : FVec F S8192x512 .f32 := (extf .f32 · bitsLt_bf16_f32) main_arg4
  let main_v29 : FVec F S8192x512 .f32 := (extf .f32 · bitsLt_bf16_f32) main_arg4
  let main_v30 : FVec F S8192x512 .f32 := subf main_v28 main_v29
  let main_cst_4 : FVec F S_ .f32 := constant S_ .f32 0x00000000#32
  let main_v31 : FVec F S8192x512 .f32 := broadcastInDim S8192x512 ![] bcast_S_S8192x512 main_cst_4
  let main_v32 : IVec S8192x512 1 := cmpf .oeq main_v30 main_v31
  let main_v33 : FVec F S768x2048 .f32 := subf main_arg5 main_arg5
  let main_cst_5 : FVec F S_ .f32 := constant S_ .f32 0x00000000#32
  let main_v34 : FVec F S768x2048 .f32 := broadcastInDim S768x2048 ![] bcast_S_S768x2048 main_cst_5
  let main_v35 : IVec S768x2048 1 := cmpf .oeq main_v33 main_v34
  let main_v36 : FVec F S768x2048 .f32 := subf main_arg6 main_arg6
  let main_cst_6 : FVec F S_ .f32 := constant S_ .f32 0x00000000#32
  let main_v37 : FVec F S768x2048 .f32 := broadcastInDim S768x2048 ![] bcast_S_S768x2048 main_cst_6
  let main_v38 : IVec S768x2048 1 := cmpf .oeq main_v36 main_v37
  let main_v39 : FVec F S512x2048 .f32 := subf main_arg7 main_arg7
  fn_part2 (F := F) main_v7 main_v12 main_v17 main_v22 main_v27 main_v32 main_v35 main_v38 main_v39

def fn {F : FTy → Type} [FloatOps F] (main_arg0 : FVec F S8192x3072 .bf16) (main_arg1 : FVec F S8192x7168 .bf16) (main_arg2 : FVec F S8192x768 .bf16) (main_arg3 : FVec F S8192x768 .bf16) (main_arg4 : FVec F S8192x512 .bf16) (main_arg5 : FVec F S768x2048 .f32) (main_arg6 : FVec F S768x2048 .f32) (main_arg7 : FVec F S512x2048 .f32) : IVec S8192x768 1 × IVec S8192x768 1 × IVec S8192x512 1 × IVec S8192x768 1 × IVec S8192x768 1 × IVec S8192x512 1 × IVec S768x2048 1 × IVec S768x2048 1 × IVec S512x2048 1 :=
  let main_v0 : FVec F S8192x768 .bf16 := (extractStridedSlice S8192x768 ![0, 768] · slices_S8192x3072_S8192x768_0_768) main_arg0
  let main_v1 : FVec F S8192x768 .bf16 := (extractStridedSlice S8192x768 ![0, 2304] · slices_S8192x3072_S8192x768_0_2304) main_arg0
  let main_v2 : FVec F S8192x512 .bf16 := (extractStridedSlice S8192x512 ![0, 512] · slices_S8192x7168_S8192x512_0_512) main_arg1
  let main_v3 : FVec F S8192x768 .f32 := (extf .f32 · bitsLt_bf16_f32) main_v0
  let main_v4 : FVec F S8192x768 .f32 := (extf .f32 · bitsLt_bf16_f32) main_v0
  let main_v5 : FVec F S8192x768 .f32 := subf main_v3 main_v4
  let main_cst : FVec F S_ .f32 := constant S_ .f32 0x00000000#32
  let main_v6 : FVec F S8192x768 .f32 := broadcastInDim S8192x768 ![] bcast_S_S8192x768 main_cst
  let main_v7 : IVec S8192x768 1 := cmpf .oeq main_v5 main_v6
  let main_v8 : FVec F S8192x768 .f32 := (extf .f32 · bitsLt_bf16_f32) main_v1
  let main_v9 : FVec F S8192x768 .f32 := (extf .f32 · bitsLt_bf16_f32) main_v1
  let main_v10 : FVec F S8192x768 .f32 := subf main_v8 main_v9
  let main_cst_0 : FVec F S_ .f32 := constant S_ .f32 0x00000000#32
  let main_v11 : FVec F S8192x768 .f32 := broadcastInDim S8192x768 ![] bcast_S_S8192x768 main_cst_0
  let main_v12 : IVec S8192x768 1 := cmpf .oeq main_v10 main_v11
  let main_v13 : FVec F S8192x512 .f32 := (extf .f32 · bitsLt_bf16_f32) main_v2
  let main_v14 : FVec F S8192x512 .f32 := (extf .f32 · bitsLt_bf16_f32) main_v2
  let main_v15 : FVec F S8192x512 .f32 := subf main_v13 main_v14
  let main_cst_1 : FVec F S_ .f32 := constant S_ .f32 0x00000000#32
  let main_v16 : FVec F S8192x512 .f32 := broadcastInDim S8192x512 ![] bcast_S_S8192x512 main_cst_1
  let main_v17 : IVec S8192x512 1 := cmpf .oeq main_v15 main_v16
  let main_v18 : FVec F S8192x768 .f32 := (extf .f32 · bitsLt_bf16_f32) main_arg2
  let main_v19 : FVec F S8192x768 .f32 := (extf .f32 · bitsLt_bf16_f32) main_arg2
  let main_v20 : FVec F S8192x768 .f32 := subf main_v18 main_v19
  fn_part1 (F := F) main_arg3 main_arg4 main_arg5 main_arg6 main_arg7 main_v7 main_v12 main_v17 main_v20
-- ==== Pre_mo_finite.lean ====
abbrev S128x2048 : Shape := ⟨2, ![128, 2048]⟩
abbrev S128x3072 : Shape := ⟨2, ![128, 3072]⟩
abbrev S128x7168 : Shape := ⟨2, ![128, 7168]⟩
abbrev S128x768 : Shape := ⟨2, ![128, 768]⟩
abbrev S128x512 : Shape := ⟨2, ![128, 512]⟩
abbrev S768x2048 : Shape := ⟨2, ![768, 2048]⟩
abbrev S512x2048 : Shape := ⟨2, ![512, 2048]⟩
abbrev S2048x2048 : Shape := ⟨2, ![2048, 2048]⟩
abbrev S2048 : Shape := ⟨1, ![2048]⟩
abbrev S_ : Shape := ⟨0, ![]⟩

class Facts : Prop where
  slices_S128x3072_S128x768_0_768 : S128x3072.Slices ![0, 768] S128x768
  slices_S128x3072_S128x768_0_2304 : S128x3072.Slices ![0, 2304] S128x768
  slices_S128x7168_S128x512_0_512 : S128x7168.Slices ![0, 512] S128x512
  bitsLt_bf16_f32 : FTy.bits .bf16 < FTy.bits .f32
  bcast_S_S128x768 : S_.BroadcastsInDim S128x768 (![] : Fin 0 → Fin S128x768.rank)
  bcast_S_S128x512 : S_.BroadcastsInDim S128x512 (![] : Fin 0 → Fin S128x512.rank)
  bcast_S_S768x2048 : S_.BroadcastsInDim S768x2048 (![] : Fin 0 → Fin S768x2048.rank)
  bcast_S_S512x2048 : S_.BroadcastsInDim S512x2048 (![] : Fin 0 → Fin S512x2048.rank)

variable [Facts]

def fn_part2 {F : FTy → Type} [FloatOps F] (main_v7 : IVec S128x768 1) (main_v12 : IVec S128x768 1) (main_v17 : IVec S128x512 1) (main_v22 : IVec S128x768 1) (main_v27 : IVec S128x768 1) (main_v32 : IVec S128x512 1) (main_v35 : IVec S768x2048 1) (main_v38 : IVec S768x2048 1) (main_v39 : FVec F S512x2048 .f32) : IVec S128x768 1 × IVec S128x768 1 × IVec S128x512 1 × IVec S128x768 1 × IVec S128x768 1 × IVec S128x512 1 × IVec S768x2048 1 × IVec S768x2048 1 × IVec S512x2048 1 :=
  let main_cst_7 : FVec F S_ .f32 := constant S_ .f32 0x00000000#32
  let main_v40 : FVec F S512x2048 .f32 := broadcastInDim S512x2048 ![] bcast_S_S512x2048 main_cst_7
  let main_v41 : IVec S512x2048 1 := cmpf .oeq main_v39 main_v40
  (main_v7, main_v12, main_v17, main_v22, main_v27, main_v32, main_v35, main_v38, main_v41)

def fn_part1 {F : FTy → Type} [FloatOps F] (main_arg4 : FVec F S128x768 .bf16) (main_arg5 : FVec F S128x512 .bf16) (main_arg6 : FVec F S768x2048 .f32) (main_arg7 : FVec F S768x2048 .f32) (main_arg8 : FVec F S512x2048 .f32) (main_v7 : IVec S128x768 1) (main_v12 : IVec S128x768 1) (main_v17 : IVec S128x512 1) (main_v20 : FVec F S128x768 .f32) : IVec S128x768 1 × IVec S128x768 1 × IVec S128x512 1 × IVec S128x768 1 × IVec S128x768 1 × IVec S128x512 1 × IVec S768x2048 1 × IVec S768x2048 1 × IVec S512x2048 1 :=
  let main_cst_2 : FVec F S_ .f32 := constant S_ .f32 0x00000000#32
  let main_v21 : FVec F S128x768 .f32 := broadcastInDim S128x768 ![] bcast_S_S128x768 main_cst_2
  let main_v22 : IVec S128x768 1 := cmpf .oeq main_v20 main_v21
  let main_v23 : FVec F S128x768 .f32 := (extf .f32 · bitsLt_bf16_f32) main_arg4
  let main_v24 : FVec F S128x768 .f32 := (extf .f32 · bitsLt_bf16_f32) main_arg4
  let main_v25 : FVec F S128x768 .f32 := subf main_v23 main_v24
  let main_cst_3 : FVec F S_ .f32 := constant S_ .f32 0x00000000#32
  let main_v26 : FVec F S128x768 .f32 := broadcastInDim S128x768 ![] bcast_S_S128x768 main_cst_3
  let main_v27 : IVec S128x768 1 := cmpf .oeq main_v25 main_v26
  let main_v28 : FVec F S128x512 .f32 := (extf .f32 · bitsLt_bf16_f32) main_arg5
  let main_v29 : FVec F S128x512 .f32 := (extf .f32 · bitsLt_bf16_f32) main_arg5
  let main_v30 : FVec F S128x512 .f32 := subf main_v28 main_v29
  let main_cst_4 : FVec F S_ .f32 := constant S_ .f32 0x00000000#32
  let main_v31 : FVec F S128x512 .f32 := broadcastInDim S128x512 ![] bcast_S_S128x512 main_cst_4
  let main_v32 : IVec S128x512 1 := cmpf .oeq main_v30 main_v31
  let main_v33 : FVec F S768x2048 .f32 := subf main_arg6 main_arg6
  let main_cst_5 : FVec F S_ .f32 := constant S_ .f32 0x00000000#32
  let main_v34 : FVec F S768x2048 .f32 := broadcastInDim S768x2048 ![] bcast_S_S768x2048 main_cst_5
  let main_v35 : IVec S768x2048 1 := cmpf .oeq main_v33 main_v34
  let main_v36 : FVec F S768x2048 .f32 := subf main_arg7 main_arg7
  let main_cst_6 : FVec F S_ .f32 := constant S_ .f32 0x00000000#32
  let main_v37 : FVec F S768x2048 .f32 := broadcastInDim S768x2048 ![] bcast_S_S768x2048 main_cst_6
  let main_v38 : IVec S768x2048 1 := cmpf .oeq main_v36 main_v37
  let main_v39 : FVec F S512x2048 .f32 := subf main_arg8 main_arg8
  fn_part2 (F := F) main_v7 main_v12 main_v17 main_v22 main_v27 main_v32 main_v35 main_v38 main_v39

def fn {F : FTy → Type} [FloatOps F] (main_arg0 : FVec F S128x2048 .f32) (main_arg1 : FVec F S128x3072 .bf16) (main_arg2 : FVec F S128x7168 .bf16) (main_arg3 : FVec F S128x768 .bf16) (main_arg4 : FVec F S128x768 .bf16) (main_arg5 : FVec F S128x512 .bf16) (main_arg6 : FVec F S768x2048 .f32) (main_arg7 : FVec F S768x2048 .f32) (main_arg8 : FVec F S512x2048 .f32) (main_arg9 : FVec F S2048x2048 .f32) (main_arg10 : FVec F S2048 .f32) : IVec S128x768 1 × IVec S128x768 1 × IVec S128x512 1 × IVec S128x768 1 × IVec S128x768 1 × IVec S128x512 1 × IVec S768x2048 1 × IVec S768x2048 1 × IVec S512x2048 1 :=
  let main_v0 : FVec F S128x768 .bf16 := (extractStridedSlice S128x768 ![0, 768] · slices_S128x3072_S128x768_0_768) main_arg1
  let main_v1 : FVec F S128x768 .bf16 := (extractStridedSlice S128x768 ![0, 2304] · slices_S128x3072_S128x768_0_2304) main_arg1
  let main_v2 : FVec F S128x512 .bf16 := (extractStridedSlice S128x512 ![0, 512] · slices_S128x7168_S128x512_0_512) main_arg2
  let main_v3 : FVec F S128x768 .f32 := (extf .f32 · bitsLt_bf16_f32) main_v0
  let main_v4 : FVec F S128x768 .f32 := (extf .f32 · bitsLt_bf16_f32) main_v0
  let main_v5 : FVec F S128x768 .f32 := subf main_v3 main_v4
  let main_cst : FVec F S_ .f32 := constant S_ .f32 0x00000000#32
  let main_v6 : FVec F S128x768 .f32 := broadcastInDim S128x768 ![] bcast_S_S128x768 main_cst
  let main_v7 : IVec S128x768 1 := cmpf .oeq main_v5 main_v6
  let main_v8 : FVec F S128x768 .f32 := (extf .f32 · bitsLt_bf16_f32) main_v1
  let main_v9 : FVec F S128x768 .f32 := (extf .f32 · bitsLt_bf16_f32) main_v1
  let main_v10 : FVec F S128x768 .f32 := subf main_v8 main_v9
  let main_cst_0 : FVec F S_ .f32 := constant S_ .f32 0x00000000#32
  let main_v11 : FVec F S128x768 .f32 := broadcastInDim S128x768 ![] bcast_S_S128x768 main_cst_0
  let main_v12 : IVec S128x768 1 := cmpf .oeq main_v10 main_v11
  let main_v13 : FVec F S128x512 .f32 := (extf .f32 · bitsLt_bf16_f32) main_v2
  let main_v14 : FVec F S128x512 .f32 := (extf .f32 · bitsLt_bf16_f32) main_v2
  let main_v15 : FVec F S128x512 .f32 := subf main_v13 main_v14
  let main_cst_1 : FVec F S_ .f32 := constant S_ .f32 0x00000000#32
  let main_v16 : FVec F S128x512 .f32 := broadcastInDim S128x512 ![] bcast_S_S128x512 main_cst_1
  let main_v17 : IVec S128x512 1 := cmpf .oeq main_v15 main_v16
  let main_v18 : FVec F S128x768 .f32 := (extf .f32 · bitsLt_bf16_f32) main_arg3
  let main_v19 : FVec F S128x768 .f32 := (extf .f32 · bitsLt_bf16_f32) main_arg3
  let main_v20 : FVec F S128x768 .f32 := subf main_v18 main_v19
  fn_part1 (F := F) main_arg4 main_arg5 main_arg6 main_arg7 main_arg8 main_v7 main_v12 main_v17 main_v20
-- ==== Kernel.lean ====
abbrev S2x4096x3072 : Shape := ⟨3, ![2, 4096, 3072]⟩
abbrev S6x513 : Shape := ⟨2, ![6, 513]⟩
abbrev S512 : Shape := ⟨1, ![512]⟩
abbrev S512x1 : Shape := ⟨2, ![512, 1]⟩
abbrev S_ : Shape := ⟨0, ![]⟩
abbrev S256 : Shape := ⟨1, ![256]⟩
abbrev S1x256 : Shape := ⟨2, ![1, 256]⟩
abbrev S512x256 : Shape := ⟨2, ![512, 256]⟩
abbrev S256x1 : Shape := ⟨2, ![256, 1]⟩
abbrev S768 : Shape := ⟨1, ![768]⟩
abbrev S1x768 : Shape := ⟨2, ![1, 768]⟩
abbrev S256x768 : Shape := ⟨2, ![256, 768]⟩
abbrev S1x256x768 : Shape := ⟨3, ![1, 256, 768]⟩
abbrev S256x768x1 : Shape := ⟨3, ![256, 768, 1]⟩
abbrev S6x256x768 : Shape := ⟨3, ![6, 256, 768]⟩
abbrev S2x4096x768 : Shape := ⟨3, ![2, 4096, 768]⟩
abbrev S1x4096x128 : Shape := ⟨3, ![1, 4096, 128]⟩
abbrev S4096x128 : Shape := ⟨2, ![4096, 128]⟩
abbrev S4096x1 : Shape := ⟨2, ![4096, 1]⟩
abbrev S4352x128 : Shape := ⟨2, ![4352, 128]⟩
abbrev S4608x128 : Shape := ⟨2, ![4608, 128]⟩
abbrev S256x128 : Shape := ⟨2, ![256, 128]⟩
abbrev S512x128 : Shape := ⟨2, ![512, 128]⟩
abbrev S256x256 : Shape := ⟨2, ![256, 256]⟩
abbrev S1x256x128 : Shape := ⟨3, ![1, 256, 128]⟩
abbrev S256x512 : Shape := ⟨2, ![256, 512]⟩
abbrev S768x128 : Shape := ⟨2, ![768, 128]⟩
abbrev S4096x256 : Shape := ⟨2, ![4096, 256]⟩
abbrev S1x4096x1 : Shape := ⟨3, ![1, 4096, 1]⟩
abbrev S1 : Shape := ⟨1, ![1]⟩
abbrev S1x1x1 : Shape := ⟨3, ![1, 1, 1]⟩
abbrev S4096x512 : Shape := ⟨2, ![4096, 512]⟩
abbrev S4096 : Shape := ⟨1, ![4096]⟩

abbrev nBuf : Space → Nat
  | .hbm => 97
  | .vmem => 25
  | .smem => 0
  | _ => 0

abbrev bufTy : (tb : Table) → Fin (tcTables nBuf tb) → BufTy
  | .hbm, ⟨0, _⟩ => ⟨S2x4096x3072, .bf16⟩
  | .hbm, ⟨1, _⟩ => ⟨S2x4096x3072, .bf16⟩
  | .hbm, ⟨2, _⟩ => ⟨S6x513, .f32⟩
  | .hbm, ⟨3, _⟩ => ⟨S512, .i32⟩
  | .hbm, ⟨4, _⟩ => ⟨S512x1, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S512x1, .i32⟩
  | .hbm, ⟨12, _⟩ => ⟨S512x1, .i32⟩
  | .hbm, ⟨13, _⟩ => ⟨S_, .i32⟩
  | .hbm, ⟨14, _⟩ => ⟨S512x1, .i32⟩
  | .hbm, ⟨15, _⟩ => ⟨S512x1, .i1⟩
  | .hbm, ⟨16, _⟩ => ⟨S_, .i32⟩
  | .hbm, ⟨17, _⟩ => ⟨S512x1, .i32⟩
  | .hbm, ⟨18, _⟩ => ⟨S512x1, .i1⟩
  | .hbm, ⟨19, _⟩ => ⟨S_, .i32⟩
  | .hbm, ⟨20, _⟩ => ⟨S_, .i1⟩
  | .hbm, ⟨21, _⟩ => ⟨S512x1, .i1⟩
  | .hbm, ⟨22, _⟩ => ⟨S512x1, .i1⟩
  | .hbm, ⟨23, _⟩ => ⟨S512x1, .i1⟩
  | .hbm, ⟨24, _⟩ => ⟨S512x1, .i32⟩
  | .hbm, ⟨25, _⟩ => ⟨S512x1, .i32⟩
  | .hbm, ⟨26, _⟩ => ⟨S512x1, .i32⟩
  | .hbm, ⟨27, _⟩ => ⟨S256, .i32⟩
  | .hbm, ⟨28, _⟩ => ⟨S1x256, .i32⟩
  | .hbm, ⟨29, _⟩ => ⟨S512x256, .i32⟩
  | .hbm, ⟨30, _⟩ => ⟨S512x256, .i32⟩
  | .hbm, ⟨31, _⟩ => ⟨S512x256, .i1⟩
  | .hbm, ⟨32, _⟩ => ⟨S_, .f32⟩
  | .hbm, ⟨33, _⟩ => ⟨S_, .f32⟩
  | .hbm, ⟨34, _⟩ => ⟨S512x256, .f32⟩
  | .hbm, ⟨35, _⟩ => ⟨S512x256, .f32⟩
  | .hbm, ⟨36, _⟩ => ⟨S512x256, .f32⟩
  | .hbm, ⟨37, _⟩ => ⟨S512x256, .bf16⟩
  | .hbm, ⟨38, _⟩ => ⟨S256, .i32⟩
  | .hbm, ⟨39, _⟩ => ⟨S256x1, .i32⟩
  | .hbm, ⟨40, _⟩ => ⟨S768, .i32⟩
  | .hbm, ⟨41, _⟩ => ⟨S1x768, .i32⟩
  | .hbm, ⟨42, _⟩ => ⟨S_, .i32⟩
  | .hbm, ⟨43, _⟩ => ⟨S1x768, .i32⟩
  | .hbm, ⟨44, _⟩ => ⟨S1x768, .i32⟩
  | .hbm, ⟨45, _⟩ => ⟨S_, .i32⟩
  | .hbm, ⟨46, _⟩ => ⟨S256x1, .i32⟩
  | .hbm, ⟨47, _⟩ => ⟨S256x1, .i32⟩
  | .hbm, ⟨48, _⟩ => ⟨S256x768, .i32⟩
  | .hbm, ⟨49, _⟩ => ⟨S256x768, .i32⟩
  | .hbm, ⟨50, _⟩ => ⟨S256x768, .i32⟩
  | .hbm, ⟨51, _⟩ => ⟨S_, .i32⟩
  | .hbm, ⟨52, _⟩ => ⟨S1x768, .i32⟩
  | .hbm, ⟨53, _⟩ => ⟨S1x768, .i32⟩
  | .hbm, ⟨54, _⟩ => ⟨S256x768, .i32⟩
  | .hbm, ⟨55, _⟩ => ⟨S256x768, .i32⟩
  | .hbm, ⟨56, _⟩ => ⟨S256x768, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S256x768, .i32⟩
  | .hbm, ⟨61, _⟩ => ⟨S256x768, .i32⟩
  | .hbm, ⟨62, _⟩ => ⟨S_, .i32⟩
  | .hbm, ⟨63, _⟩ => ⟨S256x768, .i32⟩
  | .hbm, ⟨64, _⟩ => ⟨S256x768, .i32⟩
  | .hbm, ⟨65, _⟩ => ⟨S_, .i32⟩
  | .hbm, ⟨66, _⟩ => ⟨S256x768, .i32⟩
  | .hbm, ⟨67, _⟩ => ⟨S256x768, .i32⟩
  | .hbm, ⟨68, _⟩ => ⟨S_, .i32⟩
  | .hbm, ⟨69, _⟩ => ⟨S256x768, .i32⟩
  | .hbm, ⟨70, _⟩ => ⟨S256x768, .i1⟩
  | .hbm, ⟨71, _⟩ => ⟨S_, .i32⟩
  | .hbm, ⟨72, _⟩ => ⟨S256x768, .i32⟩
  | .hbm, ⟨73, _⟩ => ⟨S256x768, .i1⟩
  | .hbm, ⟨74, _⟩ => ⟨S256x768, .i1⟩
  | .hbm, ⟨75, _⟩ => ⟨S1x256x768, .i1⟩
  | .hbm, ⟨76, _⟩ => ⟨S_, .i32⟩
  | .hbm, ⟨77, _⟩ => ⟨S256x768, .i32⟩
  | .hbm, ⟨78, _⟩ => ⟨S256x768, .i1⟩
  | .hbm, ⟨79, _⟩ => ⟨S_, .i32⟩
  | .hbm, ⟨80, _⟩ => ⟨S256x768, .i32⟩
  | .hbm, ⟨81, _⟩ => ⟨S256x768, .i32⟩
  | .hbm, ⟨82, _⟩ => ⟨S256x768, .i32⟩
  | .hbm, ⟨83, _⟩ => ⟨S256x768x1, .i32⟩
  | .hbm, ⟨84, _⟩ => ⟨S6x256x768, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S6x256x768, .f32⟩
  | .hbm, ⟨89, _⟩ => ⟨S6x256x768, .f32⟩
  | .hbm, ⟨90, _⟩ => ⟨S_, .f32⟩
  | .hbm, ⟨91, _⟩ => ⟨S_, .f32⟩
  | .hbm, ⟨92, _⟩ => ⟨S6x256x768, .i1⟩
  | .hbm, ⟨93, _⟩ => ⟨S6x256x768, .f32⟩
  | .hbm, ⟨94, _⟩ => ⟨S6x256x768, .f32⟩
  | .hbm, ⟨95, _⟩ => ⟨S2x4096x768, .bf16⟩
  | .hbm, ⟨96, _⟩ => ⟨S2x4096x768, .bf16⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S512x256, .bf16⟩
  | .local _ .vmem, ⟨7, _⟩ => ⟨S1x4096x128, .bf16⟩
  | .local _ .vmem, ⟨8, _⟩ => ⟨S1x4096x128, .bf16⟩
  | .local _ .vmem, ⟨9, _⟩ => ⟨S1x4096x128, .bf16⟩
  | .local _ .vmem, ⟨10, _⟩ => ⟨S1x4096x128, .bf16⟩
  | .local _ .vmem, ⟨11, _⟩ => ⟨S1x4096x128, .bf16⟩
  | .local _ .vmem, ⟨12, _⟩ => ⟨S1x4096x128, .bf16⟩
  | .local _ .vmem, ⟨13, _⟩ => ⟨S1x256x768, .f32⟩
  | .local _ .vmem, ⟨14, _⟩ => ⟨S1x256x768, .f32⟩
  | .local _ .vmem, ⟨15, _⟩ => ⟨S1x4096x128, .bf16⟩
  | .local _ .vmem, ⟨16, _⟩ => ⟨S1x4096x128, .bf16⟩
  | .local _ .vmem, ⟨17, _⟩ => ⟨S1x4096x128, .bf16⟩
  | .local _ .vmem, ⟨18, _⟩ => ⟨S1x4096x128, .bf16⟩
  | .local _ .vmem, ⟨19, _⟩ => ⟨S4096x128, .f32⟩
  | .local _ .vmem, ⟨20, _⟩ => ⟨S4096x1, .f32⟩
  | .local _ .vmem, ⟨21, _⟩ => ⟨S4352x128, .bf16⟩
  | .local _ .vmem, ⟨22, _⟩ => ⟨S4352x128, .bf16⟩
  | .local _ .vmem, ⟨23, _⟩ => ⟨S4608x128, .bf16⟩
  | .local _ .vmem, ⟨24, _⟩ => ⟨S4608x128, .bf16⟩
  | _, _ => ⟨S2x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_v5 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_c_3 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst : Ref sig .tc := ⟨.hbm, 32, rfl⟩
abbrev main_cst_0 : Ref sig .tc := ⟨.hbm, 33, rfl⟩
abbrev main_call1_v0 : Ref sig .tc := ⟨.hbm, 34, rfl⟩
abbrev main_call1_v1 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_c_1 : Ref sig .tc := ⟨.hbm, 42, rfl⟩
abbrev main_v14 : Ref sig .tc := ⟨.hbm, 43, rfl⟩
abbrev main_v15 : Ref sig .tc := ⟨.hbm, 44, rfl⟩
abbrev main_c_2 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_c_3 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_c_4 : Ref sig .tc := ⟨.hbm, 57, rfl⟩
abbrev main_c_5 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_v26 : Ref sig .tc := ⟨.hbm, 64, rfl⟩
abbrev main_c_6 : Ref sig .tc := ⟨.hbm, 65, rfl⟩
abbrev main_v27 : Ref sig .tc := ⟨.hbm, 66, rfl⟩
abbrev main_v28 : Ref sig .tc := ⟨.hbm, 67, rfl⟩
abbrev main_c_7 : Ref sig .tc := ⟨.hbm, 68, rfl⟩
abbrev main_v29 : Ref sig .tc := ⟨.hbm, 69, rfl⟩
abbrev main_v30 : Ref sig .tc := ⟨.hbm, 70, rfl⟩
abbrev main_c_8 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_c_9 : Ref sig .tc := ⟨.hbm, 76, rfl⟩
abbrev main_v35 : Ref sig .tc := ⟨.hbm, 77, rfl⟩
abbrev main_v36 : Ref sig .tc := ⟨.hbm, 78, rfl⟩
abbrev main_c_10 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_cst_11 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_cst_12 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_v46 : Ref sig .tc := ⟨.hbm, 94, rfl⟩
abbrev main_v47_0 : Ref sig .tc := ⟨.hbm, 95, rfl⟩
abbrev main_v47_1 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![2, 6, 1], ![false, false, false]⟩

def k0_mult1 (i : grid0.Coords) : BitVec 32 :=
  let arg2 : BitVec 32 := BitVec.ofNat 32 (i 2).val
  let c16_i32 : BitVec 32 := 16#32
  let v7 : BitVec 32 := Scalar.muli arg2 c16_i32
  let c0_i32_2 : BitVec 32 := 0#32
  let v8 : BitVec 32 := Scalar.addi v7 c0_i32_2
  let c1_i32 : BitVec 32 := 1#32
  let v11 : BitVec 32 := Scalar.addi v8 c1_i32
  let c256_i32 : BitVec 32 := 256#32
  let v12 : BitVec 32 := Scalar.muli v11 c256_i32
  v12
def k0_off1 (i : grid0.Coords) (c0_i32_2 : BitVec 32) : Fin 2 → Nat :=
  let arg2 : BitVec 32 := BitVec.ofNat 32 (i 2).val
  let c16_i32 : BitVec 32 := 16#32
  let v7 : BitVec 32 := Scalar.muli arg2 c16_i32
  let v8 : BitVec 32 := Scalar.addi v7 c0_i32_2
  let c1_i32 : BitVec 32 := 1#32
  let v11 : BitVec 32 := Scalar.addi v8 c1_i32
  let c256_i32 : BitVec 32 := 256#32
  let v12 : BitVec 32 := Scalar.muli v11 c256_i32
  let v13 : BitVec 32 := v12
  let v14 : Index := Scalar.indexCast v13
  let c0_6 : Index := 0#32
  ![v14.toNat, 0]
def k0_mult2 (i : grid0.Coords) : BitVec 32 :=
  let arg2 : BitVec 32 := BitVec.ofNat 32 (i 2).val
  let c16_i32 : BitVec 32 := 16#32
  let v7 : BitVec 32 := Scalar.muli arg2 c16_i32
  let c0_i32_2 : BitVec 32 := 0#32
  let v8 : BitVec 32 := Scalar.addi v7 c0_i32_2
  let c1_i32_18 : BitVec 32 := 1#32
  let v52 : BitVec 32 := Scalar.subi v8 c1_i32_18
  let c1_i32_19 : BitVec 32 := 1#32
  let v53 : BitVec 32 := Scalar.addi v52 c1_i32_19
  let c256_i32_20 : BitVec 32 := 256#32
  let v54 : BitVec 32 := Scalar.muli v53 c256_i32_20
  v54
def k0_off2 (i : grid0.Coords) (c0_i32_2 : BitVec 32) : Fin 2 → Nat :=
  let arg2 : BitVec 32 := BitVec.ofNat 32 (i 2).val
  let c16_i32 : BitVec 32 := 16#32
  let v7 : BitVec 32 := Scalar.muli arg2 c16_i32
  let v8 : BitVec 32 := Scalar.addi v7 c0_i32_2
  let c1_i32_18 : BitVec 32 := 1#32
  let v52 : BitVec 32 := Scalar.subi v8 c1_i32_18
  let c1_i32_19 : BitVec 32 := 1#32
  let v53 : BitVec 32 := Scalar.addi v52 c1_i32_19
  let c256_i32_20 : BitVec 32 := 256#32
  let v54 : BitVec 32 := Scalar.muli v53 c256_i32_20
  let v55 : BitVec 32 := v54
  let v56 : Index := Scalar.indexCast v55
  let c0_21 : Index := 0#32
  ![v56.toNat, 0]
def k0_mult3 (i : grid0.Coords) : BitVec 32 :=
  let arg2 : BitVec 32 := BitVec.ofNat 32 (i 2).val
  let c16_i32_39 : BitVec 32 := 16#32
  let v104 : BitVec 32 := Scalar.muli arg2 c16_i32_39
  let c1_i32_40 : BitVec 32 := 1#32
  let v105 : BitVec 32 := Scalar.addi v104 c1_i32_40
  let c1_i32_43 : BitVec 32 := 1#32
  let v108 : BitVec 32 := Scalar.addi v105 c1_i32_43
  let c256_i32_44 : BitVec 32 := 256#32
  let v109 : BitVec 32 := Scalar.muli v108 c256_i32_44
  v109
def k0_mult4 (i : grid0.Coords) : BitVec 32 :=
  let arg2 : BitVec 32 := BitVec.ofNat 32 (i 2).val
  let c16_i32_39 : BitVec 32 := 16#32
  let v104 : BitVec 32 := Scalar.muli arg2 c16_i32_39
  let c1_i32_40 : BitVec 32 := 1#32
  let v105 : BitVec 32 := Scalar.addi v104 c1_i32_40
  let c1_i32_58 : BitVec 32 := 1#32
  let v149 : BitVec 32 := Scalar.subi v105 c1_i32_58
  let c1_i32_59 : BitVec 32 := 1#32
  let v150 : BitVec 32 := Scalar.addi v149 c1_i32_59
  let c256_i32_60 : BitVec 32 := 256#32
  let v151 : BitVec 32 := Scalar.muli v150 c256_i32_60
  v151
def k0_mult5 (i : grid0.Coords) : BitVec 32 :=
  let arg2 : BitVec 32 := BitVec.ofNat 32 (i 2).val
  let c16_i32_75 : BitVec 32 := 16#32
  let v192 : BitVec 32 := Scalar.muli arg2 c16_i32_75
  let c2_i32 : BitVec 32 := 2#32
  let v193 : BitVec 32 := Scalar.addi v192 c2_i32
  let c1_i32_78 : BitVec 32 := 1#32
  let v196 : BitVec 32 := Scalar.addi v193 c1_i32_78
  let c256_i32_79 : BitVec 32 := 256#32
  let v197 : BitVec 32 := Scalar.muli v196 c256_i32_79
  v197
def k0_mult6 (i : grid0.Coords) : BitVec 32 :=
  let arg2 : BitVec 32 := BitVec.ofNat 32 (i 2).val
  let c16_i32_75 : BitVec 32 := 16#32
  let v192 : BitVec 32 := Scalar.muli arg2 c16_i32_75
  let c2_i32 : BitVec 32 := 2#32
  let v193 : BitVec 32 := Scalar.addi v192 c2_i32
  let c1_i32_93 : BitVec 32 := 1#32
  let v237 : BitVec 32 := Scalar.subi v193 c1_i32_93
  let c1_i32_94 : BitVec 32 := 1#32
  let v238 : BitVec 32 := Scalar.addi v237 c1_i32_94
  let c256_i32_95 : BitVec 32 := 256#32
  let v239 : BitVec 32 := Scalar.muli v238 c256_i32_95
  v239
def k0_mult7 (i : grid0.Coords) : BitVec 32 :=
  let arg2 : BitVec 32 := BitVec.ofNat 32 (i 2).val
  let c16_i32_110 : BitVec 32 := 16#32
  let v280 : BitVec 32 := Scalar.muli arg2 c16_i32_110
  let c3_i32 : BitVec 32 := 3#32
  let v281 : BitVec 32 := Scalar.addi v280 c3_i32
  let c1_i32_113 : BitVec 32 := 1#32
  let v284 : BitVec 32 := Scalar.addi v281 c1_i32_113
  let c256_i32_114 : BitVec 32 := 256#32
  let v285 : BitVec 32 := Scalar.muli v284 c256_i32_114
  v285
def k0_mult8 (i : grid0.Coords) : BitVec 32 :=
  let arg2 : BitVec 32 := BitVec.ofNat 32 (i 2).val
  let c16_i32_110 : BitVec 32 := 16#32
  let v280 : BitVec 32 := Scalar.muli arg2 c16_i32_110
  let c3_i32 : BitVec 32 := 3#32
  let v281 : BitVec 32 := Scalar.addi v280 c3_i32
  let c1_i32_128 : BitVec 32 := 1#32
  let v325 : BitVec 32 := Scalar.subi v281 c1_i32_128
  let c1_i32_129 : BitVec 32 := 1#32
  let v326 : BitVec 32 := Scalar.addi v325 c1_i32_129
  let c256_i32_130 : BitVec 32 := 256#32
  let v327 : BitVec 32 := Scalar.muli v326 c256_i32_130
  v327
def k0_mult9 (i : grid0.Coords) : BitVec 32 :=
  let arg2 : BitVec 32 := BitVec.ofNat 32 (i 2).val
  let c16_i32_145 : BitVec 32 := 16#32
  let v368 : BitVec 32 := Scalar.muli arg2 c16_i32_145
  let c4_i32 : BitVec 32 := 4#32
  let v369 : BitVec 32 := Scalar.addi v368 c4_i32
  let c1_i32_148 : BitVec 32 := 1#32
  let v372 : BitVec 32 := Scalar.addi v369 c1_i32_148
  let c256_i32_149 : BitVec 32 := 256#32
  let v373 : BitVec 32 := Scalar.muli v372 c256_i32_149
  v373
def k0_mult10 (i : grid0.Coords) : BitVec 32 :=
  let arg2 : BitVec 32 := BitVec.ofNat 32 (i 2).val
  let c16_i32_145 : BitVec 32 := 16#32
  let v368 : BitVec 32 := Scalar.muli arg2 c16_i32_145
  let c4_i32 : BitVec 32 := 4#32
  let v369 : BitVec 32 := Scalar.addi v368 c4_i32
  let c1_i32_163 : BitVec 32 := 1#32
  let v413 : BitVec 32 := Scalar.subi v369 c1_i32_163
  let c1_i32_164 : BitVec 32 := 1#32
  let v414 : BitVec 32 := Scalar.addi v413 c1_i32_164
  let c256_i32_165 : BitVec 32 := 256#32
  let v415 : BitVec 32 := Scalar.muli v414 c256_i32_165
  v415
def k0_mult11 (i : grid0.Coords) : BitVec 32 :=
  let arg2 : BitVec 32 := BitVec.ofNat 32 (i 2).val
  let c16_i32_180 : BitVec 32 := 16#32
  let v456 : BitVec 32 := Scalar.muli arg2 c16_i32_180
  let c5_i32 : BitVec 32 := 5#32
  let v457 : BitVec 32 := Scalar.addi v456 c5_i32
  let c1_i32_183 : BitVec 32 := 1#32
  let v460 : BitVec 32 := Scalar.addi v457 c1_i32_183
  let c256_i32_184 : BitVec 32 := 256#32
  let v461 : BitVec 32 := Scalar.muli v460 c256_i32_184
  v461
def k0_mult12 (i : grid0.Coords) : BitVec 32 :=
  let arg2 : BitVec 32 := BitVec.ofNat 32 (i 2).val
  let c16_i32_180 : BitVec 32 := 16#32
  let v456 : BitVec 32 := Scalar.muli arg2 c16_i32_180
  let c5_i32 : BitVec 32 := 5#32
  let v457 : BitVec 32 := Scalar.addi v456 c5_i32
  let c1_i32_198 : BitVec 32 := 1#32
  let v501 : BitVec 32 := Scalar.subi v457 c1_i32_198
  let c1_i32_199 : BitVec 32 := 1#32
  let v502 : BitVec 32 := Scalar.addi v501 c1_i32_199
  let c256_i32_200 : BitVec 32 := 256#32
  let v503 : BitVec 32 := Scalar.muli v502 c256_i32_200
  v503
def k0_mult13 (i : grid0.Coords) : BitVec 32 :=
  let arg2 : BitVec 32 := BitVec.ofNat 32 (i 2).val
  let c16_i32_215 : BitVec 32 := 16#32
  let v544 : BitVec 32 := Scalar.muli arg2 c16_i32_215
  let c6_i32 : BitVec 32 := 6#32
  let v545 : BitVec 32 := Scalar.addi v544 c6_i32
  let c1_i32_218 : BitVec 32 := 1#32
  let v548 : BitVec 32 := Scalar.addi v545 c1_i32_218
  let c256_i32_219 : BitVec 32 := 256#32
  let v549 : BitVec 32 := Scalar.muli v548 c256_i32_219
  v549
def k0_mult14 (i : grid0.Coords) : BitVec 32 :=
  let arg2 : BitVec 32 := BitVec.ofNat 32 (i 2).val
  let c16_i32_215 : BitVec 32 := 16#32
  let v544 : BitVec 32 := Scalar.muli arg2 c16_i32_215
  let c6_i32 : BitVec 32 := 6#32
  let v545 : BitVec 32 := Scalar.addi v544 c6_i32
  let c1_i32_233 : BitVec 32 := 1#32
  let v589 : BitVec 32 := Scalar.subi v545 c1_i32_233
  let c1_i32_234 : BitVec 32 := 1#32
  let v590 : BitVec 32 := Scalar.addi v589 c1_i32_234
  let c256_i32_235 : BitVec 32 := 256#32
  let v591 : BitVec 32 := Scalar.muli v590 c256_i32_235
  v591
def k0_mult15 (i : grid0.Coords) : BitVec 32 :=
  let arg2 : BitVec 32 := BitVec.ofNat 32 (i 2).val
  let c16_i32_250 : BitVec 32 := 16#32
  let v632 : BitVec 32 := Scalar.muli arg2 c16_i32_250
  let c7_i32 : BitVec 32 := 7#32
  let v633 : BitVec 32 := Scalar.addi v632 c7_i32
  let c1_i32_253 : BitVec 32 := 1#32
  let v636 : BitVec 32 := Scalar.addi v633 c1_i32_253
  let c256_i32_254 : BitVec 32 := 256#32
  let v637 : BitVec 32 := Scalar.muli v636 c256_i32_254
  v637
def k0_mult16 (i : grid0.Coords) : BitVec 32 :=
  let arg2 : BitVec 32 := BitVec.ofNat 32 (i 2).val
  let c16_i32_250 : BitVec 32 := 16#32
  let v632 : BitVec 32 := Scalar.muli arg2 c16_i32_250
  let c7_i32 : BitVec 32 := 7#32
  let v633 : BitVec 32 := Scalar.addi v632 c7_i32
  let c1_i32_268 : BitVec 32 := 1#32
  let v677 : BitVec 32 := Scalar.subi v633 c1_i32_268
  let c1_i32_269 : BitVec 32 := 1#32
  let v678 : BitVec 32 := Scalar.addi v677 c1_i32_269
  let c256_i32_270 : BitVec 32 := 256#32
  let v679 : BitVec 32 := Scalar.muli v678 c256_i32_270
  v679
def k0_mult17 (i : grid0.Coords) : BitVec 32 :=
  let arg2 : BitVec 32 := BitVec.ofNat 32 (i 2).val
  let c16_i32_285 : BitVec 32 := 16#32
  let v720 : BitVec 32 := Scalar.muli arg2 c16_i32_285
  let c8_i32 : BitVec 32 := 8#32
  let v721 : BitVec 32 := Scalar.addi v720 c8_i32
  let c1_i32_288 : BitVec 32 := 1#32
  let v724 : BitVec 32 := Scalar.addi v721 c1_i32_288
  let c256_i32_289 : BitVec 32 := 256#32
  let v725 : BitVec 32 := Scalar.muli v724 c256_i32_289
  v725
def k0_mult18 (i : grid0.Coords) : BitVec 32 :=
  let arg2 : BitVec 32 := BitVec.ofNat 32 (i 2).val
  let c16_i32_285 : BitVec 32 := 16#32
  let v720 : BitVec 32 := Scalar.muli arg2 c16_i32_285
  let c8_i32 : BitVec 32 := 8#32
  let v721 : BitVec 32 := Scalar.addi v720 c8_i32
  let c1_i32_303 : BitVec 32 := 1#32
  let v765 : BitVec 32 := Scalar.subi v721 c1_i32_303
  let c1_i32_304 : BitVec 32 := 1#32
  let v766 : BitVec 32 := Scalar.addi v765 c1_i32_304
  let c256_i32_305 : BitVec 32 := 256#32
  let v767 : BitVec 32 := Scalar.muli v766 c256_i32_305
  v767
def k0_mult19 (i : grid0.Coords) : BitVec 32 :=
  let arg2 : BitVec 32 := BitVec.ofNat 32 (i 2).val
  let c16_i32_320 : BitVec 32 := 16#32
  let v808 : BitVec 32 := Scalar.muli arg2 c16_i32_320
  let c9_i32 : BitVec 32 := 9#32
  let v809 : BitVec 32 := Scalar.addi v808 c9_i32
  let c1_i32_323 : BitVec 32 := 1#32
  let v812 : BitVec 32 := Scalar.addi v809 c1_i32_323
  let c256_i32_324 : BitVec 32 := 256#32
  let v813 : BitVec 32 := Scalar.muli v812 c256_i32_324
  v813
def k0_mult20 (i : grid0.Coords) : BitVec 32 :=
  let arg2 : BitVec 32 := BitVec.ofNat 32 (i 2).val
  let c16_i32_320 : BitVec 32 := 16#32
  let v808 : BitVec 32 := Scalar.muli arg2 c16_i32_320
  let c9_i32 : BitVec 32 := 9#32
  let v809 : BitVec 32 := Scalar.addi v808 c9_i32
  let c1_i32_338 : BitVec 32 := 1#32
  let v853 : BitVec 32 := Scalar.subi v809 c1_i32_338
  let c1_i32_339 : BitVec 32 := 1#32
  let v854 : BitVec 32 := Scalar.addi v853 c1_i32_339
  let c256_i32_340 : BitVec 32 := 256#32
  let v855 : BitVec 32 := Scalar.muli v854 c256_i32_340
  v855
def k0_mult21 (i : grid0.Coords) : BitVec 32 :=
  let arg2 : BitVec 32 := BitVec.ofNat 32 (i 2).val
  let c16_i32_355 : BitVec 32 := 16#32
  let v896 : BitVec 32 := Scalar.muli arg2 c16_i32_355
  let c10_i32 : BitVec 32 := 10#32
  let v897 : BitVec 32 := Scalar.addi v896 c10_i32
  let c1_i32_358 : BitVec 32 := 1#32
  let v900 : BitVec 32 := Scalar.addi v897 c1_i32_358
  let c256_i32_359 : BitVec 32 := 256#32
  let v901 : BitVec 32 := Scalar.muli v900 c256_i32_359
  v901
def k0_mult22 (i : grid0.Coords) : BitVec 32 :=
  let arg2 : BitVec 32 := BitVec.ofNat 32 (i 2).val
  let c16_i32_355 : BitVec 32 := 16#32
  let v896 : BitVec 32 := Scalar.muli arg2 c16_i32_355
  let c10_i32 : BitVec 32 := 10#32
  let v897 : BitVec 32 := Scalar.addi v896 c10_i32
  let c1_i32_373 : BitVec 32 := 1#32
  let v941 : BitVec 32 := Scalar.subi v897 c1_i32_373
  let c1_i32_374 : BitVec 32 := 1#32
  let v942 : BitVec 32 := Scalar.addi v941 c1_i32_374
  let c256_i32_375 : BitVec 32 := 256#32
  let v943 : BitVec 32 := Scalar.muli v942 c256_i32_375
  v943
def k0_mult23 (i : grid0.Coords) : BitVec 32 :=
  let arg2 : BitVec 32 := BitVec.ofNat 32 (i 2).val
  let c16_i32_390 : BitVec 32 := 16#32
  let v984 : BitVec 32 := Scalar.muli arg2 c16_i32_390
  let c11_i32 : BitVec 32 := 11#32
  let v985 : BitVec 32 := Scalar.addi v984 c11_i32
  let c1_i32_393 : BitVec 32 := 1#32
  let v988 : BitVec 32 := Scalar.addi v985 c1_i32_393
  let c256_i32_394 : BitVec 32 := 256#32
  let v989 : BitVec 32 := Scalar.muli v988 c256_i32_394
  v989
def k0_mult24 (i : grid0.Coords) : BitVec 32 :=
  let arg2 : BitVec 32 := BitVec.ofNat 32 (i 2).val
  let c16_i32_390 : BitVec 32 := 16#32
  let v984 : BitVec 32 := Scalar.muli arg2 c16_i32_390
  let c11_i32 : BitVec 32 := 11#32
  let v985 : BitVec 32 := Scalar.addi v984 c11_i32
  let c1_i32_408 : BitVec 32 := 1#32
  let v1029 : BitVec 32 := Scalar.subi v985 c1_i32_408
  let c1_i32_409 : BitVec 32 := 1#32
  let v1030 : BitVec 32 := Scalar.addi v1029 c1_i32_409
  let c256_i32_410 : BitVec 32 := 256#32
  let v1031 : BitVec 32 := Scalar.muli v1030 c256_i32_410
  v1031
def k0_mult25 (i : grid0.Coords) : BitVec 32 :=
  let arg2 : BitVec 32 := BitVec.ofNat 32 (i 2).val
  let c16_i32_425 : BitVec 32 := 16#32
  let v1072 : BitVec 32 := Scalar.muli arg2 c16_i32_425
  let c12_i32 : BitVec 32 := 12#32
  let v1073 : BitVec 32 := Scalar.addi v1072 c12_i32
  let c1_i32_428 : BitVec 32 := 1#32
  let v1076 : BitVec 32 := Scalar.addi v1073 c1_i32_428
  let c256_i32_429 : BitVec 32 := 256#32
  let v1077 : BitVec 32 := Scalar.muli v1076 c256_i32_429
  v1077
def k0_mult26 (i : grid0.Coords) : BitVec 32 :=
  let arg2 : BitVec 32 := BitVec.ofNat 32 (i 2).val
  let c16_i32_425 : BitVec 32 := 16#32
  let v1072 : BitVec 32 := Scalar.muli arg2 c16_i32_425
  let c12_i32 : BitVec 32 := 12#32
  let v1073 : BitVec 32 := Scalar.addi v1072 c12_i32
  let c1_i32_443 : BitVec 32 := 1#32
  let v1117 : BitVec 32 := Scalar.subi v1073 c1_i32_443
  let c1_i32_444 : BitVec 32 := 1#32
  let v1118 : BitVec 32 := Scalar.addi v1117 c1_i32_444
  let c256_i32_445 : BitVec 32 := 256#32
  let v1119 : BitVec 32 := Scalar.muli v1118 c256_i32_445
  v1119
def k0_mult27 (i : grid0.Coords) : BitVec 32 :=
  let arg2 : BitVec 32 := BitVec.ofNat 32 (i 2).val
  let c16_i32_460 : BitVec 32 := 16#32
  let v1160 : BitVec 32 := Scalar.muli arg2 c16_i32_460
  let c13_i32 : BitVec 32 := 13#32
  let v1161 : BitVec 32 := Scalar.addi v1160 c13_i32
  let c1_i32_463 : BitVec 32 := 1#32
  let v1164 : BitVec 32 := Scalar.addi v1161 c1_i32_463
  let c256_i32_464 : BitVec 32 := 256#32
  let v1165 : BitVec 32 := Scalar.muli v1164 c256_i32_464
  v1165
def k0_mult28 (i : grid0.Coords) : BitVec 32 :=
  let arg2 : BitVec 32 := BitVec.ofNat 32 (i 2).val
  let c16_i32_460 : BitVec 32 := 16#32
  let v1160 : BitVec 32 := Scalar.muli arg2 c16_i32_460
  let c13_i32 : BitVec 32 := 13#32
  let v1161 : BitVec 32 := Scalar.addi v1160 c13_i32
  let c1_i32_478 : BitVec 32 := 1#32
  let v1205 : BitVec 32 := Scalar.subi v1161 c1_i32_478
  let c1_i32_479 : BitVec 32 := 1#32
  let v1206 : BitVec 32 := Scalar.addi v1205 c1_i32_479
  let c256_i32_480 : BitVec 32 := 256#32
  let v1207 : BitVec 32 := Scalar.muli v1206 c256_i32_480
  v1207
def k0_mult29 (i : grid0.Coords) : BitVec 32 :=
  let arg2 : BitVec 32 := BitVec.ofNat 32 (i 2).val
  let c16_i32_495 : BitVec 32 := 16#32
  let v1248 : BitVec 32 := Scalar.muli arg2 c16_i32_495
  let c14_i32 : BitVec 32 := 14#32
  let v1249 : BitVec 32 := Scalar.addi v1248 c14_i32
  let c1_i32_498 : BitVec 32 := 1#32
  let v1252 : BitVec 32 := Scalar.addi v1249 c1_i32_498
  let c256_i32_499 : BitVec 32 := 256#32
  let v1253 : BitVec 32 := Scalar.muli v1252 c256_i32_499
  v1253
def k0_mult30 (i : grid0.Coords) : BitVec 32 :=
  let arg2 : BitVec 32 := BitVec.ofNat 32 (i 2).val
  let c16_i32_495 : BitVec 32 := 16#32
  let v1248 : BitVec 32 := Scalar.muli arg2 c16_i32_495
  let c14_i32 : BitVec 32 := 14#32
  let v1249 : BitVec 32 := Scalar.addi v1248 c14_i32
  let c1_i32_513 : BitVec 32 := 1#32
  let v1293 : BitVec 32 := Scalar.subi v1249 c1_i32_513
  let c1_i32_514 : BitVec 32 := 1#32
  let v1294 : BitVec 32 := Scalar.addi v1293 c1_i32_514
  let c256_i32_515 : BitVec 32 := 256#32
  let v1295 : BitVec 32 := Scalar.muli v1294 c256_i32_515
  v1295
def k0_mult31 (i : grid0.Coords) : BitVec 32 :=
  let arg2 : BitVec 32 := BitVec.ofNat 32 (i 2).val
  let c16_i32_530 : BitVec 32 := 16#32
  let v1336 : BitVec 32 := Scalar.muli arg2 c16_i32_530
  let c15_i32 : BitVec 32 := 15#32
  let v1337 : BitVec 32 := Scalar.addi v1336 c15_i32
  let c1_i32_533 : BitVec 32 := 1#32
  let v1340 : BitVec 32 := Scalar.addi v1337 c1_i32_533
  let c256_i32_534 : BitVec 32 := 256#32
  let v1341 : BitVec 32 := Scalar.muli v1340 c256_i32_534
  v1341
def k0_mult32 (i : grid0.Coords) : BitVec 32 :=
  let arg2 : BitVec 32 := BitVec.ofNat 32 (i 2).val
  let c16_i32_530 : BitVec 32 := 16#32
  let v1336 : BitVec 32 := Scalar.muli arg2 c16_i32_530
  let c15_i32 : BitVec 32 := 15#32
  let v1337 : BitVec 32 := Scalar.addi v1336 c15_i32
  let c1_i32_548 : BitVec 32 := 1#32
  let v1381 : BitVec 32 := Scalar.subi v1337 c1_i32_548
  let c1_i32_549 : BitVec 32 := 1#32
  let v1382 : BitVec 32 := Scalar.addi v1381 c1_i32_549
  let c256_i32_550 : BitVec 32 := 256#32
  let v1383 : BitVec 32 := Scalar.muli v1382 c256_i32_550
  v1383
def k0_mult33 (i : grid0.Coords) : BitVec 32 :=
  let arg2 : BitVec 32 := BitVec.ofNat 32 (i 2).val
  let c16_i32_565 : BitVec 32 := 16#32
  let v1425 : BitVec 32 := Scalar.muli arg2 c16_i32_565
  let c0_i32_566 : BitVec 32 := 0#32
  let v1426 : BitVec 32 := Scalar.addi v1425 c0_i32_566
  let c256_i32_567 : BitVec 32 := 256#32
  let v1427 : BitVec 32 := Scalar.muli v1426 c256_i32_567
  v1427
def k0_off3 (i : grid0.Coords) (c0_i32_566 : BitVec 32) : Fin 2 → Nat :=
  let arg2 : BitVec 32 := BitVec.ofNat 32 (i 2).val
  let c16_i32_565 : BitVec 32 := 16#32
  let v1425 : BitVec 32 := Scalar.muli arg2 c16_i32_565
  let v1426 : BitVec 32 := Scalar.addi v1425 c0_i32_566
  let c256_i32_567 : BitVec 32 := 256#32
  let v1427 : BitVec 32 := Scalar.muli v1426 c256_i32_567
  let v1428 : BitVec 32 := v1427
  let v1431 : Index := Scalar.indexCast v1428
  let c0_571 : Index := 0#32
  ![v1431.toNat, 0]
def k0_mult34 (i : grid0.Coords) : BitVec 32 :=
  let arg2 : BitVec 32 := BitVec.ofNat 32 (i 2).val
  let c16_i32_585 : BitVec 32 := 16#32
  let v1461 : BitVec 32 := Scalar.muli arg2 c16_i32_585
  let c1_i32_586 : BitVec 32 := 1#32
  let v1462 : BitVec 32 := Scalar.addi v1461 c1_i32_586
  let c256_i32_587 : BitVec 32 := 256#32
  let v1463 : BitVec 32 := Scalar.muli v1462 c256_i32_587
  v1463
def k0_mult35 (i : grid0.Coords) : BitVec 32 :=
  let arg2 : BitVec 32 := BitVec.ofNat 32 (i 2).val
  let c16_i32_606 : BitVec 32 := 16#32
  let v1497 : BitVec 32 := Scalar.muli arg2 c16_i32_606
  let c2_i32_607 : BitVec 32 := 2#32
  let v1498 : BitVec 32 := Scalar.addi v1497 c2_i32_607
  let c256_i32_608 : BitVec 32 := 256#32
  let v1499 : BitVec 32 := Scalar.muli v1498 c256_i32_608
  v1499
def k0_mult36 (i : grid0.Coords) : BitVec 32 :=
  let arg2 : BitVec 32 := BitVec.ofNat 32 (i 2).val
  let c16_i32_627 : BitVec 32 := 16#32
  let v1533 : BitVec 32 := Scalar.muli arg2 c16_i32_627
  let c3_i32_628 : BitVec 32 := 3#32
  let v1534 : BitVec 32 := Scalar.addi v1533 c3_i32_628
  let c256_i32_629 : BitVec 32 := 256#32
  let v1535 : BitVec 32 := Scalar.muli v1534 c256_i32_629
  v1535
def k0_mult37 (i : grid0.Coords) : BitVec 32 :=
  let arg2 : BitVec 32 := BitVec.ofNat 32 (i 2).val
  let c16_i32_648 : BitVec 32 := 16#32
  let v1569 : BitVec 32 := Scalar.muli arg2 c16_i32_648
  let c4_i32_649 : BitVec 32 := 4#32
  let v1570 : BitVec 32 := Scalar.addi v1569 c4_i32_649
  let c256_i32_650 : BitVec 32 := 256#32
  let v1571 : BitVec 32 := Scalar.muli v1570 c256_i32_650
  v1571
def k0_mult38 (i : grid0.Coords) : BitVec 32 :=
  let arg2 : BitVec 32 := BitVec.ofNat 32 (i 2).val
  let c16_i32_669 : BitVec 32 := 16#32
  let v1605 : BitVec 32 := Scalar.muli arg2 c16_i32_669
  let c5_i32_670 : BitVec 32 := 5#32
  let v1606 : BitVec 32 := Scalar.addi v1605 c5_i32_670
  let c256_i32_671 : BitVec 32 := 256#32
  let v1607 : BitVec 32 := Scalar.muli v1606 c256_i32_671
  v1607
def k0_mult39 (i : grid0.Coords) : BitVec 32 :=
  let arg2 : BitVec 32 := BitVec.ofNat 32 (i 2).val
  let c16_i32_690 : BitVec 32 := 16#32
  let v1641 : BitVec 32 := Scalar.muli arg2 c16_i32_690
  let c6_i32_691 : BitVec 32 := 6#32
  let v1642 : BitVec 32 := Scalar.addi v1641 c6_i32_691
  let c256_i32_692 : BitVec 32 := 256#32
  let v1643 : BitVec 32 := Scalar.muli v1642 c256_i32_692
  v1643
def k0_mult40 (i : grid0.Coords) : BitVec 32 :=
  let arg2 : BitVec 32 := BitVec.ofNat 32 (i 2).val
  let c16_i32_711 : BitVec 32 := 16#32
  let v1677 : BitVec 32 := Scalar.muli arg2 c16_i32_711
  let c7_i32_712 : BitVec 32 := 7#32
  let v1678 : BitVec 32 := Scalar.addi v1677 c7_i32_712
  let c256_i32_713 : BitVec 32 := 256#32
  let v1679 : BitVec 32 := Scalar.muli v1678 c256_i32_713
  v1679
def k0_mult41 (i : grid0.Coords) : BitVec 32 :=
  let arg2 : BitVec 32 := BitVec.ofNat 32 (i 2).val
  let c16_i32_732 : BitVec 32 := 16#32
  let v1713 : BitVec 32 := Scalar.muli arg2 c16_i32_732
  let c8_i32_733 : BitVec 32 := 8#32
  let v1714 : BitVec 32 := Scalar.addi v1713 c8_i32_733
  let c256_i32_734 : BitVec 32 := 256#32
  let v1715 : BitVec 32 := Scalar.muli v1714 c256_i32_734
  v1715
def k0_mult42 (i : grid0.Coords) : BitVec 32 :=
  let arg2 : BitVec 32 := BitVec.ofNat 32 (i 2).val
  let c16_i32_753 : BitVec 32 := 16#32
  let v1749 : BitVec 32 := Scalar.muli arg2 c16_i32_753
  let c9_i32_754 : BitVec 32 := 9#32
  let v1750 : BitVec 32 := Scalar.addi v1749 c9_i32_754
  let c256_i32_755 : BitVec 32 := 256#32
  let v1751 : BitVec 32 := Scalar.muli v1750 c256_i32_755
  v1751
def k0_mult43 (i : grid0.Coords) : BitVec 32 :=
  let arg2 : BitVec 32 := BitVec.ofNat 32 (i 2).val
  let c16_i32_774 : BitVec 32 := 16#32
  let v1785 : BitVec 32 := Scalar.muli arg2 c16_i32_774
  let c10_i32_775 : BitVec 32 := 10#32
  let v1786 : BitVec 32 := Scalar.addi v1785 c10_i32_775
  let c256_i32_776 : BitVec 32 := 256#32
  let v1787 : BitVec 32 := Scalar.muli v1786 c256_i32_776
  v1787
def k0_mult44 (i : grid0.Coords) : BitVec 32 :=
  let arg2 : BitVec 32 := BitVec.ofNat 32 (i 2).val
  let c16_i32_795 : BitVec 32 := 16#32
  let v1821 : BitVec 32 := Scalar.muli arg2 c16_i32_795
  let c11_i32_796 : BitVec 32 := 11#32
  let v1822 : BitVec 32 := Scalar.addi v1821 c11_i32_796
  let c256_i32_797 : BitVec 32 := 256#32
  let v1823 : BitVec 32 := Scalar.muli v1822 c256_i32_797
  v1823
def k0_mult45 (i : grid0.Coords) : BitVec 32 :=
  let arg2 : BitVec 32 := BitVec.ofNat 32 (i 2).val
  let c16_i32_816 : BitVec 32 := 16#32
  let v1857 : BitVec 32 := Scalar.muli arg2 c16_i32_816
  let c12_i32_817 : BitVec 32 := 12#32
  let v1858 : BitVec 32 := Scalar.addi v1857 c12_i32_817
  let c256_i32_818 : BitVec 32 := 256#32
  let v1859 : BitVec 32 := Scalar.muli v1858 c256_i32_818
  v1859
def k0_mult46 (i : grid0.Coords) : BitVec 32 :=
  let arg2 : BitVec 32 := BitVec.ofNat 32 (i 2).val
  let c16_i32_837 : BitVec 32 := 16#32
  let v1893 : BitVec 32 := Scalar.muli arg2 c16_i32_837
  let c13_i32_838 : BitVec 32 := 13#32
  let v1894 : BitVec 32 := Scalar.addi v1893 c13_i32_838
  let c256_i32_839 : BitVec 32 := 256#32
  let v1895 : BitVec 32 := Scalar.muli v1894 c256_i32_839
  v1895
def k0_mult47 (i : grid0.Coords) : BitVec 32 :=
  let arg2 : BitVec 32 := BitVec.ofNat 32 (i 2).val
  let c16_i32_858 : BitVec 32 := 16#32
  let v1929 : BitVec 32 := Scalar.muli arg2 c16_i32_858
  let c14_i32_859 : BitVec 32 := 14#32
  let v1930 : BitVec 32 := Scalar.addi v1929 c14_i32_859
  let c256_i32_860 : BitVec 32 := 256#32
  let v1931 : BitVec 32 := Scalar.muli v1930 c256_i32_860
  v1931
def k0_mult48 (i : grid0.Coords) : BitVec 32 :=
  let arg2 : BitVec 32 := BitVec.ofNat 32 (i 2).val
  let c16_i32_879 : BitVec 32 := 16#32
  let v1965 : BitVec 32 := Scalar.muli arg2 c16_i32_879
  let c15_i32_880 : BitVec 32 := 15#32
  let v1966 : BitVec 32 := Scalar.addi v1965 c15_i32_880
  let c256_i32_881 : BitVec 32 := 256#32
  let v1967 : BitVec 32 := Scalar.muli v1966 c256_i32_881
  v1967
def k0_mult49 (arg19 : BitVec 32) : BitVec 32 :=
  let c1_i32_916 : BitVec 32 := 1#32
  let v2026 : BitVec 32 := Scalar.addi arg19 c1_i32_916
  let c256_i32_917 : BitVec 32 := 256#32
  let v2027 : BitVec 32 := Scalar.muli v2026 c256_i32_917
  v2027

def k0_off4 (arg19 : BitVec 32) : Fin 2 → Nat :=
  let c1_i32_916 : BitVec 32 := 1#32
  let v2026 : BitVec 32 := Scalar.addi arg19 c1_i32_916
  let c256_i32_917 : BitVec 32 := 256#32
  let v2027 : BitVec 32 := Scalar.muli v2026 c256_i32_917
  let v2028 : BitVec 32 := v2027
  let v2029 : Index := Scalar.indexCast v2028
  let c0_918 : Index := 0#32
  ![v2029.toNat, 0]

def k0_chk1 (arg19 : BitVec 32) : Prop :=
  (256 ∣ (k0_mult49 arg19).toNat) ∧
  (∀ a, (k0_off4 arg19) a + S256x128.size a ≤ S4352x128.size a)
theorem k0_mult49_dvd : ∀ (arg19 : BitVec 32) (k0_hw1 : k0_chk1 arg19), 256 ∣ (k0_mult49 arg19).toNat := fun arg19 k0_hw1 => k0_hw1.1
theorem k0_off4_inb : ∀ (arg19 : BitVec 32) (k0_hw1 : k0_chk1 arg19), ∀ a, (k0_off4 arg19) a + S256x128.size a ≤ S4352x128.size a := fun arg19 k0_hw1 => k0_hw1.2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, arg2.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c18_i32 : BitVec 32 := 18#32
  let v0 : BitVec 32 := Scalar.addi c18_i32 arg1
  let c0_i32 : BitVec 32 := 0#32
  let c0_i32_0 : BitVec 32 := 0#32
  ![arg0.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== KernelIdeal.lean ====
variable {F : FTy → Type} [FloatOps F] [Named F]
def κ : String → Option EReal := fun
  | "dead" => some ⊥
  | "log2e" => some (((Real.log 2)⁻¹ : ℝ) : EReal)
  | "mask" => some ⊥
  | _ => none
-- ==== ReferenceIdeal.lean ====
abbrev S2x4096x3072 : Shape := ⟨3, ![2, 4096, 3072]⟩
abbrev S6x513 : Shape := ⟨2, ![6, 513]⟩
abbrev S4096 : Shape := ⟨1, ![4096]⟩
abbrev S2x4096x768 : Shape := ⟨3, ![2, 4096, 768]⟩
abbrev S2x4096x6x128 : Shape := ⟨4, ![2, 4096, 6, 128]⟩
abbrev S2x6x4096x4096 : Shape := ⟨4, ![2, 6, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S2x6x128x4096 : Shape := ⟨4, ![2, 6, 128, 4096]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S576 : Shape := ⟨1, ![576]⟩
abbrev S1x576 : Shape := ⟨2, ![1, 576]⟩
abbrev S64x576 : Shape := ⟨2, ![64, 576]⟩
abbrev S2x64x64x6x128 : Shape := ⟨5, ![2, 64, 64, 6, 128]⟩
abbrev S2x72x64x6x128 : Shape := ⟨5, ![2, 72, 64, 6, 128]⟩
abbrev S2x64x576x6x128 : Shape := ⟨5, ![2, 64, 576, 6, 128]⟩
abbrev S2x64x6x64x576 : Shape := ⟨5, ![2, 64, 6, 64, 576]⟩
abbrev S64x64x1 : Shape := ⟨3, ![64, 64, 1]⟩
abbrev S64x1x576 : Shape := ⟨3, ![64, 1, 576]⟩
abbrev S64x64x576 : Shape := ⟨3, ![64, 64, 576]⟩
abbrev S64x64x576x1 : Shape := ⟨4, ![64, 64, 576, 1]⟩
abbrev S6x64x64x576 : Shape := ⟨4, ![6, 64, 64, 576]⟩
abbrev S64x6x64x576 : Shape := ⟨4, ![64, 6, 64, 576]⟩
abbrev S1x64x1x1x576 : Shape := ⟨5, ![1, 64, 1, 1, 576]⟩
abbrev S1x64x6x64x576 : Shape := ⟨5, ![1, 64, 6, 64, 576]⟩
abbrev S2x64x6x64 : Shape := ⟨4, ![2, 64, 6, 64]⟩
abbrev S2x64x6x64x1 : Shape := ⟨5, ![2, 64, 6, 64, 1]⟩
abbrev S2x64x6x128x64 : Shape := ⟨5, ![2, 64, 6, 128, 64]⟩

abbrev nBuf : Space → Nat
  | .hbm => 192
  | .vmem => 0
  | .smem => 0
  | _ => 0

abbrev hbmTy0_0 (i : Nat) : BufTy := match i % 128 with
  | 0 => ⟨S2x4096x3072, .bf16⟩
  | 1 => ⟨S2x4096x3072, .bf16⟩
  | 2 => ⟨S6x513, .f32⟩
  | 3 => ⟨S4096, .i32⟩
  | 4 => ⟨S2x4096x768, .bf16⟩
  | 5 => ⟨S2x4096x6x128, .bf16⟩
  | 6 => ⟨S2x4096x768, .bf16⟩
  | 7 => ⟨S2x4096x6x128, .bf16⟩
  | 8 => ⟨S2x4096x768, .bf16⟩
  | 9 => ⟨S2x4096x6x128, .bf16⟩
  | 10 => ⟨S2x6x4096x4096, .f32⟩
  | 11 => ⟨S_, .f32⟩
  | 12 => ⟨S_, .f32⟩
  | 13 => ⟨S_, .f32⟩
  | 14 => ⟨S2x6x4096x4096, .f32⟩
  | 15 => ⟨S2x6x4096x4096, .f32⟩
  | 16 => ⟨S1x4096, .i32⟩
  | 17 => ⟨S4096x1, .i32⟩
  | 18 => ⟨S4096x4096, .i32⟩
  | 19 => ⟨S4096x4096, .i32⟩
  | 20 => ⟨S4096x4096, .i1⟩
  | 21 => ⟨S2x6x4096x4096, .f32⟩
  | 22 => ⟨S2x6x4096x4096, .f32⟩
  | 23 => ⟨S_, .f32⟩
  | 24 => ⟨S2x6x4096x4096, .f32⟩
  | 25 => ⟨S2x6x4096x4096, .f32⟩
  | 26 => ⟨S2x6x4096x4096, .f32⟩
  | 27 => ⟨S2x6x4096x4096, .f32⟩
  | 28 => ⟨S2x6x4096x4096, .i1⟩
  | 29 => ⟨S2x6x4096x4096, .f32⟩
  | 30 => ⟨S2x6x4096x4096, .f32⟩
  | 31 => ⟨S2x6x4096x4096, .f32⟩
  | 32 => ⟨S2x6x4096x4096, .f32⟩
  | 33 => ⟨S2x6x4096x4096, .f32⟩
  | 34 => ⟨S2x6x4096x4096, .f32⟩
  | 35 => ⟨S2x6x4096x4096, .f32⟩
  | 36 => ⟨S2x6x4096x4096, .f32⟩
  | 37 => ⟨S2x6x4096x4096, .f32⟩
  | 38 => ⟨S_, .f32⟩
  | 39 => ⟨S_, .f32⟩
  | 40 => ⟨S2x6x4096x4096, .i1⟩
  | 41 => ⟨S2x6x4096x4096, .f32⟩
  | 42 => ⟨S2x6x4096x4096, .f32⟩
  | 43 => ⟨S_, .f32⟩
  | 44 => ⟨S_, .f32⟩
  | 45 => ⟨S2x6x4096x4096, .f32⟩
  | 46 => ⟨S2x6x4096x4096, .f32⟩
  | 47 => ⟨S2x6x4096x4096, .f32⟩
  | 48 => ⟨S_, .f32⟩
  | 49 => ⟨S2x6x4096x4096, .f32⟩
  | 50 => ⟨S2x6x4096x4096, .f32⟩
  | 51 => ⟨S2x6x4096x4096, .f32⟩
  | 52 => ⟨S2x6x4096x4096, .f32⟩
  | 53 => ⟨S2x6x4096x4096, .i1⟩
  | 54 => ⟨S2x6x4096x4096, .f32⟩
  | 55 => ⟨S2x6x4096x4096, .f32⟩
  | 56 => ⟨S2x6x4096x4096, .f32⟩
  | 57 => ⟨S2x6x4096x4096, .f32⟩
  | 58 => ⟨S2x6x4096x4096, .f32⟩
  | 59 => ⟨S2x6x4096x4096, .f32⟩
  | 60 => ⟨S2x6x4096x4096, .f32⟩
  | 61 => ⟨S2x6x4096x4096, .f32⟩
  | 62 => ⟨S2x6x4096x4096, .f32⟩
  | 63 => ⟨S2x6x4096x4096, .f32⟩
  | 64 => ⟨S2x6x4096x4096, .f32⟩
  | 65 => ⟨S_, .f32⟩
  | 66 => ⟨S_, .f32⟩
  | 67 => ⟨S2x6x4096x4096, .i1⟩
  | 68 => ⟨S2x6x4096x4096, .f32⟩
  | 69 => ⟨S2x6x4096x4096, .f32⟩
  | 70 => ⟨S2x6x4096x4096, .bf16⟩
  | 71 => ⟨S2x6x128x4096, .f32⟩
  | 72 => ⟨S2x4096x6x128, .f32⟩
  | 73 => ⟨S2x4096x768, .bf16⟩
  | 74 => ⟨S2x4096x6x128, .bf16⟩
  | 75 => ⟨S2x4096x768, .bf16⟩
  | 76 => ⟨S2x4096x6x128, .bf16⟩
  | 77 => ⟨S2x4096x768, .bf16⟩
  | 78 => ⟨S2x4096x6x128, .bf16⟩
  | 79 => ⟨S64, .i32⟩
  | 80 => ⟨S64x1, .i32⟩
  | 81 => ⟨S_, .i32⟩
  | 82 => ⟨S64x1, .i32⟩
  | 83 => ⟨S64x1, .i32⟩
  | 84 => ⟨S64, .i32⟩
  | 85 => ⟨S1x64, .i32⟩
  | 86 => ⟨S64x64, .i32⟩
  | 87 => ⟨S64x64, .i32⟩
  | 88 => ⟨S64x64, .i32⟩
  | 89 => ⟨S_, .i32⟩
  | 90 => ⟨S64x1, .i32⟩
  | 91 => ⟨S64x1, .i32⟩
  | 92 => ⟨S576, .i32⟩
  | 93 => ⟨S1x576, .i32⟩
  | 94 => ⟨S64x576, .i32⟩
  | 95 => ⟨S64x576, .i32⟩
  | 96 => ⟨S64x576, .i32⟩
  | 97 => ⟨S2x64x64x6x128, .bf16⟩
  | 98 => ⟨S2x64x64x6x128, .bf16⟩
  | 99 => ⟨S_, .i32⟩
  | 100 => ⟨S_, .bf16⟩
  | 101 => ⟨S2x72x64x6x128, .bf16⟩
  | 102 => ⟨S2x64x64x6x128, .bf16⟩
  | 103 => ⟨S2x64x64x6x128, .bf16⟩
  | 104 => ⟨S2x64x64x6x128, .bf16⟩
  | 105 => ⟨S2x64x64x6x128, .bf16⟩
  | 106 => ⟨S2x64x64x6x128, .bf16⟩
  | 107 => ⟨S2x64x64x6x128, .bf16⟩
  | 108 => ⟨S2x64x64x6x128, .bf16⟩
  | 109 => ⟨S2x64x64x6x128, .bf16⟩
  | 110 => ⟨S2x64x64x6x128, .bf16⟩
  | 111 => ⟨S2x64x576x6x128, .bf16⟩
  | 112 => ⟨S2x64x64x6x128, .bf16⟩
  | 113 => ⟨S_, .i32⟩
  | 114 => ⟨S_, .bf16⟩
  | 115 => ⟨S2x72x64x6x128, .bf16⟩
  | 116 => ⟨S2x64x64x6x128, .bf16⟩
  | 117 => ⟨S2x64x64x6x128, .bf16⟩
  | 118 => ⟨S2x64x64x6x128, .bf16⟩
  | 119 => ⟨S2x64x64x6x128, .bf16⟩
  | 120 => ⟨S2x64x64x6x128, .bf16⟩
  | 121 => ⟨S2x64x64x6x128, .bf16⟩
  | 122 => ⟨S2x64x64x6x128, .bf16⟩
  | 123 => ⟨S2x64x64x6x128, .bf16⟩
  | 124 => ⟨S2x64x64x6x128, .bf16⟩
  | 125 => ⟨S2x64x576x6x128, .bf16⟩
  | 126 => ⟨S2x64x6x64x576, .f32⟩
  | 127 => ⟨S_, .f32⟩
  | _ => ⟨S2x4096x3072, .bf16⟩

abbrev hbmTy0_1 (i : Nat) : BufTy := match i % 128 with
  | 0 => ⟨S_, .f32⟩
  | 1 => ⟨S_, .f32⟩
  | 2 => ⟨S2x64x6x64x576, .f32⟩
  | 3 => ⟨S2x64x6x64x576, .f32⟩
  | 4 => ⟨S64x64x1, .i32⟩
  | 5 => ⟨S64x1x576, .i32⟩
  | 6 => ⟨S64x64x576, .i32⟩
  | 7 => ⟨S64x64x576, .i32⟩
  | 8 => ⟨S64x64x576, .i32⟩
  | 9 => ⟨S_, .i32⟩
  | 10 => ⟨S_, .i32⟩
  | 11 => ⟨S_, .i32⟩
  | 12 => ⟨S64x64x576, .i32⟩
  | 13 => ⟨S64x64x576, .i32⟩
  | 14 => ⟨S_, .i32⟩
  | 15 => ⟨S64x64x576, .i32⟩
  | 16 => ⟨S64x64x576, .i32⟩
  | 17 => ⟨S_, .i32⟩
  | 18 => ⟨S64x64x576, .i32⟩
  | 19 => ⟨S64x64x576, .i32⟩
  | 20 => ⟨S_, .i32⟩
  | 21 => ⟨S64x64x576, .i32⟩
  | 22 => ⟨S64x64x576, .i1⟩
  | 23 => ⟨S_, .i32⟩
  | 24 => ⟨S64x64x576, .i32⟩
  | 25 => ⟨S64x64x576, .i32⟩
  | 26 => ⟨S64x64x576, .i32⟩
  | 27 => ⟨S64x64x576x1, .i32⟩
  | 28 => ⟨S6x64x64x576, .f32⟩
  | 29 => ⟨S64x6x64x576, .f32⟩
  | 30 => ⟨S_, .i32⟩
  | 31 => ⟨S64x576, .i32⟩
  | 32 => ⟨S64x576, .i1⟩
  | 33 => ⟨S1x64x1x1x576, .i1⟩
  | 34 => ⟨S1x64x6x64x576, .f32⟩
  | 35 => ⟨S2x64x6x64x576, .f32⟩
  | 36 => ⟨S2x64x6x64x576, .f32⟩
  | 37 => ⟨S_, .f32⟩
  | 38 => ⟨S_, .f32⟩
  | 39 => ⟨S2x64x6x64x576, .i1⟩
  | 40 => ⟨S2x64x6x64x576, .f32⟩
  | 41 => ⟨S2x64x6x64x576, .f32⟩
  | 42 => ⟨S_, .f32⟩
  | 43 => ⟨S2x64x6x64, .f32⟩
  | 44 => ⟨S_, .f32⟩
  | 45 => ⟨S2x64x6x64, .f32⟩
  | 46 => ⟨S2x64x6x64, .f32⟩
  | 47 => ⟨S2x64x6x64x1, .f32⟩
  | 48 => ⟨S2x64x6x64x576, .f32⟩
  | 49 => ⟨S2x64x6x64x576, .f32⟩
  | 50 => ⟨S2x64x6x64x576, .f32⟩
  | 51 => ⟨S_, .f32⟩
  | 52 => ⟨S2x64x6x64, .f32⟩
  | 53 => ⟨S2x64x6x64x1, .f32⟩
  | 54 => ⟨S2x64x6x64x576, .f32⟩
  | 55 => ⟨S2x64x6x64x576, .f32⟩
  | 56 => ⟨S2x64x6x64x576, .bf16⟩
  | 57 => ⟨S2x64x6x128x64, .f32⟩
  | 58 => ⟨S2x64x64x6x128, .f32⟩
  | 59 => ⟨S2x4096x6x128, .f32⟩
  | 60 => ⟨S2x4096x768, .f32⟩
  | 61 => ⟨S2x4096x768, .bf16⟩
  | 62 => ⟨S2x4096x768, .f32⟩
  | 63 => ⟨S2x4096x768, .bf16⟩
  | _ => ⟨S2x4096x3072, .bf16⟩

abbrev hbmTy (i : Nat) : BufTy := match i / 128 with
  | 0 => hbmTy0_0 i
  | 1 => hbmTy0_1 i
  | _ => ⟨S2x4096x3072, .bf16⟩

abbrev bufTy : (tb : Table) → Fin (tcTables nBuf tb) → BufTy
  | .hbm, ⟨i, _⟩ => hbmTy i
  | _, _ => ⟨S2x4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v18 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v19 : Ref sig .tc := ⟨.hbm, 42, rfl⟩
abbrev main_call2_cst : Ref sig .tc := ⟨.hbm, 43, rfl⟩
abbrev main_call2_v0 : Ref sig .tc := ⟨.hbm, 44, rfl⟩
abbrev main_v20 : Ref sig .tc := ⟨.hbm, 45, rfl⟩
abbrev main_v21 : Ref sig .tc := ⟨.hbm, 46, rfl⟩
abbrev main_call3_v0 : Ref sig .tc := ⟨.hbm, 47, rfl⟩
abbrev main_call3_call0_cst : Ref sig .tc := ⟨.hbm, 48, rfl⟩
abbrev main_call3_call0_v0 : Ref sig .tc := ⟨.hbm, 49, rfl⟩
abbrev main_call3_call0_v1 : Ref sig .tc := ⟨.hbm, 50, rfl⟩
abbrev main_call3_call0_v2 : Ref sig .tc := ⟨.hbm, 51, rfl⟩
abbrev main_call3_call0_v3 : Ref sig .tc := ⟨.hbm, 52, rfl⟩
abbrev main_call3_call0_v4 : Ref sig .tc := ⟨.hbm, 53, rfl⟩
abbrev main_call3_call0_v5 : Ref sig .tc := ⟨.hbm, 54, rfl⟩
abbrev main_call3_call0_v6 : Ref sig .tc := ⟨.hbm, 55, rfl⟩
abbrev main_call3_call0_v7 : Ref sig .tc := ⟨.hbm, 56, rfl⟩
abbrev main_call3_call0_v8 : Ref sig .tc := ⟨.hbm, 57, rfl⟩
abbrev main_call3_call0_v9 : Ref sig .tc := ⟨.hbm, 58, rfl⟩
abbrev main_call3_call0_v10 : Ref sig .tc := ⟨.hbm, 59, rfl⟩
abbrev main_call3_call0_v11 : Ref sig .tc := ⟨.hbm, 60, rfl⟩
abbrev main_call3_v1 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_cst_1 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_c : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_c_2 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_c_3 : Ref sig .tc := ⟨.hbm, 99, rfl⟩
abbrev main_call5_v0 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_c_4 : Ref sig .tc := ⟨.hbm, 113, rfl⟩
abbrev main_call6_v0 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_cst_5 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_c_6 : Ref sig .tc := ⟨.hbm, 137, rfl⟩
abbrev main_c_7 : Ref sig .tc := ⟨.hbm, 138, rfl⟩
abbrev main_call7_v0 : Ref sig .tc := ⟨.hbm, 139, rfl⟩
abbrev main_call7_v1 : Ref sig .tc := ⟨.hbm, 140, rfl⟩
abbrev main_call7_v2 : Ref sig .tc := ⟨.hbm, 141, rfl⟩
abbrev main_call7_v3 : Ref sig .tc := ⟨.hbm, 142, rfl⟩
abbrev main_call7_v4 : Ref sig .tc := ⟨.hbm, 143, rfl⟩
abbrev main_v86 : Ref sig .tc := ⟨.hbm, 144, rfl⟩
abbrev main_c_8 : Ref sig .tc := ⟨.hbm, 145, rfl⟩
abbrev main_v87 : Ref sig .tc := ⟨.hbm, 146, rfl⟩
abbrev main_v88 : Ref sig .tc := ⟨.hbm, 147, rfl⟩
abbrev main_c_9 : Ref sig .tc := ⟨.hbm, 148, rfl⟩
abbrev main_v89 : Ref sig .tc := ⟨.hbm, 149, rfl⟩
abbrev main_v90 : Ref sig .tc := ⟨.hbm, 150, rfl⟩
abbrev main_c_10 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_c_11 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_cst_12 : Ref sig .tc := ⟨.hbm, 165, rfl⟩
abbrev main_call8_v0 : Ref sig .tc := ⟨.hbm, 166, rfl⟩
abbrev main_call8_v1 : Ref sig .tc := ⟨.hbm, 167, rfl⟩
abbrev main_call8_v2 : Ref sig .tc := ⟨.hbm, 168, rfl⟩
abbrev main_v103 : Ref sig .tc := ⟨.hbm, 169, rfl⟩
abbrev main_cst_13 : Ref sig .tc := ⟨.hbm, 170, rfl⟩
abbrev main_v104 : Ref sig .tc := ⟨.hbm, 171, rfl⟩
abbrev main_cst_14 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_cst_15 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩

abbrev nD : Nat := 1
abbrev τ : Topo := Topo.v7x

variable {F : FTy → Type} [FloatOps F]
-- ==== MgProj.lean ====
abbrev S8192x2048 : Shape := ⟨2, ![8192, 2048]⟩
abbrev S128x2048 : Shape := ⟨2, ![128, 2048]⟩
abbrev S2048x13312 : Shape := ⟨2, ![2048, 13312]⟩
abbrev S7168 : Shape := ⟨1, ![7168]⟩
abbrev S_ : Shape := ⟨0, ![]⟩
abbrev S1x7168 : Shape := ⟨2, ![1, 7168]⟩
abbrev S8192x7168 : Shape := ⟨2, ![8192, 7168]⟩
abbrev S128x7168 : Shape := ⟨2, ![128, 7168]⟩
abbrev S2048x2048 : Shape := ⟨2, ![2048, 2048]⟩
abbrev S2048x1024 : Shape := ⟨2, ![2048, 1024]⟩
abbrev S1x1024 : Shape := ⟨2, ![1, 1024]⟩
abbrev S128x1024 : Shape := ⟨2, ![128, 1024]⟩

abbrev nBuf : Space → Nat
  | .hbm => 16
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S128x2048, .bf16⟩
  | .hbm, ⟨2, _⟩ => ⟨S2048x13312, .f32⟩
  | .hbm, ⟨3, _⟩ => ⟨S7168, .i32⟩
  | .hbm, ⟨4, _⟩ => ⟨S_, .i32⟩
  | .hbm, ⟨5, _⟩ => ⟨S7168, .i32⟩
  | .hbm, ⟨6, _⟩ => ⟨S7168, .i1⟩
  | .hbm, ⟨7, _⟩ => ⟨S_, .f32⟩
  | .hbm, ⟨8, _⟩ => ⟨S_, .f32⟩
  | .hbm, ⟨9, _⟩ => ⟨S7168, .f32⟩
  | .hbm, ⟨10, _⟩ => ⟨S7168, .f32⟩
  | .hbm, ⟨11, _⟩ => ⟨S7168, .f32⟩
  | .hbm, ⟨12, _⟩ => ⟨S7168, .f32⟩
  | .hbm, ⟨13, _⟩ => ⟨S1x7168, .f32⟩
  | .hbm, ⟨14, _⟩ => ⟨S8192x7168, .bf16⟩
  | .hbm, ⟨15, _⟩ => ⟨S128x7168, .bf16⟩
  | .local _ .vmem, ⟨0, _⟩ => ⟨S2048x2048, .bf16⟩
  | .local _ .vmem, ⟨1, _⟩ => ⟨S2048x2048, .bf16⟩
  | .local _ .vmem, ⟨2, _⟩ => ⟨S128x2048, .bf16⟩
  | .local _ .vmem, ⟨3, _⟩ => ⟨S2048x1024, .f32⟩
  | .local _ .vmem, ⟨4, _⟩ => ⟨S2048x1024, .f32⟩
  | .local _ .vmem, ⟨5, _⟩ => ⟨S1x1024, .f32⟩
  | .local _ .vmem, ⟨6, _⟩ => ⟨S1x1024, .f32⟩
  | .local _ .vmem, ⟨7, _⟩ => ⟨S2048x1024, .bf16⟩
  | .local _ .vmem, ⟨8, _⟩ => ⟨S2048x1024, .bf16⟩
  | .local _ .vmem, ⟨9, _⟩ => ⟨S128x1024, .bf16⟩
  | .local _ .vmem, ⟨10, _⟩ => ⟨S128x1024, .bf16⟩
  | .local _ .vmem, ⟨11, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![7, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi arg0 c6_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MgProjRefIdeal.lean ====
abbrev S8192x2048 : Shape := ⟨2, ![8192, 2048]⟩
abbrev S128x2048 : Shape := ⟨2, ![128, 2048]⟩
abbrev S2048x13312 : Shape := ⟨2, ![2048, 13312]⟩
abbrev S7168 : Shape := ⟨1, ![7168]⟩
abbrev S_ : Shape := ⟨0, ![]⟩
abbrev S8192x13312 : Shape := ⟨2, ![8192, 13312]⟩
abbrev S8192x7168 : Shape := ⟨2, ![8192, 7168]⟩
abbrev S1x7168 : Shape := ⟨2, ![1, 7168]⟩
abbrev S128x13312 : Shape := ⟨2, ![128, 13312]⟩
abbrev S128x7168 : Shape := ⟨2, ![128, 7168]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S128x2048, .bf16⟩
  | .hbm, ⟨2, _⟩ => ⟨S2048x13312, .f32⟩
  | .hbm, ⟨3, _⟩ => ⟨S7168, .i32⟩
  | .hbm, ⟨4, _⟩ => ⟨S_, .i32⟩
  | .hbm, ⟨5, _⟩ => ⟨S7168, .i32⟩
  | .hbm, ⟨6, _⟩ => ⟨S7168, .i1⟩
  | .hbm, ⟨7, _⟩ => ⟨S_, .f32⟩
  | .hbm, ⟨8, _⟩ => ⟨S_, .f32⟩
  | .hbm, ⟨9, _⟩ => ⟨S7168, .f32⟩
  | .hbm, ⟨10, _⟩ => ⟨S7168, .f32⟩
  | .hbm, ⟨11, _⟩ => ⟨S7168, .f32⟩
  | .hbm, ⟨12, _⟩ => ⟨S7168, .f32⟩
  | .hbm, ⟨13, _⟩ => ⟨S8192x2048, .f32⟩
  | .hbm, ⟨14, _⟩ => ⟨S8192x13312, .f32⟩
  | .hbm, ⟨15, _⟩ => ⟨S8192x7168, .f32⟩
  | .hbm, ⟨16, _⟩ => ⟨S1x7168, .f32⟩
  | .hbm, ⟨17, _⟩ => ⟨S8192x7168, .f32⟩
  | .hbm, ⟨18, _⟩ => ⟨S8192x7168, .f32⟩
  | .hbm, ⟨19, _⟩ => ⟨S8192x7168, .bf16⟩
  | .hbm, ⟨20, _⟩ => ⟨S128x2048, .f32⟩
  | .hbm, ⟨21, _⟩ => ⟨S128x13312, .f32⟩
  | .hbm, ⟨22, _⟩ => ⟨S128x7168, .f32⟩
  | .hbm, ⟨23, _⟩ => ⟨S1x7168, .f32⟩
  | .hbm, ⟨24, _⟩ => ⟨S128x7168, .f32⟩
  | .hbm, ⟨25, _⟩ => ⟨S128x7168, .f32⟩
  | .hbm, ⟨26, _⟩ => ⟨S128x7168, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== QgProj.lean ====
abbrev S8192x2048 : Shape := ⟨2, ![8192, 2048]⟩
abbrev S128x2048 : Shape := ⟨2, ![128, 2048]⟩
abbrev S2048x13312 : Shape := ⟨2, ![2048, 13312]⟩
abbrev S3072 : Shape := ⟨1, ![3072]⟩
abbrev S_ : Shape := ⟨0, ![]⟩
abbrev S1x3072 : Shape := ⟨2, ![1, 3072]⟩
abbrev S8192x3072 : Shape := ⟨2, ![8192, 3072]⟩
abbrev S128x3072 : Shape := ⟨2, ![128, 3072]⟩
abbrev S2048x2048 : Shape := ⟨2, ![2048, 2048]⟩
abbrev S2048x768 : Shape := ⟨2, ![2048, 768]⟩
abbrev S1x768 : Shape := ⟨2, ![1, 768]⟩
abbrev S128x768 : Shape := ⟨2, ![128, 768]⟩

abbrev nBuf : Space → Nat
  | .hbm => 56
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S128x2048, .bf16⟩
  | .hbm, ⟨2, _⟩ => ⟨S2048x13312, .f32⟩
  | .hbm, ⟨3, _⟩ => ⟨S3072, .i32⟩
  | .hbm, ⟨4, _⟩ => ⟨S_, .i32⟩
  | .hbm, ⟨5, _⟩ => ⟨S_, .i32⟩
  | .hbm, ⟨6, _⟩ => ⟨S3072, .i32⟩
  | .hbm, ⟨7, _⟩ => ⟨S3072, .i32⟩
  | .hbm, ⟨8, _⟩ => ⟨S3072, .i32⟩
  | .hbm, ⟨9, _⟩ => ⟨S_, .i32⟩
  | .hbm, ⟨10, _⟩ => ⟨S3072, .i32⟩
  | .hbm, ⟨11, _⟩ => ⟨S3072, .i1⟩
  | .hbm, ⟨12, _⟩ => ⟨S3072, .i32⟩
  | .hbm, ⟨13, _⟩ => ⟨S3072, .i32⟩
  | .hbm, ⟨14, _⟩ => ⟨S_, .i32⟩
  | .hbm, ⟨15, _⟩ => ⟨S3072, .i32⟩
  | .hbm, ⟨16, _⟩ => ⟨S3072, .i1⟩
  | .hbm, ⟨17, _⟩ => ⟨S3072, .i1⟩
  | .hbm, ⟨18, _⟩ => ⟨S_, .i32⟩
  | .hbm, ⟨19, _⟩ => ⟨S3072, .i32⟩
  | .hbm, ⟨20, _⟩ => ⟨S3072, .i32⟩
  | .hbm, ⟨21, _⟩ => ⟨S3072, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S3072, .i32⟩
  | .hbm, ⟨29, _⟩ => ⟨S3072, .i32⟩
  | .hbm, ⟨30, _⟩ => ⟨S_, .i32⟩
  | .hbm, ⟨31, _⟩ => ⟨S3072, .i32⟩
  | .hbm, ⟨32, _⟩ => ⟨S3072, .i1⟩
  | .hbm, ⟨33, _⟩ => ⟨S_, .i32⟩
  | .hbm, ⟨34, _⟩ => ⟨S3072, .i32⟩
  | .hbm, ⟨35, _⟩ => ⟨S3072, .i1⟩
  | .hbm, ⟨36, _⟩ => ⟨S_, .i32⟩
  | .hbm, ⟨37, _⟩ => ⟨S_, .i1⟩
  | .hbm, ⟨38, _⟩ => ⟨S3072, .i1⟩
  | .hbm, ⟨39, _⟩ => ⟨S3072, .i1⟩
  | .hbm, ⟨40, _⟩ => ⟨S3072, .i1⟩
  | .hbm, ⟨41, _⟩ => ⟨S3072, .i32⟩
  | .hbm, ⟨42, _⟩ => ⟨S3072, .i32⟩
  | .hbm, ⟨43, _⟩ => ⟨S3072, .i32⟩
  | .hbm, ⟨44, _⟩ => ⟨S_, .i32⟩
  | .hbm, ⟨45, _⟩ => ⟨S3072, .i32⟩
  | .hbm, ⟨46, _⟩ => ⟨S3072, .i1⟩
  | .hbm, ⟨47, _⟩ => ⟨S_, .f32⟩
  | .hbm, ⟨48, _⟩ => ⟨S_, .f32⟩
  | .hbm, ⟨49, _⟩ => ⟨S3072, .f32⟩
  | .hbm, ⟨50, _⟩ => ⟨S3072, .f32⟩
  | .hbm, ⟨51, _⟩ => ⟨S3072, .f32⟩
  | .hbm, ⟨52, _⟩ => ⟨S3072, .f32⟩
  | .hbm, ⟨53, _⟩ => ⟨S1x3072, .f32⟩
  | .hbm, ⟨54, _⟩ => ⟨S8192x3072, .bf16⟩
  | .hbm, ⟨55, _⟩ => ⟨S128x3072, .bf16⟩
  | .local _ .vmem, ⟨0, _⟩ => ⟨S2048x2048, .bf16⟩
  | .local _ .vmem, ⟨1, _⟩ => ⟨S2048x2048, .bf16⟩
  | .local _ .vmem, ⟨2, _⟩ => ⟨S128x2048, .bf16⟩
  | .local _ .vmem, ⟨3, _⟩ => ⟨S2048x768, .f32⟩
  | .local _ .vmem, ⟨4, _⟩ => ⟨S2048x768, .f32⟩
  | .local _ .vmem, ⟨5, _⟩ => ⟨S1x768, .f32⟩
  | .local _ .vmem, ⟨6, _⟩ => ⟨S1x768, .f32⟩
  | .local _ .vmem, ⟨7, _⟩ => ⟨S2048x768, .bf16⟩
  | .local _ .vmem, ⟨8, _⟩ => ⟨S2048x768, .bf16⟩
  | .local _ .vmem, ⟨9, _⟩ => ⟨S128x768, .bf16⟩
  | .local _ .vmem, ⟨10, _⟩ => ⟨S128x768, .bf16⟩
  | .local _ .vmem, ⟨11, _⟩ => ⟨S2048x768, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_c_0 : Ref sig .tc := ⟨.hbm, 22, rfl⟩
abbrev main_call1_v0 : Ref sig .tc := ⟨.hbm, 23, rfl⟩
abbrev main_call1_c : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_c_1 : Ref sig .tc := ⟨.hbm, 30, rfl⟩
abbrev main_call1_v5 : Ref sig .tc := ⟨.hbm, 31, rfl⟩
abbrev main_call1_v6 : Ref sig .tc := ⟨.hbm, 32, rfl⟩
abbrev main_call1_c_2 : Ref sig .tc := ⟨.hbm, 33, rfl⟩
abbrev main_call1_v7 : Ref sig .tc := ⟨.hbm, 34, rfl⟩
abbrev main_call1_v8 : Ref sig .tc := ⟨.hbm, 35, rfl⟩
abbrev main_call1_c_3 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_v12 : Ref sig .tc := ⟨.hbm, 40, rfl⟩
abbrev main_call1_v13 : Ref sig .tc := ⟨.hbm, 41, rfl⟩
abbrev main_call1_v14 : Ref sig .tc := ⟨.hbm, 42, rfl⟩
abbrev main_v2 : Ref sig .tc := ⟨.hbm, 43, rfl⟩
abbrev main_c_1 : Ref sig .tc := ⟨.hbm, 44, rfl⟩
abbrev main_v3 : Ref sig .tc := ⟨.hbm, 45, rfl⟩
abbrev main_v4 : Ref sig .tc := ⟨.hbm, 46, rfl⟩
abbrev main_cst : Ref sig .tc := ⟨.hbm, 47, rfl⟩
abbrev main_cst_2 : Ref sig .tc := ⟨.hbm, 48, rfl⟩
abbrev main_call2_v0 : Ref sig .tc := ⟨.hbm, 49, rfl⟩
abbrev main_call2_v1 : Ref sig .tc := ⟨.hbm, 50, rfl⟩
abbrev main_v5 : Ref sig .tc := ⟨.hbm, 51, rfl⟩
abbrev main_v6 : Ref sig .tc := ⟨.hbm, 52, rfl⟩
abbrev main_v7 : Ref sig .tc := ⟨.hbm, 53, rfl⟩
abbrev main_v8_0 : Ref sig .tc := ⟨.hbm, 54, rfl⟩
abbrev main_v8_1 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c2_i32_5 : BitVec 32 := 2#32
  let v18 : BitVec 32 := Scalar.muli c2_i32_5 v17
  let v19 : BitVec 32 := Scalar.addi arg0 v18
  let c0_i32_6 : BitVec 32 := 0#32
  let c0_i32_7 : BitVec 32 := 0#32
  ![c0_i32_6.toNat, v19.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== QgProjRefIdeal.lean ====
abbrev S8192x2048 : Shape := ⟨2, ![8192, 2048]⟩
abbrev S128x2048 : Shape := ⟨2, ![128, 2048]⟩
abbrev S2048x13312 : Shape := ⟨2, ![2048, 13312]⟩
abbrev S8192x13312 : Shape := ⟨2, ![8192, 13312]⟩
abbrev S8192x768 : Shape := ⟨2, ![8192, 768]⟩
abbrev S_ : Shape := ⟨0, ![]⟩
abbrev S8192x3072 : Shape := ⟨2, ![8192, 3072]⟩
abbrev S128x13312 : Shape := ⟨2, ![128, 13312]⟩
abbrev S128x768 : Shape := ⟨2, ![128, 768]⟩
abbrev S128x3072 : Shape := ⟨2, ![128, 3072]⟩

abbrev nBuf : Space → Nat
  | .hbm => 49
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S128x2048, .bf16⟩
  | .hbm, ⟨2, _⟩ => ⟨S2048x13312, .f32⟩
  | .hbm, ⟨3, _⟩ => ⟨S8192x2048, .f32⟩
  | .hbm, ⟨4, _⟩ => ⟨S8192x13312, .f32⟩
  | .hbm, ⟨5, _⟩ => ⟨S8192x768, .f32⟩
  | .hbm, ⟨6, _⟩ => ⟨S_, .f32⟩
  | .hbm, ⟨7, _⟩ => ⟨S8192x768, .f32⟩
  | .hbm, ⟨8, _⟩ => ⟨S8192x768, .f32⟩
  | .hbm, ⟨9, _⟩ => ⟨S8192x768, .bf16⟩
  | .hbm, ⟨10, _⟩ => ⟨S8192x768, .f32⟩
  | .hbm, ⟨11, _⟩ => ⟨S_, .f32⟩
  | .hbm, ⟨12, _⟩ => ⟨S8192x768, .f32⟩
  | .hbm, ⟨13, _⟩ => ⟨S8192x768, .f32⟩
  | .hbm, ⟨14, _⟩ => ⟨S8192x768, .bf16⟩
  | .hbm, ⟨15, _⟩ => ⟨S8192x768, .f32⟩
  | .hbm, ⟨16, _⟩ => ⟨S_, .f32⟩
  | .hbm, ⟨17, _⟩ => ⟨S8192x768, .f32⟩
  | .hbm, ⟨18, _⟩ => ⟨S8192x768, .f32⟩
  | .hbm, ⟨19, _⟩ => ⟨S8192x768, .bf16⟩
  | .hbm, ⟨20, _⟩ => ⟨S8192x768, .f32⟩
  | .hbm, ⟨21, _⟩ => ⟨S_, .f32⟩
  | .hbm, ⟨22, _⟩ => ⟨S8192x768, .f32⟩
  | .hbm, ⟨23, _⟩ => ⟨S8192x768, .f32⟩
  | .hbm, ⟨24, _⟩ => ⟨S8192x768, .bf16⟩
  | .hbm, ⟨25, _⟩ => ⟨S8192x3072, .bf16⟩
  | .hbm, ⟨26, _⟩ => ⟨S128x2048, .f32⟩
  | .hbm, ⟨27, _⟩ => ⟨S128x13312, .f32⟩
  | .hbm, ⟨28, _⟩ => ⟨S128x768, .f32⟩
  | .hbm, ⟨29, _⟩ => ⟨S_, .f32⟩
  | .hbm, ⟨30, _⟩ => ⟨S128x768, .f32⟩
  | .hbm, ⟨31, _⟩ => ⟨S128x768, .f32⟩
  | .hbm, ⟨32, _⟩ => ⟨S128x768, .bf16⟩
  | .hbm, ⟨33, _⟩ => ⟨S128x768, .f32⟩
  | .hbm, ⟨34, _⟩ => ⟨S_, .f32⟩
  | .hbm, ⟨35, _⟩ => ⟨S128x768, .f32⟩
  | .hbm, ⟨36, _⟩ => ⟨S128x768, .f32⟩
  | .hbm, ⟨37, _⟩ => ⟨S128x768, .bf16⟩
  | .hbm, ⟨38, _⟩ => ⟨S128x768, .f32⟩
  | .hbm, ⟨39, _⟩ => ⟨S_, .f32⟩
  | .hbm, ⟨40, _⟩ => ⟨S128x768, .f32⟩
  | .hbm, ⟨41, _⟩ => ⟨S128x768, .f32⟩
  | .hbm, ⟨42, _⟩ => ⟨S128x768, .bf16⟩
  | .hbm, ⟨43, _⟩ => ⟨S128x768, .f32⟩
  | .hbm, ⟨44, _⟩ => ⟨S_, .f32⟩
  | .hbm, ⟨45, _⟩ => ⟨S128x768, .f32⟩
  | .hbm, ⟨46, _⟩ => ⟨S128x768, .f32⟩
  | .hbm, ⟨47, _⟩ => ⟨S128x768, .bf16⟩
  | .hbm, ⟨48, _⟩ => ⟨S128x3072, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_6 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== OutProj.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2048x2048, .f32⟩
  | .hbm, ⟨3, _⟩ => ⟨S2048, .f32⟩
  | .hbm, ⟨4, _⟩ => ⟨S2048x2048, .bf16⟩
  | .hbm, ⟨5, _⟩ => ⟨S1x2048, .f32⟩
  | .hbm, ⟨6, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutProjRefIdeal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2048x2048, .f32⟩
  | .hbm, ⟨3, _⟩ => ⟨S2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== MemKv.lean ====
abbrev S512x2048 : Shape := ⟨2, ![512, 2048]⟩
abbrev S2048 : Shape := ⟨1, ![2048]⟩
abbrev S2048x1024 : Shape := ⟨2, ![2048, 1024]⟩
abbrev S1x2048 : Shape := ⟨2, ![1, 2048]⟩
abbrev S512x512 : Shape := ⟨2, ![512, 512]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩
abbrev S256x1024 : Shape := ⟨2, ![256, 1024]⟩

abbrev nBuf : Space → Nat
  | .hbm => 6
  | .vmem => 8
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S2048x1024, .f32⟩
  | .hbm, ⟨3, _⟩ => ⟨S1x2048, .f32⟩
  | .hbm, ⟨4, _⟩ => ⟨S512x512, .f32⟩
  | .hbm, ⟨5, _⟩ => ⟨S512x512, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x1024, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MemKvRefIdeal.lean ====
abbrev S512x2048 : Shape := ⟨2, ![512, 2048]⟩
abbrev S2048 : Shape := ⟨1, ![2048]⟩
abbrev S2048x1024 : Shape := ⟨2, ![2048, 1024]⟩
abbrev S_ : Shape := ⟨0, ![]⟩
abbrev S512 : Shape := ⟨1, ![512]⟩
abbrev S512x1 : Shape := ⟨2, ![512, 1]⟩
abbrev S1x2048 : Shape := ⟨2, ![1, 2048]⟩
abbrev S512x1024 : Shape := ⟨2, ![512, 1024]⟩
abbrev S512x512 : Shape := ⟨2, ![512, 512]⟩

abbrev nBuf : Space → Nat
  | .hbm => 22
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S2048x1024, .f32⟩
  | .hbm, ⟨3, _⟩ => ⟨S512x2048, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x2048, .f32⟩
  | .hbm, ⟨15, _⟩ => ⟨S512x2048, .f32⟩
  | .hbm, ⟨16, _⟩ => ⟨S1x2048, .f32⟩
  | .hbm, ⟨17, _⟩ => ⟨S512x2048, .f32⟩
  | .hbm, ⟨18, _⟩ => ⟨S512x2048, .f32⟩
  | .hbm, ⟨19, _⟩ => ⟨S512x1024, .f32⟩
  | .hbm, ⟨20, _⟩ => ⟨S512x512, .f32⟩
  | .hbm, ⟨21, _⟩ => ⟨S512x512, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== KvProj.lean ====
abbrev S8192x2048 : Shape := ⟨2, ![8192, 2048]⟩
abbrev S128x2048 : Shape := ⟨2, ![128, 2048]⟩
abbrev S2048 : Shape := ⟨1, ![2048]⟩
abbrev S2048x13312 : Shape := ⟨2, ![2048, 13312]⟩
abbrev S2048x768 : Shape := ⟨2, ![2048, 768]⟩
abbrev S2048x3072 : Shape := ⟨2, ![2048, 3072]⟩
abbrev S1x2048 : Shape := ⟨2, ![1, 2048]⟩
abbrev S8192x3072 : Shape := ⟨2, ![8192, 3072]⟩
abbrev S2x6x4096x128 : Shape := ⟨4, ![2, 6, 4096, 128]⟩
abbrev S2x6x512x128 : Shape := ⟨4, ![2, 6, 512, 128]⟩
abbrev S128x3072 : Shape := ⟨2, ![128, 3072]⟩
abbrev S8x6x16x128 : Shape := ⟨4, ![8, 6, 16, 128]⟩
abbrev S512x2048 : Shape := ⟨2, ![512, 2048]⟩
abbrev S512x3072 : Shape := ⟨2, ![512, 3072]⟩
abbrev S1x6x512x128 : Shape := ⟨4, ![1, 6, 512, 128]⟩
abbrev S128 : Shape := ⟨1, ![128]⟩
abbrev S128x1 : Shape := ⟨2, ![128, 1]⟩
abbrev S128x768 : Shape := ⟨2, ![128, 768]⟩
abbrev S16x128 : Shape := ⟨2, ![16, 128]⟩
abbrev S1x1x16x128 : Shape := ⟨4, ![1, 1, 16, 128]⟩
abbrev S512 : Shape := ⟨1, ![512]⟩
abbrev S512x1 : Shape := ⟨2, ![512, 1]⟩
abbrev S512x768 : Shape := ⟨2, ![512, 768]⟩
abbrev S512x128 : Shape := ⟨2, ![512, 128]⟩
abbrev S1x1x512x128 : Shape := ⟨4, ![1, 1, 512, 128]⟩

abbrev nBuf : Space → Nat
  | .hbm => 23
  | .vmem => 26
  | .smem => 0
  | _ => 0

abbrev bufTy : (tb : Table) → Fin (tcTables nBuf tb) → BufTy
  | .hbm, ⟨0, _⟩ => ⟨S8192x2048, .f32⟩
  | .hbm, ⟨1, _⟩ => ⟨S128x2048, .f32⟩
  | .hbm, ⟨2, _⟩ => ⟨S2048, .f32⟩
  | .hbm, ⟨3, _⟩ => ⟨S2048x13312, .f32⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x768, .f32⟩
  | .hbm, ⟨8, _⟩ => ⟨S2048x3072, .f32⟩
  | .hbm, ⟨9, _⟩ => ⟨S2048x3072, .bf16⟩
  | .hbm, ⟨10, _⟩ => ⟨S1x2048, .f32⟩
  | .hbm, ⟨11, _⟩ => ⟨S8192x3072, .bf16⟩
  | .hbm, ⟨12, _⟩ => ⟨S8192x2048, .bf16⟩
  | .hbm, ⟨13, _⟩ => ⟨S2x6x4096x128, .f32⟩
  | .hbm, ⟨14, _⟩ => ⟨S2x6x4096x128, .f32⟩
  | .hbm, ⟨15, _⟩ => ⟨S2x6x512x128, .f32⟩
  | .hbm, ⟨16, _⟩ => ⟨S2x6x512x128, .f32⟩
  | .hbm, ⟨17, _⟩ => ⟨S128x3072, .bf16⟩
  | .hbm, ⟨18, _⟩ => ⟨S128x2048, .bf16⟩
  | .hbm, ⟨19, _⟩ => ⟨S8x6x16x128, .f32⟩
  | .hbm, ⟨20, _⟩ => ⟨S8x6x16x128, .f32⟩
  | .hbm, ⟨21, _⟩ => ⟨S8x6x16x128, .f32⟩
  | .hbm, ⟨22, _⟩ => ⟨S8x6x16x128, .f32⟩
  | .local _ .vmem, ⟨0, _⟩ => ⟨S512x2048, .f32⟩
  | .local _ .vmem, ⟨1, _⟩ => ⟨S512x2048, .f32⟩
  | .local _ .vmem, ⟨2, _⟩ => ⟨S128x2048, .f32⟩
  | .local _ .vmem, ⟨3, _⟩ => ⟨S1x2048, .f32⟩
  | .local _ .vmem, ⟨4, _⟩ => ⟨S2048x768, .bf16⟩
  | .local _ .vmem, ⟨5, _⟩ => ⟨S2048x768, .bf16⟩
  | .local _ .vmem, ⟨6, _⟩ => ⟨S2048x768, .bf16⟩
  | .local _ .vmem, ⟨7, _⟩ => ⟨S2048x768, .bf16⟩
  | .local _ .vmem, ⟨8, _⟩ => ⟨S512x3072, .bf16⟩
  | .local _ .vmem, ⟨9, _⟩ => ⟨S512x3072, .bf16⟩
  | .local _ .vmem, ⟨10, _⟩ => ⟨S512x2048, .bf16⟩
  | .local _ .vmem, ⟨11, _⟩ => ⟨S512x2048, .bf16⟩
  | .local _ .vmem, ⟨12, _⟩ => ⟨S1x6x512x128, .f32⟩
  | .local _ .vmem, ⟨13, _⟩ => ⟨S1x6x512x128, .f32⟩
  | .local _ .vmem, ⟨14, _⟩ => ⟨S1x6x512x128, .f32⟩
  | .local _ .vmem, ⟨15, _⟩ => ⟨S1x6x512x128, .f32⟩
  | .local _ .vmem, ⟨16, _⟩ => ⟨S1x6x512x128, .f32⟩
  | .local _ .vmem, ⟨17, _⟩ => ⟨S1x6x512x128, .f32⟩
  | .local _ .vmem, ⟨18, _⟩ => ⟨S1x6x512x128, .f32⟩
  | .local _ .vmem, ⟨19, _⟩ => ⟨S1x6x512x128, .f32⟩
  | .local _ .vmem, ⟨20, _⟩ => ⟨S128x3072, .bf16⟩
  | .local _ .vmem, ⟨21, _⟩ => ⟨S128x2048, .bf16⟩
  | .local _ .vmem, ⟨22, _⟩ => ⟨S8x6x16x128, .f32⟩
  | .local _ .vmem, ⟨23, _⟩ => ⟨S8x6x16x128, .f32⟩
  | .local _ .vmem, ⟨24, _⟩ => ⟨S8x6x16x128, .f32⟩
  | .local _ .vmem, ⟨25, _⟩ => ⟨S8x6x16x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev main_v7_4 : Ref sig .tc := ⟨.hbm, 15, rfl⟩
abbrev main_v7_5 : Ref sig .tc := ⟨.hbm, 16, rfl⟩
abbrev main_v7_6 : Ref sig .tc := ⟨.hbm, 17, rfl⟩
abbrev main_v7_7 : Ref sig .tc := ⟨.hbm, 18, rfl⟩
abbrev main_v7_8 : Ref sig .tc := ⟨.hbm, 19, rfl⟩
abbrev main_v7_9 : Ref sig .tc := ⟨.hbm, 20, rfl⟩
abbrev main_v7_10 : Ref sig .tc := ⟨.hbm, 21, rfl⟩
abbrev main_v7_11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_5 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_6 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_10 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_11 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_12 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_17 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_18 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x6x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x6x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x6x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x6x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S128x3072 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x2048 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x6x16x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x6x16x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x6x16x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x6x16x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== KvProjRefIdeal.lean ====
abbrev S8192x2048 : Shape := ⟨2, ![8192, 2048]⟩
abbrev S128x2048 : Shape := ⟨2, ![128, 2048]⟩
abbrev S2048 : Shape := ⟨1, ![2048]⟩
abbrev S2048x13312 : Shape := ⟨2, ![2048, 13312]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x13312 : Shape := ⟨2, ![8192, 13312]⟩
abbrev S8192x768 : Shape := ⟨2, ![8192, 768]⟩
abbrev S8192x3072 : Shape := ⟨2, ![8192, 3072]⟩
abbrev S2x4096x6x128 : Shape := ⟨4, ![2, 4096, 6, 128]⟩
abbrev S2x6x4096x128 : Shape := ⟨4, ![2, 6, 4096, 128]⟩
abbrev S2x6x512x128 : Shape := ⟨4, ![2, 6, 512, 128]⟩
abbrev S128 : Shape := ⟨1, ![128]⟩
abbrev S128x1 : Shape := ⟨2, ![128, 1]⟩
abbrev S128x13312 : Shape := ⟨2, ![128, 13312]⟩
abbrev S128x768 : Shape := ⟨2, ![128, 768]⟩
abbrev S128x3072 : Shape := ⟨2, ![128, 3072]⟩
abbrev S8x16x6x128 : Shape := ⟨4, ![8, 16, 6, 128]⟩
abbrev S8x6x16x128 : Shape := ⟨4, ![8, 6, 16, 128]⟩

abbrev nBuf : Space → Nat
  | .hbm => 70
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S128x2048, .f32⟩
  | .hbm, ⟨2, _⟩ => ⟨S2048, .f32⟩
  | .hbm, ⟨3, _⟩ => ⟨S2048x13312, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x13312, .f32⟩
  | .hbm, ⟨21, _⟩ => ⟨S8192x768, .f32⟩
  | .hbm, ⟨22, _⟩ => ⟨S8192x768, .f32⟩
  | .hbm, ⟨23, _⟩ => ⟨S8192x768, .f32⟩
  | .hbm, ⟨24, _⟩ => ⟨S8192x768, .f32⟩
  | .hbm, ⟨25, _⟩ => ⟨S8192x3072, .f32⟩
  | .hbm, ⟨26, _⟩ => ⟨S8192x3072, .bf16⟩
  | .hbm, ⟨27, _⟩ => ⟨S8192x2048, .bf16⟩
  | .hbm, ⟨28, _⟩ => ⟨S2x4096x6x128, .f32⟩
  | .hbm, ⟨29, _⟩ => ⟨S2x6x4096x128, .f32⟩
  | .hbm, ⟨30, _⟩ => ⟨S2x4096x6x128, .f32⟩
  | .hbm, ⟨31, _⟩ => ⟨S2x6x4096x128, .f32⟩
  | .hbm, ⟨32, _⟩ => ⟨S2x4096x6x128, .f32⟩
  | .hbm, ⟨33, _⟩ => ⟨S2x6x4096x128, .f32⟩
  | .hbm, ⟨34, _⟩ => ⟨S2x6x512x128, .f32⟩
  | .hbm, ⟨35, _⟩ => ⟨S2x4096x6x128, .f32⟩
  | .hbm, ⟨36, _⟩ => ⟨S2x6x4096x128, .f32⟩
  | .hbm, ⟨37, _⟩ => ⟨S2x6x512x128, .f32⟩
  | .hbm, ⟨38, _⟩ => ⟨S128x2048, .f32⟩
  | .hbm, ⟨39, _⟩ => ⟨S_, .f32⟩
  | .hbm, ⟨40, _⟩ => ⟨S128, .f32⟩
  | .hbm, ⟨41, _⟩ => ⟨S128x1, .f32⟩
  | .hbm, ⟨42, _⟩ => ⟨S_, .f32⟩
  | .hbm, ⟨43, _⟩ => ⟨S128x1, .f32⟩
  | .hbm, ⟨44, _⟩ => ⟨S128x1, .f32⟩
  | .hbm, ⟨45, _⟩ => ⟨S_, .f32⟩
  | .hbm, ⟨46, _⟩ => ⟨S128x1, .f32⟩
  | .hbm, ⟨47, _⟩ => ⟨S128x1, .f32⟩
  | .hbm, ⟨48, _⟩ => ⟨S128x1, .f32⟩
  | .hbm, ⟨49, _⟩ => ⟨S128x2048, .f32⟩
  | .hbm, ⟨50, _⟩ => ⟨S128x2048, .f32⟩
  | .hbm, ⟨51, _⟩ => ⟨S1x2048, .f32⟩
  | .hbm, ⟨52, _⟩ => ⟨S128x2048, .f32⟩
  | .hbm, ⟨53, _⟩ => ⟨S128x2048, .f32⟩
  | .hbm, ⟨54, _⟩ => ⟨S128x13312, .f32⟩
  | .hbm, ⟨55, _⟩ => ⟨S128x768, .f32⟩
  | .hbm, ⟨56, _⟩ => ⟨S128x768, .f32⟩
  | .hbm, ⟨57, _⟩ => ⟨S128x768, .f32⟩
  | .hbm, ⟨58, _⟩ => ⟨S128x768, .f32⟩
  | .hbm, ⟨59, _⟩ => ⟨S128x3072, .f32⟩
  | .hbm, ⟨60, _⟩ => ⟨S128x3072, .bf16⟩
  | .hbm, ⟨61, _⟩ => ⟨S128x2048, .bf16⟩
  | .hbm, ⟨62, _⟩ => ⟨S8x16x6x128, .f32⟩
  | .hbm, ⟨63, _⟩ => ⟨S8x6x16x128, .f32⟩
  | .hbm, ⟨64, _⟩ => ⟨S8x16x6x128, .f32⟩
  | .hbm, ⟨65, _⟩ => ⟨S8x6x16x128, .f32⟩
  | .hbm, ⟨66, _⟩ => ⟨S8x16x6x128, .f32⟩
  | .hbm, ⟨67, _⟩ => ⟨S8x6x16x128, .f32⟩
  | .hbm, ⟨68, _⟩ => ⟨S8x16x6x128, .f32⟩
  | .hbm, ⟨69, _⟩ => ⟨S8x6x16x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_2 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩

abbrev nD : Nat := 1
abbrev τ : Topo := Topo.v7x

variable {F : FTy → Type} [FloatOps F]
-- ==== Merge.lean ====
abbrev S8192x3072 : Shape := ⟨2, ![8192, 3072]⟩
abbrev S8192x7168 : Shape := ⟨2, ![8192, 7168]⟩
abbrev S8192x768 : Shape := ⟨2, ![8192, 768]⟩
abbrev S8192x512 : Shape := ⟨2, ![8192, 512]⟩
abbrev S768x2048 : Shape := ⟨2, ![768, 2048]⟩
abbrev S512x2048 : Shape := ⟨2, ![512, 2048]⟩
abbrev S_ : Shape := ⟨0, ![]⟩
abbrev S8192x2048 : Shape := ⟨2, ![8192, 2048]⟩
abbrev S512x768 : Shape := ⟨2, ![512, 768]⟩
abbrev S512x512 : Shape := ⟨2, ![512, 512]⟩
abbrev S512x1024 : Shape := ⟨2, ![512, 1024]⟩
abbrev S768x1024 : Shape := ⟨2, ![768, 1024]⟩

abbrev nBuf : Space → Nat
  | .hbm => 21
  | .vmem => 29
  | .smem => 0
  | _ => 0

abbrev bufTy : (tb : Table) → Fin (tcTables nBuf tb) → BufTy
  | .hbm, ⟨0, _⟩ => ⟨S8192x3072, .bf16⟩
  | .hbm, ⟨1, _⟩ => ⟨S8192x7168, .bf16⟩
  | .hbm, ⟨2, _⟩ => ⟨S8192x768, .bf16⟩
  | .hbm, ⟨3, _⟩ => ⟨S8192x768, .bf16⟩
  | .hbm, ⟨4, _⟩ => ⟨S8192x512, .bf16⟩
  | .hbm, ⟨5, _⟩ => ⟨S768x2048, .f32⟩
  | .hbm, ⟨6, _⟩ => ⟨S768x2048, .f32⟩
  | .hbm, ⟨7, _⟩ => ⟨S512x2048, .f32⟩
  | .hbm, ⟨8, _⟩ => ⟨S_, .f32⟩
  | .hbm, ⟨9, _⟩ => ⟨S768x2048, .f32⟩
  | .hbm, ⟨10, _⟩ => ⟨S768x2048, .f32⟩
  | .hbm, ⟨11, _⟩ => ⟨S768x2048, .bf16⟩
  | .hbm, ⟨12, _⟩ => ⟨S_, .f32⟩
  | .hbm, ⟨13, _⟩ => ⟨S768x2048, .f32⟩
  | .hbm, ⟨14, _⟩ => ⟨S768x2048, .f32⟩
  | .hbm, ⟨15, _⟩ => ⟨S768x2048, .bf16⟩
  | .hbm, ⟨16, _⟩ => ⟨S_, .f32⟩
  | .hbm, ⟨17, _⟩ => ⟨S512x2048, .f32⟩
  | .hbm, ⟨18, _⟩ => ⟨S512x2048, .f32⟩
  | .hbm, ⟨19, _⟩ => ⟨S512x2048, .bf16⟩
  | .hbm, ⟨20, _⟩ => ⟨S8192x2048, .bf16⟩
  | .local _ .vmem, ⟨0, _⟩ => ⟨S512x768, .bf16⟩
  | .local _ .vmem, ⟨1, _⟩ => ⟨S512x768, .bf16⟩
  | .local _ .vmem, ⟨2, _⟩ => ⟨S512x768, .bf16⟩
  | .local _ .vmem, ⟨3, _⟩ => ⟨S512x768, .bf16⟩
  | .local _ .vmem, ⟨4, _⟩ => ⟨S512x512, .bf16⟩
  | .local _ .vmem, ⟨5, _⟩ => ⟨S512x512, .bf16⟩
  | .local _ .vmem, ⟨6, _⟩ => ⟨S512x768, .bf16⟩
  | .local _ .vmem, ⟨7, _⟩ => ⟨S512x768, .bf16⟩
  | .local _ .vmem, ⟨8, _⟩ => ⟨S512x768, .bf16⟩
  | .local _ .vmem, ⟨9, _⟩ => ⟨S512x768, .bf16⟩
  | .local _ .vmem, ⟨10, _⟩ => ⟨S512x512, .bf16⟩
  | .local _ .vmem, ⟨11, _⟩ => ⟨S512x512, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S768x2048, .bf16⟩
  | .local _ .vmem, ⟨25, _⟩ => ⟨S768x2048, .bf16⟩
  | .local _ .vmem, ⟨26, _⟩ => ⟨S512x2048, .bf16⟩
  | .local _ .vmem, ⟨27, _⟩ => ⟨S512x2048, .bf16⟩
  | .local _ .vmem, ⟨28, _⟩ => ⟨S512x2048, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg15_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem15_1 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_8 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_9 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_10 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_11 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S768x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S768x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x2048 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MergeRefIdeal.lean ====
abbrev S8192x3072 : Shape := ⟨2, ![8192, 3072]⟩
abbrev S8192x7168 : Shape := ⟨2, ![8192, 7168]⟩
abbrev S8192x768 : Shape := ⟨2, ![8192, 768]⟩
abbrev S8192x512 : Shape := ⟨2, ![8192, 512]⟩
abbrev S768x2048 : Shape := ⟨2, ![768, 2048]⟩
abbrev S512x2048 : Shape := ⟨2, ![512, 2048]⟩
abbrev S8192x2048 : Shape := ⟨2, ![8192, 2048]⟩
abbrev S_ : Shape := ⟨0, ![]⟩

abbrev nBuf : Space → Nat
  | .hbm => 104
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x7168, .bf16⟩
  | .hbm, ⟨2, _⟩ => ⟨S8192x768, .bf16⟩
  | .hbm, ⟨3, _⟩ => ⟨S8192x768, .bf16⟩
  | .hbm, ⟨4, _⟩ => ⟨S8192x512, .bf16⟩
  | .hbm, ⟨5, _⟩ => ⟨S768x2048, .f32⟩
  | .hbm, ⟨6, _⟩ => ⟨S768x2048, .f32⟩
  | .hbm, ⟨7, _⟩ => ⟨S512x2048, .f32⟩
  | .hbm, ⟨8, _⟩ => ⟨S8192x2048, .bf16⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S8192x768, .bf16⟩
  | .hbm, ⟨22, _⟩ => ⟨S8192x768, .f32⟩
  | .hbm, ⟨23, _⟩ => ⟨S_, .f32⟩
  | .hbm, ⟨24, _⟩ => ⟨S8192x768, .f32⟩
  | .hbm, ⟨25, _⟩ => ⟨S8192x768, .f32⟩
  | .hbm, ⟨26, _⟩ => ⟨S8192x768, .f32⟩
  | .hbm, ⟨27, _⟩ => ⟨S8192x768, .f32⟩
  | .hbm, ⟨28, _⟩ => ⟨S8192x768, .f32⟩
  | .hbm, ⟨29, _⟩ => ⟨S_, .f32⟩
  | .hbm, ⟨30, _⟩ => ⟨S8192x768, .f32⟩
  | .hbm, ⟨31, _⟩ => ⟨S8192x768, .f32⟩
  | .hbm, ⟨32, _⟩ => ⟨S_, .f32⟩
  | .hbm, ⟨33, _⟩ => ⟨S8192x768, .f32⟩
  | .hbm, ⟨34, _⟩ => ⟨S8192x768, .f32⟩
  | .hbm, ⟨35, _⟩ => ⟨S8192x768, .f32⟩
  | .hbm, ⟨36, _⟩ => ⟨S8192x768, .f32⟩
  | .hbm, ⟨37, _⟩ => ⟨S8192x2048, .f32⟩
  | .hbm, ⟨38, _⟩ => ⟨S8192x2048, .f32⟩
  | .hbm, ⟨39, _⟩ => ⟨S8192x2048, .bf16⟩
  | .hbm, ⟨40, _⟩ => ⟨S8192x2048, .f32⟩
  | .hbm, ⟨41, _⟩ => ⟨S_, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S8192x2048, .f32⟩
  | .hbm, ⟨51, _⟩ => ⟨S8192x2048, .f32⟩
  | .hbm, ⟨52, _⟩ => ⟨S8192x768, .bf16⟩
  | .hbm, ⟨53, _⟩ => ⟨S8192x768, .f32⟩
  | .hbm, ⟨54, _⟩ => ⟨S_, .f32⟩
  | .hbm, ⟨55, _⟩ => ⟨S8192x768, .f32⟩
  | .hbm, ⟨56, _⟩ => ⟨S8192x768, .f32⟩
  | .hbm, ⟨57, _⟩ => ⟨S8192x768, .f32⟩
  | .hbm, ⟨58, _⟩ => ⟨S8192x768, .f32⟩
  | .hbm, ⟨59, _⟩ => ⟨S8192x768, .f32⟩
  | .hbm, ⟨60, _⟩ => ⟨S_, .f32⟩
  | .hbm, ⟨61, _⟩ => ⟨S8192x768, .f32⟩
  | .hbm, ⟨62, _⟩ => ⟨S8192x768, .f32⟩
  | .hbm, ⟨63, _⟩ => ⟨S_, .f32⟩
  | .hbm, ⟨64, _⟩ => ⟨S8192x768, .f32⟩
  | .hbm, ⟨65, _⟩ => ⟨S8192x768, .f32⟩
  | .hbm, ⟨66, _⟩ => ⟨S8192x768, .f32⟩
  | .hbm, ⟨67, _⟩ => ⟨S8192x768, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .bf16⟩
  | .hbm, ⟨72, _⟩ => ⟨S8192x2048, .f32⟩
  | .hbm, ⟨73, _⟩ => ⟨S_, .f32⟩
  | .hbm, ⟨74, _⟩ => ⟨S8192x2048, .f32⟩
  | .hbm, ⟨75, _⟩ => ⟨S8192x2048, .f32⟩
  | .hbm, ⟨76, _⟩ => ⟨S8192x2048, .f32⟩
  | .hbm, ⟨77, _⟩ => ⟨S8192x2048, .f32⟩
  | .hbm, ⟨78, _⟩ => ⟨S_, .f32⟩
  | .hbm, ⟨79, _⟩ => ⟨S8192x2048, .f32⟩
  | .hbm, ⟨80, _⟩ => ⟨S8192x2048, .f32⟩
  | .hbm, ⟨81, _⟩ => ⟨S_, .f32⟩
  | .hbm, ⟨82, _⟩ => ⟨S8192x2048, .f32⟩
  | .hbm, ⟨83, _⟩ => ⟨S8192x2048, .f32⟩
  | .hbm, ⟨84, _⟩ => ⟨S8192x512, .bf16⟩
  | .hbm, ⟨85, _⟩ => ⟨S8192x512, .f32⟩
  | .hbm, ⟨86, _⟩ => ⟨S_, .f32⟩
  | .hbm, ⟨87, _⟩ => ⟨S8192x512, .f32⟩
  | .hbm, ⟨88, _⟩ => ⟨S8192x512, .f32⟩
  | .hbm, ⟨89, _⟩ => ⟨S8192x512, .f32⟩
  | .hbm, ⟨90, _⟩ => ⟨S8192x512, .f32⟩
  | .hbm, ⟨91, _⟩ => ⟨S8192x512, .f32⟩
  | .hbm, ⟨92, _⟩ => ⟨S_, .f32⟩
  | .hbm, ⟨93, _⟩ => ⟨S8192x512, .f32⟩
  | .hbm, ⟨94, _⟩ => ⟨S8192x512, .f32⟩
  | .hbm, ⟨95, _⟩ => ⟨S_, .f32⟩
  | .hbm, ⟨96, _⟩ => ⟨S8192x512, .f32⟩
  | .hbm, ⟨97, _⟩ => ⟨S8192x512, .f32⟩
  | .hbm, ⟨98, _⟩ => ⟨S8192x512, .f32⟩
  | .hbm, ⟨99, _⟩ => ⟨S8192x512, .f32⟩
  | .hbm, ⟨100, _⟩ => ⟨S8192x2048, .f32⟩
  | .hbm, ⟨101, _⟩ => ⟨S8192x2048, .f32⟩
  | .hbm, ⟨102, _⟩ => ⟨S8192x2048, .f32⟩
  | .hbm, ⟨103, _⟩ => ⟨S8192x2048, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_4 : Ref sig .tc := ⟨.hbm, 46, rfl⟩
abbrev main_v25 : Ref sig .tc := ⟨.hbm, 47, rfl⟩
abbrev main_v26 : Ref sig .tc := ⟨.hbm, 48, rfl⟩
abbrev main_cst_5 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_6 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_call1_v0 : Ref sig .tc := ⟨.hbm, 58, rfl⟩
abbrev main_call1_v1 : Ref sig .tc := ⟨.hbm, 59, rfl⟩
abbrev main_call1_cst : Ref sig .tc := ⟨.hbm, 60, rfl⟩
abbrev main_call1_v2 : Ref sig .tc := ⟨.hbm, 61, rfl⟩
abbrev main_call1_v3 : Ref sig .tc := ⟨.hbm, 62, rfl⟩
abbrev main_call1_cst_0 : Ref sig .tc := ⟨.hbm, 63, rfl⟩
abbrev main_call1_v4 : Ref sig .tc := ⟨.hbm, 64, rfl⟩
abbrev main_call1_v5 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_7 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_8 : Ref sig .tc := ⟨.hbm, 78, rfl⟩
abbrev main_v45 : Ref sig .tc := ⟨.hbm, 79, rfl⟩
abbrev main_v46 : Ref sig .tc := ⟨.hbm, 80, rfl⟩
abbrev main_cst_9 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_10 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_call2_v0 : Ref sig .tc := ⟨.hbm, 90, rfl⟩
abbrev main_call2_v1 : Ref sig .tc := ⟨.hbm, 91, rfl⟩
abbrev main_call2_cst : Ref sig .tc := ⟨.hbm, 92, rfl⟩
abbrev main_call2_v2 : Ref sig .tc := ⟨.hbm, 93, rfl⟩
abbrev main_call2_v3 : Ref sig .tc := ⟨.hbm, 94, rfl⟩
abbrev main_call2_cst_0 : Ref sig .tc := ⟨.hbm, 95, rfl⟩
abbrev main_call2_v4 : Ref sig .tc := ⟨.hbm, 96, rfl⟩
abbrev main_call2_v5 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩

abbrev nD : Nat := 1
abbrev τ : Topo := Topo.v7x

variable {F : FTy → Type} [FloatOps F]
-- ==== MergeOut.lean ====
abbrev S128x2048 : Shape := ⟨2, ![128, 2048]⟩
abbrev S128x3072 : Shape := ⟨2, ![128, 3072]⟩
abbrev S128x7168 : Shape := ⟨2, ![128, 7168]⟩
abbrev S128x768 : Shape := ⟨2, ![128, 768]⟩
abbrev S128x512 : Shape := ⟨2, ![128, 512]⟩
abbrev S768x2048 : Shape := ⟨2, ![768, 2048]⟩
abbrev S512x2048 : Shape := ⟨2, ![512, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩
abbrev S128x1024 : Shape := ⟨2, ![128, 1024]⟩
abbrev S768x1024 : Shape := ⟨2, ![768, 1024]⟩
abbrev S512x1024 : Shape := ⟨2, ![512, 1024]⟩
abbrev S128 : Shape := ⟨1, ![128]⟩
abbrev S128x1 : Shape := ⟨2, ![128, 1]⟩

abbrev nBuf : Space → Nat
  | .hbm => 26
  | .vmem => 20
  | .smem => 0
  | _ => 0

abbrev bufTy : (tb : Table) → Fin (tcTables nBuf tb) → BufTy
  | .hbm, ⟨0, _⟩ => ⟨S128x2048, .f32⟩
  | .hbm, ⟨1, _⟩ => ⟨S128x3072, .bf16⟩
  | .hbm, ⟨2, _⟩ => ⟨S128x7168, .bf16⟩
  | .hbm, ⟨3, _⟩ => ⟨S128x768, .bf16⟩
  | .hbm, ⟨4, _⟩ => ⟨S128x768, .bf16⟩
  | .hbm, ⟨5, _⟩ => ⟨S128x512, .bf16⟩
  | .hbm, ⟨6, _⟩ => ⟨S768x2048, .f32⟩
  | .hbm, ⟨7, _⟩ => ⟨S768x2048, .f32⟩
  | .hbm, ⟨8, _⟩ => ⟨S512x2048, .f32⟩
  | .hbm, ⟨9, _⟩ => ⟨S2048x2048, .f32⟩
  | .hbm, ⟨10, _⟩ => ⟨S2048, .f32⟩
  | .hbm, ⟨11, _⟩ => ⟨S_, .f32⟩
  | .hbm, ⟨12, _⟩ => ⟨S768x2048, .f32⟩
  | .hbm, ⟨13, _⟩ => ⟨S768x2048, .f32⟩
  | .hbm, ⟨14, _⟩ => ⟨S768x2048, .bf16⟩
  | .hbm, ⟨15, _⟩ => ⟨S_, .f32⟩
  | .hbm, ⟨16, _⟩ => ⟨S768x2048, .f32⟩
  | .hbm, ⟨17, _⟩ => ⟨S768x2048, .f32⟩
  | .hbm, ⟨18, _⟩ => ⟨S768x2048, .bf16⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S512x2048, .bf16⟩
  | .hbm, ⟨23, _⟩ => ⟨S2048x2048, .bf16⟩
  | .hbm, ⟨24, _⟩ => ⟨S1x2048, .f32⟩
  | .hbm, ⟨25, _⟩ => ⟨S128x2048, .f32⟩
  | .local _ .vmem, ⟨0, _⟩ => ⟨S128x2048, .f32⟩
  | .local _ .vmem, ⟨1, _⟩ => ⟨S128x768, .bf16⟩
  | .local _ .vmem, ⟨2, _⟩ => ⟨S128x768, .bf16⟩
  | .local _ .vmem, ⟨3, _⟩ => ⟨S128x512, .bf16⟩
  | .local _ .vmem, ⟨4, _⟩ => ⟨S128x768, .bf16⟩
  | .local _ .vmem, ⟨5, _⟩ => ⟨S128x768, .bf16⟩
  | .local _ .vmem, ⟨6, _⟩ => ⟨S128x512, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .bf16⟩
  | .local _ .vmem, ⟨11, _⟩ => ⟨S128x1024, .bf16⟩
  | .local _ .vmem, ⟨12, _⟩ => ⟨S128x1024, .bf16⟩
  | .local _ .vmem, ⟨13, _⟩ => ⟨S768x2048, .bf16⟩
  | .local _ .vmem, ⟨14, _⟩ => ⟨S768x2048, .bf16⟩
  | .local _ .vmem, ⟨15, _⟩ => ⟨S512x2048, .bf16⟩
  | .local _ .vmem, ⟨16, _⟩ => ⟨S2048x2048, .bf16⟩
  | .local _ .vmem, ⟨17, _⟩ => ⟨S1x2048, .f32⟩
  | .local _ .vmem, ⟨18, _⟩ => ⟨S128x2048, .f32⟩
  | .local _ .vmem, ⟨19, _⟩ => ⟨S128x2048, .bf16⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_scratch0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_5 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_6 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_7 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_8 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_9 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_10 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_11 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_12 (i : grid0.Coords) : Fin 2 → Nat :=
  let arg0 : BitVec 32 := BitVec.ofNat 32 (i 0).val
  let c0_i32 : BitVec 32 := 0#32
  let c6_i32 : BitVec 32 := 6#32
  let c0_i32_0 : BitVec 32 := 0#32
  ![c0_i32.toNat, c6_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S768x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S768x2048 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x2048 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2048x2048 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x2048 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== MergeOutRefIdeal.lean ====
abbrev S128x2048 : Shape := ⟨2, ![128, 2048]⟩
abbrev S128x3072 : Shape := ⟨2, ![128, 3072]⟩
abbrev S128x7168 : Shape := ⟨2, ![128, 7168]⟩
abbrev S128x768 : Shape := ⟨2, ![128, 768]⟩
abbrev S128x512 : Shape := ⟨2, ![128, 512]⟩
abbrev S768x2048 : Shape := ⟨2, ![768, 2048]⟩
abbrev S512x2048 : Shape := ⟨2, ![512, 2048]⟩
abbrev S2048x2048 : Shape := ⟨2, ![2048, 2048]⟩
abbrev S2048 : Shape := ⟨1, ![2048]⟩
abbrev S_ : Shape := ⟨0, ![]⟩
abbrev S128 : Shape := ⟨1, ![128]⟩
abbrev S128x1 : Shape := ⟨2, ![128, 1]⟩
abbrev S1x2048 : Shape := ⟨2, ![1, 2048]⟩

abbrev nBuf : Space → Nat
  | .hbm => 124
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S128x3072, .bf16⟩
  | .hbm, ⟨2, _⟩ => ⟨S128x7168, .bf16⟩
  | .hbm, ⟨3, _⟩ => ⟨S128x768, .bf16⟩
  | .hbm, ⟨4, _⟩ => ⟨S128x768, .bf16⟩
  | .hbm, ⟨5, _⟩ => ⟨S128x512, .bf16⟩
  | .hbm, ⟨6, _⟩ => ⟨S768x2048, .f32⟩
  | .hbm, ⟨7, _⟩ => ⟨S768x2048, .f32⟩
  | .hbm, ⟨8, _⟩ => ⟨S512x2048, .f32⟩
  | .hbm, ⟨9, _⟩ => ⟨S2048x2048, .f32⟩
  | .hbm, ⟨10, _⟩ => ⟨S2048, .f32⟩
  | .hbm, ⟨11, _⟩ => ⟨S128x2048, .bf16⟩
  | .hbm, ⟨12, _⟩ => ⟨S128x2048, .f32⟩
  | .hbm, ⟨13, _⟩ => ⟨S_, .f32⟩
  | .hbm, ⟨14, _⟩ => ⟨S128x2048, .f32⟩
  | .hbm, ⟨15, _⟩ => ⟨S128x2048, .f32⟩
  | .hbm, ⟨16, _⟩ => ⟨S128x2048, .f32⟩
  | .hbm, ⟨17, _⟩ => ⟨S128x2048, .f32⟩
  | .hbm, ⟨18, _⟩ => ⟨S_, .f32⟩
  | .hbm, ⟨19, _⟩ => ⟨S128x2048, .f32⟩
  | .hbm, ⟨20, _⟩ => ⟨S128x2048, .f32⟩
  | .hbm, ⟨21, _⟩ => ⟨S_, .f32⟩
  | .hbm, ⟨22, _⟩ => ⟨S128x2048, .f32⟩
  | .hbm, ⟨23, _⟩ => ⟨S128x2048, .f32⟩
  | .hbm, ⟨24, _⟩ => ⟨S128x768, .bf16⟩
  | .hbm, ⟨25, _⟩ => ⟨S128x768, .f32⟩
  | .hbm, ⟨26, _⟩ => ⟨S_, .f32⟩
  | .hbm, ⟨27, _⟩ => ⟨S128x768, .f32⟩
  | .hbm, ⟨28, _⟩ => ⟨S128x768, .f32⟩
  | .hbm, ⟨29, _⟩ => ⟨S128x768, .f32⟩
  | .hbm, ⟨30, _⟩ => ⟨S128x768, .f32⟩
  | .hbm, ⟨31, _⟩ => ⟨S128x768, .f32⟩
  | .hbm, ⟨32, _⟩ => ⟨S_, .f32⟩
  | .hbm, ⟨33, _⟩ => ⟨S128x768, .f32⟩
  | .hbm, ⟨34, _⟩ => ⟨S128x768, .f32⟩
  | .hbm, ⟨35, _⟩ => ⟨S_, .f32⟩
  | .hbm, ⟨36, _⟩ => ⟨S128x768, .f32⟩
  | .hbm, ⟨37, _⟩ => ⟨S128x768, .f32⟩
  | .hbm, ⟨38, _⟩ => ⟨S128x768, .f32⟩
  | .hbm, ⟨39, _⟩ => ⟨S128x768, .f32⟩
  | .hbm, ⟨40, _⟩ => ⟨S128x2048, .f32⟩
  | .hbm, ⟨41, _⟩ => ⟨S128x2048, .f32⟩
  | .hbm, ⟨42, _⟩ => ⟨S128x2048, .bf16⟩
  | .hbm, ⟨43, _⟩ => ⟨S128x2048, .f32⟩
  | .hbm, ⟨44, _⟩ => ⟨S_, .f32⟩
  | .hbm, ⟨45, _⟩ => ⟨S128x2048, .f32⟩
  | .hbm, ⟨46, _⟩ => ⟨S128x2048, .f32⟩
  | .hbm, ⟨47, _⟩ => ⟨S128x2048, .f32⟩
  | .hbm, ⟨48, _⟩ => ⟨S128x2048, .f32⟩
  | .hbm, ⟨49, _⟩ => ⟨S_, .f32⟩
  | .hbm, ⟨50, _⟩ => ⟨S128x2048, .f32⟩
  | .hbm, ⟨51, _⟩ => ⟨S128x2048, .f32⟩
  | .hbm, ⟨52, _⟩ => ⟨S_, .f32⟩
  | .hbm, ⟨53, _⟩ => ⟨S128x2048, .f32⟩
  | .hbm, ⟨54, _⟩ => ⟨S128x2048, .f32⟩
  | .hbm, ⟨55, _⟩ => ⟨S128x768, .bf16⟩
  | .hbm, ⟨56, _⟩ => ⟨S128x768, .f32⟩
  | .hbm, ⟨57, _⟩ => ⟨S_, .f32⟩
  | .hbm, ⟨58, _⟩ => ⟨S128x768, .f32⟩
  | .hbm, ⟨59, _⟩ => ⟨S128x768, .f32⟩
  | .hbm, ⟨60, _⟩ => ⟨S128x768, .f32⟩
  | .hbm, ⟨61, _⟩ => ⟨S128x768, .f32⟩
  | .hbm, ⟨62, _⟩ => ⟨S128x768, .f32⟩
  | .hbm, ⟨63, _⟩ => ⟨S_, .f32⟩
  | .hbm, ⟨64, _⟩ => ⟨S128x768, .f32⟩
  | .hbm, ⟨65, _⟩ => ⟨S128x768, .f32⟩
  | .hbm, ⟨66, _⟩ => ⟨S_, .f32⟩
  | .hbm, ⟨67, _⟩ => ⟨S128x768, .f32⟩
  | .hbm, ⟨68, _⟩ => ⟨S128x768, .f32⟩
  | .hbm, ⟨69, _⟩ => ⟨S128x768, .f32⟩
  | .hbm, ⟨70, _⟩ => ⟨S128x768, .f32⟩
  | .hbm, ⟨71, _⟩ => ⟨S128x2048, .f32⟩
  | .hbm, ⟨72, _⟩ => ⟨S128x2048, .f32⟩
  | .hbm, ⟨73, _⟩ => ⟨S128x2048, .f32⟩
  | .hbm, ⟨74, _⟩ => ⟨S128x2048, .bf16⟩
  | .hbm, ⟨75, _⟩ => ⟨S128x2048, .f32⟩
  | .hbm, ⟨76, _⟩ => ⟨S_, .f32⟩
  | .hbm, ⟨77, _⟩ => ⟨S128x2048, .f32⟩
  | .hbm, ⟨78, _⟩ => ⟨S128x2048, .f32⟩
  | .hbm, ⟨79, _⟩ => ⟨S128x2048, .f32⟩
  | .hbm, ⟨80, _⟩ => ⟨S128x2048, .f32⟩
  | .hbm, ⟨81, _⟩ => ⟨S_, .f32⟩
  | .hbm, ⟨82, _⟩ => ⟨S128x2048, .f32⟩
  | .hbm, ⟨83, _⟩ => ⟨S128x2048, .f32⟩
  | .hbm, ⟨84, _⟩ => ⟨S_, .f32⟩
  | .hbm, ⟨85, _⟩ => ⟨S128x2048, .f32⟩
  | .hbm, ⟨86, _⟩ => ⟨S128x2048, .f32⟩
  | .hbm, ⟨87, _⟩ => ⟨S128x512, .bf16⟩
  | .hbm, ⟨88, _⟩ => ⟨S128x512, .f32⟩
  | .hbm, ⟨89, _⟩ => ⟨S_, .f32⟩
  | .hbm, ⟨90, _⟩ => ⟨S128x512, .f32⟩
  | .hbm, ⟨91, _⟩ => ⟨S128x512, .f32⟩
  | .hbm, ⟨92, _⟩ => ⟨S128x512, .f32⟩
  | .hbm, ⟨93, _⟩ => ⟨S128x512, .f32⟩
  | .hbm, ⟨94, _⟩ => ⟨S128x512, .f32⟩
  | .hbm, ⟨95, _⟩ => ⟨S_, .f32⟩
  | .hbm, ⟨96, _⟩ => ⟨S128x512, .f32⟩
  | .hbm, ⟨97, _⟩ => ⟨S128x512, .f32⟩
  | .hbm, ⟨98, _⟩ => ⟨S_, .f32⟩
  | .hbm, ⟨99, _⟩ => ⟨S128x512, .f32⟩
  | .hbm, ⟨100, _⟩ => ⟨S128x512, .f32⟩
  | .hbm, ⟨101, _⟩ => ⟨S128x512, .f32⟩
  | .hbm, ⟨102, _⟩ => ⟨S128x512, .f32⟩
  | .hbm, ⟨103, _⟩ => ⟨S128x2048, .f32⟩
  | .hbm, ⟨104, _⟩ => ⟨S128x2048, .f32⟩
  | .hbm, ⟨105, _⟩ => ⟨S128x2048, .f32⟩
  | .hbm, ⟨106, _⟩ => ⟨S128x2048, .f32⟩
  | .hbm, ⟨107, _⟩ => ⟨S128x2048, .f32⟩
  | .hbm, ⟨108, _⟩ => ⟨S_, .f32⟩
  | .hbm, ⟨109, _⟩ => ⟨S128, .f32⟩
  | .hbm, ⟨110, _⟩ => ⟨S128x1, .f32⟩
  | .hbm, ⟨111, _⟩ => ⟨S_, .f32⟩
  | .hbm, ⟨112, _⟩ => ⟨S128x1, .f32⟩
  | .hbm, ⟨113, _⟩ => ⟨S128x1, .f32⟩
  | .hbm, ⟨114, _⟩ => ⟨S_, .f32⟩
  | .hbm, ⟨115, _⟩ => ⟨S128x1, .f32⟩
  | .hbm, ⟨116, _⟩ => ⟨S128x1, .f32⟩
  | .hbm, ⟨117, _⟩ => ⟨S128x1, .f32⟩
  | .hbm, ⟨118, _⟩ => ⟨S128x2048, .f32⟩
  | .hbm, ⟨119, _⟩ => ⟨S128x2048, .f32⟩
  | .hbm, ⟨120, _⟩ => ⟨S1x2048, .f32⟩
  | .hbm, ⟨121, _⟩ => ⟨S128x2048, .f32⟩
  | .hbm, ⟨122, _⟩ => ⟨S128x2048, .f32⟩
  | .hbm, ⟨123, _⟩ => ⟨S128x2048, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_3 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_4 : Ref sig .tc := ⟨.hbm, 49, rfl⟩
abbrev main_v25 : Ref sig .tc := ⟨.hbm, 50, rfl⟩
abbrev main_v26 : Ref sig .tc := ⟨.hbm, 51, rfl⟩
abbrev main_cst_5 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_6 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_call1_v0 : Ref sig .tc := ⟨.hbm, 61, rfl⟩
abbrev main_call1_v1 : Ref sig .tc := ⟨.hbm, 62, rfl⟩
abbrev main_call1_cst : Ref sig .tc := ⟨.hbm, 63, rfl⟩
abbrev main_call1_v2 : Ref sig .tc := ⟨.hbm, 64, rfl⟩
abbrev main_call1_v3 : Ref sig .tc := ⟨.hbm, 65, rfl⟩
abbrev main_call1_cst_0 : Ref sig .tc := ⟨.hbm, 66, rfl⟩
abbrev main_call1_v4 : Ref sig .tc := ⟨.hbm, 67, rfl⟩
abbrev main_call1_v5 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_cst_7 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_cst_8 : Ref sig .tc := ⟨.hbm, 81, rfl⟩
abbrev main_v45 : Ref sig .tc := ⟨.hbm, 82, rfl⟩
abbrev main_v46 : Ref sig .tc := ⟨.hbm, 83, rfl⟩
abbrev main_cst_9 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_cst_10 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_call2_v0 : Ref sig .tc := ⟨.hbm, 93, rfl⟩
abbrev main_call2_v1 : Ref sig .tc := ⟨.hbm, 94, rfl⟩
abbrev main_call2_cst : Ref sig .tc := ⟨.hbm, 95, rfl⟩
abbrev main_call2_v2 : Ref sig .tc := ⟨.hbm, 96, rfl⟩
abbrev main_call2_v3 : Ref sig .tc := ⟨.hbm, 97, rfl⟩
abbrev main_call2_cst_0 : Ref sig .tc := ⟨.hbm, 98, rfl⟩
abbrev main_call2_v4 : Ref sig .tc := ⟨.hbm, 99, rfl⟩
abbrev main_call2_v5 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_cst_11 : Ref sig .tc := ⟨.hbm, 108, rfl⟩
abbrev main_v61 : Ref sig .tc := ⟨.hbm, 109, rfl⟩
abbrev main_v62 : Ref sig .tc := ⟨.hbm, 110, rfl⟩
abbrev main_cst_12 : Ref sig .tc := ⟨.hbm, 111, rfl⟩
abbrev main_v63 : Ref sig .tc := ⟨.hbm, 112, rfl⟩
abbrev main_v64 : Ref sig .tc := ⟨.hbm, 113, rfl⟩
abbrev main_cst_13 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩

abbrev nD : Nat := 1
abbrev τ : Topo := Topo.v7x

variable {F : FTy → Type} [FloatOps F]
-- ==== Proof.MgProj.Run.lean ====
module

public import proofs.«01_k».proof.Proof.Gen.MgProjIdeal.Frame
public import proofs.«01_k».proof.Proof.Gen.MgProjIdeal.Skeleton
public import proofs.«01_k».proof.Proof.Gen.MgProjIdeal.Points
public import Idealize.ShloMosaic.Lib.WholeRead
public import Idealize.ShloMosaic.Lib.VecWindow
public import Idealize.ShloMosaic.Lib.WordCmp
public import Idealize.ShloMosaic.Lib.Pipeline.Value

@[expose] public section

set_option maxRecDepth 16384

noncomputable section

/-! The column projection: what its body leaves at a point, the run of the whole call, its frame and what the
    two result arrays hold at the end. -/

namespace Cert.MgProjIdeal.Col

open Cert.MgProjIdeal Cert.MgProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A load of a whole memref held at the contents that read `X` is the load of `X`. -/
theorem readAt_ld {sp : Space} {s : Shape} {e : EltTy} {m : Memref sig .tc sp s e} (h : m.IsWhole) (X : s.Idx → Elt F e)
    (R : Rect s) : View.readAt (Elt F) m.view R.toLoadRect (h.unread X) = View.ld X R :=
  funext fun x => Memref.IsWhole.readAt_unread h X R.toLoadRect x

theorem zero2 : (![0, 0] : Fin 2 → ℕ) = fun _ => 0 := by decide

set_option maxHeartbeats 1000000 in
/-- The body at a first row block: it casts the weights into the scratch and computes both results from them. -/
theorem run_first (c : Dev nD) (i : grid0.Coords) (arg2 : Memref sig .tc .vmem S2048x2048 .bf16) (harg2 : arg2.IsWhole) (arg3 : Memref sig .tc .vmem S128x2048 .bf16) (harg3 : arg3.IsWhole) (arg4 : Memref sig .tc .vmem S2048x1024 .f32) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S128x1024 .bf16) (harg7 : arg7.IsWhole) (arg8 : Memref sig .tc .vmem S2048x1024 .bf16) (harg8 : arg8.IsWhole) (hc0 : k0_cond1 i = 1#1)
    (x0 : Vec F S2048x2048 .bf16) (x1 : Vec F S128x2048 .bf16) (x2 : Vec F S2048x1024 .f32) (x3 : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay3 x0 (k0_pay1 x2) x3) ∗ owns (c : Thread nD τ) arg7 fullShare (k0_pay2 x1 (k0_pay1 x2) x3) ∗ owns (c : Thread nD τ) arg8 fullShare (k0_pay1 x2)) -∗ K ⟨⟩))
      ⊢ wp frame (wpE (defs₀ (F := F)) Variants.none c none) E (cc0_mg_projection i arg2 harg2 arg3 harg3 arg4 harg4 arg5 harg5 arg6 harg6 arg7 harg7 arg8 harg8) K := by
  simp only [cc0_mg_projection_eq_skeleton]; unfold cc0_mg_projection_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
  obtain rfl := harg2.eq_unread hf0; obtain rfl := harg3.eq_unread hf1; obtain rfl := harg4.eq_unread hf2; obtain rfl := harg5.eq_unread hf3
  sl_exec (disch := first | sl_exact hc0)
  sl_step
  have ld0 : View.readAt (Elt F) arg2.view (Rect.unit (s := S2048x2048) ![0, 0] S2048x2048.size inb_S2048x2048_S2048x2048_0_0).toLoadRect (harg2.unread x0) = x0 :=
    (readAt_ld harg2 x0 _).trans (View.ld_unit_zero zero2 _ x0)
  have ld1 : View.readAt (Elt F) arg3.view (Rect.unit (s := S128x2048) ![0, 0] S128x2048.size inb_S128x2048_S128x2048_0_0).toLoadRect (harg3.unread x1) = x1 :=
    (readAt_ld harg3 x1 _).trans (View.ld_unit_zero zero2 _ x1)
  have ld2 : View.readAt (Elt F) arg4.view (Rect.unit (s := S2048x1024) ![0, 0] S2048x1024.size inb_S2048x1024_S2048x1024_0_0).toLoadRect (harg4.unread x2) = x2 :=
    (readAt_ld harg4 x2 _).trans (View.ld_unit_zero zero2 _ x2)
  have ld3 : View.readAt (Elt F) arg5.view (Rect.unit (s := S1x1024) ![0, 0] S1x1024.size inb_S1x1024_S1x1024_0_0).toLoadRect (harg5.unread x3) = x3 :=
    (readAt_ld harg5 x3 _).trans (View.ld_unit_zero zero2 _ x3)
  have ew : run_first.sl.v18 c arg4 harg4 arg8 x2 = k0_pay1 x2 := by
    unfold run_first.sl.v18 run_first.sl.HS0_1; rw [ld2]
    exact View.readCov_full _ _ _ _ _
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    rw [ld0, ld3, ew]; exact View.read_writes_full _ _ _ _ _
  isplitl [H5]
  · iexists _; isplitr; swap; · iexact H5
    ipureintro
    rw [ld1, ld3, ew]; exact View.read_writes_full _ _ _ _ _
  iexists _; isplitr; swap; · iexact HS0
  ipureintro
  unfold run_first.sl.HS0_1; rw [ld2]; exact View.read_writes_full _ _ _ _ _

set_option maxHeartbeats 1000000 in
/-- The body at a further row block: it computes the first result from the weights the scratch holds. -/
theorem run_next (c : Dev nD) (i : grid0.Coords) (arg2 : Memref sig .tc .vmem S2048x2048 .bf16) (harg2 : arg2.IsWhole) (arg3 : Memref sig .tc .vmem S128x2048 .bf16) (harg3 : arg3.IsWhole) (arg4 : Memref sig .tc .vmem S2048x1024 .f32) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S128x1024 .bf16) (harg7 : arg7.IsWhole) (arg8 : Memref sig .tc .vmem S2048x1024 .bf16) (harg8 : arg8.IsWhole) (hc0 : ¬ k0_cond1 i = 1#1)
    (x0 : Vec F S2048x2048 .bf16) (x3 : Vec F S1x1024 .f32) (w : Vec F S2048x1024 .bf16) (E : Set ℕ) (K : PUnit → sProp 𝕄) :
    iprop(owns (c : Thread nD τ) arg2 fullShare x0 ∗ owns (c : Thread nD τ) arg5 fullShare x3 ∗ (∃ d, owns (c : Thread nD τ) arg6 fullShare d) ∗ owns (c : Thread nD τ) arg8 fullShare w
        ∗ (iprop(owns (c : Thread nD τ) arg2 fullShare x0 ∗ owns (c : Thread nD τ) arg5 fullShare x3 ∗ owns (c : Thread nD τ) arg6 fullShare (k0_pay3 x0 w x3) ∗ owns (c : Thread nD τ) arg8 fullShare w) -∗ K ⟨⟩))
      ⊢ wp frame (wpE (defs₀ (F := F)) Variants.none c none) E (cc0_mg_projection i arg2 harg2 arg3 harg3 arg4 harg4 arg5 harg5 arg6 harg6 arg7 harg7 arg8 harg8) K := by
  simp only [cc0_mg_projection_eq_skeleton]; unfold cc0_mg_projection_skel
  unfold owns
  iintro ⟨⟨%f0, %hf0, H0⟩, ⟨%f3, %hf3, H3⟩, ⟨%d4, %f4, -, H4⟩, ⟨%fs0, %hfs0, HS0⟩, Hk⟩
  obtain rfl := harg2.eq_unread hf0; obtain rfl := harg5.eq_unread hf3; obtain rfl := harg8.eq_unread hfs0
  sl_exec (disch := first | sl_exact hc0)
  sl_step
  have ld0 : View.readAt (Elt F) arg2.view (Rect.unit (s := S2048x2048) ![0, 0] S2048x2048.size inb_S2048x2048_S2048x2048_0_0).toLoadRect (harg2.unread x0) = x0 :=
    (readAt_ld harg2 x0 _).trans (View.ld_unit_zero zero2 _ x0)
  have ld3 : View.readAt (Elt F) arg5.view (Rect.unit (s := S1x1024) ![0, 0] S1x1024.size inb_S1x1024_S1x1024_0_0).toLoadRect (harg5.unread x3) = x3 :=
    (readAt_ld harg5 x3 _).trans (View.ld_unit_zero zero2 _ x3)
  have ldw : View.readAt (Elt F) arg8.view (Rect.unit (s := S2048x1024) ![0, 0] S2048x1024.size inb_S2048x1024_S2048x1024_0_0).toLoadRect (harg8.unread w) = w :=
    (readAt_ld harg8 w _).trans (View.ld_unit_zero zero2 _ w)
  iapply Hk
  isplitl [H0]
  · iexists _; isplitr; · ipureintro; exact harg2.read_unread _
    iexact H0
  isplitl [H3]
  · iexists _; isplitr; · ipureintro; exact harg5.read_unread _
    iexact H3
  isplitl [H4]
  · iexists _; isplitr; swap; · iexact H4
    ipureintro
    rw [ld0, ld3, ldw]; exact View.read_writes_full _ _ _ _ _
  iexists _; isplitr; · ipureintro; exact harg8.read_unread _
  iexact HS0

end Cert.MgProjIdeal.Col

end
-- ==== Proof.MgProj.Call.lean ====
module

public import proofs.«01_k».proof.Proof.MgProj.Run
public import Idealize.ShloMosaic.Lib.Claim

@[expose] public section

set_option maxRecDepth 16384

noncomputable section

namespace Cert.MgProjIdeal.Col

open Cert.MgProjIdeal Cert.MgProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

/-- The body casts the weights at the first row block of each column block. -/
theorem first_iff : ∀ t : Fin cfg0.N, k0_cond1 (grid0.coords t) = 1#1 ↔ t.val % 4 = 0 :=
  (by decide +kernel : ∀ t : Fin grid0.N, k0_cond1 (grid0.coords t) = 1#1 ↔ t.val % 4 = 0)

/-- The first point of the column block that point `t` works on. -/
def head (t : Fin cfg0.N) : Fin cfg0.N := ⟨t.val - t.val % 4, lt_of_le_of_lt (Nat.sub_le _ _) t.isLt⟩

theorem head_first (t : Fin cfg0.N) (h : t.val % 4 = 0) : head t = t := Fin.ext (by simp only [head]; omega)

theorem head_prev (t : Fin cfg0.N) (h : ¬ t.val % 4 = 0) (h' : t.val - 1 < cfg0.N) : head ⟨t.val - 1, h'⟩ = head t :=
  Fin.ext (by simp only [head]; omega)

/-! ## What the buffers hold -/

/-- The weights the scratch holds at point `t`. -/
def held (c : Dev nD) (t : Fin cfg0.N) : Vec F S2048x1024 .bf16 := k0_pay1 (iblk m c 2 (head t))

/-- The block of the first result at point `t`. -/
def rowsOut (c : Dev nD) (t : Fin cfg0.N) : Vec F S2048x1024 .bf16 := k0_pay3 (iblk m c 0 t) (held m c t) (iblk m c 3 t)

/-- The block of the second result over the column block of point `t`. -/
def sampleOut (c : Dev nD) (t : Fin cfg0.N) : Vec F S128x1024 .bf16 :=
  k0_pay2 (iblk m c 1 (head t)) (held m c t) (iblk m c 3 (head t))

/-- Between the points of one column block the scratch holds that block's weights. -/
def Holds (c : Dev nD) (n : ℕ) (d : Vec F S2048x1024 .bf16) : Prop :=
  ∀ t : Fin cfg0.N, t.val = n → ¬ n % 4 = 0 → d = held m c t

/-- The scratch operand. -/
abbrev scr : Memref sig .tc .vmem S2048x1024 .bf16 := Memref.whole cc0_scratch0

/-- What is kept from point to point: the scratch, and the generator register. -/
def Inv (c : Dev nD) (n : ℕ) : sProp 𝕄 :=
  iprop((∃ d, ⌜Holds m c n d⌝ ∗ owns (c : Thread nD τ) scr fullShare d) ∗ (∃ r, prngReg c r))

/-- The call's own invariant, its scratch as a memref at some contents. -/
theorem rest_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-- The pipeline's proof data: each input at its block, each output at what the body leaves there. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => rowsOut m c t
    | ⟨5, _⟩ => sampleOut m c t
  Φ s := Inv m c s.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = rowsOut m c t := by dsimp only [dats]
theorem after0_5 (c : Dev nD) (t : Fin cfg0.N) : (dats m 0 c).after 5 t = sampleOut m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

theorem live (t : Fin cfg0.N) (h : t.val % 4 = 0) : cfg0.idle 5 (grid0.coords t) = false := by
  show (!(k0_cond1 (grid0.coords t) == 1#1)) = false
  rw [(first_iff t).mpr h]; rfl

theorem rest (t : Fin cfg0.N) (h : ¬ t.val % 4 = 0) : cfg0.idle 5 (grid0.coords t) = true := by
  show (!(k0_cond1 (grid0.coords t) == 1#1)) = true
  rw [beq_eq_false_iff_ne.mpr fun e => h ((first_iff t).mp e)]; rfl

/-- Past the first row block the second result's buffer already holds the column block's rows. -/
theorem before0_5 (c : Dev nD) : ∀ (n : ℕ) (t : Fin cfg0.N) (_ : t.val = n) (_ : ¬ t.val % 4 = 0) (d),
    (dats m 0 c).before 5 t d = sampleOut m c t := by
  intro n
  induction n with
  | zero => intro t ht h d; omega
  | succ n ih =>
    intro t ht h d
    have hlt : t.val - 1 < cfg0.N := lt_of_le_of_lt (Nat.sub_le _ _) t.isLt
    have e : sampleOut m c ⟨t.val - 1, hlt⟩ = sampleOut m c t := by
      unfold sampleOut held; rw [head_prev t h]
    have hfl : (cfg0.win 5).flush ⟨t.val - 1, hlt⟩ = false := by
      rw [← Bool.not_eq_true, flush0_5]; dsimp only; omega
    rw [(dats m 0 c).before_of_pos 5 t (by omega) ((cfg0.win 5).fetch_out rfl t), hfl, if_neg Bool.false_ne_true]
    unfold Dat.left
    by_cases h0 : (t.val - 1) % 4 = 0
    · rw [live ⟨t.val - 1, hlt⟩ h0]
      refine Eq.trans ?_ ((after0_5 m c _).trans e)
      unfold Dat.kept
      rw [Pipeline.fill_of_clip_none 5 _ (fun _ => rfl) d ((dats m 0 c).after 5 _), Window.fill_cut]
    · rw [rest ⟨t.val - 1, hlt⟩ h0]
      exact (ih ⟨t.val - 1, hlt⟩ (by dsimp only; omega) h0 d).trans e

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- A window that no point leaves idle is handed back at what the body leaves in it. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

set_option maxHeartbeats 1600000 in
/-- The body at any point, from what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    show (dats m 0 c).Φ t.castSucc = Inv m c t.val from rfl, show (dats m 0 c).Φ t.succ = Inv m c (t.val + 1) from rfl]
  unfold Inv
  rw [leaves_live m c 0 t rfl, leaves_live m c 1 t rfl, leaves_live m c 2 t rfl, leaves_live m c 3 t rfl, leaves_live m c 4 t rfl,
    after0_0, after0_1, after0_2, after0_3, after0_4]
  have hN : t.val < 28 := lt_of_lt_of_eq t.isLt (show cfg0.N = 28 from N_0)
  by_cases h0 : t.val % 4 = 0
  · rw [leaves_live m c 5 t (live t h0), after0_5]
    have hh : head t = t := head_first t h0
    have e4 : rowsOut m c t = k0_pay3 (iblk m c 0 t) (k0_pay1 (iblk m c 2 t)) (iblk m c 3 t) := by unfold rowsOut held; rw [hh]
    have e5 : sampleOut m c t = k0_pay2 (iblk m c 1 t) (k0_pay1 (iblk m c 2 t)) (iblk m c 3 t) := by unfold sampleOut held; rw [hh]
    have hs : Holds m c (t.val + 1) (k0_pay1 (iblk m c 2 t)) := by
      intro u hu hu0
      have : head u = t := Fin.ext (by simp only [head]; omega)
      unfold held; rw [this]
    rw [e4, e5]
    iintro ⟨⟨⟨%ds, -, HS0⟩, Hg⟩, Ho, ⟨%d0, H0⟩, ⟨%d1, H1⟩, ⟨%d2, H2⟩, ⟨%d3, H3⟩, ⟨%d4, H4⟩, ⟨%d5, H5⟩⟩
    iapply (run_first c (grid0.coords t) _ _ _ _ _ _ _ _ _ _ _ _ _ _ ((first_iff t).mpr h0) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexists _; iexact HS0
    iintro ⟨H0, H1, H2, H3, H4, H5, HS0⟩
    isplitl [HS0 Hg]
    · isplitl [HS0]
      · iexists _; isplitr; · ipureintro; exact hs
        iexact HS0
      iexact Hg
    isplitl [Ho]; · iexact Ho
    isplitl [H0]; · iexact H0
    isplitl [H1]; · iexact H1
    isplitl [H2]; · iexact H2
    isplitl [H3]; · iexact H3
    isplitl [H4]; · iexact H4
    iexact H5
  · iintro ⟨⟨⟨%ds, %hds, HS0⟩, Hg⟩, Ho, ⟨%d0, H0⟩, ⟨%d1, H1⟩, ⟨%d2, H2⟩, ⟨%d3, H3⟩, ⟨%d4, H4⟩, ⟨%d5, H5⟩⟩
    obtain rfl := hds t rfl h0
    have hs : Holds m c (t.val + 1) (held m c t) := by
      intro u hu hu0
      have : head u = head t := Fin.ext (by simp only [head]; omega)
      unfold held; rw [this]
    iapply (run_next c (grid0.coords t) _ _ _ _ _ _ _ _ _ _ _ _ _ _ (fun h => h0 ((first_iff t).mp h)) (iblk m c 0 t) (iblk m c 3 t) (held m c t) Set.univ _)
    isplitl [H0]; · iexact H0
    isplitl [H3]; · iexact H3
    isplitl [H4]; · iexists _; iexact H4
    isplitl [HS0]; · iexact HS0
    iintro ⟨H0, H3, H4, HS0⟩
    isplitl [HS0 Hg]
    · isplitl [HS0]
      · iexists _; isplitr; · ipureintro; exact hs
        iexact HS0
      iexact Hg
    isplitl [Ho]; · iexact Ho
    isplitl [H0]; · iexact H0
    isplitl [H1]; · iexact H1
    isplitl [H2]; · iexact H2
    isplitl [H3]; · iexact H3
    isplitl [H4]; · iexact H4
    by_cases hfl : (cfg0.win 5).flush t = true
    · rw [show (dats m 0 c).leavesExact 5 t = owns (c : Thread nD τ) (st0_5 t) fullShare ((dats m 0 c).after 5 t) from by
        unfold Dat.leavesExact; rw [rest t h0, hfl], after0_5, ← before0_5 m c _ t rfl h0 d5]
      iexact H5
    · rw [(dats m 0 c).leavesExact_idle 5 t (rest t h0) (Bool.not_eq_true _ ▸ hfl)]
      iexists _; iexact H5

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-- Entering: before the first point nothing is asked of the scratch. -/
theorem enter (c : Dev nD) : (Pipeline.ΦA spec0 c : sProp 𝕄) ⊢ (dats m 0 c).Φ 0 := by
  rw [rest_eq, show (dats m 0 c).Φ 0 = Inv m c 0 from rfl]; unfold Inv
  iintro ⟨⟨%d, HS0⟩, Hg⟩
  isplitl [HS0]
  · iexists _; isplitr; swap; · iexact HS0
    ipureintro; intro t _ h; exact absurd rfl h
  iexact Hg

/-- Leaving: the scratch's contents are let go. -/
theorem leave (c : Dev nD) : (dats m 0 c).Φ (Fin.last cfg0.N) ⊢ (Pipeline.ΦA spec0 c : sProp 𝕄) := by
  rw [rest_eq, show (dats m 0 c).Φ (Fin.last cfg0.N) = Inv m c cfg0.N from rfl]; unfold Inv
  iintro ⟨⟨%d, -, HS0⟩, Hg⟩
  isplitl [HS0]
  · iexists _; iexact HS0
  iexact Hg

/-! ## The run and the frame -/

set_option backward.isDefEq.respectTransparency.types false in
/-- The launch: the program runs, and every semaphore counter is zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_main_quiescent m ρ)

/-- The frame: the program runs, the argument arrays end unchanged, every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

/-- The run with the two result arrays named. -/
theorem run_blocks : θ_run defs (onTc (τ := τ) (main (F := F))) ⟨m, fun _ => 0, ρ⟩ fun r => ∀ c : Dev nD,
      r.2.mem ((c : Thread nD τ).loc main_v6_0) = (dats m 0 c).arrAt 4 cfg0.N
      ∧ r.2.mem ((c : Thread nD τ).loc main_v6_1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 4, (h c).1 5,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.MgProjIdeal.Col

end
-- ==== Proof.MgProj.Vals.lean ====
/- The column projection of the merge gates and memory queries: both result arrays hold the reference's terms. -/
module

public import proofs.«01_k».proof.Proof.MgProj.Call
public import proofs.«01_k».proof.Proof.Gen.MgProjRefIdeal.Run
public import proofs.«01_k».proof.Proof.Gen.MgProjRefIdeal.Read
public import Idealize.ShloMosaic.Lib.Pipeline.ValueKit
public import Idealize.ShloMosaic.Lib.Pointwise
public import Idealize.ShloMosaic.Lib.IdealHost

@[expose] public section

set_option maxRecDepth 16384

noncomputable section

namespace Cert.Proof.MgProj

open Idealize.ShloMosaic Idealize.SL.Sem Idealize.ShloMosaic.TcCoe
open Cert.MgProjIdeal Cert.MgProjIdeal.Gen Cert.MgProjIdeal.Col

/-- Rows move with the point inside a column block; weights and scales move with the column block. -/
theorem idx : ∀ t : Fin cfg0.N, win0_0.index t = ![t.val % 4, 0] ∧ win0_1.index t = ![0, 0]
    ∧ win0_2.index t = ![0, t.val / 4 + 6] ∧ win0_3.index t = ![0, t.val / 4]
    ∧ win0_4.index t = ![t.val % 4, t.val / 4] ∧ win0_5.index t = ![0, t.val / 4] :=
  (by decide +kernel : ∀ t : Fin grid0.N, _)

/-- The same at the head of the column block. -/
theorem idx_head (t : Fin cfg0.N) : win0_1.index (head t) = ![0, 0]
    ∧ win0_2.index (head t) = ![0, t.val / 4 + 6] ∧ win0_3.index (head t) = ![0, t.val / 4] := by
  have e : (head t).val / 4 = t.val / 4 := by simp only [head]; omega
  obtain ⟨-, h1, h2, h3, -⟩ := idx (head t)
  rw [e] at h2 h3
  exact ⟨h1, h2, h3⟩

/-- The scale row the host computes is the reference's. -/
theorem scale (m : (ℓ : Loc nD τ sig) → Buf (Elt Ideal) ℓ) (c : Dev nD) :
    V m c main_v5 = shapeCast S1x7168 (Cert.MgProjRefIdeal.Read.val_main_v4 (F := Ideal)) Cert.MgProjIdeal.Gen.shapeCasts_S7168_S1x7168 := by
  entry_read
  rfl

set_option maxHeartbeats 1000000 in
/-- The first result holds the prompt rows' scaled products. -/
theorem final_p (m : (ℓ : Loc nD τ sig) → Buf (Elt Ideal) ℓ) (c : Dev nD) :
    (dats m 0 c).arrAt 4 cfg0.N
      = Cert.MgProjRefIdeal.Read.val_main_v11 (F := Ideal) (m ((c : Thread nD τ).loc main_arg0)) (m ((c : Thread nD τ).loc main_arg2)) := by
  refine (dats m 0 c).arrAt_eq_of_covers 4 _ (by decide +kernel) fun t hf y => ?_
  blk_simp
  rw [after0_4]
  unfold rowsOut held
  rw [Cert.MgProjRefIdeal.Read.val_main_v11_apply, Cert.MgProjRefIdeal.Read.val_main_v10_apply,
    Cert.MgProjRefIdeal.Read.val_main_v7_apply, Cert.MgProjRefIdeal.Read.val_main_v6_apply]
  pointwise [Gen.k0_pay1, Gen.k0_pay3]
  rw [Cert.MgProjRefIdeal.Read.val_main_v9_apply, Cert.MgProjRefIdeal.Read.val_main_v8_apply]
  refine congrArg₂ (· * ·) (Finset.sum_congr rfl fun x _ => congrArg₂ (· * ·) ?_ ?_) ?_
  · rw [Cert.MgProjRefIdeal.Read.val_main_v5_apply]
    pointwise
    blk_ext [iblk, V, idx t]
  · blk_ext [iblk, V, idx_head t, idx t]
  · blk_simp [iblk]
    rw [scale]
    pointwise
    blk_ext [idx t]

set_option maxHeartbeats 1000000 in
/-- The second result holds the sample rows' scaled products. -/
theorem final_s (m : (ℓ : Loc nD τ sig) → Buf (Elt Ideal) ℓ) (c : Dev nD) :
    (dats m 0 c).arrAt 5 cfg0.N
      = Cert.MgProjRefIdeal.Read.val_main_v18 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  unfold sampleOut held
  rw [Cert.MgProjRefIdeal.Read.val_main_v18_apply, Cert.MgProjRefIdeal.Read.val_main_v17_apply,
    Cert.MgProjRefIdeal.Read.val_main_v14_apply, Cert.MgProjRefIdeal.Read.val_main_v13_apply]
  pointwise [Gen.k0_pay1, Gen.k0_pay2]
  rw [Cert.MgProjRefIdeal.Read.val_main_v16_apply, Cert.MgProjRefIdeal.Read.val_main_v15_apply]
  refine congrArg₂ (· * ·) (Finset.sum_congr rfl fun x _ => congrArg₂ (· * ·) ?_ ?_) ?_
  · rw [Cert.MgProjRefIdeal.Read.val_main_v12_apply]
    pointwise
    blk_ext [iblk, V, idx t, idx_head t]
  · blk_ext [iblk, V, idx_head t, idx t]
  · blk_simp [iblk]
    rw [scale]
    pointwise
    blk_ext [idx t, idx_head t]

end Cert.Proof.MgProj

end
-- ==== Proof.QgProj.Run.lean ====
module

public import proofs.«01_k».proof.Proof.Gen.QgProjIdeal.Frame
public import proofs.«01_k».proof.Proof.Gen.QgProjIdeal.Skeleton
public import proofs.«01_k».proof.Proof.Gen.QgProjIdeal.Points
public import Idealize.ShloMosaic.Lib.WholeRead
public import Idealize.ShloMosaic.Lib.VecWindow
public import Idealize.ShloMosaic.Lib.WordCmp
public import Idealize.ShloMosaic.Lib.Pipeline.Value

@[expose] public section

set_option maxRecDepth 16384

noncomputable section

/-! The column projection: what its body leaves at a point, the run of the whole call, its frame and what the
    two result arrays hold at the end. -/

namespace Cert.QgProjIdeal.Col

open Cert.QgProjIdeal Cert.QgProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A load of a whole memref held at the contents that read `X` is the load of `X`. -/
theorem readAt_ld {sp : Space} {s : Shape} {e : EltTy} {m : Memref sig .tc sp s e} (h : m.IsWhole) (X : s.Idx → Elt F e)
    (R : Rect s) : View.readAt (Elt F) m.view R.toLoadRect (h.unread X) = View.ld X R :=
  funext fun x => Memref.IsWhole.readAt_unread h X R.toLoadRect x

theorem zero2 : (![0, 0] : Fin 2 → ℕ) = fun _ => 0 := by decide

set_option maxHeartbeats 1000000 in
/-- The body at a first row block: it casts the weights into the scratch and computes both results from them. -/
theorem run_first (c : Dev nD) (i : grid0.Coords) (arg2 : Memref sig .tc .vmem S2048x2048 .bf16) (harg2 : arg2.IsWhole) (arg3 : Memref sig .tc .vmem S128x2048 .bf16) (harg3 : arg3.IsWhole) (arg4 : Memref sig .tc .vmem S2048x768 .f32) (harg4 : arg4.IsWhole) (arg5 : Memref sig .tc .vmem S1x768 .f32) (harg5 : arg5.IsWhole) (arg6 : Memref sig .tc .vmem S2048x768 .bf16) (harg6 : arg6.IsWhole) (arg7 : Memref sig .tc .vmem S128x768 .bf16) (harg7 : arg7.IsWhole) (arg8 : Memref sig .tc .vmem S2048x768 .bf16) (harg8 : arg8.IsWhole) (hc0 : k0_cond1 i = 1#1)
    (x0 : Vec F S2048x2048 .bf16) (x1 : Vec F S128x2048 .bf16) (x2 : Vec F S2048x768 .f32) (x3 : Vec F S1x768 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay3 x0 (k0_pay1 x2) x3) ∗ owns (c : Thread nD τ) arg7 fullShare (k0_pay2 x1 (k0_pay1 x2) x3) ∗ owns (c : Thread nD τ) arg8 fullShare (k0_pay1 x2)) -∗ K ⟨⟩))
      ⊢ wp frame (wpE (defs₀ (F := F)) Variants.none c none) E (cc0_qg_projection i arg2 harg2 arg3 harg3 arg4 harg4 arg5 harg5 arg6 harg6 arg7 harg7 arg8 harg8) K := by
  simp only [cc0_qg_projection_eq_skeleton]; unfold cc0_qg_projection_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
  obtain rfl := harg2.eq_unread hf0; obtain rfl := harg3.eq_unread hf1; obtain rfl := harg4.eq_unread hf2; obtain rfl := harg5.eq_unread hf3
  sl_exec (disch := first | sl_exact hc0)
  sl_step
  have ld0 : View.readAt (Elt F) arg2.view (Rect.unit (s := S2048x2048) ![0, 0] S2048x2048.size inb_S2048x2048_S2048x2048_0_0).toLoadRect (harg2.unread x0) = x0 :=
    (readAt_ld harg2 x0 _).trans (View.ld_unit_zero zero2 _ x0)
  have ld1 : View.readAt (Elt F) arg3.view (Rect.unit (s := S128x2048) ![0, 0] S128x2048.size inb_S128x2048_S128x2048_0_0).toLoadRect (harg3.unread x1) = x1 :=
    (readAt_ld harg3 x1 _).trans (View.ld_unit_zero zero2 _ x1)
  have ld2 : View.readAt (Elt F) arg4.view (Rect.unit (s := S2048x768) ![0, 0] S2048x768.size inb_S2048x768_S2048x768_0_0).toLoadRect (harg4.unread x2) = x2 :=
    (readAt_ld harg4 x2 _).trans (View.ld_unit_zero zero2 _ x2)
  have ld3 : View.readAt (Elt F) arg5.view (Rect.unit (s := S1x768) ![0, 0] S1x768.size inb_S1x768_S1x768_0_0).toLoadRect (harg5.unread x3) = x3 :=
    (readAt_ld harg5 x3 _).trans (View.ld_unit_zero zero2 _ x3)
  have ew : run_first.sl.v18 c arg4 harg4 arg8 x2 = k0_pay1 x2 := by
    unfold run_first.sl.v18 run_first.sl.HS0_1; rw [ld2]
    exact View.readCov_full _ _ _ _ _
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    rw [ld0, ld3, ew]; exact View.read_writes_full _ _ _ _ _
  isplitl [H5]
  · iexists _; isplitr; swap; · iexact H5
    ipureintro
    rw [ld1, ld3, ew]; exact View.read_writes_full _ _ _ _ _
  iexists _; isplitr; swap; · iexact HS0
  ipureintro
  unfold run_first.sl.HS0_1; rw [ld2]; exact View.read_writes_full _ _ _ _ _

set_option maxHeartbeats 1000000 in
/-- The body at a further row block: it computes the first result from the weights the scratch holds. -/
theorem run_next (c : Dev nD) (i : grid0.Coords) (arg2 : Memref sig .tc .vmem S2048x2048 .bf16) (harg2 : arg2.IsWhole) (arg3 : Memref sig .tc .vmem S128x2048 .bf16) (harg3 : arg3.IsWhole) (arg4 : Memref sig .tc .vmem S2048x768 .f32) (harg4 : arg4.IsWhole) (arg5 : Memref sig .tc .vmem S1x768 .f32) (harg5 : arg5.IsWhole) (arg6 : Memref sig .tc .vmem S2048x768 .bf16) (harg6 : arg6.IsWhole) (arg7 : Memref sig .tc .vmem S128x768 .bf16) (harg7 : arg7.IsWhole) (arg8 : Memref sig .tc .vmem S2048x768 .bf16) (harg8 : arg8.IsWhole) (hc0 : ¬ k0_cond1 i = 1#1)
    (x0 : Vec F S2048x2048 .bf16) (x3 : Vec F S1x768 .f32) (w : Vec F S2048x768 .bf16) (E : Set ℕ) (K : PUnit → sProp 𝕄) :
    iprop(owns (c : Thread nD τ) arg2 fullShare x0 ∗ owns (c : Thread nD τ) arg5 fullShare x3 ∗ (∃ d, owns (c : Thread nD τ) arg6 fullShare d) ∗ owns (c : Thread nD τ) arg8 fullShare w
        ∗ (iprop(owns (c : Thread nD τ) arg2 fullShare x0 ∗ owns (c : Thread nD τ) arg5 fullShare x3 ∗ owns (c : Thread nD τ) arg6 fullShare (k0_pay3 x0 w x3) ∗ owns (c : Thread nD τ) arg8 fullShare w) -∗ K ⟨⟩))
      ⊢ wp frame (wpE (defs₀ (F := F)) Variants.none c none) E (cc0_qg_projection i arg2 harg2 arg3 harg3 arg4 harg4 arg5 harg5 arg6 harg6 arg7 harg7 arg8 harg8) K := by
  simp only [cc0_qg_projection_eq_skeleton]; unfold cc0_qg_projection_skel
  unfold owns
  iintro ⟨⟨%f0, %hf0, H0⟩, ⟨%f3, %hf3, H3⟩, ⟨%d4, %f4, -, H4⟩, ⟨%fs0, %hfs0, HS0⟩, Hk⟩
  obtain rfl := harg2.eq_unread hf0; obtain rfl := harg5.eq_unread hf3; obtain rfl := harg8.eq_unread hfs0
  sl_exec (disch := first | sl_exact hc0)
  sl_step
  have ld0 : View.readAt (Elt F) arg2.view (Rect.unit (s := S2048x2048) ![0, 0] S2048x2048.size inb_S2048x2048_S2048x2048_0_0).toLoadRect (harg2.unread x0) = x0 :=
    (readAt_ld harg2 x0 _).trans (View.ld_unit_zero zero2 _ x0)
  have ld3 : View.readAt (Elt F) arg5.view (Rect.unit (s := S1x768) ![0, 0] S1x768.size inb_S1x768_S1x768_0_0).toLoadRect (harg5.unread x3) = x3 :=
    (readAt_ld harg5 x3 _).trans (View.ld_unit_zero zero2 _ x3)
  have ldw : View.readAt (Elt F) arg8.view (Rect.unit (s := S2048x768) ![0, 0] S2048x768.size inb_S2048x768_S2048x768_0_0).toLoadRect (harg8.unread w) = w :=
    (readAt_ld harg8 w _).trans (View.ld_unit_zero zero2 _ w)
  iapply Hk
  isplitl [H0]
  · iexists _; isplitr; · ipureintro; exact harg2.read_unread _
    iexact H0
  isplitl [H3]
  · iexists _; isplitr; · ipureintro; exact harg5.read_unread _
    iexact H3
  isplitl [H4]
  · iexists _; isplitr; swap; · iexact H4
    ipureintro
    rw [ld0, ld3, ldw]; exact View.read_writes_full _ _ _ _ _
  iexists _; isplitr; · ipureintro; exact harg8.read_unread _
  iexact HS0

end Cert.QgProjIdeal.Col

end
-- ==== Proof.QgProj.Call.lean ====
module

public import proofs.«01_k».proof.Proof.QgProj.Run
public import Idealize.ShloMosaic.Lib.Claim

@[expose] public section

set_option maxRecDepth 16384

noncomputable section

namespace Cert.QgProjIdeal.Col

open Cert.QgProjIdeal Cert.QgProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

/-- The body casts the weights at the first row block of each column block. -/
theorem first_iff : ∀ t : Fin cfg0.N, k0_cond1 (grid0.coords t) = 1#1 ↔ t.val % 4 = 0 :=
  (by decide +kernel : ∀ t : Fin grid0.N, k0_cond1 (grid0.coords t) = 1#1 ↔ t.val % 4 = 0)

/-- The first point of the column block that point `t` works on. -/
def head (t : Fin cfg0.N) : Fin cfg0.N := ⟨t.val - t.val % 4, lt_of_le_of_lt (Nat.sub_le _ _) t.isLt⟩

theorem head_first (t : Fin cfg0.N) (h : t.val % 4 = 0) : head t = t := Fin.ext (by simp only [head]; omega)

theorem head_prev (t : Fin cfg0.N) (h : ¬ t.val % 4 = 0) (h' : t.val - 1 < cfg0.N) : head ⟨t.val - 1, h'⟩ = head t :=
  Fin.ext (by simp only [head]; omega)

/-! ## What the buffers hold -/

/-- The weights the scratch holds at point `t`. -/
def held (c : Dev nD) (t : Fin cfg0.N) : Vec F S2048x768 .bf16 := k0_pay1 (X0_2 m c (head t))

/-- The block of the first result at point `t`. -/
def rowsOut (c : Dev nD) (t : Fin cfg0.N) : Vec F S2048x768 .bf16 := k0_pay3 (iblk m c 0 t) (held m c t) (iblk m c 3 t)

/-- The block of the second result over the column block of point `t`. -/
def sampleOut (c : Dev nD) (t : Fin cfg0.N) : Vec F S128x768 .bf16 :=
  k0_pay2 (iblk m c 1 (head t)) (held m c t) (iblk m c 3 (head t))

/-- Between the points of one column block the scratch holds that block's weights. -/
def Holds (c : Dev nD) (n : ℕ) (d : Vec F S2048x768 .bf16) : Prop :=
  ∀ t : Fin cfg0.N, t.val = n → ¬ n % 4 = 0 → d = held m c t

/-- The scratch operand. -/
abbrev scr : Memref sig .tc .vmem S2048x768 .bf16 := Memref.whole cc0_scratch0

/-- What is kept from point to point: the scratch, and the generator register. -/
def Inv (c : Dev nD) (n : ℕ) : sProp 𝕄 :=
  iprop((∃ d, ⌜Holds m c n d⌝ ∗ owns (c : Thread nD τ) scr fullShare d) ∗ (∃ r, prngReg c r))

/-- The call's own invariant, its scratch as a memref at some contents. -/
theorem rest_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-- The pipeline's proof data: each input at its block, each output at what the body leaves there. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => rowsOut m c t
    | ⟨5, _⟩ => sampleOut m c t
  Φ s := Inv m c s.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = rowsOut m c t := by dsimp only [dats]
theorem after0_5 (c : Dev nD) (t : Fin cfg0.N) : (dats m 0 c).after 5 t = sampleOut m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

theorem live (t : Fin cfg0.N) (h : t.val % 4 = 0) : cfg0.idle 5 (grid0.coords t) = false := by
  show (!(k0_cond1 (grid0.coords t) == 1#1)) = false
  rw [(first_iff t).mpr h]; rfl

theorem rest (t : Fin cfg0.N) (h : ¬ t.val % 4 = 0) : cfg0.idle 5 (grid0.coords t) = true := by
  show (!(k0_cond1 (grid0.coords t) == 1#1)) = true
  rw [beq_eq_false_iff_ne.mpr fun e => h ((first_iff t).mp e)]; rfl

/-- Past the first row block the second result's buffer already holds the column block's rows. -/
theorem before0_5 (c : Dev nD) : ∀ (n : ℕ) (t : Fin cfg0.N) (_ : t.val = n) (_ : ¬ t.val % 4 = 0) (d),
    (dats m 0 c).before 5 t d = sampleOut m c t := by
  intro n
  induction n with
  | zero => intro t ht h d; omega
  | succ n ih =>
    intro t ht h d
    have hlt : t.val - 1 < cfg0.N := lt_of_le_of_lt (Nat.sub_le _ _) t.isLt
    have e : sampleOut m c ⟨t.val - 1, hlt⟩ = sampleOut m c t := by
      unfold sampleOut held; rw [head_prev t h]
    have hfl : (cfg0.win 5).flush ⟨t.val - 1, hlt⟩ = false := by
      rw [← Bool.not_eq_true, flush0_5]; dsimp only; omega
    rw [(dats m 0 c).before_of_pos 5 t (by omega) ((cfg0.win 5).fetch_out rfl t), hfl, if_neg Bool.false_ne_true]
    unfold Dat.left
    by_cases h0 : (t.val - 1) % 4 = 0
    · rw [live ⟨t.val - 1, hlt⟩ h0]
      refine Eq.trans ?_ ((after0_5 m c _).trans e)
      unfold Dat.kept
      rw [Pipeline.fill_of_clip_none 5 _ (fun _ => rfl) d ((dats m 0 c).after 5 _), Window.fill_cut]
    · rw [rest ⟨t.val - 1, hlt⟩ h0]
      exact (ih ⟨t.val - 1, hlt⟩ (by dsimp only; omega) h0 d).trans e

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- A window that no point leaves idle is handed back at what the body leaves in it. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

set_option maxHeartbeats 1600000 in
/-- The body at any point, from what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    show (dats m 0 c).Φ t.castSucc = Inv m c t.val from rfl, show (dats m 0 c).Φ t.succ = Inv m c (t.val + 1) from rfl]
  unfold Inv
  rw [leaves_live m c 0 t rfl, leaves_live m c 1 t rfl, leaves_live m c 2 t rfl, leaves_live m c 3 t rfl, leaves_live m c 4 t rfl,
    after0_0, after0_1, after0_2, after0_3, after0_4]
  have hN : t.val < 16 := lt_of_lt_of_eq t.isLt (show cfg0.N = 16 from N_0)
  by_cases h0 : t.val % 4 = 0
  · rw [leaves_live m c 5 t (live t h0), after0_5]
    have hh : head t = t := head_first t h0
    have e4 : rowsOut m c t = k0_pay3 (iblk m c 0 t) (k0_pay1 (X0_2 m c t)) (iblk m c 3 t) := by unfold rowsOut held; rw [hh]
    have e5 : sampleOut m c t = k0_pay2 (iblk m c 1 t) (k0_pay1 (X0_2 m c t)) (iblk m c 3 t) := by unfold sampleOut held; rw [hh]
    have hs : Holds m c (t.val + 1) (k0_pay1 (X0_2 m c t)) := by
      intro u hu hu0
      have : head u = t := Fin.ext (by simp only [head]; omega)
      unfold held; rw [this]
    rw [e4, e5]
    iintro ⟨⟨⟨%ds, -, HS0⟩, Hg⟩, Ho, ⟨%d0, H0⟩, ⟨%d1, H1⟩, ⟨%d2, H2⟩, ⟨%d3, H3⟩, ⟨%d4, H4⟩, ⟨%d5, H5⟩⟩
    iapply (run_first c (grid0.coords t) _ _ _ _ _ _ _ _ _ _ _ _ _ _ ((first_iff t).mpr h0) (iblk m c 0 t) (iblk m c 1 t) (X0_2 m c t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexists _; iexact HS0
    iintro ⟨H0, H1, H2, H3, H4, H5, HS0⟩
    isplitl [HS0 Hg]
    · isplitl [HS0]
      · iexists _; isplitr; · ipureintro; exact hs
        iexact HS0
      iexact Hg
    isplitl [Ho]; · iexact Ho
    isplitl [H0]; · iexact H0
    isplitl [H1]; · iexact H1
    isplitl [H2]; · iexact H2
    isplitl [H3]; · iexact H3
    isplitl [H4]; · iexact H4
    iexact H5
  · iintro ⟨⟨⟨%ds, %hds, HS0⟩, Hg⟩, Ho, ⟨%d0, H0⟩, ⟨%d1, H1⟩, ⟨%d2, H2⟩, ⟨%d3, H3⟩, ⟨%d4, H4⟩, ⟨%d5, H5⟩⟩
    obtain rfl := hds t rfl h0
    have hs : Holds m c (t.val + 1) (held m c t) := by
      intro u hu hu0
      have : head u = head t := Fin.ext (by simp only [head]; omega)
      unfold held; rw [this]
    iapply (run_next c (grid0.coords t) _ _ _ _ _ _ _ _ _ _ _ _ _ _ (fun h => h0 ((first_iff t).mp h)) (iblk m c 0 t) (iblk m c 3 t) (held m c t) Set.univ _)
    isplitl [H0]; · iexact H0
    isplitl [H3]; · iexact H3
    isplitl [H4]; · iexists _; iexact H4
    isplitl [HS0]; · iexact HS0
    iintro ⟨H0, H3, H4, HS0⟩
    isplitl [HS0 Hg]
    · isplitl [HS0]
      · iexists _; isplitr; · ipureintro; exact hs
        iexact HS0
      iexact Hg
    isplitl [Ho]; · iexact Ho
    isplitl [H0]; · iexact H0
    isplitl [H1]; · iexact H1
    isplitl [H2]; · iexact H2
    isplitl [H3]; · iexact H3
    isplitl [H4]; · iexact H4
    by_cases hfl : (cfg0.win 5).flush t = true
    · rw [show (dats m 0 c).leavesExact 5 t = owns (c : Thread nD τ) (st0_5 t) fullShare ((dats m 0 c).after 5 t) from by
        unfold Dat.leavesExact; rw [rest t h0, hfl], after0_5, ← before0_5 m c _ t rfl h0 d5]
      iexact H5
    · rw [(dats m 0 c).leavesExact_idle 5 t (rest t h0) (Bool.not_eq_true _ ▸ hfl)]
      iexists _; iexact H5

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-- Entering: before the first point nothing is asked of the scratch. -/
theorem enter (c : Dev nD) : (Pipeline.ΦA spec0 c : sProp 𝕄) ⊢ (dats m 0 c).Φ 0 := by
  rw [rest_eq, show (dats m 0 c).Φ 0 = Inv m c 0 from rfl]; unfold Inv
  iintro ⟨⟨%d, HS0⟩, Hg⟩
  isplitl [HS0]
  · iexists _; isplitr; swap; · iexact HS0
    ipureintro; intro t _ h; exact absurd rfl h
  iexact Hg

/-- Leaving: the scratch's contents are let go. -/
theorem leave (c : Dev nD) : (dats m 0 c).Φ (Fin.last cfg0.N) ⊢ (Pipeline.ΦA spec0 c : sProp 𝕄) := by
  rw [rest_eq, show (dats m 0 c).Φ (Fin.last cfg0.N) = Inv m c cfg0.N from rfl]; unfold Inv
  iintro ⟨⟨%d, -, HS0⟩, Hg⟩
  isplitl [HS0]
  · iexists _; iexact HS0
  iexact Hg

/-! ## The run and the frame -/

set_option backward.isDefEq.respectTransparency.types false in
/-- The launch: the program runs, and every semaphore counter is zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_main_quiescent m ρ)

/-- The frame: the program runs, the argument arrays end unchanged, every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

/-- The run with the two result arrays named. -/
theorem run_blocks : θ_run defs (onTc (τ := τ) (main (F := F))) ⟨m, fun _ => 0, ρ⟩ fun r => ∀ c : Dev nD,
      r.2.mem ((c : Thread nD τ).loc main_v8_0) = (dats m 0 c).arrAt 4 cfg0.N
      ∧ r.2.mem ((c : Thread nD τ).loc main_v8_1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 4, (h c).1 5,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.QgProjIdeal.Col

end
-- ==== Proof.QgProj.Vals.lean ====
module

public import proofs.«01_k».proof.Proof.QgProj.Call
public import proofs.«01_k».proof.Proof.Gen.QgProjRefIdeal.Run
public import proofs.«01_k».proof.Proof.Gen.QgProjRefIdeal.Read
public import Idealize.ShloMosaic.Lib.Pipeline.ValueKit
public import Idealize.ShloMosaic.Lib.Pointwise
public import Idealize.ShloMosaic.Lib.IdealHost

@[expose] public section

set_option maxRecDepth 16384

noncomputable section

namespace Cert.Proof.QgProj

open Idealize.ShloMosaic Idealize.SL.Sem Idealize.ShloMosaic.TcCoe
open Cert.QgProjIdeal Cert.QgProjIdeal.Gen Cert.QgProjIdeal.Col

/-- Rows move with the point inside a column block; weights and scales move with the column block. -/
theorem idx : ∀ t : Fin cfg0.N, win0_0.index t = ![t.val % 4, 0] ∧ win0_1.index t = ![0, 0]
    ∧ win0_2.index t = ![0, t.val / 4 + 2 * ((t.val / 4 + 1) / 2)] ∧ win0_3.index t = ![0, t.val / 4]
    ∧ win0_4.index t = ![t.val % 4, t.val / 4] ∧ win0_5.index t = ![0, t.val / 4] :=
  (by decide +kernel : ∀ t : Fin grid0.N, _)

/-- The buffers of a device at a stage of the host line. -/
abbrev St := (b : DevRef τ sig) → b.ty.Contents (Elt Ideal)

/-- A scalar spread over the columns. -/
abbrev spread (n : IVec S_ 32) : IVec S3072 32 := broadcastInDim S3072 ![] bcast_S_S3072 n

/-- Floor division of every column by one number, as the host computes it. -/
def floorDiv (x : IVec S3072 32) (d : IVec S_ 32) : IVec S3072 32 :=
  select (andi (cmpi .ne (signi x) (broadcastInDim S3072 ![] bcast_S_S3072 (signi d)))
      (cmpi .ne (Host.remsi x (spread d)) (spread (constantI S_ 32 0#32))))
    (subi (Host.divsi x (spread d)) (spread (constantI S_ 32 1#32))) (Host.divsi x (spread d))

/-- The divisor, guarded against zero. -/
def guarded (d : IVec S_ 32) : IVec S_ 32 := select (cmpi .eq d (constantI S_ 32 0#32)) (constantI S_ 32 1#32) d

/-- The remainder of every column by one number, as the host computes it. -/
def floorRem (x : IVec S3072 32) (d : IVec S_ 32) : IVec S3072 32 :=
  select (andi (cmpi .ne (cmpi .slt (Host.remsi x (spread (guarded d))) (spread (constantI S_ 32 0#32)))
        (broadcastInDim S3072 ![] bcast_S_S3072 (cmpi .slt (guarded d) (constantI S_ 32 0#32))))
      (cmpi .ne (Host.remsi x (spread (guarded d))) (spread (constantI S_ 32 0#32))))
    (addi (Host.remsi x (spread (guarded d))) (spread (guarded d))) (Host.remsi x (spread (guarded d)))

/-- The part of each column. -/
theorem stage1 (σ : St) : StableHlo.after hostOps0_1 σ (Proc.tc.devRef main_v1)
    = floorDiv (σ (Proc.tc.devRef main_v0)) (σ (Proc.tc.devRef main_c)) := by
  entry_read
  rfl

/-- The parity of each part. -/
theorem stage3 (σ : St) : StableHlo.after hostOps0_3 σ (Proc.tc.devRef main_v2)
    = floorRem (σ (Proc.tc.devRef main_v1)) (σ (Proc.tc.devRef main_c_0)) := by
  entry_read
  simp only [StableHlo.TRef.toBuf, StableHlo.TRef.ofBuf, cast_cast, cast_eq]
  rfl

/-- The choice between the two factors. -/
theorem stage5 (σ : St) : StableHlo.after hostOps0_5 σ (Proc.tc.devRef main_v5) = select (σ (Proc.tc.devRef main_v4))
      (broadcastInDim S3072 ![] bcast_S_S3072 (σ (Proc.tc.devRef main_cst))) (broadcastInDim S3072 ![] bcast_S_S3072 (σ (Proc.tc.devRef main_cst_2))) := by
  entry_read
  rfl

/-- Which columns lie in an even part. -/
def even : IVec S3072 1 :=
  cmpi .eq (floorRem (floorDiv (iotaInDim S3072 32 0) (constantI S_ 32 768#32)) (constantI S_ 32 2#32)) (spread (constantI S_ 32 0#32))

/-- The even parts, column by column. -/
theorem even_at : ∀ j : Fin 3072, even (ValueIdx.ix1 j) = if j.val / 768 % 2 = 0 then 1#1 else 0#1 := by
  decide +kernel

/-- The scale row the host computes. -/
theorem scale (m : (ℓ : Loc nD τ sig) → Buf (Elt Ideal) ℓ) (c : Dev nD) : V m c main_v7 =
    shapeCast S1x3072 (select even
      (broadcastInDim S3072 ![] bcast_S_S3072 (constant S_ .f32 0x3E0293EE#32) : FVec Ideal S3072 .f32)
      (broadcastInDim S3072 ![] bcast_S_S3072 (constant S_ .f32 0x3F000000#32))) shapeCasts_S3072_S1x3072 := by
  show StableHlo.after hostOps0_6 (StableHlo.after hostOps0_5 (StableHlo.after hostOps0_4 (StableHlo.after hostOps0_3
    (StableHlo.after hostOps0_2 (StableHlo.after hostOps0_1 (StableHlo.after hostOps0 (fun b => m (c, b)))))))) (Proc.tc.devRef main_v7) = _
  have e6 : ∀ σ : St, StableHlo.after hostOps0_6 σ (Proc.tc.devRef main_v7)
      = shapeCast S1x3072 (σ (Proc.tc.devRef main_v5) : FVec Ideal S3072 .f32) shapeCasts_S3072_S1x3072 := by
    intro σ; entry_read; rfl
  have e4 : ∀ σ : St, StableHlo.after hostOps0_4 σ (Proc.tc.devRef main_v4)
      = cmpi .eq (σ (Proc.tc.devRef main_v2)) (spread (constantI S_ 32 0#32)) := by
    intro σ; entry_read; try rfl
  have e4' : ∀ σ : St, StableHlo.after hostOps0_4 σ (Proc.tc.devRef main_cst) = (constant S_ .f32 0x3E0293EE#32 : FVec Ideal S_ .f32) := by
    intro σ; entry_read; try rfl
  have e4'' : ∀ σ : St, StableHlo.after hostOps0_4 σ (Proc.tc.devRef main_cst_2) = (constant S_ .f32 0x3F000000#32 : FVec Ideal S_ .f32) := by
    intro σ; entry_read; try rfl
  have e2 : ∀ σ : St, StableHlo.after hostOps0_2 σ (Proc.tc.devRef main_v1) = σ (Proc.tc.devRef main_v1) := by
    intro σ; entry_read; try rfl
  have e2' : ∀ σ : St, StableHlo.after hostOps0_2 σ (Proc.tc.devRef main_c_0) = constantI S_ 32 2#32 := by
    intro σ; entry_read; try rfl
  have e0 : ∀ σ : St, StableHlo.after hostOps0 σ (Proc.tc.devRef main_v0) = iotaInDim S3072 32 0 := by
    intro σ; entry_read; try rfl
  have e0' : ∀ σ : St, StableHlo.after hostOps0 σ (Proc.tc.devRef main_c) = constantI S_ 32 768#32 := by
    intro σ; entry_read; try rfl
  rw [e6, stage5, e4, e4', e4'', stage3, e2, e2', stage1, e0, e0']
  rfl

/-- The factor of a column: the attention's query scale in the even parts, a half in the odd ones. -/
def factor (n : ℕ) : EReal :=
  if n / 768 % 2 = 0 then Ideal.ofBits .f32 0x3E0293EE#32 else Ideal.ofBits .f32 0x3F000000#32

/-- The scale row at a column. -/
theorem scale_at (m : (ℓ : Loc nD τ sig) → Buf (Elt Ideal) ℓ) (c : Dev nD) (j : Fin 3072) : V m c main_v7 (ValueIdx.ix2 0 j) = factor j.val := by
  rw [scale]
  pointwise
  change Scalar.select (even (ValueIdx.ix1 j)) _ _ = _
  rw [even_at]
  unfold factor
  split_ifs <;> rfl

/-- The first column of the source block of column block `n`. -/
def src (n : ℕ) : ℕ := n + 2 * ((n + 1) / 2)

/-- The weights the scratch is filled from, at an index. -/
theorem X_at (m : (ℓ : Loc nD τ sig) → Buf (Elt Ideal) ℓ) (c : Dev nD) (t : Fin cfg0.N) (y : S2048x768.Idx) (z : S2048x13312.Idx)
    (h0 : (z 0).val = (y 0).val) (h1 : (z 1).val = src (t.val / 4) * 768 + (y 1).val) :
    X0_2 m c t y = m ((c : Thread nD τ).loc main_arg2) z := by
  unfold X0_2 Pipeline.Window.fill
  rw [dif_pos (moved0_2 t y)]
  unfold iblk
  rw [show V m c (Pipeline.arrRef spec0 2) = m ((c : Thread nD τ).loc main_arg2) from V_main_arg2 m c]
  refine congrArg (m ((c : Thread nD τ).loc main_arg2)) (funext fun a => Fin.ext ?_)
  have hi := (idx t).2.2.1
  fin_cases a
  · show win0_2.index t 0 * 2048 + 1 * (y 0).val = (z 0).val
    rw [hi, h0]; show 0 * 2048 + 1 * (y 0).val = _; omega
  · show win0_2.index t 1 * 768 + 1 * (y 1).val = (z 1).val
    rw [hi, h1]; show src (t.val / 4) * 768 + 1 * (y 1).val = _; omega

/-- The reference's product at an index. -/
theorem prod_p (x0 : S8192x2048.Idx → EReal) (x2 : S2048x13312.Idx → EReal) (i : Cert.QgProjRefIdeal.S8192x13312.Idx) :
    Cert.QgProjRefIdeal.Read.val_main_v1 (F := Ideal) x0 x2 i = ∑ k : Fin 2048, x0 (ValueIdx.ix2 (i 0) k) * x2 (ValueIdx.ix2 k (i 1)) := by
  rw [Cert.QgProjRefIdeal.Read.val_main_v1_apply]
  refine Finset.sum_congr rfl fun k _ => congrArg₂ (· * ·) ?_ ?_
  · exact congrArg x0 (funext fun a => by fin_cases a <;> rfl)
  · exact congrArg x2 (funext fun a => by fin_cases a <;> rfl)

/-- The reference's result at an index: a column of the product, scaled by its part's factor. -/
theorem ref_p (x0 : S8192x2048.Idx → EReal) (x2 : S2048x13312.Idx → EReal) (i : S8192x3072.Idx) (col : S2048x13312.Coord 1)
    (hc : col.val = src ((i 1).val / 768) * 768 + (i 1).val % 768) :
    Cert.QgProjRefIdeal.Read.val_main_v18 (F := Ideal) x0 x2 i
      = (∑ k : Fin 2048, x0 (ValueIdx.ix2 (i 0) k) * x2 (ValueIdx.ix2 k col)) * factor (i 1).val := by
  have hi : (i 1).val < 3072 := (i 1).isLt
  unfold Cert.QgProjRefIdeal.Read.val_main_v18
  pointwise
  split_ifs with h1 h2 h3 <;> try (exfalso; exact absurd rfl ‹¬ (_ = _)›)
  · rw [Cert.QgProjRefIdeal.Read.val_main_v5_apply, Cert.QgProjRefIdeal.Read.val_main_v4_apply, Cert.QgProjRefIdeal.Read.val_main_v2_apply, Cert.QgProjRefIdeal.Read.val_main_v3_apply, Cert.QgProjRefIdeal.Read.val_main_cst_apply, prod_p]
    refine congrArg₂ (· * ·) (Finset.sum_congr rfl fun k _ => congrArg₂ (· * ·) rfl (congrArg x2 ?_)) ?_
    · exact congrArg (ValueIdx.ix2 k) (Fin.ext (show (i 1).val = col.val by rw [hc]; unfold src; omega))
    · unfold factor; rw [if_pos (by omega)]; rfl
  · rw [Cert.QgProjRefIdeal.Read.val_main_v9_apply, Cert.QgProjRefIdeal.Read.val_main_v8_apply, Cert.QgProjRefIdeal.Read.val_main_v6_apply, Cert.QgProjRefIdeal.Read.val_main_v7_apply, Cert.QgProjRefIdeal.Read.val_main_cst_0_apply, prod_p]
    refine congrArg₂ (· * ·) (Finset.sum_congr rfl fun k _ => congrArg₂ (· * ·) rfl (congrArg x2 ?_)) ?_
    · exact congrArg (ValueIdx.ix2 k) (Fin.ext (show 2304 + ((i 1).val - 768) = col.val by rw [hc]; unfold src; omega))
    · unfold factor; rw [if_neg (by omega)]; rfl
  · rw [Cert.QgProjRefIdeal.Read.val_main_v13_apply, Cert.QgProjRefIdeal.Read.val_main_v12_apply, Cert.QgProjRefIdeal.Read.val_main_v10_apply, Cert.QgProjRefIdeal.Read.val_main_v11_apply, Cert.QgProjRefIdeal.Read.val_main_cst_1_apply, prod_p]
    refine congrArg₂ (· * ·) (Finset.sum_congr rfl fun k _ => congrArg₂ (· * ·) rfl (congrArg x2 ?_)) ?_
    · exact congrArg (ValueIdx.ix2 k) (Fin.ext (show 3072 + ((i 1).val - 768 - 768) = col.val by rw [hc]; unfold src; omega))
    · unfold factor; rw [if_pos (by omega)]; rfl
  · rw [Cert.QgProjRefIdeal.Read.val_main_v17_apply, Cert.QgProjRefIdeal.Read.val_main_v16_apply, Cert.QgProjRefIdeal.Read.val_main_v14_apply, Cert.QgProjRefIdeal.Read.val_main_v15_apply, Cert.QgProjRefIdeal.Read.val_main_cst_2_apply, prod_p]
    refine congrArg₂ (· * ·) (Finset.sum_congr rfl fun k _ => congrArg₂ (· * ·) rfl (congrArg x2 ?_)) ?_
    · exact congrArg (ValueIdx.ix2 k) (Fin.ext (show 5376 + ((i 1).val - 768 - 768 - 768) = col.val by rw [hc]; unfold src; omega))
    · unfold factor; rw [if_neg (by omega)]; rfl

/-- The reference's product at an index. -/
theorem prod_s (x1 : S128x2048.Idx → EReal) (x2 : S2048x13312.Idx → EReal) (i : Cert.QgProjRefIdeal.S128x13312.Idx) :
    Cert.QgProjRefIdeal.Read.val_main_v20 (F := Ideal) x1 x2 i = ∑ k : Fin 2048, x1 (ValueIdx.ix2 (i 0) k) * x2 (ValueIdx.ix2 k (i 1)) := by
  rw [Cert.QgProjRefIdeal.Read.val_main_v20_apply]
  refine Finset.sum_congr rfl fun k _ => congrArg₂ (· * ·) ?_ ?_
  · exact congrArg x1 (funext fun a => by fin_cases a <;> rfl)
  · exact congrArg x2 (funext fun a => by fin_cases a <;> rfl)

/-- The reference's result at an index: a column of the product, scaled by its part's factor. -/
theorem ref_s (x1 : S128x2048.Idx → EReal) (x2 : S2048x13312.Idx → EReal) (i : S128x3072.Idx) (col : S2048x13312.Coord 1)
    (hc : col.val = src ((i 1).val / 768) * 768 + (i 1).val % 768) :
    Cert.QgProjRefIdeal.Read.val_main_v37 (F := Ideal) x1 x2 i
      = (∑ k : Fin 2048, x1 (ValueIdx.ix2 (i 0) k) * x2 (ValueIdx.ix2 k col)) * factor (i 1).val := by
  have hi : (i 1).val < 3072 := (i 1).isLt
  unfold Cert.QgProjRefIdeal.Read.val_main_v37
  pointwise
  split_ifs with h1 h2 h3 <;> try (exfalso; exact absurd rfl ‹¬ (_ = _)›)
  · rw [Cert.QgProjRefIdeal.Read.val_main_v24_apply, Cert.QgProjRefIdeal.Read.val_main_v23_apply, Cert.QgProjRefIdeal.Read.val_main_v21_apply, Cert.QgProjRefIdeal.Read.val_main_v22_apply, Cert.QgProjRefIdeal.Read.val_main_cst_3_apply, prod_s]
    refine congrArg₂ (· * ·) (Finset.sum_congr rfl fun k _ => congrArg₂ (· * ·) rfl (congrArg x2 ?_)) ?_
    · exact congrArg (ValueIdx.ix2 k) (Fin.ext (show (i 1).val = col.val by rw [hc]; unfold src; omega))
    · unfold factor; rw [if_pos (by omega)]; rfl
  · rw [Cert.QgProjRefIdeal.Read.val_main_v28_apply, Cert.QgProjRefIdeal.Read.val_main_v27_apply, Cert.QgProjRefIdeal.Read.val_main_v25_apply, Cert.QgProjRefIdeal.Read.val_main_v26_apply, Cert.QgProjRefIdeal.Read.val_main_cst_4_apply, prod_s]
    refine congrArg₂ (· * ·) (Finset.sum_congr rfl fun k _ => congrArg₂ (· * ·) rfl (congrArg x2 ?_)) ?_
    · exact congrArg (ValueIdx.ix2 k) (Fin.ext (show 2304 + ((i 1).val - 768) = col.val by rw [hc]; unfold src; omega))
    · unfold factor; rw [if_neg (by omega)]; rfl
  · rw [Cert.QgProjRefIdeal.Read.val_main_v32_apply, Cert.QgProjRefIdeal.Read.val_main_v31_apply, Cert.QgProjRefIdeal.Read.val_main_v29_apply, Cert.QgProjRefIdeal.Read.val_main_v30_apply, Cert.QgProjRefIdeal.Read.val_main_cst_5_apply, prod_s]
    refine congrArg₂ (· * ·) (Finset.sum_congr rfl fun k _ => congrArg₂ (· * ·) rfl (congrArg x2 ?_)) ?_
    · exact congrArg (ValueIdx.ix2 k) (Fin.ext (show 3072 + ((i 1).val - 768 - 768) = col.val by rw [hc]; unfold src; omega))
    · unfold factor; rw [if_pos (by omega)]; rfl
  · rw [Cert.QgProjRefIdeal.Read.val_main_v36_apply, Cert.QgProjRefIdeal.Read.val_main_v35_apply, Cert.QgProjRefIdeal.Read.val_main_v33_apply, Cert.QgProjRefIdeal.Read.val_main_v34_apply, Cert.QgProjRefIdeal.Read.val_main_cst_6_apply, prod_s]
    refine congrArg₂ (· * ·) (Finset.sum_congr rfl fun k _ => congrArg₂ (· * ·) rfl (congrArg x2 ?_)) ?_
    · exact congrArg (ValueIdx.ix2 k) (Fin.ext (show 5376 + ((i 1).val - 768 - 768 - 768) = col.val by rw [hc]; unfold src; omega))
    · unfold factor; rw [if_neg (by omega)]; rfl

/-- The head of a column block lies in it. -/
theorem head_div (t : Fin cfg0.N) : (head t).val / 4 = t.val / 4 := by simp only [head]; omega

/-- The blocks at the head of the column block. -/
theorem idx_head (t : Fin cfg0.N) : win0_1.index (head t) = ![0, 0] ∧ win0_3.index (head t) = ![0, t.val / 4] := by
  obtain ⟨-, h1, -, h3, -⟩ := idx (head t)
  rw [head_div] at h3
  exact ⟨h1, h3⟩

set_option maxHeartbeats 1000000 in
/-- The first result holds the prompt rows' scaled products. -/
theorem final_p (m : (ℓ : Loc nD τ sig) → Buf (Elt Ideal) ℓ) (c : Dev nD) :
    (dats m 0 c).arrAt 4 cfg0.N
      = Cert.QgProjRefIdeal.Read.val_main_v18 (F := Ideal) (m ((c : Thread nD τ).loc main_arg0)) (m ((c : Thread nD τ).loc main_arg2)) := by
  refine (dats m 0 c).arrAt_eq_of_covers 4 _ (by decide +kernel) fun t hf y => ?_
  blk_simp
  rw [after0_4]
  unfold rowsOut held
  have hN : t.val < 16 := lt_of_lt_of_eq t.isLt (show cfg0.N = 16 from N_0)
  have hy : (y 1).val < 768 := (y 1).isLt
  have ey : (((cfg0.win 4).blk t).view.emb y 1).val = t.val / 4 * 768 + (y 1).val := by
    show win0_4.index t 1 * 768 + 1 * (y 1).val = _
    rw [(idx t).2.2.2.2.1]; show t.val / 4 * 768 + 1 * (y 1).val = _; omega
  have hs : src (t.val / 4) < 8 := by unfold src; omega
  refine Eq.trans ?_ (ref_p _ _ _ ⟨src (t.val / 4) * 768 + (y 1).val, by show _ < 13312; omega⟩ (by
    rw [show ((((cfg0.win 4).blk t).view.emb y 1).val) / 768 = t.val / 4 by omega,
      show ((((cfg0.win 4).blk t).view.emb y 1).val) % 768 = (y 1).val by omega])).symm
  rw [ey]
  pointwise [Gen.k0_pay1, Gen.k0_pay3]
  refine congrArg₂ (· * ·) (Finset.sum_congr rfl fun x _ => congrArg₂ (· * ·) ?_ ?_) ?_
  · blk_ext [iblk, V, idx t]
    show _ = win0_4.index t 0 * 2048 + 1 * (y 0).val
    rw [(idx t).2.2.2.2.1]; show _ = t.val % 4 * 2048 + 1 * (y 0).val; omega
  · exact X_at m c (head t) _ _ rfl (by rw [head_div]; rfl)
  · blk_simp [iblk]
    refine Eq.trans (congrArg (V m c main_v7) ?_) (scale_at m c ⟨t.val / 4 * 768 + (y 1).val, by omega⟩)
    blk_ext [idx t]

set_option maxHeartbeats 1000000 in
/-- The second result holds the sample rows' scaled products. -/
theorem final_s (m : (ℓ : Loc nD τ sig) → Buf (Elt Ideal) ℓ) (c : Dev nD) :
    (dats m 0 c).arrAt 5 cfg0.N
      = Cert.QgProjRefIdeal.Read.val_main_v37 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  unfold sampleOut held
  have hN : t.val < 16 := lt_of_lt_of_eq t.isLt (show cfg0.N = 16 from N_0)
  have hy : (y 1).val < 768 := (y 1).isLt
  have ey : (((cfg0.win 5).blk t).view.emb y 1).val = t.val / 4 * 768 + (y 1).val := by
    show win0_5.index t 1 * 768 + 1 * (y 1).val = _
    rw [(idx t).2.2.2.2.2]; show t.val / 4 * 768 + 1 * (y 1).val = _; omega
  have hs : src (t.val / 4) < 8 := by unfold src; omega
  refine Eq.trans ?_ (ref_s _ _ _ ⟨src (t.val / 4) * 768 + (y 1).val, by show _ < 13312; omega⟩ (by
    rw [show ((((cfg0.win 5).blk t).view.emb y 1).val) / 768 = t.val / 4 by omega,
      show ((((cfg0.win 5).blk t).view.emb y 1).val) % 768 = (y 1).val by omega])).symm
  rw [ey]
  pointwise [Gen.k0_pay1, Gen.k0_pay2]
  refine congrArg₂ (· * ·) (Finset.sum_congr rfl fun x _ => congrArg₂ (· * ·) ?_ ?_) ?_
  · blk_ext [iblk, V, idx t, idx_head t]
    show _ = win0_5.index t 0 * 128 + 1 * (y 0).val
    rw [(idx t).2.2.2.2.2]; show _ = 0 * 128 + 1 * (y 0).val; omega
  · exact X_at m c (head t) _ _ rfl (by rw [head_div]; rfl)
  · blk_simp [iblk]
    refine Eq.trans (congrArg (V m c main_v7) ?_) (scale_at m c ⟨t.val / 4 * 768 + (y 1).val, by omega⟩)
    blk_ext [idx t, idx_head t]

end Cert.Proof.QgProj

end
-- ==== Proof.Vals.OutProj.lean ====
/- The output projection: its result array after the run is the reference's residual plus normalised product. -/
module

public import proofs.«01_k».proof.Proof.Gen.OutProjIdeal.Value
public import proofs.«01_k».proof.Proof.Gen.OutProjRefIdeal.Run
public import proofs.«01_k».proof.Proof.Gen.OutProjRefIdeal.Read
public import Idealize.ShloMosaic.Lib.Pipeline.ValueKit
public import Idealize.ShloMosaic.Lib.Pointwise
public import Idealize.ShloMosaic.Lib.IdealHost

@[expose] public section

set_option maxRecDepth 16384

noncomputable section

namespace Cert.Proof.OutProj

open Idealize.ShloMosaic Idealize.SL.Sem Idealize.ShloMosaic.TcCoe
open Cert.OutProjIdeal Cert.OutProjIdeal.Gen

/-- The row windows move with the point; the weights and the gain are staged whole. -/
theorem idx : ∀ t : Fin cfg0.N, win0_0.index t = ![t.val, 0] ∧ win0_1.index t = ![t.val, 0]
    ∧ win0_2.index t = ![0, 0] ∧ win0_3.index t = ![0, 0] ∧ win0_4.index t = ![t.val, 0] :=
  (by decide +kernel : ∀ t : Fin grid0.N, _)

set_option maxHeartbeats 1000000 in
/-- The output array holds the reference's term of the four arguments. -/
theorem final (m : (ℓ : Loc nD τ sig) → Buf (Elt Ideal) ℓ) (c : Dev nD) :
    (dats m 0 c).arrAt 4 cfg0.N
      = Cert.OutProjRefIdeal.Read.val_main_v15 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t hf y => ?_
  blk_simp
  rw [after0_4]
  frame_out
  rw [← Cert.OutProjRefIdeal.Read.val_main_v15_eq]
  pointwise [Gen.k0_pay1]
  blk_point [iblk, V, idx t]

end Cert.Proof.OutProj

end
-- ==== Proof.Vals.MemKv.lean ====
/- The memory's keys and values: each result array after the run is the reference's half of the normalised product. -/
module

public import proofs.«01_k».proof.Proof.Gen.MemKvIdeal.Value
public import proofs.«01_k».proof.Proof.Gen.MemKvRefIdeal.Run
public import proofs.«01_k».proof.Proof.Gen.MemKvRefIdeal.Read
public import Idealize.ShloMosaic.Lib.Pipeline.ValueKit
public import Idealize.ShloMosaic.Lib.Pointwise
public import Idealize.ShloMosaic.Lib.IdealHost

@[expose] public section

set_option maxRecDepth 16384

noncomputable section

namespace Cert.Proof.MemKv

open Idealize.ShloMosaic Idealize.SL.Sem Idealize.ShloMosaic.TcCoe
open Cert.MemKvIdeal Cert.MemKvIdeal.Gen

/-- The memory's rows move with the point; the gain and the weights are staged whole. -/
theorem idx : ∀ t : Fin cfg0.N, win0_0.index t = ![t.val, 0] ∧ win0_1.index t = ![0, 0]
    ∧ win0_2.index t = ![0, 0] ∧ win0_3.index t = ![t.val, 0] ∧ win0_4.index t = ![t.val, 0] :=
  (by decide +kernel : ∀ t : Fin grid0.N, _)

variable (m : (ℓ : Loc nD τ sig) → Buf (Elt Ideal) ℓ) (c : Dev nD)

set_option maxHeartbeats 1000000 in
/-- The key array holds the reference's first result. -/
theorem final_k :
    (dats m 0 c).arrAt 3 cfg0.N
      = Cert.MemKvRefIdeal.Read.val_main_v14 (F := Ideal) (m ((c : Thread nD τ).loc main_arg0)) (m ((c : Thread nD τ).loc main_arg1))
          (m ((c : Thread nD τ).loc main_arg2)) := by
  refine (dats m 0 c).arrAt_eq_of_covers 3 _ (by decide +kernel) fun t hf y => ?_
  blk_simp
  rw [after0_3]
  frame_out
  rw [← Cert.MemKvRefIdeal.Read.val_main_v14_eq]
  pointwise [Gen.k0_pay1, Gen.k0_pay2]
  blk_point [iblk, V, idx t]

set_option maxHeartbeats 1000000 in
/-- The value array holds the reference's second result. -/
theorem final_v :
    (dats m 0 c).arrAt 4 cfg0.N
      = Cert.MemKvRefIdeal.Read.val_main_v15 (F := Ideal) (m ((c : Thread nD τ).loc main_arg0)) (m ((c : Thread nD τ).loc main_arg1))
          (m ((c : Thread nD τ).loc main_arg2)) := by
  refine (dats m 0 c).arrAt_eq_of_covers 4 _ (by decide +kernel) fun t hf y => ?_
  blk_simp
  rw [after0_4]
  frame_out
  rw [← Cert.MemKvRefIdeal.Read.val_main_v15_eq]
  pointwise [Gen.k0_pay1, Gen.k0_pay3]
  blk_point [iblk, V, idx t]

end Cert.Proof.MemKv

end
-- ==== Proof.KvProj.Tiles.lean ====
module

public import proofs.«01_k».proof.Proof.Gen.KvProjIdeal.Frame
public import proofs.«01_k».proof.Proof.Gen.KvProjIdeal.Skeleton
public import proofs.«01_k».proof.Proof.Gen.KvProjIdeal.Points
public import Idealize.ShloMosaic.Lib.WholeRead
public import Idealize.ShloMosaic.Lib.VecWindow
public import Idealize.ShloMosaic.Lib.WordCmp
public import Idealize.ShloMosaic.Lib.Pipeline.Value
public import Idealize.ShloMosaic.Lib.Pipeline.ReadBack
public import Idealize.ShloMosaic.Lib.Pipeline.ValueKit
public import Idealize.ShloMosaic.Lib.Pointwise

@[expose] public section

set_option maxRecDepth 16384

noncomputable section

/-! What the key and value projection writes from a product of the normed rows with a group's weights: the columns
packed beside the other groups', and the same columns head by head. -/

namespace Cert.KvProjIdeal.Kv

open Cert.KvProjIdeal Cert.KvProjIdeal.Gen
open Idealize.ShloMosaic Idealize.ShloMosaic.TcCoe Idealize.ShloMosaic.Tactic

variable {F : FTy → Type} [FloatOps F]

/-- Stores that are blocks of one function and cover a buffer leave that function, whatever was there before. -/
theorem read_pieces {κ : Kind} {sp : Space} {s : Shape} {e : EltTy} (v : View sig κ sp s e) (f : v.ty.Contents (Elt F))
    (G : s.Idx → Elt F e) (L : List (View.Piece (Elt F) s e)) (h : View.PiecesOf G L) (hc : ∀ y, ∃ p ∈ L, y ∈ p.1.set) :
    v.read (Elt F) (v.writes (Elt F) f L) = G := by
  rw [View.read_writes_eq_canon _ _ _ hc]
  funext y
  have := View.canon_append_of_piecesOf G [] L h y (hc y)
  rwa [List.append_nil] at this

/-- A head's lane among a group's columns. -/
def lane (h : Fin 6) (l : Fin 128) : Fin 768 := ⟨128 * h.val + l.val, by omega⟩

/-- A sequence's row among the sample rows. -/
def srow (s : Fin 8) (r : Fin 16) : Fin 128 := ⟨16 * s.val + r.val, by omega⟩

/-- A prompt block's product, head by head. -/
def headsP (P : FVec F S512x768 .f32) : Vec F S1x6x512x128 .f32 := fun y => P (ix2 (y 2 : Fin 512) (lane (y 1) (y 3)))

/-- The sample rows' product, sequence by sequence and head by head. -/
def headsS (P : FVec F S128x768 .f32) : Vec F S8x6x16x128 .f32 := fun y => P (ix2 (srow (y 0) (y 2)) (lane (y 1) (y 3)))

/-- Four groups' columns side by side. -/
def packP (Q : Fin 4 → FVec F S512x768 .bf16) : Vec F S512x3072 .bf16 := fun y =>
  Q ⟨(y 1 : Fin 3072).val / 768, by have : (y 1).val < 3072 := (y 1).isLt; show (y 1).val / 768 < 4; omega⟩
    (ix2 (y 0 : Fin 512) (⟨(y 1 : Fin 3072).val % 768, Nat.mod_lt _ (by decide)⟩ : Fin 768))

/-- The sample rows' four groups side by side. -/
def packS (Q : Fin 4 → FVec F S128x768 .bf16) : Vec F S128x3072 .bf16 := fun y =>
  Q ⟨(y 1 : Fin 3072).val / 768, by have : (y 1).val < 3072 := (y 1).isLt; show (y 1).val / 768 < 4; omega⟩
    (ix2 (y 0 : Fin 128) (⟨(y 1 : Fin 3072).val % 768, Nat.mod_lt _ (by decide)⟩ : Fin 768))

/-- Where an element of a block at an offset sits. -/
theorem emb_val {s : Shape} (r : Fin s.rank → ℕ) (z : Fin s.rank → ℕ) (inb) (x : (⟨s.rank, z⟩ : Shape).Idx) (a : Fin s.rank) :
    ((Rect.unit (s := s) r z inb).emb x a).val = r a + (x a).val := by
  show r a + 1 * (x a).val = _; omega

/-- A head's tile of a prompt block's product. -/
theorem headsP_tile (P : FVec F S512x768 .f32) (o : Fin 2 → ℕ) (r : Fin 4 → ℕ) (ho : o = ![0, 128 * r 1])
    (h0 : r 0 = 0) (h2 : r 2 = 0) (h3 : r 3 = 0) (sl) (sc) (inb) (x : S1x1x512x128.Idx) :
    shapeCast S1x1x512x128 (extractStridedSlice S512x128 o P sl) sc x
      = headsP P ((Rect.unit (s := S1x6x512x128) r S1x1x512x128.size inb).emb x) := by
  subst ho
  pointwise [headsP]
  have x1 : (x 1).val = 0 := by have : (x 1).val < 1 := (x 1).isLt; omega
  have e := emb_val (s := S1x6x512x128) r ![1, 1, 512, 128] inb x
  refine congrArg P (congrArg₂ ix2 (Fin.ext ?_) (Fin.ext ?_))
  · rw [e 2]; omega
  · show 128 * r 1 + (x 3).val = 128 * _ + _; rw [e 1, e 3]; omega

/-- A sequence's tile of a head of the sample rows' product. -/
theorem headsS_tile (P : FVec F S128x768 .f32) (o : Fin 2 → ℕ) (r : Fin 4 → ℕ) (ho : o = ![16 * r 0, 128 * r 1])
    (h2 : r 2 = 0) (h3 : r 3 = 0) (sl) (sc) (inb) (x : S1x1x16x128.Idx) :
    shapeCast S1x1x16x128 (extractStridedSlice S16x128 o P sl) sc x
      = headsS P ((Rect.unit (s := S8x6x16x128) r S1x1x16x128.size inb).emb x) := by
  subst ho
  pointwise [headsS]
  have x0 : (x 0).val = 0 := by have : (x 0).val < 1 := (x 0).isLt; omega
  have x1 : (x 1).val = 0 := by have : (x 1).val < 1 := (x 1).isLt; omega
  have e := emb_val (s := S8x6x16x128) r ![1, 1, 16, 128] inb x
  refine congrArg P (congrArg₂ ix2 (Fin.ext ?_) (Fin.ext ?_))
  · show 16 * r 0 + (x 2).val = 16 * _ + _; rw [e 0, e 2]; omega
  · show 128 * r 1 + (x 3).val = 128 * _ + _; rw [e 1, e 3]; omega

/-- A group's columns of a prompt block. -/
theorem packP_tile (Q : Fin 4 → FVec F S512x768 .bf16) (g : Fin 4) (r : Fin 2 → ℕ) (h0 : r 0 = 0) (h1 : r 1 = 768 * g.val)
    (inb) (x : S512x768.Idx) : Q g x = packP Q ((Rect.unit (s := S512x3072) r S512x768.size inb).emb x) := by
  have x1 : (x 1).val < 768 := (x 1).isLt
  have e := emb_val (s := S512x3072) r S512x768.size inb x
  refine congr (congrArg Q (Fin.ext ?_)) ?_
  · show g.val = _ / 768; rw [e 1]; omega
  · refine (ix2_eta _).symm.trans (congrArg₂ ix2 (Fin.ext ?_) (Fin.ext ?_))
    · rw [e 0]; omega
    · show _ = _ % 768; rw [e 1]; omega

/-- A group's columns of the sample rows. -/
theorem packS_tile (Q : Fin 4 → FVec F S128x768 .bf16) (g : Fin 4) (r : Fin 2 → ℕ) (h0 : r 0 = 0) (h1 : r 1 = 768 * g.val)
    (inb) (x : S128x768.Idx) : Q g x = packS Q ((Rect.unit (s := S128x3072) r S128x768.size inb).emb x) := by
  have x1 : (x 1).val < 768 := (x 1).isLt
  have e := emb_val (s := S128x3072) r S128x768.size inb x
  refine congr (congrArg Q (Fin.ext ?_)) ?_
  · show g.val = _ / 768; rw [e 1]; omega
  · refine (ix2_eta _).symm.trans (congrArg₂ ix2 (Fin.ext ?_) (Fin.ext ?_))
    · rw [e 0]; omega
    · show _ = _ % 768; rw [e 1]; omega

end Cert.KvProjIdeal.Kv
end
-- ==== Proof.KvProj.RunB.lean ====
module

public import proofs.«01_k».proof.Proof.KvProj.Tiles

@[expose] public section

set_option maxRecDepth 16384

noncomputable section

/-! The body of the key and value projection at the points after the first. -/

namespace Cert.KvProjIdeal.Kv

open Cert.KvProjIdeal Cert.KvProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load of a whole memref held at the contents that read `X` is the load of `X`. -/
theorem readAt_ld {sp : Space} {s : Shape} {e : EltTy} {m : Memref sig .tc sp s e} (h : m.IsWhole) (X : s.Idx → Elt F e)
    (R : Rect s) : View.readAt (Elt F) m.view R.toLoadRect (h.unread X) = View.ld X R :=
  funext fun x => Memref.IsWhole.readAt_unread h X R.toLoadRect x

theorem zero2 : (![0, 0] : Fin 2 → ℕ) = fun _ => 0 := by decide

set_option maxHeartbeats 1000000 in
/-- The body at a further point: the prompt block's outputs. -/
theorem run_next (c : Dev nD) (i : grid0.Coords) (arg1 : Memref sig .tc .vmem S512x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S2048x768 .bf16) (harg4 : arg4.IsWhole) (arg5 : Memref sig .tc .vmem S2048x768 .bf16) (harg5 : arg5.IsWhole) (arg6 : Memref sig .tc .vmem S2048x768 .bf16) (harg6 : arg6.IsWhole) (arg7 : Memref sig .tc .vmem S2048x768 .bf16) (harg7 : arg7.IsWhole) (arg8 : Memref sig .tc .vmem S512x3072 .bf16) (harg8 : arg8.IsWhole) (arg9 : Memref sig .tc .vmem S512x2048 .bf16) (harg9 : arg9.IsWhole) (arg10 : Memref sig .tc .vmem S1x6x512x128 .f32) (harg10 : arg10.IsWhole) (arg11 : Memref sig .tc .vmem S1x6x512x128 .f32) (harg11 : arg11.IsWhole) (arg12 : Memref sig .tc .vmem S1x6x512x128 .f32) (harg12 : arg12.IsWhole) (arg13 : Memref sig .tc .vmem S1x6x512x128 .f32) (harg13 : arg13.IsWhole) (arg14 : Memref sig .tc .vmem S128x3072 .bf16) (harg14 : arg14.IsWhole) (arg15 : Memref sig .tc .vmem S128x2048 .bf16) (harg15 : arg15.IsWhole) (arg16 : Memref sig .tc .vmem S8x6x16x128 .f32) (harg16 : arg16.IsWhole) (arg17 : Memref sig .tc .vmem S8x6x16x128 .f32) (harg17 : arg17.IsWhole) (arg18 : Memref sig .tc .vmem S8x6x16x128 .f32) (harg18 : arg18.IsWhole) (arg19 : Memref sig .tc .vmem S8x6x16x128 .f32) (harg19 : arg19.IsWhole) (hc0 : ¬ k0_cond1 i = 1#1)
    (x0 : Vec F S512x2048 .f32) (x2 : Vec F S1x2048 .f32) (x3 x4 x5 x6 : Vec F S2048x768 .bf16) (E : Set ℕ) (K : PUnit → sProp 𝕄) :
    iprop(owns (c : Thread nD τ) arg1 fullShare x0 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (packP ![k0_pay225 (k0_pay223 x0 x2) x3, k0_pay225 (k0_pay223 x0 x2) x4, k0_pay225 (k0_pay223 x0 x2) x5, k0_pay225 (k0_pay223 x0 x2) x6]) ∗ owns (c : Thread nD τ) arg9 fullShare (k0_pay223 x0 x2) ∗ owns (c : Thread nD τ) arg10 fullShare (headsP (k0_pay224 (k0_pay223 x0 x2) x3)) ∗ owns (c : Thread nD τ) arg11 fullShare (headsP (k0_pay224 (k0_pay223 x0 x2) x4)) ∗ owns (c : Thread nD τ) arg12 fullShare (headsP (k0_pay224 (k0_pay223 x0 x2) x5)) ∗ owns (c : Thread nD τ) arg13 fullShare (headsP (k0_pay224 (k0_pay223 x0 x2) x6))) -∗ K ⟨⟩))
      ⊢ wp frame (wpE (defs₀ (F := F)) Variants.none c none) E (cc0_kv_projection i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_kv_projection_eq_skeleton]; unfold cc0_kv_projection_skel
  simp only [k0_part31_eq_skeleton, k0_part32_eq_skeleton, k0_part33_eq_skeleton, k0_part34_eq_skeleton, k0_part35_eq_skeleton]
  unfold owns
  iintro ⟨⟨%f1, %hf1, H1⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  obtain rfl := harg1.eq_unread hf1; obtain rfl := harg3.eq_unread hf3; obtain rfl := harg4.eq_unread hf4; obtain rfl := harg5.eq_unread hf5; obtain rfl := harg6.eq_unread hf6; obtain rfl := harg7.eq_unread hf7
  sl_exec (disch := first | sl_exact hc0)
  sl_step
  have ld1 : View.readAt (Elt F) arg1.view (Rect.unit (s := S512x2048) ![0, 0] S512x2048.size inb_S512x2048_S512x2048_0_0).toLoadRect (harg1.unread x0) = x0 :=
    (readAt_ld harg1 x0 _).trans (View.ld_unit_zero zero2 _ x0)
  have ld3 : View.readAt (Elt F) arg3.view (Rect.unit (s := S1x2048) ![0, 0] S1x2048.size inb_S1x2048_S1x2048_0_0).toLoadRect (harg3.unread x2) = x2 :=
    (readAt_ld harg3 x2 _).trans (View.ld_unit_zero zero2 _ x2)
  have ld4 : View.readAt (Elt F) arg4.view (Rect.unit (s := S2048x768) ![0, 0] S2048x768.size inb_S2048x768_S2048x768_0_0).toLoadRect (harg4.unread x3) = x3 :=
    (readAt_ld harg4 x3 _).trans (View.ld_unit_zero zero2 _ x3)
  have ld5 : View.readAt (Elt F) arg5.view (Rect.unit (s := S2048x768) ![0, 0] S2048x768.size inb_S2048x768_S2048x768_0_0).toLoadRect (harg5.unread x4) = x4 :=
    (readAt_ld harg5 x4 _).trans (View.ld_unit_zero zero2 _ x4)
  have ld6 : View.readAt (Elt F) arg6.view (Rect.unit (s := S2048x768) ![0, 0] S2048x768.size inb_S2048x768_S2048x768_0_0).toLoadRect (harg6.unread x5) = x5 :=
    (readAt_ld harg6 x5 _).trans (View.ld_unit_zero zero2 _ x5)
  have ld7 : View.readAt (Elt F) arg7.view (Rect.unit (s := S2048x768) ![0, 0] S2048x768.size inb_S2048x768_S2048x768_0_0).toLoadRect (harg7.unread x6) = x6 :=
    (readAt_ld harg7 x6 _).trans (View.ld_unit_zero zero2 _ x6)
  have eP : run_next.sl.v20 c arg1 harg1 arg3 harg3 arg9 x0 x2 = k0_pay223 x0 x2 := by
    unfold run_next.sl.v20 run_next.sl.H9_1; rw [ld1, ld3]
    exact View.readCov_full _ _ _ _ _
  iapply Hk
  isplitl [H1]
  · iexists _; isplitr; · ipureintro; exact harg1.read_unread _
    iexact H1
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    refine (read_pieces _ _ (packP ![k0_pay225 (run_next.sl.v20 c arg1 harg1 arg3 harg3 arg9 x0 x2) (View.readAt (Elt F) arg4.view (Rect.unit (s := S2048x768) ![0, 0] S2048x768.size inb_S2048x768_S2048x768_0_0).toLoadRect (harg4.unread x3)), k0_pay225 (run_next.sl.v20 c arg1 harg1 arg3 harg3 arg9 x0 x2) (View.readAt (Elt F) arg5.view (Rect.unit (s := S2048x768) ![0, 0] S2048x768.size inb_S2048x768_S2048x768_0_0).toLoadRect (harg5.unread x4)), k0_pay225 (run_next.sl.v20 c arg1 harg1 arg3 harg3 arg9 x0 x2) (View.readAt (Elt F) arg6.view (Rect.unit (s := S2048x768) ![0, 0] S2048x768.size inb_S2048x768_S2048x768_0_0).toLoadRect (harg6.unread x5)), k0_pay225 (run_next.sl.v20 c arg1 harg1 arg3 harg3 arg9 x0 x2) (View.readAt (Elt F) arg7.view (Rect.unit (s := S2048x768) ![0, 0] S2048x768.size inb_S2048x768_S2048x768_0_0).toLoadRect (harg7.unread x6))]) _ ?_ (View.cover_of_tiled _ S512x768.size (by rfl))).trans (by rw [eP, ld4, ld5, ld6, ld7])
    let Q : Fin 4 → FVec F S512x768 .bf16 := ![k0_pay225 (run_next.sl.v20 c arg1 harg1 arg3 harg3 arg9 x0 x2) (View.readAt (Elt F) arg4.view (Rect.unit (s := S2048x768) ![0, 0] S2048x768.size inb_S2048x768_S2048x768_0_0).toLoadRect (harg4.unread x3)), k0_pay225 (run_next.sl.v20 c arg1 harg1 arg3 harg3 arg9 x0 x2) (View.readAt (Elt F) arg5.view (Rect.unit (s := S2048x768) ![0, 0] S2048x768.size inb_S2048x768_S2048x768_0_0).toLoadRect (harg5.unread x4)), k0_pay225 (run_next.sl.v20 c arg1 harg1 arg3 harg3 arg9 x0 x2) (View.readAt (Elt F) arg6.view (Rect.unit (s := S2048x768) ![0, 0] S2048x768.size inb_S2048x768_S2048x768_0_0).toLoadRect (harg6.unread x5)), k0_pay225 (run_next.sl.v20 c arg1 harg1 arg3 harg3 arg9 x0 x2) (View.readAt (Elt F) arg7.view (Rect.unit (s := S2048x768) ![0, 0] S2048x768.size inb_S2048x768_S2048x768_0_0).toLoadRect (harg7.unread x6))]
    refine ⟨fun x => packP_tile Q 3 _ (by rfl) (by rfl) (by decide) x, ?_⟩
    refine ⟨fun x => packP_tile Q 2 _ (by rfl) (by rfl) (by decide) x, ?_⟩
    refine ⟨fun x => packP_tile Q 1 _ (by rfl) (by rfl) (by decide) x, ?_⟩
    refine ⟨fun x => packP_tile Q 0 _ (by rfl) (by rfl) (by decide) x, ?_⟩
    exact trivial
  isplitl [H9]
  · iexists _; isplitr; swap; · iexact H9
    ipureintro
    unfold run_next.sl.H9_1; rw [ld1, ld3]; exact View.read_writes_full _ _ _ _ _
  isplitl [H10]
  · iexists _; isplitr; swap; · iexact H10
    ipureintro
    refine (read_pieces _ _ (headsP (k0_pay224 (run_next.sl.v20 c arg1 harg1 arg3 harg3 arg9 x0 x2) (View.readAt (Elt F) arg4.view (Rect.unit (s := S2048x768) ![0, 0] S2048x768.size inb_S2048x768_S2048x768_0_0).toLoadRect (harg4.unread x3)))) _ ?_ (View.cover_of_tiled _ S1x1x512x128.size (by rfl))).trans (by rw [eP, ld4])
    iterate 6 refine ⟨fun x => headsP_tile (k0_pay224 (run_next.sl.v20 c arg1 harg1 arg3 harg3 arg9 x0 x2) (View.readAt (Elt F) arg4.view (Rect.unit (s := S2048x768) ![0, 0] S2048x768.size inb_S2048x768_S2048x768_0_0).toLoadRect (harg4.unread x3))) _ _ (by rfl) (by rfl) (by rfl) (by rfl) (by decide) shapeCasts_S512x128_S1x1x512x128 (by decide) x, ?_⟩
    exact trivial
  isplitl [H11]
  · iexists _; isplitr; swap; · iexact H11
    ipureintro
    refine (read_pieces _ _ (headsP (k0_pay224 (run_next.sl.v20 c arg1 harg1 arg3 harg3 arg9 x0 x2) (View.readAt (Elt F) arg5.view (Rect.unit (s := S2048x768) ![0, 0] S2048x768.size inb_S2048x768_S2048x768_0_0).toLoadRect (harg5.unread x4)))) _ ?_ (View.cover_of_tiled _ S1x1x512x128.size (by rfl))).trans (by rw [eP, ld5])
    iterate 6 refine ⟨fun x => headsP_tile (k0_pay224 (run_next.sl.v20 c arg1 harg1 arg3 harg3 arg9 x0 x2) (View.readAt (Elt F) arg5.view (Rect.unit (s := S2048x768) ![0, 0] S2048x768.size inb_S2048x768_S2048x768_0_0).toLoadRect (harg5.unread x4))) _ _ (by rfl) (by rfl) (by rfl) (by rfl) (by decide) shapeCasts_S512x128_S1x1x512x128 (by decide) x, ?_⟩
    exact trivial
  isplitl [H12]
  · iexists _; isplitr; swap; · iexact H12
    ipureintro
    refine (read_pieces _ _ (headsP (k0_pay224 (run_next.sl.v20 c arg1 harg1 arg3 harg3 arg9 x0 x2) (View.readAt (Elt F) arg6.view (Rect.unit (s := S2048x768) ![0, 0] S2048x768.size inb_S2048x768_S2048x768_0_0).toLoadRect (harg6.unread x5)))) _ ?_ (View.cover_of_tiled _ S1x1x512x128.size (by rfl))).trans (by rw [eP, ld6])
    iterate 6 refine ⟨fun x => headsP_tile (k0_pay224 (run_next.sl.v20 c arg1 harg1 arg3 harg3 arg9 x0 x2) (View.readAt (Elt F) arg6.view (Rect.unit (s := S2048x768) ![0, 0] S2048x768.size inb_S2048x768_S2048x768_0_0).toLoadRect (harg6.unread x5))) _ _ (by rfl) (by rfl) (by rfl) (by rfl) (by decide) shapeCasts_S512x128_S1x1x512x128 (by decide) x, ?_⟩
    exact trivial
  iexists _; isplitr; swap; · iexact H13
  ipureintro
  refine (read_pieces _ _ (headsP (k0_pay224 (run_next.sl.v20 c arg1 harg1 arg3 harg3 arg9 x0 x2) (View.readAt (Elt F) arg7.view (Rect.unit (s := S2048x768) ![0, 0] S2048x768.size inb_S2048x768_S2048x768_0_0).toLoadRect (harg7.unread x6)))) _ ?_ (View.cover_of_tiled _ S1x1x512x128.size (by rfl))).trans (by rw [eP, ld7])
  iterate 6 refine ⟨fun x => headsP_tile (k0_pay224 (run_next.sl.v20 c arg1 harg1 arg3 harg3 arg9 x0 x2) (View.readAt (Elt F) arg7.view (Rect.unit (s := S2048x768) ![0, 0] S2048x768.size inb_S2048x768_S2048x768_0_0).toLoadRect (harg7.unread x6))) _ _ (by rfl) (by rfl) (by rfl) (by rfl) (by decide) shapeCasts_S512x128_S1x1x512x128 (by decide) x, ?_⟩
  exact trivial

end Cert.KvProjIdeal.Kv

end
-- ==== Proof.KvProj.RunA.lean ====
module

public import proofs.«01_k».proof.Proof.KvProj.Tiles
public import proofs.«01_k».proof.Proof.KvProj.RunB

@[expose] public section

set_option maxRecDepth 16384

noncomputable section

/-! The body of the key and value projection at the first point. -/

namespace Cert.KvProjIdeal.Kv

open Cert.KvProjIdeal Cert.KvProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first point: the sample rows' outputs, then the prompt block's. -/
theorem run_first (c : Dev nD) (i : grid0.Coords) (arg1 : Memref sig .tc .vmem S512x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S2048x768 .bf16) (harg4 : arg4.IsWhole) (arg5 : Memref sig .tc .vmem S2048x768 .bf16) (harg5 : arg5.IsWhole) (arg6 : Memref sig .tc .vmem S2048x768 .bf16) (harg6 : arg6.IsWhole) (arg7 : Memref sig .tc .vmem S2048x768 .bf16) (harg7 : arg7.IsWhole) (arg8 : Memref sig .tc .vmem S512x3072 .bf16) (harg8 : arg8.IsWhole) (arg9 : Memref sig .tc .vmem S512x2048 .bf16) (harg9 : arg9.IsWhole) (arg10 : Memref sig .tc .vmem S1x6x512x128 .f32) (harg10 : arg10.IsWhole) (arg11 : Memref sig .tc .vmem S1x6x512x128 .f32) (harg11 : arg11.IsWhole) (arg12 : Memref sig .tc .vmem S1x6x512x128 .f32) (harg12 : arg12.IsWhole) (arg13 : Memref sig .tc .vmem S1x6x512x128 .f32) (harg13 : arg13.IsWhole) (arg14 : Memref sig .tc .vmem S128x3072 .bf16) (harg14 : arg14.IsWhole) (arg15 : Memref sig .tc .vmem S128x2048 .bf16) (harg15 : arg15.IsWhole) (arg16 : Memref sig .tc .vmem S8x6x16x128 .f32) (harg16 : arg16.IsWhole) (arg17 : Memref sig .tc .vmem S8x6x16x128 .f32) (harg17 : arg17.IsWhole) (arg18 : Memref sig .tc .vmem S8x6x16x128 .f32) (harg18 : arg18.IsWhole) (arg19 : Memref sig .tc .vmem S8x6x16x128 .f32) (harg19 : arg19.IsWhole) (hc0 : k0_cond1 i = 1#1)
    (x0 : Vec F S512x2048 .f32) (x1 : Vec F S128x2048 .f32) (x2 : Vec F S1x2048 .f32) (x3 x4 x5 x6 : Vec F S2048x768 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (packP ![k0_pay225 (k0_pay223 x0 x2) x3, k0_pay225 (k0_pay223 x0 x2) x4, k0_pay225 (k0_pay223 x0 x2) x5, k0_pay225 (k0_pay223 x0 x2) x6]) ∗ owns (c : Thread nD τ) arg9 fullShare (k0_pay223 x0 x2) ∗ owns (c : Thread nD τ) arg10 fullShare (headsP (k0_pay224 (k0_pay223 x0 x2) x3)) ∗ owns (c : Thread nD τ) arg11 fullShare (headsP (k0_pay224 (k0_pay223 x0 x2) x4)) ∗ owns (c : Thread nD τ) arg12 fullShare (headsP (k0_pay224 (k0_pay223 x0 x2) x5)) ∗ owns (c : Thread nD τ) arg13 fullShare (headsP (k0_pay224 (k0_pay223 x0 x2) x6)) ∗ owns (c : Thread nD τ) arg14 fullShare (packS ![k0_pay4 (k0_pay2 x1 x2) x3, k0_pay4 (k0_pay2 x1 x2) x4, k0_pay4 (k0_pay2 x1 x2) x5, k0_pay4 (k0_pay2 x1 x2) x6]) ∗ owns (c : Thread nD τ) arg15 fullShare (k0_pay2 x1 x2) ∗ owns (c : Thread nD τ) arg16 fullShare (headsS (k0_pay3 (k0_pay2 x1 x2) x3)) ∗ owns (c : Thread nD τ) arg17 fullShare (headsS (k0_pay3 (k0_pay2 x1 x2) x4)) ∗ owns (c : Thread nD τ) arg18 fullShare (headsS (k0_pay3 (k0_pay2 x1 x2) x5)) ∗ owns (c : Thread nD τ) arg19 fullShare (headsS (k0_pay3 (k0_pay2 x1 x2) x6))) -∗ K ⟨⟩))
      ⊢ wp frame (wpE (defs₀ (F := F)) Variants.none c none) E (cc0_kv_projection i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_kv_projection_eq_skeleton]; unfold cc0_kv_projection_skel
  simp only [k0_part31_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part32_eq_skeleton, k0_part33_eq_skeleton, k0_part34_eq_skeleton, k0_part35_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | sl_exact hc0)
  sl_step
  have ld1 : View.readAt (Elt F) arg1.view (Rect.unit (s := S512x2048) ![0, 0] S512x2048.size inb_S512x2048_S512x2048_0_0).toLoadRect (harg1.unread x0) = x0 :=
    (readAt_ld harg1 x0 _).trans (View.ld_unit_zero zero2 _ x0)
  have ld2 : View.readAt (Elt F) arg2.view (Rect.unit (s := S128x2048) ![0, 0] S128x2048.size inb_S128x2048_S128x2048_0_0).toLoadRect (harg2.unread x1) = x1 :=
    (readAt_ld harg2 x1 _).trans (View.ld_unit_zero zero2 _ x1)
  have ld3 : View.readAt (Elt F) arg3.view (Rect.unit (s := S1x2048) ![0, 0] S1x2048.size inb_S1x2048_S1x2048_0_0).toLoadRect (harg3.unread x2) = x2 :=
    (readAt_ld harg3 x2 _).trans (View.ld_unit_zero zero2 _ x2)
  have ld4 : View.readAt (Elt F) arg4.view (Rect.unit (s := S2048x768) ![0, 0] S2048x768.size inb_S2048x768_S2048x768_0_0).toLoadRect (harg4.unread x3) = x3 :=
    (readAt_ld harg4 x3 _).trans (View.ld_unit_zero zero2 _ x3)
  have ld5 : View.readAt (Elt F) arg5.view (Rect.unit (s := S2048x768) ![0, 0] S2048x768.size inb_S2048x768_S2048x768_0_0).toLoadRect (harg5.unread x4) = x4 :=
    (readAt_ld harg5 x4 _).trans (View.ld_unit_zero zero2 _ x4)
  have ld6 : View.readAt (Elt F) arg6.view (Rect.unit (s := S2048x768) ![0, 0] S2048x768.size inb_S2048x768_S2048x768_0_0).toLoadRect (harg6.unread x5) = x5 :=
    (readAt_ld harg6 x5 _).trans (View.ld_unit_zero zero2 _ x5)
  have ld7 : View.readAt (Elt F) arg7.view (Rect.unit (s := S2048x768) ![0, 0] S2048x768.size inb_S2048x768_S2048x768_0_0).toLoadRect (harg7.unread x6) = x6 :=
    (readAt_ld harg7 x6 _).trans (View.ld_unit_zero zero2 _ x6)
  have eP : run_first.sl.v20 c arg1 harg1 arg3 harg3 arg9 x0 x2 = k0_pay223 x0 x2 := by
    unfold run_first.sl.v20 run_first.sl.H9_1; rw [ld1, ld3]
    exact View.readCov_full _ _ _ _ _
  have eS : run_first.sl.v161 c arg2 harg2 arg3 harg3 arg15 x1 x2 = k0_pay2 x1 x2 := by
    unfold run_first.sl.v161 run_first.sl.H15_1; rw [ld2, ld3]
    exact View.readCov_full _ _ _ _ _
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    refine (read_pieces _ _ (packP ![k0_pay225 (run_first.sl.v20 c arg1 harg1 arg3 harg3 arg9 x0 x2) (View.readAt (Elt F) arg4.view (Rect.unit (s := S2048x768) ![0, 0] S2048x768.size inb_S2048x768_S2048x768_0_0).toLoadRect (harg4.unread x3)), k0_pay225 (run_first.sl.v20 c arg1 harg1 arg3 harg3 arg9 x0 x2) (View.readAt (Elt F) arg5.view (Rect.unit (s := S2048x768) ![0, 0] S2048x768.size inb_S2048x768_S2048x768_0_0).toLoadRect (harg5.unread x4)), k0_pay225 (run_first.sl.v20 c arg1 harg1 arg3 harg3 arg9 x0 x2) (View.readAt (Elt F) arg6.view (Rect.unit (s := S2048x768) ![0, 0] S2048x768.size inb_S2048x768_S2048x768_0_0).toLoadRect (harg6.unread x5)), k0_pay225 (run_first.sl.v20 c arg1 harg1 arg3 harg3 arg9 x0 x2) (View.readAt (Elt F) arg7.view (Rect.unit (s := S2048x768) ![0, 0] S2048x768.size inb_S2048x768_S2048x768_0_0).toLoadRect (harg7.unread x6))]) _ ?_ (View.cover_of_tiled _ S512x768.size (by rfl))).trans (by rw [eP, ld4, ld5, ld6, ld7])
    let Q : Fin 4 → FVec F S512x768 .bf16 := ![k0_pay225 (run_first.sl.v20 c arg1 harg1 arg3 harg3 arg9 x0 x2) (View.readAt (Elt F) arg4.view (Rect.unit (s := S2048x768) ![0, 0] S2048x768.size inb_S2048x768_S2048x768_0_0).toLoadRect (harg4.unread x3)), k0_pay225 (run_first.sl.v20 c arg1 harg1 arg3 harg3 arg9 x0 x2) (View.readAt (Elt F) arg5.view (Rect.unit (s := S2048x768) ![0, 0] S2048x768.size inb_S2048x768_S2048x768_0_0).toLoadRect (harg5.unread x4)), k0_pay225 (run_first.sl.v20 c arg1 harg1 arg3 harg3 arg9 x0 x2) (View.readAt (Elt F) arg6.view (Rect.unit (s := S2048x768) ![0, 0] S2048x768.size inb_S2048x768_S2048x768_0_0).toLoadRect (harg6.unread x5)), k0_pay225 (run_first.sl.v20 c arg1 harg1 arg3 harg3 arg9 x0 x2) (View.readAt (Elt F) arg7.view (Rect.unit (s := S2048x768) ![0, 0] S2048x768.size inb_S2048x768_S2048x768_0_0).toLoadRect (harg7.unread x6))]
    refine ⟨fun x => packP_tile Q 3 _ (by rfl) (by rfl) (by decide) x, ?_⟩
    refine ⟨fun x => packP_tile Q 2 _ (by rfl) (by rfl) (by decide) x, ?_⟩
    refine ⟨fun x => packP_tile Q 1 _ (by rfl) (by rfl) (by decide) x, ?_⟩
    refine ⟨fun x => packP_tile Q 0 _ (by rfl) (by rfl) (by decide) x, ?_⟩
    exact trivial
  isplitl [H9]
  · iexists _; isplitr; swap; · iexact H9
    ipureintro
    unfold run_first.sl.H9_1; rw [ld1, ld3]; exact View.read_writes_full _ _ _ _ _
  isplitl [H10]
  · iexists _; isplitr; swap; · iexact H10
    ipureintro
    refine (read_pieces _ _ (headsP (k0_pay224 (run_first.sl.v20 c arg1 harg1 arg3 harg3 arg9 x0 x2) (View.readAt (Elt F) arg4.view (Rect.unit (s := S2048x768) ![0, 0] S2048x768.size inb_S2048x768_S2048x768_0_0).toLoadRect (harg4.unread x3)))) _ ?_ (View.cover_of_tiled _ S1x1x512x128.size (by rfl))).trans (by rw [eP, ld4])
    iterate 6 refine ⟨fun x => headsP_tile (k0_pay224 (run_first.sl.v20 c arg1 harg1 arg3 harg3 arg9 x0 x2) (View.readAt (Elt F) arg4.view (Rect.unit (s := S2048x768) ![0, 0] S2048x768.size inb_S2048x768_S2048x768_0_0).toLoadRect (harg4.unread x3))) _ _ (by rfl) (by rfl) (by rfl) (by rfl) (by decide) shapeCasts_S512x128_S1x1x512x128 (by decide) x, ?_⟩
    exact trivial
  isplitl [H11]
  · iexists _; isplitr; swap; · iexact H11
    ipureintro
    refine (read_pieces _ _ (headsP (k0_pay224 (run_first.sl.v20 c arg1 harg1 arg3 harg3 arg9 x0 x2) (View.readAt (Elt F) arg5.view (Rect.unit (s := S2048x768) ![0, 0] S2048x768.size inb_S2048x768_S2048x768_0_0).toLoadRect (harg5.unread x4)))) _ ?_ (View.cover_of_tiled _ S1x1x512x128.size (by rfl))).trans (by rw [eP, ld5])
    iterate 6 refine ⟨fun x => headsP_tile (k0_pay224 (run_first.sl.v20 c arg1 harg1 arg3 harg3 arg9 x0 x2) (View.readAt (Elt F) arg5.view (Rect.unit (s := S2048x768) ![0, 0] S2048x768.size inb_S2048x768_S2048x768_0_0).toLoadRect (harg5.unread x4))) _ _ (by rfl) (by rfl) (by rfl) (by rfl) (by decide) shapeCasts_S512x128_S1x1x512x128 (by decide) x, ?_⟩
    exact trivial
  isplitl [H12]
  · iexists _; isplitr; swap; · iexact H12
    ipureintro
    refine (read_pieces _ _ (headsP (k0_pay224 (run_first.sl.v20 c arg1 harg1 arg3 harg3 arg9 x0 x2) (View.readAt (Elt F) arg6.view (Rect.unit (s := S2048x768) ![0, 0] S2048x768.size inb_S2048x768_S2048x768_0_0).toLoadRect (harg6.unread x5)))) _ ?_ (View.cover_of_tiled _ S1x1x512x128.size (by rfl))).trans (by rw [eP, ld6])
    iterate 6 refine ⟨fun x => headsP_tile (k0_pay224 (run_first.sl.v20 c arg1 harg1 arg3 harg3 arg9 x0 x2) (View.readAt (Elt F) arg6.view (Rect.unit (s := S2048x768) ![0, 0] S2048x768.size inb_S2048x768_S2048x768_0_0).toLoadRect (harg6.unread x5))) _ _ (by rfl) (by rfl) (by rfl) (by rfl) (by decide) shapeCasts_S512x128_S1x1x512x128 (by decide) x, ?_⟩
    exact trivial
  isplitl [H13]
  · iexists _; isplitr; swap; · iexact H13
    ipureintro
    refine (read_pieces _ _ (headsP (k0_pay224 (run_first.sl.v20 c arg1 harg1 arg3 harg3 arg9 x0 x2) (View.readAt (Elt F) arg7.view (Rect.unit (s := S2048x768) ![0, 0] S2048x768.size inb_S2048x768_S2048x768_0_0).toLoadRect (harg7.unread x6)))) _ ?_ (View.cover_of_tiled _ S1x1x512x128.size (by rfl))).trans (by rw [eP, ld7])
    iterate 6 refine ⟨fun x => headsP_tile (k0_pay224 (run_first.sl.v20 c arg1 harg1 arg3 harg3 arg9 x0 x2) (View.readAt (Elt F) arg7.view (Rect.unit (s := S2048x768) ![0, 0] S2048x768.size inb_S2048x768_S2048x768_0_0).toLoadRect (harg7.unread x6))) _ _ (by rfl) (by rfl) (by rfl) (by rfl) (by decide) shapeCasts_S512x128_S1x1x512x128 (by decide) x, ?_⟩
    exact trivial
  isplitl [H14]
  · iexists _; isplitr; swap; · iexact H14
    ipureintro
    refine (read_pieces _ _ (packS ![k0_pay4 (run_first.sl.v161 c arg2 harg2 arg3 harg3 arg15 x1 x2) (View.readAt (Elt F) arg4.view (Rect.unit (s := S2048x768) ![0, 0] S2048x768.size inb_S2048x768_S2048x768_0_0).toLoadRect (harg4.unread x3)), k0_pay4 (run_first.sl.v161 c arg2 harg2 arg3 harg3 arg15 x1 x2) (View.readAt (Elt F) arg5.view (Rect.unit (s := S2048x768) ![0, 0] S2048x768.size inb_S2048x768_S2048x768_0_0).toLoadRect (harg5.unread x4)), k0_pay4 (run_first.sl.v161 c arg2 harg2 arg3 harg3 arg15 x1 x2) (View.readAt (Elt F) arg6.view (Rect.unit (s := S2048x768) ![0, 0] S2048x768.size inb_S2048x768_S2048x768_0_0).toLoadRect (harg6.unread x5)), k0_pay4 (run_first.sl.v161 c arg2 harg2 arg3 harg3 arg15 x1 x2) (View.readAt (Elt F) arg7.view (Rect.unit (s := S2048x768) ![0, 0] S2048x768.size inb_S2048x768_S2048x768_0_0).toLoadRect (harg7.unread x6))]) _ ?_ (View.cover_of_tiled _ S128x768.size (by rfl))).trans (by rw [eS, ld4, ld5, ld6, ld7])
    let Q : Fin 4 → FVec F S128x768 .bf16 := ![k0_pay4 (run_first.sl.v161 c arg2 harg2 arg3 harg3 arg15 x1 x2) (View.readAt (Elt F) arg4.view (Rect.unit (s := S2048x768) ![0, 0] S2048x768.size inb_S2048x768_S2048x768_0_0).toLoadRect (harg4.unread x3)), k0_pay4 (run_first.sl.v161 c arg2 harg2 arg3 harg3 arg15 x1 x2) (View.readAt (Elt F) arg5.view (Rect.unit (s := S2048x768) ![0, 0] S2048x768.size inb_S2048x768_S2048x768_0_0).toLoadRect (harg5.unread x4)), k0_pay4 (run_first.sl.v161 c arg2 harg2 arg3 harg3 arg15 x1 x2) (View.readAt (Elt F) arg6.view (Rect.unit (s := S2048x768) ![0, 0] S2048x768.size inb_S2048x768_S2048x768_0_0).toLoadRect (harg6.unread x5)), k0_pay4 (run_first.sl.v161 c arg2 harg2 arg3 harg3 arg15 x1 x2) (View.readAt (Elt F) arg7.view (Rect.unit (s := S2048x768) ![0, 0] S2048x768.size inb_S2048x768_S2048x768_0_0).toLoadRect (harg7.unread x6))]
    refine ⟨fun x => packS_tile Q 3 _ (by rfl) (by rfl) (by decide) x, ?_⟩
    refine ⟨fun x => packS_tile Q 2 _ (by rfl) (by rfl) (by decide) x, ?_⟩
    refine ⟨fun x => packS_tile Q 1 _ (by rfl) (by rfl) (by decide) x, ?_⟩
    refine ⟨fun x => packS_tile Q 0 _ (by rfl) (by rfl) (by decide) x, ?_⟩
    exact trivial
  isplitl [H15]
  · iexists _; isplitr; swap; · iexact H15
    ipureintro
    unfold run_first.sl.H15_1; rw [ld2, ld3]; exact View.read_writes_full _ _ _ _ _
  isplitl [H16]
  · iexists _; isplitr; swap; · iexact H16
    ipureintro
    refine (read_pieces _ _ (headsS (k0_pay3 (run_first.sl.v161 c arg2 harg2 arg3 harg3 arg15 x1 x2) (View.readAt (Elt F) arg4.view (Rect.unit (s := S2048x768) ![0, 0] S2048x768.size inb_S2048x768_S2048x768_0_0).toLoadRect (harg4.unread x3)))) _ ?_ (View.cover_of_tiled _ S1x1x16x128.size (by rfl))).trans (by rw [eS, ld4])
    iterate 48 refine ⟨fun x => headsS_tile (k0_pay3 (run_first.sl.v161 c arg2 harg2 arg3 harg3 arg15 x1 x2) (View.readAt (Elt F) arg4.view (Rect.unit (s := S2048x768) ![0, 0] S2048x768.size inb_S2048x768_S2048x768_0_0).toLoadRect (harg4.unread x3))) _ _ (by rfl) (by rfl) (by rfl) (by decide) shapeCasts_S16x128_S1x1x16x128 (by decide) x, ?_⟩
    exact trivial
  isplitl [H17]
  · iexists _; isplitr; swap; · iexact H17
    ipureintro
    refine (read_pieces _ _ (headsS (k0_pay3 (run_first.sl.v161 c arg2 harg2 arg3 harg3 arg15 x1 x2) (View.readAt (Elt F) arg5.view (Rect.unit (s := S2048x768) ![0, 0] S2048x768.size inb_S2048x768_S2048x768_0_0).toLoadRect (harg5.unread x4)))) _ ?_ (View.cover_of_tiled _ S1x1x16x128.size (by rfl))).trans (by rw [eS, ld5])
    iterate 48 refine ⟨fun x => headsS_tile (k0_pay3 (run_first.sl.v161 c arg2 harg2 arg3 harg3 arg15 x1 x2) (View.readAt (Elt F) arg5.view (Rect.unit (s := S2048x768) ![0, 0] S2048x768.size inb_S2048x768_S2048x768_0_0).toLoadRect (harg5.unread x4))) _ _ (by rfl) (by rfl) (by rfl) (by decide) shapeCasts_S16x128_S1x1x16x128 (by decide) x, ?_⟩
    exact trivial
  isplitl [H18]
  · iexists _; isplitr; swap; · iexact H18
    ipureintro
    refine (read_pieces _ _ (headsS (k0_pay3 (run_first.sl.v161 c arg2 harg2 arg3 harg3 arg15 x1 x2) (View.readAt (Elt F) arg6.view (Rect.unit (s := S2048x768) ![0, 0] S2048x768.size inb_S2048x768_S2048x768_0_0).toLoadRect (harg6.unread x5)))) _ ?_ (View.cover_of_tiled _ S1x1x16x128.size (by rfl))).trans (by rw [eS, ld6])
    iterate 48 refine ⟨fun x => headsS_tile (k0_pay3 (run_first.sl.v161 c arg2 harg2 arg3 harg3 arg15 x1 x2) (View.readAt (Elt F) arg6.view (Rect.unit (s := S2048x768) ![0, 0] S2048x768.size inb_S2048x768_S2048x768_0_0).toLoadRect (harg6.unread x5))) _ _ (by rfl) (by rfl) (by rfl) (by decide) shapeCasts_S16x128_S1x1x16x128 (by decide) x, ?_⟩
    exact trivial
  iexists _; isplitr; swap; · iexact H19
  ipureintro
  refine (read_pieces _ _ (headsS (k0_pay3 (run_first.sl.v161 c arg2 harg2 arg3 harg3 arg15 x1 x2) (View.readAt (Elt F) arg7.view (Rect.unit (s := S2048x768) ![0, 0] S2048x768.size inb_S2048x768_S2048x768_0_0).toLoadRect (harg7.unread x6)))) _ ?_ (View.cover_of_tiled _ S1x1x16x128.size (by rfl))).trans (by rw [eS, ld7])
  iterate 48 refine ⟨fun x => headsS_tile (k0_pay3 (run_first.sl.v161 c arg2 harg2 arg3 harg3 arg15 x1 x2) (View.readAt (Elt F) arg7.view (Rect.unit (s := S2048x768) ![0, 0] S2048x768.size inb_S2048x768_S2048x768_0_0).toLoadRect (harg7.unread x6))) _ _ (by rfl) (by rfl) (by rfl) (by decide) shapeCasts_S16x128_S1x1x16x128 (by decide) x, ?_⟩
  exact trivial

end Cert.KvProjIdeal.Kv

end
-- ==== Proof.KvProj.Call.lean ====
module

public import proofs.«01_k».proof.Proof.KvProj.RunA
public import Idealize.ShloMosaic.Lib.Claim

@[expose] public section

set_option maxRecDepth 16384

noncomputable section

/-! The key and value projection's call: what its buffers hold at each point, and the whole run. -/

namespace Cert.KvProjIdeal.Kv

open Cert.KvProjIdeal Cert.KvProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

/-- The body handles the sample rows at the first point alone. -/
theorem first_iff : ∀ t : Fin cfg0.N, k0_cond1 (grid0.coords t) = 1#1 ↔ t.val % 16 = 0 :=
  (by decide +kernel : ∀ t : Fin grid0.N, k0_cond1 (grid0.coords t) = 1#1 ↔ t.val % 16 = 0)

/-- The first point. -/
abbrev org : Fin cfg0.N := t0_0

theorem eq_org (t : Fin cfg0.N) (h : t.val % 16 = 0) : t = org := Fin.ext (by
  have hN : t.val < 16 := lt_of_lt_of_eq t.isLt (show cfg0.N = 16 from N_0)
  show t.val = 0
  omega)

/-! ## What the body computes -/

/-- The normalised prompt rows of point `t`. -/
def rowsP (c : Dev nD) (t : Fin cfg0.N) : Vec F S512x2048 .bf16 := k0_pay223 (iblk m c 0 t) (iblk m c 2 t)

/-- The packed products of the prompt rows of point `t`. -/
def wideP (c : Dev nD) (t : Fin cfg0.N) : Vec F S512x3072 .bf16 :=
  packP ![k0_pay225 (rowsP m c t) (iblk m c 3 t), k0_pay225 (rowsP m c t) (iblk m c 4 t), k0_pay225 (rowsP m c t) (iblk m c 5 t), k0_pay225 (rowsP m c t) (iblk m c 6 t)]

/-- The normalised sample rows. -/
def rowsS (c : Dev nD) : Vec F S128x2048 .bf16 := k0_pay2 (iblk m c 1 org) (iblk m c 2 org)

/-- The packed products of the sample rows. -/
def wideS (c : Dev nD) : Vec F S128x3072 .bf16 :=
  packS ![k0_pay4 (rowsS m c) (iblk m c 3 org), k0_pay4 (rowsS m c) (iblk m c 4 org), k0_pay4 (rowsS m c) (iblk m c 5 org), k0_pay4 (rowsS m c) (iblk m c 6 org)]

/-- The pipeline's proof data: each input at its block, each output at what the body leaves there. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => wideP m c t
    | ⟨8, _⟩ => rowsP m c t
    | ⟨9, _⟩ => headsP (k0_pay224 (rowsP m c t) (iblk m c 3 t))
    | ⟨10, _⟩ => headsP (k0_pay224 (rowsP m c t) (iblk m c 4 t))
    | ⟨11, _⟩ => headsP (k0_pay224 (rowsP m c t) (iblk m c 5 t))
    | ⟨12, _⟩ => headsP (k0_pay224 (rowsP m c t) (iblk m c 6 t))
    | ⟨13, _⟩ => wideS m c
    | ⟨14, _⟩ => rowsS m c
    | ⟨15, _⟩ => headsS (k0_pay3 (rowsS m c) (iblk m c 3 org))
    | ⟨16, _⟩ => headsS (k0_pay3 (rowsS m c) (iblk m c 4 org))
    | ⟨17, _⟩ => headsS (k0_pay3 (rowsS m c) (iblk m c 5 org))
    | ⟨18, _⟩ => headsS (k0_pay3 (rowsS m c) (iblk m c 6 org))
    | ⟨_ + 19, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = wideP m c t := by dsimp only [dats]
theorem after0_8 (c : Dev nD) (t : Fin cfg0.N) : (dats m 0 c).after 8 t = rowsP m c t := by dsimp only [dats]
theorem after0_9 (c : Dev nD) (t : Fin cfg0.N) : (dats m 0 c).after 9 t = headsP (k0_pay224 (rowsP m c t) (iblk m c 3 t)) := by dsimp only [dats]
theorem after0_10 (c : Dev nD) (t : Fin cfg0.N) : (dats m 0 c).after 10 t = headsP (k0_pay224 (rowsP m c t) (iblk m c 4 t)) := by dsimp only [dats]
theorem after0_11 (c : Dev nD) (t : Fin cfg0.N) : (dats m 0 c).after 11 t = headsP (k0_pay224 (rowsP m c t) (iblk m c 5 t)) := by dsimp only [dats]
theorem after0_12 (c : Dev nD) (t : Fin cfg0.N) : (dats m 0 c).after 12 t = headsP (k0_pay224 (rowsP m c t) (iblk m c 6 t)) := by dsimp only [dats]
theorem after0_13 (c : Dev nD) (t : Fin cfg0.N) : (dats m 0 c).after 13 t = wideS m c := by dsimp only [dats]
theorem after0_14 (c : Dev nD) (t : Fin cfg0.N) : (dats m 0 c).after 14 t = rowsS m c := by dsimp only [dats]
theorem after0_15 (c : Dev nD) (t : Fin cfg0.N) : (dats m 0 c).after 15 t = headsS (k0_pay3 (rowsS m c) (iblk m c 3 org)) := by dsimp only [dats]
theorem after0_16 (c : Dev nD) (t : Fin cfg0.N) : (dats m 0 c).after 16 t = headsS (k0_pay3 (rowsS m c) (iblk m c 4 org)) := by dsimp only [dats]
theorem after0_17 (c : Dev nD) (t : Fin cfg0.N) : (dats m 0 c).after 17 t = headsS (k0_pay3 (rowsS m c) (iblk m c 5 org)) := by dsimp only [dats]
theorem after0_18 (c : Dev nD) (t : Fin cfg0.N) : (dats m 0 c).after 18 t = headsS (k0_pay3 (rowsS m c) (iblk m c 6 org)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The outputs written at the first point only -/

/-- Window `w` is an output written at the first point, left alone afterwards, and written back at the end; there it
    holds `X`. -/
structure Kept (c : Dev nD) (w : Fin cfg0.W) (X : (cfg0.win w).block.Idx → Elt F (cfg0.win w).elt) : Prop where
  out : ∀ t, (cfg0.win w).fetch t = false
  whole : ∀ i a, (cfg0.win w).clip i a = none
  idle : ∀ t, cfg0.idle w (cfg0.grid.coords t) = !(k0_cond1 (grid0.coords t) == 1#1)
  flush : ∀ t, (cfg0.win w).flush t = true ↔ t.val % 16 = 15
  same : ∀ t, (dats m 0 c).after w t = X

variable {m}

theorem Kept.live {c : Dev nD} {w : Fin cfg0.W} {X} (k : Kept m c w X) (t : Fin cfg0.N) (h : t.val % 16 = 0) :
    cfg0.idle w (cfg0.grid.coords t) = false := by
  rw [k.idle, (first_iff t).mpr h]; rfl

theorem Kept.rest {c : Dev nD} {w : Fin cfg0.W} {X} (k : Kept m c w X) (t : Fin cfg0.N) (h : ¬ t.val % 16 = 0) :
    cfg0.idle w (cfg0.grid.coords t) = true := by
  rw [k.idle, beq_eq_false_iff_ne.mpr fun e => h ((first_iff t).mp e)]; rfl

/-- After the first point the buffer already holds `X`. -/
theorem Kept.before {c : Dev nD} {w : Fin cfg0.W} {X} (k : Kept m c w X) : ∀ (n : ℕ) (t : Fin cfg0.N) (_ : t.val = n)
    (_ : ¬ t.val % 16 = 0) (d), (dats m 0 c).before w t d = X := by
  intro n
  induction n with
  | zero => intro t ht h d; omega
  | succ n ih =>
    intro t ht h d
    have hlt : t.val - 1 < cfg0.N := lt_of_le_of_lt (Nat.sub_le _ _) t.isLt
    have hN : t.val < 16 := lt_of_lt_of_eq t.isLt (show cfg0.N = 16 from N_0)
    have hfl : (cfg0.win w).flush ⟨t.val - 1, hlt⟩ = false := by
      rw [← Bool.not_eq_true, k.flush]; dsimp only; omega
    rw [(dats m 0 c).before_of_pos w t (by omega) (k.out t), hfl, if_neg Bool.false_ne_true]
    unfold Dat.left
    by_cases h0 : (t.val - 1) % 16 = 0
    · rw [k.live ⟨t.val - 1, hlt⟩ h0]
      refine Eq.trans ?_ (k.same ⟨t.val - 1, hlt⟩)
      unfold Dat.kept
      rw [Pipeline.fill_of_clip_none w _ (fun a => k.whole _ a) d ((dats m 0 c).after w _), Window.fill_cut]
    · rw [k.rest ⟨t.val - 1, hlt⟩ h0]
      exact ih ⟨t.val - 1, hlt⟩ (by dsimp only; omega) h0 d

/-- At the first point the buffer is handed back at `X`. -/
theorem Kept.leaves_first {c : Dev nD} {w : Fin cfg0.W} {X} (k : Kept m c w X) (t : Fin cfg0.N) (h : t.val % 16 = 0) :
    (dats m 0 c).leavesExact w t = owns (c : Thread nD τ) ((cfg0.win w).stage (cfg0.slots t w)) fullShare X := by
  unfold Dat.leavesExact; rw [k.live t h, k.same]

/-- At a further point the buffer is handed back as it was found. -/
theorem Kept.leaves_next {c : Dev nD} {w : Fin cfg0.W} {X} (k : Kept m c w X) (t : Fin cfg0.N) (h : ¬ t.val % 16 = 0) (d) :
    owns (c : Thread nD τ) ((cfg0.win w).stage (cfg0.slots t w)) fullShare ((dats m 0 c).before w t d)
      ⊢ (dats m 0 c).leavesExact w t := by
  by_cases hfl : (cfg0.win w).flush t = true
  · rw [show (dats m 0 c).leavesExact w t = owns (c : Thread nD τ) ((cfg0.win w).stage (cfg0.slots t w)) fullShare ((dats m 0 c).after w t) from by
      unfold Dat.leavesExact; rw [k.rest t h, hfl], k.same, ← k.before _ t rfl h d]
  · rw [(dats m 0 c).leavesExact_idle w t (k.rest t h) (Bool.not_eq_true _ ▸ hfl)]
    iintro H
    iexists d
    iexact H

variable (m)

theorem kept13 (c : Dev nD) : Kept m c 13 (wideS m c) :=
  ⟨fun t => (cfg0.win 13).fetch_out rfl t, fun _ _ => rfl, fun _ => rfl, flush0_13, after0_13 m c⟩
theorem kept14 (c : Dev nD) : Kept m c 14 (rowsS m c) :=
  ⟨fun t => (cfg0.win 14).fetch_out rfl t, fun _ _ => rfl, fun _ => rfl, flush0_14, after0_14 m c⟩
theorem kept15 (c : Dev nD) : Kept m c 15 (headsS (k0_pay3 (rowsS m c) (iblk m c 3 org))) :=
  ⟨fun t => (cfg0.win 15).fetch_out rfl t, fun _ _ => rfl, fun _ => rfl, flush0_15, after0_15 m c⟩
theorem kept16 (c : Dev nD) : Kept m c 16 (headsS (k0_pay3 (rowsS m c) (iblk m c 4 org))) :=
  ⟨fun t => (cfg0.win 16).fetch_out rfl t, fun _ _ => rfl, fun _ => rfl, flush0_16, after0_16 m c⟩
theorem kept17 (c : Dev nD) : Kept m c 17 (headsS (k0_pay3 (rowsS m c) (iblk m c 5 org))) :=
  ⟨fun t => (cfg0.win 17).fetch_out rfl t, fun _ _ => rfl, fun _ => rfl, flush0_17, after0_17 m c⟩
theorem kept18 (c : Dev nD) : Kept m c 18 (headsS (k0_pay3 (rowsS m c) (iblk m c 6 org))) :=
  ⟨fun t => (cfg0.win 18).fetch_out rfl t, fun _ _ => rfl, fun _ => rfl, flush0_18, after0_18 m c⟩

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t)

/-- A window that no point leaves idle is handed back at what the body leaves in it. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

set_option maxHeartbeats 1000000 in
/-- The body at any point, from what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    show (dats m 0 c).Φ t.succ = (dats m 0 c).Φ t.castSucc from rfl]
  rw [leaves_live m c 0 t rfl, leaves_live m c 1 t rfl, leaves_live m c 2 t rfl, leaves_live m c 3 t rfl, leaves_live m c 4 t rfl, leaves_live m c 5 t rfl, leaves_live m c 6 t rfl, leaves_live m c 7 t rfl, leaves_live m c 8 t rfl, leaves_live m c 9 t rfl, leaves_live m c 10 t rfl, leaves_live m c 11 t rfl, leaves_live m c 12 t rfl,
    after0_0, after0_1, after0_2, after0_3, after0_4, after0_5, after0_6, after0_7, after0_8, after0_9, after0_10, after0_11, after0_12]
  by_cases h0 : t.val % 16 = 0
  · rw [(kept13 m c).leaves_first t h0, (kept14 m c).leaves_first t h0, (kept15 m c).leaves_first t h0, (kept16 m c).leaves_first t h0, (kept17 m c).leaves_first t h0, (kept18 m c).leaves_first t h0]
    obtain rfl := eq_org t h0
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply (run_first c (grid0.coords org) _ _ _ _ _ _ _ _ _ _ _ _ _ _ _ _ _ _ _ _ _ _ _ _ _ _ _ _ _ _ _ _ _ _ _ _ _ _ ((first_iff org).mpr h0) (iblk m c 0 org) (iblk m c 1 org) (iblk m c 2 org) (iblk m c 3 org) (iblk m c 4 org) (iblk m c 5 org) (iblk m c 6 org) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iintro ⟨H0, H1, H2, H3, H4, H5, H6, H7, H8, H9, H10, H11, H12, H13, H14, H15, H16, H17, H18⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply (run_next c (grid0.coords t) _ _ _ _ _ _ _ _ _ _ _ _ _ _ _ _ _ _ _ _ _ _ _ _ _ _ _ _ _ _ _ _ _ _ _ _ _ _ (fun h => h0 ((first_iff t).mp h)) (iblk m c 0 t) (iblk m c 2 t) (iblk m c 3 t) (iblk m c 4 t) (iblk m c 5 t) (iblk m c 6 t) Set.univ _)
    isplitl [H0]; · iexact H0
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iintro ⟨H0, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iapply ((kept13 m c).leaves_next t h0 d13); iexact H13
    isplitl [H14]; · iapply ((kept14 m c).leaves_next t h0 d14); iexact H14
    isplitl [H15]; · iapply ((kept15 m c).leaves_next t h0 d15); iexact H15
    isplitl [H16]; · iapply ((kept16 m c).leaves_next t h0 d16); iexact H16
    isplitl [H17]; · iapply ((kept17 m c).leaves_next t h0 d17); iexact H17
    iapply ((kept18 m c).leaves_next t h0 d18); iexact H18

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run and the frame -/

set_option backward.isDefEq.respectTransparency.types false in
/-- The launch: the program runs, and every semaphore counter is zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the program runs, the argument arrays end unchanged, every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

/-- The run with the result arrays named. -/
theorem run_blocks : θ_run defs (onTc (τ := τ) (main (F := F))) ⟨m, fun _ => 0, ρ⟩ fun r => ∀ c : Dev nD,
      r.2.mem ((c : Thread nD τ).loc main_v7_0) = (dats m 0 c).arrAt 7 cfg0.N
      ∧ r.2.mem ((c : Thread nD τ).loc main_v7_1) = (dats m 0 c).arrAt 8 cfg0.N
      ∧ r.2.mem ((c : Thread nD τ).loc main_v7_2) = (dats m 0 c).arrAt 9 cfg0.N
      ∧ r.2.mem ((c : Thread nD τ).loc main_v7_3) = (dats m 0 c).arrAt 10 cfg0.N
      ∧ r.2.mem ((c : Thread nD τ).loc main_v7_4) = (dats m 0 c).arrAt 11 cfg0.N
      ∧ r.2.mem ((c : Thread nD τ).loc main_v7_5) = (dats m 0 c).arrAt 12 cfg0.N
      ∧ r.2.mem ((c : Thread nD τ).loc main_v7_6) = (dats m 0 c).arrAt 13 cfg0.N
      ∧ r.2.mem ((c : Thread nD τ).loc main_v7_7) = (dats m 0 c).arrAt 14 cfg0.N
      ∧ r.2.mem ((c : Thread nD τ).loc main_v7_8) = (dats m 0 c).arrAt 15 cfg0.N
      ∧ r.2.mem ((c : Thread nD τ).loc main_v7_9) = (dats m 0 c).arrAt 16 cfg0.N
      ∧ r.2.mem ((c : Thread nD τ).loc main_v7_10) = (dats m 0 c).arrAt 17 cfg0.N
      ∧ r.2.mem ((c : Thread nD τ).loc main_v7_11) = (dats m 0 c).arrAt 18 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 7, (h c).1 8, (h c).1 9, (h c).1 10, (h c).1 11, (h c).1 12, (h c).1 13, (h c).1 14, (h c).1 15, (h c).1 16, (h c).1 17, (h c).1 18,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.KvProjIdeal.Kv

end
-- ==== Proof.KvProj.Ref.lean ====
/- The key and value projection's reference at an index: normalised rows, products, and where each result reads them. -/
module

public import proofs.«01_k».proof.Proof.KvProj.Call
public import proofs.«01_k».proof.Proof.Gen.KvProjRefIdeal.Run
public import proofs.«01_k».proof.Proof.Gen.KvProjRefIdeal.Read
public import Idealize.ShloMosaic.Lib.Pipeline.ValueKit
public import Idealize.ShloMosaic.Lib.Pointwise
public import Idealize.ShloMosaic.Lib.IdealHost

@[expose] public section

set_option maxRecDepth 16384

noncomputable section

namespace Cert.Proof.KvProj

open Idealize.ShloMosaic Idealize.SL.Sem Idealize.ShloMosaic.TcCoe
open Cert.KvProjIdeal Cert.KvProjIdeal.Gen Cert.KvProjIdeal.Kv
open Cert.KvProjRefIdeal.Read

/-- An element of a row `x` divided by the row's root mean square and weighted by the gain `g`. -/
def nrm (x g : Fin 2048 → EReal) (k : Fin 2048) : EReal :=
  x k * Ideal.rsqrt (Ideal.div (∑ l, x l * x l) (Ideal.ofBits FTy.f32 0x45000000#32) + Ideal.ofBits FTy.f32 0x358637BD#32) * g k

/-- The column of the wide weights that column `n` of the packed ones is. -/
def col (n : ℕ) : ℕ := 768 + n + 1536 * (n / 1536)

/-- The same, by group and column of the group. -/
def wide (g : Fin 4) (j : Fin 768) : Fin 13312 := ⟨col (768 * g.val + j.val), by unfold col; omega⟩

/-- An element of a matrix read by its coordinates. -/
theorem read2 {n0 n1 : ℕ} {α : Type} (f : (⟨2, ![n0, n1]⟩ : Shape).Idx → α) (i : (⟨2, ![n0, n1]⟩ : Shape).Idx) (z : Fin n0)
    (n : Fin n1) (h0 : (i 0).val = z.val) (h1 : (i 1).val = n.val) : f i = f (ix2 z n) :=
  congrArg f ((ix2_eta i).symm.trans (congrArg₂ ix2 (Fin.ext h0) (Fin.ext h1)))

variable (x0 : S8192x2048.Idx → EReal) (x1 : S128x2048.Idx → EReal) (x2 : S2048.Idx → EReal) (x3 : S2048x13312.Idx → EReal)

/-- The reference's normalised prompt rows. -/
theorem ref_rowsP (z : Fin 8192) (k : Fin 2048) :
    val_main_v12 (F := Ideal) x0 x2 (ix2 z k) = nrm (fun l => x0 (ix2 z l)) (fun l => x2 (ix1 l)) k := by
  unfold val_main_v12 val_main_v9 val_main_v8 val_main_v7 val_main_v6 val_main_v5 val_main_v4 val_main_v3 val_main_v2
    val_main_v1 val_main_v0 val_main_v11 val_main_v10 val_main_cst val_main_cst_0 val_main_cst_1
  pointwise
  rfl

/-- The reference's normalised sample rows. -/
theorem ref_rowsS (z : Fin 128) (k : Fin 2048) :
    val_main_v43 (F := Ideal) x1 x2 (ix2 z k) = nrm (fun l => x1 (ix2 z l)) (fun l => x2 (ix1 l)) k := by
  unfold val_main_v43 val_main_v40 val_main_v39 val_main_v38 val_main_v37 val_main_v36 val_main_v35 val_main_v34 val_main_v33
    val_main_v32 val_main_v31 val_main_v42 val_main_v41 val_main_cst_2 val_main_cst_3 val_main_cst_4
  pointwise
  rfl

/-- The reference's products of the prompt rows. -/
theorem ref_prodP (z : Fin 8192) (n : Fin 13312) : val_main_v13 (F := Ideal) x0 x2 x3 (ix2 z n)
    = ∑ k : Fin 2048, nrm (fun l => x0 (ix2 z l)) (fun l => x2 (ix1 l)) k * x3 (ix2 k n) := by
  rw [val_main_v13_apply]
  refine Finset.sum_congr rfl fun k _ => congrArg₂ (· * ·) ((read2 _ _ z k rfl rfl).trans (ref_rowsP x0 x2 z k)) (read2 _ _ k n rfl rfl)

/-- The reference's products of the sample rows. -/
theorem ref_prodS (z : Fin 128) (n : Fin 13312) : val_main_v44 (F := Ideal) x1 x2 x3 (ix2 z n)
    = ∑ k : Fin 2048, nrm (fun l => x1 (ix2 z l)) (fun l => x2 (ix1 l)) k * x3 (ix2 k n) := by
  rw [val_main_v44_apply]
  refine Finset.sum_congr rfl fun k _ => congrArg₂ (· * ·) ((read2 _ _ z k rfl rfl).trans (ref_rowsS x1 x2 z k)) (read2 _ _ k n rfl rfl)

/-- The packed result of the prompt rows: its column `n` is column `col n` of the product. -/
theorem ref_packP (i : S8192x3072.Idx) (z : Fin 8192) (n : Fin 13312) (h0 : (i 0).val = z.val) (h1 : col (i 1).val = n.val) :
    val_main_v19 (F := Ideal) x0 x2 x3 i = val_main_v13 (F := Ideal) x0 x2 x3 (ix2 z n) := by
  have hi : (i 1).val < 3072 := (i 1).isLt
  unfold col at h1
  rw [val_main_v19_apply]
  unfold val_main_v18
  pointwise
  split_ifs <;> try (exfalso; exact absurd rfl ‹¬ (_ = _)›)
  · rw [val_main_v14_apply]; exact read2 _ _ _ _ h0 (by show 768 + (i 1).val = _; omega)
  · rw [val_main_v15_apply]; exact read2 _ _ _ _ h0 (by show 1536 + ((i 1).val - 768) = _; omega)
  · rw [val_main_v16_apply]; exact read2 _ _ _ _ h0 (by show 3840 + ((i 1).val - 768 - 768) = _; omega)
  · rw [val_main_v17_apply]; exact read2 _ _ _ _ h0 (by show 4608 + ((i 1).val - 768 - 768 - 768) = _; omega)

/-- The packed result of the sample rows. -/
theorem ref_packS (i : S128x3072.Idx) (z : Fin 128) (n : Fin 13312) (h0 : (i 0).val = z.val) (h1 : col (i 1).val = n.val) :
    val_main_v50 (F := Ideal) x1 x2 x3 i = val_main_v44 (F := Ideal) x1 x2 x3 (ix2 z n) := by
  have hi : (i 1).val < 3072 := (i 1).isLt
  unfold col at h1
  rw [val_main_v50_apply]
  unfold val_main_v49
  pointwise
  split_ifs <;> try (exfalso; exact absurd rfl ‹¬ (_ = _)›)
  · rw [val_main_v45_apply]; exact read2 _ _ _ _ h0 (by show 768 + (i 1).val = _; omega)
  · rw [val_main_v46_apply]; exact read2 _ _ _ _ h0 (by show 1536 + ((i 1).val - 768) = _; omega)
  · rw [val_main_v47_apply]; exact read2 _ _ _ _ h0 (by show 3840 + ((i 1).val - 768 - 768) = _; omega)
  · rw [val_main_v48_apply]; exact read2 _ _ _ _ h0 (by show 4608 + ((i 1).val - 768 - 768 - 768) = _; omega)

/-- A prompt row and a head's lane inside the flat order of the rows. -/
theorem flatP (a b h l : ℕ) (hh : h < 6) (hl : l < 128) : (((a * 4096 + b) * 6 + h) * 128 + l) / 768 = a * 4096 + b
    ∧ (((a * 4096 + b) * 6 + h) * 128 + l) % 768 = 128 * h + l := by omega

/-- A sample row and a head's lane inside the flat order of the rows. -/
theorem flatS (a b h l : ℕ) (hh : h < 6) (hl : l < 128) : (((a * 16 + b) * 6 + h) * 128 + l) / 768 = a * 16 + b
    ∧ (((a * 16 + b) * 6 + h) * 128 + l) % 768 = 128 * h + l := by omega

/-- The four results of the prompt rows split by heads, as elements of the product. -/
theorem ref_headsP (i : S2x6x4096x128.Idx) (z : Fin 8192) (j : Fin 768) (h0 : z.val = (i 0).val * 4096 + (i 2).val)
    (h1 : j.val = 128 * (i 1).val + (i 3).val) :
    val_main_v22 (F := Ideal) x0 x2 x3 i = val_main_v13 (F := Ideal) x0 x2 x3 (ix2 z (wide 0 j))
    ∧ val_main_v24 (F := Ideal) x0 x2 x3 i = val_main_v13 (F := Ideal) x0 x2 x3 (ix2 z (wide 1 j))
    ∧ val_main_v26 (F := Ideal) x0 x2 x3 i = val_main_v13 (F := Ideal) x0 x2 x3 (ix2 z (wide 2 j))
    ∧ val_main_v29 (F := Ideal) x0 x2 x3 i = val_main_v13 (F := Ideal) x0 x2 x3 (ix2 z (wide 3 j)) := by
  obtain ⟨hr, hc⟩ := flatP (i 0).val (i 2).val (i 1).val (i 3).val (i 1).isLt (i 3).isLt
  have hj := j.isLt
  refine ⟨?_, ?_, ?_, ?_⟩
  · rw [val_main_v22_apply, val_main_v21_apply, val_main_v14_apply]
    exact read2 _ _ _ _ (hr.trans h0.symm) ((congrArg (768 + ·) (hc.trans h1.symm)).trans (by show _ = col (768 * 0 + j.val); unfold col; omega))
  · rw [val_main_v24_apply, val_main_v23_apply, val_main_v15_apply]
    exact read2 _ _ _ _ (hr.trans h0.symm) ((congrArg (1536 + ·) (hc.trans h1.symm)).trans (by show _ = col (768 * 1 + j.val); unfold col; omega))
  · rw [val_main_v26_apply, val_main_v25_apply, val_main_v16_apply]
    exact read2 _ _ _ _ (hr.trans h0.symm) ((congrArg (3840 + ·) (hc.trans h1.symm)).trans (by show _ = col (768 * 2 + j.val); unfold col; omega))
  · rw [val_main_v29_apply, val_main_v28_apply, val_main_v17_apply]
    exact read2 _ _ _ _ (hr.trans h0.symm) ((congrArg (4608 + ·) (hc.trans h1.symm)).trans (by show _ = col (768 * 3 + j.val); unfold col; omega))

/-- The four results of the sample rows split by heads, as elements of the product. -/
theorem ref_headsS (i : S8x6x16x128.Idx) (z : Fin 128) (j : Fin 768) (h0 : z.val = (i 0).val * 16 + (i 2).val)
    (h1 : j.val = 128 * (i 1).val + (i 3).val) :
    val_main_v53 (F := Ideal) x1 x2 x3 i = val_main_v44 (F := Ideal) x1 x2 x3 (ix2 z (wide 0 j))
    ∧ val_main_v55 (F := Ideal) x1 x2 x3 i = val_main_v44 (F := Ideal) x1 x2 x3 (ix2 z (wide 1 j))
    ∧ val_main_v57 (F := Ideal) x1 x2 x3 i = val_main_v44 (F := Ideal) x1 x2 x3 (ix2 z (wide 2 j))
    ∧ val_main_v59 (F := Ideal) x1 x2 x3 i = val_main_v44 (F := Ideal) x1 x2 x3 (ix2 z (wide 3 j)) := by
  obtain ⟨hr, hc⟩ := flatS (i 0).val (i 2).val (i 1).val (i 3).val (i 1).isLt (i 3).isLt
  have hj := j.isLt
  refine ⟨?_, ?_, ?_, ?_⟩
  · rw [val_main_v53_apply, val_main_v52_apply, val_main_v45_apply]
    exact read2 _ _ _ _ (hr.trans h0.symm) ((congrArg (768 + ·) (hc.trans h1.symm)).trans (by show _ = col (768 * 0 + j.val); unfold col; omega))
  · rw [val_main_v55_apply, val_main_v54_apply, val_main_v46_apply]
    exact read2 _ _ _ _ (hr.trans h0.symm) ((congrArg (1536 + ·) (hc.trans h1.symm)).trans (by show _ = col (768 * 1 + j.val); unfold col; omega))
  · rw [val_main_v57_apply, val_main_v56_apply, val_main_v47_apply]
    exact read2 _ _ _ _ (hr.trans h0.symm) ((congrArg (3840 + ·) (hc.trans h1.symm)).trans (by show _ = col (768 * 2 + j.val); unfold col; omega))
  · rw [val_main_v59_apply, val_main_v58_apply, val_main_v48_apply]
    exact read2 _ _ _ _ (hr.trans h0.symm) ((congrArg (4608 + ·) (hc.trans h1.symm)).trans (by show _ = col (768 * 3 + j.val); unfold col; omega))

end Cert.Proof.KvProj

end
-- ==== Proof.KvProj.Vals.lean ====
/- The key and value projection: every result array holds the reference's term. -/
module

public import proofs.«01_k».proof.Proof.KvProj.Ref

@[expose] public section

set_option maxRecDepth 16384

noncomputable section

namespace Cert.Proof.KvProj

open Idealize.ShloMosaic Idealize.SL.Sem Idealize.ShloMosaic.TcCoe
open Cert.KvProjIdeal Cert.KvProjIdeal.Gen Cert.KvProjIdeal.Kv
open Cert.KvProjRefIdeal.Read

/-! ## What the call reads -/

/-- Prompt rows move with the point; the sample rows, the gain and the weights are staged whole. -/
theorem idxIn : ∀ t : Fin cfg0.N, win0_0.index t = ![t.val, 0] ∧ win0_1.index t = ![0, 0] ∧ win0_2.index t = ![0, 0]
    ∧ win0_3.index t = ![0, 0] ∧ win0_4.index t = ![0, 1] ∧ win0_5.index t = ![0, 2] ∧ win0_6.index t = ![0, 3] :=
  (by decide +kernel : ∀ t : Fin grid0.N, _)

variable (m : (ℓ : Loc nD τ sig) → Buf (Elt Ideal) ℓ) (c : Dev nD)

/-- The arguments of the call. -/
abbrev A0 : S8192x2048.Idx → EReal := m ((c : Thread nD τ).loc main_arg0)
abbrev A1 : S128x2048.Idx → EReal := m ((c : Thread nD τ).loc main_arg1)
abbrev A2 : S2048.Idx → EReal := m ((c : Thread nD τ).loc main_arg2)
abbrev A3 : S2048x13312.Idx → EReal := m ((c : Thread nD τ).loc main_arg3)

/-- What every buffer of a core holds. -/
abbrev St := (b : DevRef τ sig) → b.ty.Contents (Elt Ideal)

/-- Four matrices side by side. -/
def cat4 (a b d e : FVec Ideal S2048x768 .f32) : FVec Ideal S2048x3072 .f32 := concatenate S2048x3072 1
  [⟨S2048x768, a⟩, ⟨S2048x768, b⟩, ⟨S2048x768, d⟩, ⟨S2048x768, e⟩] concatenates_S2048x768_S2048x768_S2048x768_S2048x768_S2048x3072_d1

/-- The host's line in three stretches: the cuts, the joining, the rounding and the gain row. -/
abbrev cutOps : List (HloOp τ sig (Elt Ideal)) :=
  [ StableHlo.unary main_arg3 main_v0 ((extractStridedSlice S2048x768 ![0, 768] · slices_S2048x13312_S2048x768_0_768) : (⟨S2048x13312, .f32⟩ : BufTy).Contents (Elt Ideal) → (⟨S2048x768, .f32⟩ : BufTy).Contents (Elt Ideal)),
    StableHlo.unary main_arg3 main_v1 ((extractStridedSlice S2048x768 ![0, 1536] · slices_S2048x13312_S2048x768_0_1536) : (⟨S2048x13312, .f32⟩ : BufTy).Contents (Elt Ideal) → (⟨S2048x768, .f32⟩ : BufTy).Contents (Elt Ideal)),
    StableHlo.unary main_arg3 main_v2 ((extractStridedSlice S2048x768 ![0, 3840] · slices_S2048x13312_S2048x768_0_3840) : (⟨S2048x13312, .f32⟩ : BufTy).Contents (Elt Ideal) → (⟨S2048x768, .f32⟩ : BufTy).Contents (Elt Ideal)),
    StableHlo.unary main_arg3 main_v3 ((extractStridedSlice S2048x768 ![0, 4608] · slices_S2048x13312_S2048x768_0_4608) : (⟨S2048x13312, .f32⟩ : BufTy).Contents (Elt Ideal) → (⟨S2048x768, .f32⟩ : BufTy).Contents (Elt Ideal)) ]
abbrev joinOps : List (HloOp τ sig (Elt Ideal)) :=
  [ StableHlo.nary ![main_v0, main_v1, main_v2, main_v3] main_v4 (fun u => (concatenate S2048x3072 1 [⟨S2048x768, (u 0 : (⟨S2048x768, .f32⟩ : BufTy).Contents (Elt Ideal))⟩, ⟨S2048x768, (u 1 : (⟨S2048x768, .f32⟩ : BufTy).Contents (Elt Ideal))⟩, ⟨S2048x768, (u 2 : (⟨S2048x768, .f32⟩ : BufTy).Contents (Elt Ideal))⟩, ⟨S2048x768, (u 3 : (⟨S2048x768, .f32⟩ : BufTy).Contents (Elt Ideal))⟩] concatenates_S2048x768_S2048x768_S2048x768_S2048x768_S2048x3072_d1 : (⟨S2048x3072, .f32⟩ : BufTy).Contents (Elt Ideal))) ]
abbrev restOps : List (HloOp τ sig (Elt Ideal)) :=
  [ StableHlo.unary main_v4 main_v5 ((truncf (F := Ideal) .bf16 · bitsLt_bf16_f32) : (⟨S2048x3072, .f32⟩ : BufTy).Contents (Elt Ideal) → (⟨S2048x3072, .bf16⟩ : BufTy).Contents (Elt Ideal)),
    StableHlo.reshape main_arg2 main_v6 (rfl : (.f32 : EltTy) = .f32) shapeCasts_S2048_S1x2048 ]

theorem cut0 (σ : St) : StableHlo.after cutOps σ (Proc.tc.devRef main_v0)
    = extractStridedSlice S2048x768 ![0, 768] (σ (Proc.tc.devRef main_arg3) : FVec Ideal S2048x13312 .f32) slices_S2048x13312_S2048x768_0_768 := by
  entry_read
  try rfl
theorem cut1 (σ : St) : StableHlo.after cutOps σ (Proc.tc.devRef main_v1)
    = extractStridedSlice S2048x768 ![0, 1536] (σ (Proc.tc.devRef main_arg3) : FVec Ideal S2048x13312 .f32) slices_S2048x13312_S2048x768_0_1536 := by
  entry_read
  try rfl
theorem cut2 (σ : St) : StableHlo.after cutOps σ (Proc.tc.devRef main_v2)
    = extractStridedSlice S2048x768 ![0, 3840] (σ (Proc.tc.devRef main_arg3) : FVec Ideal S2048x13312 .f32) slices_S2048x13312_S2048x768_0_3840 := by
  entry_read
  try rfl
theorem cut3 (σ : St) : StableHlo.after cutOps σ (Proc.tc.devRef main_v3)
    = extractStridedSlice S2048x768 ![0, 4608] (σ (Proc.tc.devRef main_arg3) : FVec Ideal S2048x13312 .f32) slices_S2048x13312_S2048x768_0_4608 := by
  entry_read
  try rfl

/-- The joining. -/
theorem joined (σ : St) : StableHlo.after joinOps σ (Proc.tc.devRef main_v4)
    = cat4 (σ (Proc.tc.devRef main_v0)) (σ (Proc.tc.devRef main_v1)) (σ (Proc.tc.devRef main_v2)) (σ (Proc.tc.devRef main_v3)) := by
  rw [StableHlo.after_cons, StableHlo.after_nil]
  refine (StableHlo.nary_result _ _ _ _ _ _).trans ?_
  rfl

/-- The rounding. -/
theorem rounded (σ : St) : StableHlo.after restOps σ (Proc.tc.devRef main_v5)
    = truncf (F := Ideal) .bf16 (σ (Proc.tc.devRef main_v4) : FVec Ideal S2048x3072 .f32) bitsLt_bf16_f32 := by
  entry_read
  try rfl

/-- The four cuts of the weights side by side. -/
def packW (w : FVec Ideal S2048x13312 .f32) : FVec Ideal S2048x3072 .bf16 := truncf .bf16 (cat4
    (extractStridedSlice S2048x768 ![0, 768] w slices_S2048x13312_S2048x768_0_768)
    (extractStridedSlice S2048x768 ![0, 1536] w slices_S2048x13312_S2048x768_0_1536)
    (extractStridedSlice S2048x768 ![0, 3840] w slices_S2048x13312_S2048x768_0_3840)
    (extractStridedSlice S2048x768 ![0, 4608] w slices_S2048x13312_S2048x768_0_4608)) bitsLt_bf16_f32

/-- The packed weights the host cuts out. -/
theorem packed : (V m c main_v5 : FVec Ideal S2048x3072 .bf16) = packW (A3 m c) := by
  show StableHlo.after restOps (StableHlo.after joinOps (StableHlo.after cutOps (fun b => m (c, b)))) (Proc.tc.devRef main_v5) = _
  rw [rounded, joined, cut0, cut1, cut2, cut3]
  rfl

/-- The packed weights at an index. -/
theorem packed_at (i : S2048x3072.Idx) (k : Fin 2048) (n : Fin 13312) (h0 : (i 0).val = k.val) (h1 : col (i 1).val = n.val) :
    (V m c main_v5 : FVec Ideal S2048x3072 .bf16) i = A3 m c (ix2 k n) := by
  have hi : (i 1).val < 3072 := (i 1).isLt
  unfold col at h1
  rw [packed]
  unfold packW cat4
  pointwise
  split_ifs <;> try (exfalso; exact absurd rfl ‹¬ (_ = _)›)
  · exact read2 _ _ _ _ h0 (by show 768 + (i 1).val = _; omega)
  · exact read2 _ _ _ _ h0 (by show 1536 + ((i 1).val - 768) = _; omega)
  · exact read2 _ _ _ _ h0 (by show 3840 + ((i 1).val - 768 - 768) = _; omega)
  · exact read2 _ _ _ _ h0 (by show 4608 + ((i 1).val - 768 - 768 - 768) = _; omega)

/-- The gain row the host reshapes. -/
theorem gain : (V m c main_v6 : FVec Ideal S1x2048 .f32) = shapeCast S1x2048 (A2 m c : FVec Ideal S2048 .f32) shapeCasts_S2048_S1x2048 := by
  entry_read
  rfl

/-- The four groups of weights staged at a point. -/
def grp (t : Fin cfg0.N) : Fin 4 → FVec Ideal S2048x768 .bf16 := ![iblk m c 3 t, iblk m c 4 t, iblk m c 5 t, iblk m c 6 t]

theorem grp_at (t : Fin cfg0.N) (g : Fin 4) (k : Fin 2048) (j : Fin 768) : grp m c t g (ix2 k j) = A3 m c (ix2 k (wide g j)) := by
  have h := idxIn t
  match g with
  | ⟨0, _⟩ =>
    refine packed_at m c (((cfg0.win 3).blk t).view.emb (ix2 k j)) _ _ ?_ (congrArg col ?_)
    · show win0_3.index t 0 * 2048 + 1 * k.val = _
      rw [h.2.2.2.1]; show 0 * 2048 + 1 * k.val = _; omega
    · show win0_3.index t 1 * 768 + 1 * j.val = 768 * 0 + j.val
      rw [h.2.2.2.1]; show 0 * 768 + 1 * j.val = _; omega
  | ⟨1, _⟩ =>
    refine packed_at m c (((cfg0.win 4).blk t).view.emb (ix2 k j)) _ _ ?_ (congrArg col ?_)
    · show win0_4.index t 0 * 2048 + 1 * k.val = _
      rw [h.2.2.2.2.1]; show 0 * 2048 + 1 * k.val = _; omega
    · show win0_4.index t 1 * 768 + 1 * j.val = 768 * 1 + j.val
      rw [h.2.2.2.2.1]; show 1 * 768 + 1 * j.val = _; omega
  | ⟨2, _⟩ =>
    refine packed_at m c (((cfg0.win 5).blk t).view.emb (ix2 k j)) _ _ ?_ (congrArg col ?_)
    · show win0_5.index t 0 * 2048 + 1 * k.val = _
      rw [h.2.2.2.2.2.1]; show 0 * 2048 + 1 * k.val = _; omega
    · show win0_5.index t 1 * 768 + 1 * j.val = 768 * 2 + j.val
      rw [h.2.2.2.2.2.1]; show 2 * 768 + 1 * j.val = _; omega
  | ⟨3, _⟩ =>
    refine packed_at m c (((cfg0.win 6).blk t).view.emb (ix2 k j)) _ _ ?_ (congrArg col ?_)
    · show win0_6.index t 0 * 2048 + 1 * k.val = _
      rw [h.2.2.2.2.2.2]; show 0 * 2048 + 1 * k.val = _; omega
    · show win0_6.index t 1 * 768 + 1 * j.val = 768 * 3 + j.val
      rw [h.2.2.2.2.2.2]; show 3 * 768 + 1 * j.val = _; omega

/-- The prompt row a point's row is. -/
def prow (t : Fin cfg0.N) (r : Fin 512) : Fin 8192 :=
  ⟨512 * t.val + r.val, by have hN : t.val < 16 := lt_of_lt_of_eq t.isLt (show cfg0.N = 16 from N_0); omega⟩

/-! ## What the body computes from them -/

theorem gain_at (t : Fin cfg0.N) (k : Fin 2048) : iblk m c 2 t (ix2 (0 : Fin 1) k) = A2 m c (ix1 k) := by
  show (V m c main_v6 : FVec Ideal S1x2048 .f32) (((cfg0.win 2).blk t).view.emb (ix2 (0 : Fin 1) k)) = _
  rw [gain]
  pointwise
  refine congrArg (A2 m c) (congrArg ix1 (Fin.ext ?_))
  show win0_2.index t 1 * 2048 + 1 * k.val = _
  rw [(idxIn t).2.2.1]; show 0 * 2048 + 1 * k.val = _; omega

/-- The normalised rows of a point are the reference's. -/
theorem rowsP_at (t : Fin cfg0.N) (r : Fin 512) (k : Fin 2048) :
    rowsP m c t (ix2 r k) = val_main_v12 (F := Ideal) (A0 m c) (A2 m c) (ix2 (prow t r) k) := by
  rw [ref_rowsP]
  have hx : ∀ l : Fin 2048, iblk m c 0 t (ix2 r l) = A0 m c (ix2 (prow t r) l) := fun l => by
    rw [show iblk m c 0 t = ((cfg0.win 0).blk t).view.read (Elt Ideal) (A0 m c) from by unfold iblk; rw [show V m c (Pipeline.arrRef spec0 0) = _ from V_main_arg0 m c]]
    exact read2 (A0 m c) _ _ _ (by show win0_0.index t 0 * 512 + 1 * r.val = 512 * t.val + r.val; rw [(idxIn t).1]; show t.val * 512 + 1 * r.val = _; omega)
      (by show win0_0.index t 1 * 2048 + 1 * l.val = l.val; rw [(idxIn t).1]; show 0 * 2048 + 1 * l.val = _; omega)
  have hk : ∀ (x : S512x2048.Idx → EReal) (g : S1x2048.Idx → EReal),
      k0_pay223 (F := Ideal) x g (ix2 r k) = nrm (fun l => x (ix2 r l)) (fun l => g (ix2 0 l)) k := by
    intro x g
    pointwise [k0_pay223]
    rfl
  unfold rowsP
  rw [hk]
  exact congrArg₂ (fun a b => nrm a b k) (funext hx) (funext (gain_at m c t))

/-- The normalised sample rows are the reference's. -/
theorem rowsS_at (r : Fin 128) (k : Fin 2048) :
    rowsS m c (ix2 r k) = val_main_v43 (F := Ideal) (A1 m c) (A2 m c) (ix2 r k) := by
  rw [ref_rowsS]
  have hx : ∀ l : Fin 2048, iblk m c 1 org (ix2 r l) = A1 m c (ix2 r l) := fun l => by
    rw [show iblk m c 1 org = ((cfg0.win 1).blk org).view.read (Elt Ideal) (A1 m c) from by unfold iblk; rw [show V m c (Pipeline.arrRef spec0 1) = _ from V_main_arg1 m c]]
    exact read2 (A1 m c) _ _ _ (by show win0_1.index org 0 * 128 + 1 * r.val = r.val; rw [(idxIn org).2.1]; show 0 * 128 + 1 * r.val = _; omega)
      (by show win0_1.index org 1 * 2048 + 1 * l.val = l.val; rw [(idxIn org).2.1]; show 0 * 2048 + 1 * l.val = _; omega)
  have hk : ∀ (x : S128x2048.Idx → EReal) (g : S1x2048.Idx → EReal),
      k0_pay2 (F := Ideal) x g (ix2 r k) = nrm (fun l => x (ix2 r l)) (fun l => g (ix2 0 l)) k := by
    intro x g
    pointwise [k0_pay2]
    rfl
  unfold rowsS
  rw [hk]
  exact congrArg₂ (fun a b => nrm a b k) (funext hx) (funext (gain_at m c org))

/-- A group's product of a point's rows is the reference's. -/
theorem prodP_at (t : Fin cfg0.N) (g : Fin 4) (r : Fin 512) (j : Fin 768) :
    k0_pay224 (F := Ideal) (rowsP m c t) (grp m c t g) (ix2 r j)
      = val_main_v13 (F := Ideal) (A0 m c) (A2 m c) (A3 m c) (ix2 (prow t r) (wide g j)) := by
  rw [ref_prodP]
  have hk : ∀ (h : S512x2048.Idx → EReal) (w : S2048x768.Idx → EReal),
      k0_pay224 (F := Ideal) h w (ix2 r j) = ∑ k : Fin 2048, h (ix2 r k) * w (ix2 k j) := by
    intro h w
    pointwise [k0_pay224]
    try rfl
  rw [hk]
  exact Finset.sum_congr rfl fun k _ => congrArg₂ (· * ·) ((rowsP_at m c t r k).trans (ref_rowsP _ _ _ _)) (grp_at m c t g k j)

/-- A group's product of the sample rows is the reference's. -/
theorem prodS_at (g : Fin 4) (r : Fin 128) (j : Fin 768) :
    k0_pay3 (F := Ideal) (rowsS m c) (grp m c org g) (ix2 r j)
      = val_main_v44 (F := Ideal) (A1 m c) (A2 m c) (A3 m c) (ix2 r (wide g j)) := by
  rw [ref_prodS]
  have hk : ∀ (h : S128x2048.Idx → EReal) (w : S2048x768.Idx → EReal),
      k0_pay3 (F := Ideal) h w (ix2 r j) = ∑ k : Fin 2048, h (ix2 r k) * w (ix2 k j) := by
    intro h w
    pointwise [k0_pay3]
    try rfl
  rw [hk]
  exact Finset.sum_congr rfl fun k _ => congrArg₂ (· * ·) ((rowsS_at m c r k).trans (ref_rowsS _ _ _ _)) (grp_at m c org g k j)

/-- The packed products of a point's rows. -/
theorem wideP_at (t : Fin cfg0.N) (y : S512x3072.Idx) (n : Fin 13312) (hn : col (y 1).val = n.val) :
    wideP m c t y = val_main_v13 (F := Ideal) (A0 m c) (A2 m c) (A3 m c) (ix2 (prow t (y 0)) n) := by
  have hy : (y 1).val < 3072 := (y 1).isLt
  have e : ∀ (g : Fin 4) (j : Fin 768), (![k0_pay225 (rowsP m c t) (iblk m c 3 t), k0_pay225 (rowsP m c t) (iblk m c 4 t),
      k0_pay225 (rowsP m c t) (iblk m c 5 t), k0_pay225 (rowsP m c t) (iblk m c 6 t)] : Fin 4 → FVec Ideal S512x768 .bf16) g (ix2 (y 0 : Fin 512) j)
        = val_main_v13 (F := Ideal) (A0 m c) (A2 m c) (A3 m c) (ix2 (prow t (y 0)) (wide g j)) := by
    intro g j
    match g with
    | 0 => exact prodP_at m c t 0 (y 0) j
    | 1 => exact prodP_at m c t 1 (y 0) j
    | 2 => exact prodP_at m c t 2 (y 0) j
    | 3 => exact prodP_at m c t 3 (y 0) j
  unfold wideP packP
  rw [e]
  refine congrArg (val_main_v13 (F := Ideal) (A0 m c) (A2 m c) (A3 m c)) (congrArg (ix2 _) (Fin.ext (Eq.trans ?_ hn)))
  show col (768 * ((y 1).val / 768) + (y 1).val % 768) = _
  rw [Nat.div_add_mod]

/-- The packed products of the sample rows. -/
theorem wideS_at (y : S128x3072.Idx) (n : Fin 13312) (hn : col (y 1).val = n.val) :
    wideS m c y = val_main_v44 (F := Ideal) (A1 m c) (A2 m c) (A3 m c) (ix2 (y 0 : Fin 128) n) := by
  have hy : (y 1).val < 3072 := (y 1).isLt
  have e : ∀ (g : Fin 4) (j : Fin 768), (![k0_pay4 (rowsS m c) (iblk m c 3 org), k0_pay4 (rowsS m c) (iblk m c 4 org),
      k0_pay4 (rowsS m c) (iblk m c 5 org), k0_pay4 (rowsS m c) (iblk m c 6 org)] : Fin 4 → FVec Ideal S128x768 .bf16) g (ix2 (y 0 : Fin 128) j)
        = val_main_v44 (F := Ideal) (A1 m c) (A2 m c) (A3 m c) (ix2 (y 0 : Fin 128) (wide g j)) := by
    intro g j
    match g with
    | 0 => exact prodS_at m c 0 (y 0) j
    | 1 => exact prodS_at m c 1 (y 0) j
    | 2 => exact prodS_at m c 2 (y 0) j
    | 3 => exact prodS_at m c 3 (y 0) j
  unfold wideS packS
  rw [e]
  refine congrArg (val_main_v44 (F := Ideal) (A1 m c) (A2 m c) (A3 m c)) (congrArg (ix2 _) (Fin.ext (Eq.trans ?_ hn)))
  show col (768 * ((y 1).val / 768) + (y 1).val % 768) = _
  rw [Nat.div_add_mod]

end Cert.Proof.KvProj

end
-- ==== Proof.KvProj.Finals.lean ====
/- The key and value projection: every result array holds the reference's term. -/
module

public import proofs.«01_k».proof.Proof.KvProj.Vals

@[expose] public section

set_option maxRecDepth 16384

noncomputable section

namespace Cert.Proof.KvProj

open Idealize.ShloMosaic Idealize.SL.Sem Idealize.ShloMosaic.TcCoe
open Cert.KvProjIdeal Cert.KvProjIdeal.Gen Cert.KvProjIdeal.Kv
open Cert.KvProjRefIdeal.Read

/-! ## Where each result's blocks lie -/

theorem idxWide : ∀ t : Fin cfg0.N, win0_7.index t = ![t.val, 0] ∧ win0_8.index t = ![t.val, 0]
    ∧ win0_13.index t = ![0, 0] ∧ win0_14.index t = ![0, 0] :=
  (by decide +kernel : ∀ t : Fin grid0.N, _)

theorem idxHeads : ∀ t : Fin cfg0.N, win0_9.index t = ![t.val / 8, 0, t.val % 8, 0] ∧ win0_10.index t = ![t.val / 8, 0, t.val % 8, 0]
    ∧ win0_11.index t = ![t.val / 8, 0, 0, 0] ∧ win0_12.index t = ![t.val / 8, 0, 0, 0] :=
  (by decide +kernel : ∀ t : Fin grid0.N, _)

theorem idxSample : ∀ t : Fin cfg0.N, win0_15.index t = ![0, 0, 0, 0] ∧ win0_16.index t = ![0, 0, 0, 0]
    ∧ win0_17.index t = ![0, 0, 0, 0] ∧ win0_18.index t = ![0, 0, 0, 0] :=
  (by decide +kernel : ∀ t : Fin grid0.N, _)

variable (m : (ℓ : Loc nD τ sig) → Buf (Elt Ideal) ℓ) (c : Dev nD)

/-! ## The results -/

/-- The packed prompt products. -/
theorem final_y : (dats m 0 c).arrAt 7 cfg0.N = val_main_v19 (F := Ideal) (A0 m c) (A2 m c) (A3 m c) := by
  refine (dats m 0 c).arrAt_eq_of_covers 7 _ (by decide +kernel) fun t hf y => ?_
  blk_simp
  rw [after0_7]
  have hy : (y 1).val < 3072 := (y 1).isLt
  have hn : col (y 1).val < 13312 := by unfold col; omega
  refine (wideP_at m c t y ⟨_, hn⟩ rfl).trans (ref_packP _ _ _ _ (prow t (y 0)) ⟨_, hn⟩ ?_ (congrArg col ?_)).symm
  · show win0_7.index t 0 * 512 + 1 * (y 0).val = 512 * t.val + (y 0).val
    rw [(idxWide t).1]; show t.val * 512 + 1 * (y 0).val = _; omega
  · show win0_7.index t 1 * 3072 + 1 * (y 1).val = (y 1).val
    rw [(idxWide t).1]; show 0 * 3072 + 1 * (y 1).val = _; omega

/-- The normalised prompt rows. -/
theorem final_h : (dats m 0 c).arrAt 8 cfg0.N = val_main_v20 (F := Ideal) (A0 m c) (A2 m c) := by
  refine (dats m 0 c).arrAt_eq_of_covers 8 _ (by decide +kernel) fun t hf y => ?_
  blk_simp
  rw [after0_8]
  refine (congrArg (rowsP m c t) (ix2_eta y).symm).trans ((rowsP_at m c t (y 0) (y 1)).trans
    (read2 (val_main_v12 (F := Ideal) (A0 m c) (A2 m c)) _ (prow t (y 0)) (y 1) ?_ ?_).symm)
  · show win0_8.index t 0 * 512 + 1 * (y 0).val = 512 * t.val + (y 0).val
    rw [(idxWide t).2.1]; show t.val * 512 + 1 * (y 0).val = _; omega
  · show win0_8.index t 1 * 2048 + 1 * (y 1).val = (y 1).val
    rw [(idxWide t).2.1]; show 0 * 2048 + 1 * (y 1).val = _; omega

/-- The stick-breaking branch's keys, head by head. -/
theorem final_sbk : (dats m 0 c).arrAt 9 cfg0.N = val_main_v22 (F := Ideal) (A0 m c) (A2 m c) (A3 m c) := by
  refine (dats m 0 c).arrAt_eq_of_covers 9 _ (by decide +kernel) fun t hf y => ?_
  blk_simp
  rw [after0_9]
  have hy0 : (y 0).val < 1 := (y 0).isLt
  refine (prodP_at m c t 0 (y 2) (lane (y 1) (y 3))).trans (ref_headsP _ _ _ _ (prow t (y 2)) (lane (y 1) (y 3)) ?_ ?_).1.symm
  · show 512 * t.val + (y 2).val = (win0_9.index t 0 * 1 + 1 * (y 0).val) * 4096 + (win0_9.index t 2 * 512 + 1 * (y 2).val)
    rw [(idxHeads t).1]
    show 512 * t.val + (y 2).val = (t.val / 8 * 1 + 1 * (y 0).val) * 4096 + (t.val % 8 * 512 + 1 * (y 2).val)
    omega
  · show 128 * (y 1).val + (y 3).val = 128 * (win0_9.index t 1 * 6 + 1 * (y 1).val) + (win0_9.index t 3 * 128 + 1 * (y 3).val)
    rw [(idxHeads t).1]
    show 128 * (y 1).val + (y 3).val = 128 * (0 * 6 + 1 * (y 1).val) + (0 * 128 + 1 * (y 3).val)
    omega

/-- The stick-breaking branch's values, head by head. -/
theorem final_sbv : (dats m 0 c).arrAt 10 cfg0.N = val_main_v24 (F := Ideal) (A0 m c) (A2 m c) (A3 m c) := by
  refine (dats m 0 c).arrAt_eq_of_covers 10 _ (by decide +kernel) fun t hf y => ?_
  blk_simp
  rw [after0_10]
  have hy0 : (y 0).val < 1 := (y 0).isLt
  refine (prodP_at m c t 1 (y 2) (lane (y 1) (y 3))).trans (ref_headsP _ _ _ _ (prow t (y 2)) (lane (y 1) (y 3)) ?_ ?_).2.1.symm
  · show 512 * t.val + (y 2).val = (win0_10.index t 0 * 1 + 1 * (y 0).val) * 4096 + (win0_10.index t 2 * 512 + 1 * (y 2).val)
    rw [(idxHeads t).2.1]
    show 512 * t.val + (y 2).val = (t.val / 8 * 1 + 1 * (y 0).val) * 4096 + (t.val % 8 * 512 + 1 * (y 2).val)
    omega
  · show 128 * (y 1).val + (y 3).val = 128 * (win0_10.index t 1 * 6 + 1 * (y 1).val) + (win0_10.index t 3 * 128 + 1 * (y 3).val)
    rw [(idxHeads t).2.1]
    show 128 * (y 1).val + (y 3).val = 128 * (0 * 6 + 1 * (y 1).val) + (0 * 128 + 1 * (y 3).val)
    omega

/-- The band branch's keys of each prompt's last block. -/
theorem final_bdk : (dats m 0 c).arrAt 11 cfg0.N = val_main_v27 (F := Ideal) (A0 m c) (A2 m c) (A3 m c) := by
  refine (dats m 0 c).arrAt_eq_of_covers 11 _ (by decide +kernel) fun t hf y => ?_
  have h7 : t.val % 8 = 7 := (flush0_11 t).1 hf
  blk_simp
  rw [after0_11, val_main_v27_apply]
  have hy0 : (y 0).val < 1 := (y 0).isLt
  refine (prodP_at m c t 2 (y 2) (lane (y 1) (y 3))).trans (ref_headsP _ _ _ _ (prow t (y 2)) (lane (y 1) (y 3)) ?_ ?_).2.2.1.symm
  · show 512 * t.val + (y 2).val = (win0_11.index t 0 * 1 + 1 * (y 0).val) * 4096 + (3584 + (win0_11.index t 2 * 512 + 1 * (y 2).val))
    rw [(idxHeads t).2.2.1]
    show 512 * t.val + (y 2).val = (t.val / 8 * 1 + 1 * (y 0).val) * 4096 + (3584 + (0 * 512 + 1 * (y 2).val))
    omega
  · show 128 * (y 1).val + (y 3).val = 128 * (win0_11.index t 1 * 6 + 1 * (y 1).val) + (win0_11.index t 3 * 128 + 1 * (y 3).val)
    rw [(idxHeads t).2.2.1]
    show 128 * (y 1).val + (y 3).val = 128 * (0 * 6 + 1 * (y 1).val) + (0 * 128 + 1 * (y 3).val)
    omega

/-- The band branch's values of each prompt's last block. -/
theorem final_bdv : (dats m 0 c).arrAt 12 cfg0.N = val_main_v30 (F := Ideal) (A0 m c) (A2 m c) (A3 m c) := by
  refine (dats m 0 c).arrAt_eq_of_covers 12 _ (by decide +kernel) fun t hf y => ?_
  have h7 : t.val % 8 = 7 := (flush0_12 t).1 hf
  blk_simp
  rw [after0_12, val_main_v30_apply]
  have hy0 : (y 0).val < 1 := (y 0).isLt
  refine (prodP_at m c t 3 (y 2) (lane (y 1) (y 3))).trans (ref_headsP _ _ _ _ (prow t (y 2)) (lane (y 1) (y 3)) ?_ ?_).2.2.2.symm
  · show 512 * t.val + (y 2).val = (win0_12.index t 0 * 1 + 1 * (y 0).val) * 4096 + (3584 + (win0_12.index t 2 * 512 + 1 * (y 2).val))
    rw [(idxHeads t).2.2.2]
    show 512 * t.val + (y 2).val = (t.val / 8 * 1 + 1 * (y 0).val) * 4096 + (3584 + (0 * 512 + 1 * (y 2).val))
    omega
  · show 128 * (y 1).val + (y 3).val = 128 * (win0_12.index t 1 * 6 + 1 * (y 1).val) + (win0_12.index t 3 * 128 + 1 * (y 3).val)
    rw [(idxHeads t).2.2.2]
    show 128 * (y 1).val + (y 3).val = 128 * (0 * 6 + 1 * (y 1).val) + (0 * 128 + 1 * (y 3).val)
    omega

/-- The packed sample products. -/
theorem final_ys : (dats m 0 c).arrAt 13 cfg0.N = val_main_v50 (F := Ideal) (A1 m c) (A2 m c) (A3 m c) := by
  refine (dats m 0 c).arrAt_eq_of_covers 13 _ (by decide +kernel) fun t hf y => ?_
  blk_simp
  rw [after0_13]
  have hy : (y 1).val < 3072 := (y 1).isLt
  have hn : col (y 1).val < 13312 := by unfold col; omega
  refine (wideS_at m c y ⟨_, hn⟩ rfl).trans (ref_packS _ _ _ _ (y 0) ⟨_, hn⟩ ?_ (congrArg col ?_)).symm
  · show win0_13.index t 0 * 128 + 1 * (y 0).val = (y 0).val
    rw [(idxWide t).2.2.1]; show 0 * 128 + 1 * (y 0).val = _; omega
  · show win0_13.index t 1 * 3072 + 1 * (y 1).val = (y 1).val
    rw [(idxWide t).2.2.1]; show 0 * 3072 + 1 * (y 1).val = _; omega

/-- The normalised sample rows. -/
theorem final_hs : (dats m 0 c).arrAt 14 cfg0.N = val_main_v51 (F := Ideal) (A1 m c) (A2 m c) := by
  refine (dats m 0 c).arrAt_eq_of_covers 14 _ (by decide +kernel) fun t hf y => ?_
  blk_simp
  rw [after0_14]
  refine (congrArg (rowsS m c) (ix2_eta y).symm).trans ((rowsS_at m c (y 0) (y 1)).trans
    (read2 (val_main_v43 (F := Ideal) (A1 m c) (A2 m c)) _ (y 0) (y 1) ?_ ?_).symm)
  · show win0_14.index t 0 * 128 + 1 * (y 0).val = (y 0).val
    rw [(idxWide t).2.2.2]; show 0 * 128 + 1 * (y 0).val = _; omega
  · show win0_14.index t 1 * 2048 + 1 * (y 1).val = (y 1).val
    rw [(idxWide t).2.2.2]; show 0 * 2048 + 1 * (y 1).val = _; omega

/-- The stick-breaking branch's keys of the samples. -/
theorem final_sbks : (dats m 0 c).arrAt 15 cfg0.N = val_main_v53 (F := Ideal) (A1 m c) (A2 m c) (A3 m c) := by
  refine (dats m 0 c).arrAt_eq_of_covers 15 _ (by decide +kernel) fun t hf y => ?_
  blk_simp
  rw [after0_15]
  refine (prodS_at m c 0 (srow (y 0) (y 2)) (lane (y 1) (y 3))).trans (ref_headsS _ _ _ _ (srow (y 0) (y 2)) (lane (y 1) (y 3)) ?_ ?_).1.symm
  · show 16 * (y 0).val + (y 2).val = (win0_15.index t 0 * 8 + 1 * (y 0).val) * 16 + (win0_15.index t 2 * 16 + 1 * (y 2).val)
    rw [(idxSample t).1]
    show 16 * (y 0).val + (y 2).val = (0 * 8 + 1 * (y 0).val) * 16 + (0 * 16 + 1 * (y 2).val)
    omega
  · show 128 * (y 1).val + (y 3).val = 128 * (win0_15.index t 1 * 6 + 1 * (y 1).val) + (win0_15.index t 3 * 128 + 1 * (y 3).val)
    rw [(idxSample t).1]
    show 128 * (y 1).val + (y 3).val = 128 * (0 * 6 + 1 * (y 1).val) + (0 * 128 + 1 * (y 3).val)
    omega

/-- The stick-breaking branch's values of the samples. -/
theorem final_sbvs : (dats m 0 c).arrAt 16 cfg0.N = val_main_v55 (F := Ideal) (A1 m c) (A2 m c) (A3 m c) := by
  refine (dats m 0 c).arrAt_eq_of_covers 16 _ (by decide +kernel) fun t hf y => ?_
  blk_simp
  rw [after0_16]
  refine (prodS_at m c 1 (srow (y 0) (y 2)) (lane (y 1) (y 3))).trans (ref_headsS _ _ _ _ (srow (y 0) (y 2)) (lane (y 1) (y 3)) ?_ ?_).2.1.symm
  · show 16 * (y 0).val + (y 2).val = (win0_16.index t 0 * 8 + 1 * (y 0).val) * 16 + (win0_16.index t 2 * 16 + 1 * (y 2).val)
    rw [(idxSample t).2.1]
    show 16 * (y 0).val + (y 2).val = (0 * 8 + 1 * (y 0).val) * 16 + (0 * 16 + 1 * (y 2).val)
    omega
  · show 128 * (y 1).val + (y 3).val = 128 * (win0_16.index t 1 * 6 + 1 * (y 1).val) + (win0_16.index t 3 * 128 + 1 * (y 3).val)
    rw [(idxSample t).2.1]
    show 128 * (y 1).val + (y 3).val = 128 * (0 * 6 + 1 * (y 1).val) + (0 * 128 + 1 * (y 3).val)
    omega

/-- The band branch's keys of the samples. -/
theorem final_bdks : (dats m 0 c).arrAt 17 cfg0.N = val_main_v57 (F := Ideal) (A1 m c) (A2 m c) (A3 m c) := by
  refine (dats m 0 c).arrAt_eq_of_covers 17 _ (by decide +kernel) fun t hf y => ?_
  blk_simp
  rw [after0_17]
  refine (prodS_at m c 2 (srow (y 0) (y 2)) (lane (y 1) (y 3))).trans (ref_headsS _ _ _ _ (srow (y 0) (y 2)) (lane (y 1) (y 3)) ?_ ?_).2.2.1.symm
  · show 16 * (y 0).val + (y 2).val = (win0_17.index t 0 * 8 + 1 * (y 0).val) * 16 + (win0_17.index t 2 * 16 + 1 * (y 2).val)
    rw [(idxSample t).2.2.1]
    show 16 * (y 0).val + (y 2).val = (0 * 8 + 1 * (y 0).val) * 16 + (0 * 16 + 1 * (y 2).val)
    omega
  · show 128 * (y 1).val + (y 3).val = 128 * (win0_17.index t 1 * 6 + 1 * (y 1).val) + (win0_17.index t 3 * 128 + 1 * (y 3).val)
    rw [(idxSample t).2.2.1]
    show 128 * (y 1).val + (y 3).val = 128 * (0 * 6 + 1 * (y 1).val) + (0 * 128 + 1 * (y 3).val)
    omega

/-- The band branch's values of the samples. -/
theorem final_bdvs : (dats m 0 c).arrAt 18 cfg0.N = val_main_v59 (F := Ideal) (A1 m c) (A2 m c) (A3 m c) := by
  refine (dats m 0 c).arrAt_eq_of_covers 18 _ (by decide +kernel) fun t hf y => ?_
  blk_simp
  rw [after0_18]
  refine (prodS_at m c 3 (srow (y 0) (y 2)) (lane (y 1) (y 3))).trans (ref_headsS _ _ _ _ (srow (y 0) (y 2)) (lane (y 1) (y 3)) ?_ ?_).2.2.2.symm
  · show 16 * (y 0).val + (y 2).val = (win0_18.index t 0 * 8 + 1 * (y 0).val) * 16 + (win0_18.index t 2 * 16 + 1 * (y 2).val)
    rw [(idxSample t).2.2.2]
    show 16 * (y 0).val + (y 2).val = (0 * 8 + 1 * (y 0).val) * 16 + (0 * 16 + 1 * (y 2).val)
    omega
  · show 128 * (y 1).val + (y 3).val = 128 * (win0_18.index t 1 * 6 + 1 * (y 1).val) + (win0_18.index t 3 * 128 + 1 * (y 3).val)
    rw [(idxSample t).2.2.2]
    show 128 * (y 1).val + (y 3).val = 128 * (0 * 6 + 1 * (y 1).val) + (0 * 128 + 1 * (y 3).val)
    omega

end Cert.Proof.KvProj

end
-- ==== Proof.Vals.Gates.lean ====
/- The gate identities of the merge over the extended reals: a hyperbolic tangent of the half gate against the logistic function. -/
module

public import Idealize.ShloMosaic.Lib.Pointwise
public import Idealize.ShloMosaic.PureOps
public import Idealize.ShloMosaic.PureOps.Ideal.Laws
public import Idealize.ShloMosaic.Lib.IdealHost

@[expose] public section

noncomputable section

namespace Cert.Proof.Gates

open Idealize.ShloMosaic

/-- The word of the constant one half. -/
theorem half_word : Ideal.ofBits .f32 0x3F000000#32 = ((1 / 2 : ℝ) : EReal) := by
  simp [Ideal.ofBits, Ideal.ieee, -EReal.coe_mul]; norm_num

/-- The word of the constant two. -/
theorem two_word : Ideal.ofBits .f32 0x40000000#32 = ((2 : ℝ) : EReal) := by
  simp [Ideal.ofBits, Ideal.ieee, -EReal.coe_mul]; norm_num

/-- Only a finite number differs from itself by zero. -/
theorem finite_of_sub_self {x : EReal} (h : x - x = 0) : ∃ r : ℝ, x = r := by
  induction x with
  | bot => simp at h
  | coe r => exact ⟨r, rfl⟩
  | top => simp at h

/-- The logistic function at twice `x` is half of one plus the hyperbolic tangent of `x`. -/
theorem logistic_twice (x : ℝ) : (1 + Real.exp (-(2 * x)))⁻¹ = (1 + Real.tanh x) / 2 := by
  have hp := Real.exp_pos x
  have hn := Real.exp_pos (-x)
  have h2 : Real.exp (-(2 * x)) = Real.exp (-x) * Real.exp (-x) := by rw [← Real.exp_add]; ring_nf
  have h1 : Real.exp x * Real.exp (-x) = 1 := by rw [← Real.exp_add]; simp
  rw [Real.tanh_eq_sinh_div_cosh, Real.sinh_eq, Real.cosh_eq, h2]
  field_simp
  nlinarith [h1]

/-- A finite sum of reals is the same sum of extended reals. -/
theorem sum_coe {n : ℕ} (f : Fin n → ℝ) : ∑ k, ((f k : ℝ) : EReal) = ((∑ k, f k : ℝ) : EReal) := by
  induction n with
  | zero => simp
  | succ n ih => rw [Fin.sum_univ_castSucc, Fin.sum_univ_castSucc, ih, EReal.coe_add]

/-- The gate of one branch output: the half gate times one plus its hyperbolic tangent, which is SiLU of the gate. -/
theorem silu_twice (h : ℝ) : (h : EReal) + h * Ideal.tanh h = ((2 : ℝ) : EReal) * h * Ideal.logistic (((2 : ℝ) : EReal) * h) := by
  rw [← EReal.coe_mul, Ideal.logistic_coe, Ideal.tanh_coe, logistic_twice, ← EReal.coe_mul, ← EReal.coe_mul, ← EReal.coe_add]
  congr 1
  ring

/-- One branch of the merge as the call computes it: the gated product, and the product times the hyperbolic tangent. -/
def halfTerm {n : ℕ} (o h w : Fin n → EReal) (μ : EReal) : EReal :=
  (∑ k, o k * (h k + h k * Ideal.tanh (h k)) * w k) + (∑ k, o k * (h k + h k * Ideal.tanh (h k)) * w k) * Ideal.tanh μ

/-- One branch of the merge as the problem states it: the logistic gate times the product of the SiLU gated rows. -/
def gateTerm {n : ℕ} (o h w : Fin n → EReal) (μ : EReal) : EReal :=
  Ideal.logistic (((2 : ℝ) : EReal) * μ) * ∑ k, o k * (((2 : ℝ) : EReal) * h k * Ideal.logistic (((2 : ℝ) : EReal) * h k)) * w k

/-- One branch of the merge. Halving the weights and adding the product times the hyperbolic tangent of the half
    merge gate is the gated product times the logistic function of the merge gate. -/
theorem branch {n : ℕ} (o h w : Fin n → EReal) (μ : EReal) (ho : ∀ k, ∃ r : ℝ, o k = r) (hh : ∀ k, ∃ r : ℝ, h k = r)
    (hw : ∀ k, ∃ r : ℝ, w k = r) :
    halfTerm o h (fun k => ((1 / 2 : ℝ) : EReal) * w k) μ = gateTerm o h w μ := by
  unfold halfTerm gateTerm
  choose o' ho using ho
  choose h' hh using hh
  choose w' hw using hw
  obtain rfl : o = fun k => ((o' k : ℝ) : EReal) := funext ho
  obtain rfl : h = fun k => ((h' k : ℝ) : EReal) := funext hh
  obtain rfl : w = fun k => ((w' k : ℝ) : EReal) := funext hw
  have hl : ∀ k, ((o' k : ℝ) : EReal) * ((h' k : EReal) + h' k * Ideal.tanh (h' k)) * (((1 / 2 : ℝ) : EReal) * w' k)
      = ((o' k * (h' k + h' k * Real.tanh (h' k)) * w' k * (1 / 2) : ℝ) : EReal) := by
    intro k
    rw [Ideal.tanh_coe, ← EReal.coe_mul, ← EReal.coe_add, ← EReal.coe_mul, ← EReal.coe_mul, ← EReal.coe_mul]
    congr 1
    ring
  have hr : ∀ k, ((o' k : ℝ) : EReal) * (((2 : ℝ) : EReal) * h' k * Ideal.logistic (((2 : ℝ) : EReal) * h' k)) * w' k
      = ((o' k * (h' k + h' k * Real.tanh (h' k)) * w' k : ℝ) : EReal) := by
    intro k
    rw [← silu_twice, Ideal.tanh_coe, ← EReal.coe_mul, ← EReal.coe_add, ← EReal.coe_mul, ← EReal.coe_mul]
  simp only [hl, hr]
  rw [sum_coe, sum_coe, ← Finset.sum_mul]
  generalize ∑ k, o' k * (h' k + h' k * Real.tanh (h' k)) * w' k = s
  induction μ with
  | bot =>
    rw [EReal.coe_mul_bot_of_pos (by norm_num), Ideal.tanh_bot, Ideal.logistic_bot, zero_mul, mul_neg, mul_one, ← EReal.coe_neg, ← EReal.coe_add,
      add_neg_cancel, EReal.coe_zero]
  | top =>
    rw [EReal.coe_mul_top_of_pos (by norm_num), Ideal.tanh_top, Ideal.logistic_top, one_mul, mul_one, ← EReal.coe_add]
    congr 1
    ring
  | coe μ' =>
    rw [← EReal.coe_mul, Ideal.logistic_coe, Ideal.tanh_coe, logistic_twice, ← EReal.coe_mul, ← EReal.coe_mul, ← EReal.coe_add]
    congr 1
    ring

/-- The host's test, one less itself against zero, holds of numbers only. -/
theorem finite_of_test {x : EReal} (h : Ideal.cmp .oeq (x - x) (Ideal.ofBits .f32 0x00000000#32) = 1#1) : ∃ r : ℝ, x = r := by
  rw [Ideal.ofBits_zero_f32] at h
  refine finite_of_sub_self ?_
  by_contra hn
  have : Ideal.cmp .oeq (x - x) 0 = 0#1 := by simp [Ideal.cmp, hn]
  rw [this] at h
  exact absurd h (by decide)

/-- Every element of the array is a number. -/
def Finite {s : Shape} (x : s.Idx → EReal) : Prop := ∀ i, ∃ r : ℝ, x i = r

/-- Every element of `w` columns of the matrix from the column `o` on is a number. -/
def Columns {n0 n1 : ℕ} (x : (⟨2, ![n0, n1]⟩ : Shape).Idx → EReal) (o w : ℕ) : Prop :=
  ∀ (r : Fin n0) (d : Fin n1) (k : ℕ), k < w → d.val = o + k → ∃ y : ℝ, x (ix2 r d) = y

end Cert.Proof.Gates

end
-- ==== Proof.Vals.Blocks.lean ====
/- Reading elements of two-dimensional blocks by their coordinates. -/
module

public import Idealize.ShloMosaic.Lib.Pipeline.ValueKit
public import Idealize.ShloMosaic.Lib.Pipeline.ReadBack
public import Idealize.ShloMosaic.Lib.Pointwise

@[expose] public section

noncomputable section

namespace Cert.Proof.Blocks

open Idealize.ShloMosaic

/-- An element of a matrix at any index with the given coordinates. -/
theorem at2 {n0 n1 : ℕ} {α : Type} (f : (⟨2, ![n0, n1]⟩ : Shape).Idx → α) (i : (⟨2, ![n0, n1]⟩ : Shape).Idx) (z : Fin n0)
    (n : Fin n1) (h0 : (i 0).val = z.val) (h1 : (i 1).val = n.val) : f i = f (ix2 z n) :=
  congrArg f ((ix2_eta i).symm.trans (congrArg₂ ix2 (Fin.ext h0) (Fin.ext h1)))

/-- A load of a matrix's columns from an offset on. -/
theorem ld_cols {n0 n1 z1 : ℕ} {Val : EltTy → Type} {e : EltTy} (f : (⟨2, ![n0, n1]⟩ : Shape).Idx → Val e) (o : ℕ)
    (inb : ∀ a, (![0, o] : Fin 2 → ℕ) a + (![n0, z1] : Fin 2 → ℕ) a ≤ (⟨2, ![n0, n1]⟩ : Shape).size a) (k : Fin n0) (d : Fin z1) (d' : Fin n1)
    (h : d'.val = o + d.val) :
    View.ld f (Rect.unit (s := ⟨2, ![n0, n1]⟩) ![0, o] ![n0, z1] inb) (ix2 k d) = f (ix2 k d') :=
  at2 f _ k d' (show 0 + 1 * k.val = k.val by omega) (show o + 1 * d.val = d'.val by omega)

/-- Stores that are blocks of one function and cover a buffer leave that function. -/
theorem canon_pieces {s : Shape} {e : EltTy} (G : s.Idx → Elt Ideal e) (L : List (View.Piece (Elt Ideal) s e))
    (h : View.PiecesOf G L) (hc : ∀ y, ∃ p ∈ L, y ∈ p.1.set) : View.canon L = G := by
  funext y
  have := View.canon_append_of_piecesOf G [] L h y (hc y)
  rwa [List.append_nil] at this

end Cert.Proof.Blocks

end
-- ==== Proof.Merge.Run.lean ====
module

public import proofs.«01_k».proof.Proof.Gen.MergeIdeal.Value
public import proofs.«01_k».proof.Proof.Vals.Gates
public import proofs.«01_k».proof.Proof.Vals.Blocks
public import Idealize.ShloMosaic.Lib.Pipeline.ValueKit
public import Idealize.ShloMosaic.Lib.Pointwise
public import Idealize.ShloMosaic.Lib.VecWindow
public import Idealize.ShloMosaic.Lib.WholeRead
public import Idealize.ShloMosaic.Lib.Pipeline.ReadBack
public import Idealize.ShloMosaic.Lib.IdealHost

@[expose] public section

set_option maxRecDepth 16384

noncomputable section

namespace Cert.Proof.Merge

open Idealize.ShloMosaic Idealize.SL.Sem Idealize.ShloMosaic.TcCoe
open Cert.MergeIdeal Cert.MergeIdeal.Gen

theorem zero2 : (![0, 0] : Fin 2 → ℕ) = fun _ => 0 := by decide

/-- The half merge gate of a column, from the gates of the columns' two halves. -/
def mu (a b : Vec Ideal S512x1024 .bf16) (r : Fin 512) (d : Fin 2048) : EReal :=
  if h : d.val < 1024 then a (ix2 r (⟨d.val, h⟩ : Fin 1024)) else b (ix2 r (⟨d.val - 1024, by omega⟩ : Fin 1024))

/-- The merged rows: the three branches' terms. -/
def merged (x1 x2 : Vec Ideal S512x768 .bf16) (x3 : Vec Ideal S512x512 .bf16) (x4 x5 : Vec Ideal S512x768 .bf16)
    (x6 : Vec Ideal S512x512 .bf16) (x7 x8 x9 x10 x11 x12 : Vec Ideal S512x1024 .bf16) (x13 x14 : Vec Ideal S768x2048 .bf16)
    (x15 : Vec Ideal S512x2048 .bf16) (r : Fin 512) (d : Fin 2048) : EReal :=
  Gates.halfTerm (fun k : Fin 768 => x1 (ix2 r k)) (fun k => x4 (ix2 r k)) (fun k => x13 (ix2 k d)) (mu x7 x8 r d)
    + Gates.halfTerm (fun k : Fin 768 => x2 (ix2 r k)) (fun k => x5 (ix2 r k)) (fun k => x14 (ix2 k d)) (mu x9 x10 r d)
    + Gates.halfTerm (fun k : Fin 512 => x3 (ix2 r k)) (fun k => x6 (ix2 r k)) (fun k => x15 (ix2 k d)) (mu x11 x12 r d)

section
variable (x1 x2 : Vec Ideal S512x768 .bf16) (x3 : Vec Ideal S512x512 .bf16) (x4 x5 : Vec Ideal S512x768 .bf16)
    (x6 : Vec Ideal S512x512 .bf16) (x7 x8 x9 x10 x11 x12 : Vec Ideal S512x1024 .bf16) (x13 x14 : Vec Ideal S768x2048 .bf16)
    (x15 : Vec Ideal S512x2048 .bf16)

/-- What is stored in the first half of the columns. -/
theorem first_half (w13 w14 : Vec Ideal S768x1024 .bf16) (w15 : Vec Ideal S512x1024 .bf16) (r : Fin 512) (d : Fin 1024) :
    k0_pay7 (F := Ideal) (k0_pay4 x3 x6) (k0_pay5 x1 x4 w13 x7) (k0_pay6 x2 x5 w14) x9 w15 x11 (ix2 r d)
    = Gates.halfTerm (fun k : Fin 768 => x1 (ix2 r k)) (fun k => x4 (ix2 r k)) (fun k => w13 (ix2 k d)) (x7 (ix2 r d))
      + Gates.halfTerm (fun k : Fin 768 => x2 (ix2 r k)) (fun k => x5 (ix2 r k)) (fun k => w14 (ix2 k d)) (x9 (ix2 r d))
      + Gates.halfTerm (fun k : Fin 512 => x3 (ix2 r k)) (fun k => x6 (ix2 r k)) (fun k => w15 (ix2 k d)) (x11 (ix2 r d)) := by
  pointwise [k0_pay7, k0_pay6, k0_pay5, k0_pay4, k0_pay3, k0_pay2]
  rfl

/-- What is stored in the second half of the columns. -/
theorem second_half (w13 w14 : Vec Ideal S768x1024 .bf16) (w15 : Vec Ideal S512x1024 .bf16) (r : Fin 512) (d : Fin 1024) :
    k0_pay1 (F := Ideal) (k0_pay8 (k0_pay2 x1 x4) (k0_pay3 x2 x5) w13 x8 w14 x10) (k0_pay9 (k0_pay4 x3 x6) w15) x12 (ix2 r d)
    = Gates.halfTerm (fun k : Fin 768 => x1 (ix2 r k)) (fun k => x4 (ix2 r k)) (fun k => w13 (ix2 k d)) (x8 (ix2 r d))
      + Gates.halfTerm (fun k : Fin 768 => x2 (ix2 r k)) (fun k => x5 (ix2 r k)) (fun k => w14 (ix2 k d)) (x10 (ix2 r d))
      + Gates.halfTerm (fun k : Fin 512 => x3 (ix2 r k)) (fun k => x6 (ix2 r k)) (fun k => w15 (ix2 k d)) (x12 (ix2 r d)) := by
  pointwise [k0_pay1, k0_pay9, k0_pay8, k0_pay4, k0_pay3, k0_pay2]
  rfl

/-- The half merge gate of a column of the first half. -/
theorem mu_first (a b : Vec Ideal S512x1024 .bf16) (r r' : Fin 512) (d : Fin 1024) (d' : Fin 2048) (hr : r' = r)
    (h : d'.val = 0 + d.val) : mu a b r' d' = a (ix2 r d) := by
  subst hr
  unfold mu
  rw [dif_pos (show d'.val < 1024 by omega)]
  exact congrArg a (congrArg (ix2 r') (Fin.ext (by show d'.val = _; omega)))

/-- The half merge gate of a column of the second half. -/
theorem mu_second (a b : Vec Ideal S512x1024 .bf16) (r r' : Fin 512) (d : Fin 1024) (d' : Fin 2048) (hr : r' = r)
    (h : d'.val = 1024 + d.val) : mu a b r' d' = b (ix2 r d) := by
  subst hr
  unfold mu
  rw [dif_neg (show ¬ d'.val < 1024 by omega)]
  exact congrArg b (congrArg (ix2 r') (Fin.ext (by show d'.val - 1024 = _; omega)))

/-- The terms of the first half's columns are the merged rows'. -/
theorem merged_first (r r' : Fin 512) (d : Fin 1024) (d' : Fin 2048) (hr : r' = r) (h : d'.val = 0 + d.val) :
    Gates.halfTerm (fun k : Fin 768 => x1 (ix2 r k)) (fun k => x4 (ix2 r k))
        (fun k => View.ld x13 (Rect.unit (s := S768x2048) ![0, 0] S768x1024.size inb_S768x2048_S768x1024_0_0) (ix2 k d)) (x7 (ix2 r d))
      + Gates.halfTerm (fun k : Fin 768 => x2 (ix2 r k)) (fun k => x5 (ix2 r k))
        (fun k => View.ld x14 (Rect.unit (s := S768x2048) ![0, 0] S768x1024.size inb_S768x2048_S768x1024_0_0) (ix2 k d)) (x9 (ix2 r d))
      + Gates.halfTerm (fun k : Fin 512 => x3 (ix2 r k)) (fun k => x6 (ix2 r k))
        (fun k => View.ld x15 (Rect.unit (s := S512x2048) ![0, 0] S512x1024.size inb_S512x2048_S512x1024_0_0) (ix2 k d)) (x11 (ix2 r d))
    = merged x1 x2 x3 x4 x5 x6 x7 x8 x9 x10 x11 x12 x13 x14 x15 r' d' := by
  unfold merged
  rw [mu_first x7 x8 r r' d d' hr h, mu_first x9 x10 r r' d d' hr h, mu_first x11 x12 r r' d d' hr h, hr]
  have e13 : ∀ k : Fin 768, View.ld x13 (Rect.unit (s := S768x2048) ![0, 0] S768x1024.size inb_S768x2048_S768x1024_0_0) (ix2 k d) = x13 (ix2 k d') := fun k => Blocks.ld_cols _ _ _ k d d' h
  have e14 : ∀ k : Fin 768, View.ld x14 (Rect.unit (s := S768x2048) ![0, 0] S768x1024.size inb_S768x2048_S768x1024_0_0) (ix2 k d) = x14 (ix2 k d') := fun k => Blocks.ld_cols _ _ _ k d d' h
  have e15 : ∀ k : Fin 512, View.ld x15 (Rect.unit (s := S512x2048) ![0, 0] S512x1024.size inb_S512x2048_S512x1024_0_0) (ix2 k d) = x15 (ix2 k d') := fun k => Blocks.ld_cols _ _ _ k d d' h
  rw [funext e13, funext e14, funext e15]

/-- The terms of the second half's columns are the merged rows'. -/
theorem merged_second (r r' : Fin 512) (d : Fin 1024) (d' : Fin 2048) (hr : r' = r) (h : d'.val = 1024 + d.val) :
    Gates.halfTerm (fun k : Fin 768 => x1 (ix2 r k)) (fun k => x4 (ix2 r k))
        (fun k => View.ld x13 (Rect.unit (s := S768x2048) ![0, 1024] S768x1024.size inb_S768x2048_S768x1024_0_1024) (ix2 k d)) (x8 (ix2 r d))
      + Gates.halfTerm (fun k : Fin 768 => x2 (ix2 r k)) (fun k => x5 (ix2 r k))
        (fun k => View.ld x14 (Rect.unit (s := S768x2048) ![0, 1024] S768x1024.size inb_S768x2048_S768x1024_0_1024) (ix2 k d)) (x10 (ix2 r d))
      + Gates.halfTerm (fun k : Fin 512 => x3 (ix2 r k)) (fun k => x6 (ix2 r k))
        (fun k => View.ld x15 (Rect.unit (s := S512x2048) ![0, 1024] S512x1024.size inb_S512x2048_S512x1024_0_1024) (ix2 k d)) (x12 (ix2 r d))
    = merged x1 x2 x3 x4 x5 x6 x7 x8 x9 x10 x11 x12 x13 x14 x15 r' d' := by
  unfold merged
  rw [mu_second x7 x8 r r' d d' hr h, mu_second x9 x10 r r' d d' hr h, mu_second x11 x12 r r' d d' hr h, hr]
  have e13 : ∀ k : Fin 768, View.ld x13 (Rect.unit (s := S768x2048) ![0, 1024] S768x1024.size inb_S768x2048_S768x1024_0_1024) (ix2 k d) = x13 (ix2 k d') := fun k => Blocks.ld_cols _ _ _ k d d' h
  have e14 : ∀ k : Fin 768, View.ld x14 (Rect.unit (s := S768x2048) ![0, 1024] S768x1024.size inb_S768x2048_S768x1024_0_1024) (ix2 k d) = x14 (ix2 k d') := fun k => Blocks.ld_cols _ _ _ k d d' h
  have e15 : ∀ k : Fin 512, View.ld x15 (Rect.unit (s := S512x2048) ![0, 1024] S512x1024.size inb_S512x2048_S512x1024_0_1024) (ix2 k d) = x15 (ix2 k d') := fun k => Blocks.ld_cols _ _ _ k d d' h
  rw [funext e13, funext e14, funext e15]

/-- The two stores together hold the merged rows. -/
theorem stored : View.canon (Val := Elt Ideal) (e := .bf16) [⟨Rect.unit (s := S512x2048) ![0, 1024] S512x1024.size inb_S512x2048_S512x1024_0_1024,
      k0_pay1 (F := Ideal) (k0_pay8 (k0_pay2 x1 x4) (k0_pay3 x2 x5)
        (View.ld x13 (Rect.unit ![0, 1024] S768x1024.size inb_S768x2048_S768x1024_0_1024)) x8
        (View.ld x14 (Rect.unit ![0, 1024] S768x1024.size inb_S768x2048_S768x1024_0_1024)) x10)
        (k0_pay9 (k0_pay4 x3 x6) (View.ld x15 (Rect.unit ![0, 1024] S512x1024.size inb_S512x2048_S512x1024_0_1024))) x12⟩,
    ⟨Rect.unit (s := S512x2048) ![0, 0] S512x1024.size inb_S512x2048_S512x1024_0_0,
      k0_pay7 (F := Ideal) (k0_pay4 x3 x6)
        (k0_pay5 x1 x4 (View.ld x13 (Rect.unit ![0, 0] S768x1024.size inb_S768x2048_S768x1024_0_0)) x7)
        (k0_pay6 x2 x5 (View.ld x14 (Rect.unit ![0, 0] S768x1024.size inb_S768x2048_S768x1024_0_0))) x9
        (View.ld x15 (Rect.unit ![0, 0] S512x1024.size inb_S512x2048_S512x1024_0_0)) x11⟩]
    = fun y => merged x1 x2 x3 x4 x5 x6 x7 x8 x9 x10 x11 x12 x13 x14 x15 (y 0) (y 1) := by
  refine Blocks.canon_pieces _ _ ?_ (View.cover_of_tiled _ S512x1024.size (by rfl))
  refine ⟨fun x => ?_, fun x => ?_, trivial⟩
  · have h0 : ((Rect.unit (s := S512x2048) ![0, 1024] S512x1024.size inb_S512x2048_S512x1024_0_1024).emb x) 0 = (x 0 : Fin 512) :=
      Fin.ext (show 0 + 1 * (x 0).val = _ by omega)
    have h1 : (((Rect.unit (s := S512x2048) ![0, 1024] S512x1024.size inb_S512x2048_S512x1024_0_1024).emb x) 1).val = 1024 + (x 1 : Fin 1024).val :=
      show 1024 + 1 * (x 1).val = _ by omega
    refine (congrArg _ (ix2_eta x).symm).trans ((second_half x1 x2 x3 x4 x5 x6 x8 x10 x12 _ _ _ (x 0) (x 1)).trans
      (merged_second x1 x2 x3 x4 x5 x6 x7 x8 x9 x10 x11 x12 x13 x14 x15 _ _ _ _ h0 h1))
  · have h0 : ((Rect.unit (s := S512x2048) ![0, 0] S512x1024.size inb_S512x2048_S512x1024_0_0).emb x) 0 = (x 0 : Fin 512) :=
      Fin.ext (show 0 + 1 * (x 0).val = _ by omega)
    have h1 : (((Rect.unit (s := S512x2048) ![0, 0] S512x1024.size inb_S512x2048_S512x1024_0_0).emb x) 1).val = 0 + (x 1 : Fin 1024).val :=
      show 0 + 1 * (x 1).val = _ by omega
    refine (congrArg _ (ix2_eta x).symm).trans ((first_half x1 x2 x3 x4 x5 x6 x7 x9 x11 _ _ _ (x 0) (x 1)).trans
      (merged_first x1 x2 x3 x4 x5 x6 x7 x8 x9 x10 x11 x12 x13 x14 x15 _ _ _ _ h0 h1))

/-- The same of loads that are whole blocks. -/
theorem stored_of (l1 l2 : Vec Ideal S512x768 .bf16) (l3 : Vec Ideal S512x512 .bf16) (l4 l5 : Vec Ideal S512x768 .bf16)
    (l6 : Vec Ideal S512x512 .bf16) (l7 l8 l9 l10 l11 l12 : Vec Ideal S512x1024 .bf16) (e1 : l1 = x1) (e2 : l2 = x2) (e3 : l3 = x3) (e4 : l4 = x4) (e5 : l5 = x5) (e6 : l6 = x6)
    (e7 : l7 = x7) (e8 : l8 = x8) (e9 : l9 = x9) (e10 : l10 = x10) (e11 : l11 = x11) (e12 : l12 = x12) : View.canon (Val := Elt Ideal) (e := .bf16) [⟨Rect.unit (s := S512x2048) ![0, 1024] S512x1024.size inb_S512x2048_S512x1024_0_1024,
      k0_pay1 (F := Ideal) (k0_pay8 (k0_pay2 l1 l4) (k0_pay3 l2 l5)
        (View.ld x13 (Rect.unit ![0, 1024] S768x1024.size inb_S768x2048_S768x1024_0_1024)) l8
        (View.ld x14 (Rect.unit ![0, 1024] S768x1024.size inb_S768x2048_S768x1024_0_1024)) l10)
        (k0_pay9 (k0_pay4 l3 l6) (View.ld x15 (Rect.unit ![0, 1024] S512x1024.size inb_S512x2048_S512x1024_0_1024))) l12⟩,
    ⟨Rect.unit (s := S512x2048) ![0, 0] S512x1024.size inb_S512x2048_S512x1024_0_0,
      k0_pay7 (F := Ideal) (k0_pay4 l3 l6)
        (k0_pay5 l1 l4 (View.ld x13 (Rect.unit ![0, 0] S768x1024.size inb_S768x2048_S768x1024_0_0)) l7)
        (k0_pay6 l2 l5 (View.ld x14 (Rect.unit ![0, 0] S768x1024.size inb_S768x2048_S768x1024_0_0))) l9
        (View.ld x15 (Rect.unit ![0, 0] S512x1024.size inb_S512x2048_S512x1024_0_0)) l11⟩]
    = fun y => merged x1 x2 x3 x4 x5 x6 x7 x8 x9 x10 x11 x12 x13 x14 x15 (y 0) (y 1) := by
  subst e1 e2 e3 e4 e5 e6 e7 e8 e9 e10 e11 e12
  exact stored _ _ _ _ _ _ _ _ _ _ _ _ _ _ _

/-- What the body leaves in its output block. -/
theorem out_eq : out0_15 (F := Ideal) x1 x2 x3 x4 x5 x6 x7 x8 x9 x10 x11 x12 x13 x14 x15 = fun y => merged x1 x2 x3 x4 x5 x6 x7 x8 x9 x10 x11 x12 x13 x14 x15 (y 0) (y 1) := by
  unfold_out out0_15
  exact stored_of x1 x2 x3 x4 x5 x6 x7 x8 x9 x10 x11 x12 x13 x14 x15 _ _ _ _ _ _ _ _ _ _ _ _
    (View.ld_unit_zero zero2 _ _) (View.ld_unit_zero zero2 _ _) (View.ld_unit_zero zero2 _ _) (View.ld_unit_zero zero2 _ _)
    (View.ld_unit_zero zero2 _ _) (View.ld_unit_zero zero2 _ _) (View.ld_unit_zero zero2 _ _) (View.ld_unit_zero zero2 _ _)
    (View.ld_unit_zero zero2 _ _) (View.ld_unit_zero zero2 _ _) (View.ld_unit_zero zero2 _ _) (View.ld_unit_zero zero2 _ _)

end

end Cert.Proof.Merge

end
-- ==== Proof.Merge.Ref.lean ====
/- The prompt rows' merge: the reference's branches at an index. -/
module

public import proofs.«01_k».proof.Proof.Vals.Gates
public import proofs.«01_k».proof.Proof.Gen.MergeRefIdeal.Run
public import proofs.«01_k».proof.Proof.Gen.MergeRefIdeal.Read
public import Idealize.ShloMosaic.Lib.Pipeline.ValueKit
public import Idealize.ShloMosaic.Lib.Pointwise
public import Idealize.ShloMosaic.Lib.IdealHost

@[expose] public section

set_option maxRecDepth 16384

noncomputable section

namespace Cert.Proof.Merge

open Idealize.ShloMosaic Idealize.SL.Sem Idealize.ShloMosaic.TcCoe
open Cert.MergeRefIdeal Cert.MergeRefIdeal.Gen Cert.MergeRefIdeal.Read

/-- The reference's superblock branch. -/
theorem ref_sb (x0 : FVec Ideal S8192x3072 .bf16) (x1 : FVec Ideal S8192x7168 .bf16) (x2 : FVec Ideal S8192x768 .bf16) (x5 : FVec Ideal S768x2048 .f32)
    (r : Fin 8192) (d : Fin 2048) : val_main_v18 (F := Ideal) x0 x1 x2 x5 (ix2 r d)
    = Gates.gateTerm (fun k : Fin 768 => x2 (ix2 r k)) (fun k => x0 (ix2 r (⟨768 + k.val, by omega⟩ : Fin 3072)))
        (fun k => x5 (ix2 k d)) (x1 (ix2 r (⟨1024 + d.val, by omega⟩ : Fin 7168))) := by
  unfold val_main_v18 val_main_v9 val_main_v8 val_main_cst_1 val_main_v7 val_main_v6 val_main_cst_0 val_main_v5 val_main_v4 val_main_v3 val_main_v2 val_main_cst val_main_v1 val_main_v0
    val_main_v17 val_main_v16 val_main_v15 val_main_call0_v5 val_main_call0_v4 val_main_call0_cst_0 val_main_call0_v3 val_main_call0_v2 val_main_call0_cst val_main_call0_v1 val_main_call0_v0
    val_main_v14 val_main_v13 val_main_v12 val_main_cst_2 val_main_v11 val_main_v10 Gates.gateTerm
  pointwise
  simp only [Gates.two_word, Ideal.ofBits_one_f32]
  rfl

/-- The reference's band branch. -/
theorem ref_bd (x0 : FVec Ideal S8192x3072 .bf16) (x1 : FVec Ideal S8192x7168 .bf16) (x3 : FVec Ideal S8192x768 .bf16) (x6 : FVec Ideal S768x2048 .f32)
    (r : Fin 8192) (d : Fin 2048) : val_main_v37 (F := Ideal) x0 x1 x3 x6 (ix2 r d)
    = Gates.gateTerm (fun k : Fin 768 => x3 (ix2 r k)) (fun k => x0 (ix2 r (⟨2304 + k.val, by omega⟩ : Fin 3072)))
        (fun k => x6 (ix2 k d)) (x1 (ix2 r (⟨3072 + d.val, by omega⟩ : Fin 7168))) := by
  unfold val_main_v37 val_main_v28 val_main_v27 val_main_cst_5 val_main_v26 val_main_v25 val_main_cst_4 val_main_v24 val_main_v23 val_main_v22 val_main_v21 val_main_cst_3 val_main_v20 val_main_v19
    val_main_v36 val_main_v35 val_main_v34 val_main_call1_v5 val_main_call1_v4 val_main_call1_cst_0 val_main_call1_v3 val_main_call1_v2 val_main_call1_cst val_main_call1_v1 val_main_call1_v0
    val_main_v33 val_main_v32 val_main_v31 val_main_cst_6 val_main_v30 val_main_v29 Gates.gateTerm
  pointwise
  simp only [Gates.two_word, Ideal.ofBits_one_f32]
  rfl

/-- The reference's memory branch. -/
theorem ref_mm (x1 : FVec Ideal S8192x7168 .bf16) (x4 : FVec Ideal S8192x512 .bf16) (x7 : FVec Ideal S512x2048 .f32)
    (r : Fin 8192) (d : Fin 2048) : val_main_v57 (F := Ideal) x1 x4 x7 (ix2 r d)
    = Gates.gateTerm (fun k : Fin 512 => x4 (ix2 r k)) (fun k => x1 (ix2 r (⟨512 + k.val, by omega⟩ : Fin 7168)))
        (fun k => x7 (ix2 k d)) (x1 (ix2 r (⟨5120 + d.val, by omega⟩ : Fin 7168))) := by
  unfold val_main_v57 val_main_v48 val_main_v47 val_main_cst_9 val_main_v46 val_main_v45 val_main_cst_8 val_main_v44 val_main_v43 val_main_v42 val_main_v41 val_main_cst_7 val_main_v40 val_main_v39
    val_main_v56 val_main_v55 val_main_v54 val_main_call2_v5 val_main_call2_v4 val_main_call2_cst_0 val_main_call2_v3 val_main_call2_v2 val_main_call2_cst val_main_call2_v1 val_main_call2_v0
    val_main_v53 val_main_v52 val_main_v51 val_main_cst_10 val_main_v50 val_main_v49 Gates.gateTerm
  pointwise
  simp only [Gates.two_word, Ideal.ofBits_one_f32]
  rfl

end Cert.Proof.Merge

end
-- ==== Proof.Merge.Vals.lean ====
/- The merge: the operands a point reads, and the result array. -/
module

public import proofs.«01_k».proof.Proof.Gen.MergeIdeal.Value
public import proofs.«01_k».proof.Proof.Merge.Run
public import proofs.«01_k».proof.Proof.Merge.Ref
public import Idealize.ShloMosaic.Lib.Pipeline.ValueKit
public import Idealize.ShloMosaic.Lib.Pointwise
public import Idealize.ShloMosaic.Lib.IdealHost

@[expose] public section

set_option maxRecDepth 16384

noncomputable section

namespace Cert.Proof.Merge

open Idealize.ShloMosaic Idealize.SL.Sem Idealize.ShloMosaic.TcCoe
open Cert.MergeIdeal Cert.MergeIdeal.Gen

/-- The row windows move with the point, the gates' at columns of the packed projections; the weights are staged whole. -/
theorem idx : ∀ t : Fin cfg0.N, win0_0.index t = ![t.val, 0] ∧ win0_1.index t = ![t.val, 0] ∧ win0_2.index t = ![t.val, 0] ∧ win0_3.index t = ![t.val, 1]
    ∧ win0_4.index t = ![t.val, 3] ∧ win0_5.index t = ![t.val, 1] ∧ win0_6.index t = ![t.val, 1] ∧ win0_7.index t = ![t.val, 2]
    ∧ win0_8.index t = ![t.val, 3] ∧ win0_9.index t = ![t.val, 4] ∧ win0_10.index t = ![t.val, 5] ∧ win0_11.index t = ![t.val, 6]
    ∧ win0_12.index t = ![0, 0] ∧ win0_13.index t = ![0, 0] ∧ win0_14.index t = ![0, 0] ∧ win0_15.index t = ![t.val, 0] :=
  (by decide +kernel : ∀ t : Fin grid0.N, _)

variable (m : (ℓ : Loc nD τ sig) → Buf (Elt Ideal) ℓ) (c : Dev nD)

/-- The row of a point's block row. -/
def row (t : Fin cfg0.N) (r : Fin 512) : Fin 8192 :=
  ⟨512 * t.val + r.val, by have hN : t.val < 16 := lt_of_lt_of_eq t.isLt (show cfg0.N = 16 from N_0); omega⟩

/-- Argument 0 at the launch. -/
abbrev A0 := m ((c : Thread nD τ).loc main_arg0)
/-- Argument 1 at the launch. -/
abbrev A1 := m ((c : Thread nD τ).loc main_arg1)
/-- Argument 2 at the launch. -/
abbrev A2 := m ((c : Thread nD τ).loc main_arg2)
/-- Argument 3 at the launch. -/
abbrev A3 := m ((c : Thread nD τ).loc main_arg3)
/-- Argument 4 at the launch. -/
abbrev A4 := m ((c : Thread nD τ).loc main_arg4)
/-- Argument 5 at the launch. -/
abbrev A5 := m ((c : Thread nD τ).loc main_arg5)
/-- Argument 6 at the launch. -/
abbrev A6 := m ((c : Thread nD τ).loc main_arg6)
/-- Argument 7 at the launch. -/
abbrev A7 := m ((c : Thread nD τ).loc main_arg7)

/-- The superblock branch's attention rows. -/
theorem read0 (t : Fin cfg0.N) (r : Fin 512) (k : Fin 768) : iblk m c 0 t (ix2 r k) = A2 m c (ix2 (row t r) k) := by
  blk_point [iblk, V, idx t, row]

/-- The band branch's attention rows. -/
theorem read1 (t : Fin cfg0.N) (r : Fin 512) (k : Fin 768) : iblk m c 1 t (ix2 r k) = A3 m c (ix2 (row t r) k) := by
  blk_point [iblk, V, idx t, row]

/-- The memory branch's attention rows. -/
theorem read2 (t : Fin cfg0.N) (r : Fin 512) (k : Fin 512) : iblk m c 2 t (ix2 r k) = A4 m c (ix2 (row t r) k) := by
  blk_point [iblk, V, idx t, row]

/-- The superblock branch's output gate. -/
theorem read3 (t : Fin cfg0.N) (r : Fin 512) (k : Fin 768) : iblk m c 3 t (ix2 r k) = A0 m c (ix2 (row t r) (⟨768 + k.val, by omega⟩ : Fin 3072)) := by
  blk_point [iblk, V, idx t, row]

/-- The band branch's output gate. -/
theorem read4 (t : Fin cfg0.N) (r : Fin 512) (k : Fin 768) : iblk m c 4 t (ix2 r k) = A0 m c (ix2 (row t r) (⟨2304 + k.val, by omega⟩ : Fin 3072)) := by
  blk_point [iblk, V, idx t, row]

/-- The memory branch's output gate. -/
theorem read5 (t : Fin cfg0.N) (r : Fin 512) (k : Fin 512) : iblk m c 5 t (ix2 r k) = A1 m c (ix2 (row t r) (⟨512 + k.val, by omega⟩ : Fin 7168)) := by
  blk_point [iblk, V, idx t, row]

/-- Columns 0 to 1024 of the merge gates. -/
theorem read6 (t : Fin cfg0.N) (r : Fin 512) (k : Fin 1024) : iblk m c 6 t (ix2 r k) = A1 m c (ix2 (row t r) (⟨1024 + k.val, by omega⟩ : Fin 7168)) := by
  blk_point [iblk, V, idx t, row]

/-- Columns 1024 to 2048 of the merge gates. -/
theorem read7 (t : Fin cfg0.N) (r : Fin 512) (k : Fin 1024) : iblk m c 7 t (ix2 r k) = A1 m c (ix2 (row t r) (⟨2048 + k.val, by omega⟩ : Fin 7168)) := by
  blk_point [iblk, V, idx t, row]

/-- Columns 2048 to 3072 of the merge gates. -/
theorem read8 (t : Fin cfg0.N) (r : Fin 512) (k : Fin 1024) : iblk m c 8 t (ix2 r k) = A1 m c (ix2 (row t r) (⟨3072 + k.val, by omega⟩ : Fin 7168)) := by
  blk_point [iblk, V, idx t, row]

/-- Columns 3072 to 4096 of the merge gates. -/
theorem read9 (t : Fin cfg0.N) (r : Fin 512) (k : Fin 1024) : iblk m c 9 t (ix2 r k) = A1 m c (ix2 (row t r) (⟨4096 + k.val, by omega⟩ : Fin 7168)) := by
  blk_point [iblk, V, idx t, row]

/-- Columns 4096 to 5120 of the merge gates. -/
theorem read10 (t : Fin cfg0.N) (r : Fin 512) (k : Fin 1024) : iblk m c 10 t (ix2 r k) = A1 m c (ix2 (row t r) (⟨5120 + k.val, by omega⟩ : Fin 7168)) := by
  blk_point [iblk, V, idx t, row]

/-- Columns 5120 to 6144 of the merge gates. -/
theorem read11 (t : Fin cfg0.N) (r : Fin 512) (k : Fin 1024) : iblk m c 11 t (ix2 r k) = A1 m c (ix2 (row t r) (⟨6144 + k.val, by omega⟩ : Fin 7168)) := by
  blk_point [iblk, V, idx t, row]

/-- Half the superblock branch's weights. -/
theorem read12 (t : Fin cfg0.N) (k : Fin 768) (d : Fin 2048) : iblk m c 12 t (ix2 k d) = ((1 / 2 : ℝ) : EReal) * A5 m c (ix2 k d) := by
  rw [← Gates.half_word]
  blk_point [iblk, V, idx t]

/-- Half the band branch's weights. -/
theorem read13 (t : Fin cfg0.N) (k : Fin 768) (d : Fin 2048) : iblk m c 13 t (ix2 k d) = ((1 / 2 : ℝ) : EReal) * A6 m c (ix2 k d) := by
  rw [← Gates.half_word]
  blk_point [iblk, V, idx t]

/-- Half the memory branch's weights. -/
theorem read14 (t : Fin cfg0.N) (k : Fin 512) (d : Fin 2048) : iblk m c 14 t (ix2 k d) = ((1 / 2 : ℝ) : EReal) * A7 m c (ix2 k d) := by
  rw [← Gates.half_word]
  blk_point [iblk, V, idx t]

/-- Two neighbouring blocks of the merge gates are columns of one. -/
theorem mu_at (a b : Vec Ideal S512x1024 .bf16) (f : S8192x7168.Idx → EReal) (R : Fin 512 → Fin 8192) (o : ℕ) (ho : o + 2048 ≤ 7168)
    (ha : ∀ (r : Fin 512) (k : Fin 1024), a (ix2 r k) = f (ix2 (R r) (⟨o + k.val, by omega⟩ : Fin 7168)))
    (hb : ∀ (r : Fin 512) (k : Fin 1024), b (ix2 r k) = f (ix2 (R r) (⟨o + 1024 + k.val, by omega⟩ : Fin 7168))) (r : Fin 512) (d : Fin 2048) :
    mu a b r d = f (ix2 (R r) (⟨o + d.val, by omega⟩ : Fin 7168)) := by
  unfold mu
  split
  · exact ha r _
  · refine (hb r _).trans (congrArg f (congrArg (ix2 (R r)) (Fin.ext ?_)))
    show o + 1024 + (d.val - 1024) = o + d.val
    omega

/-- With no infinity among the gates, the rows and the weights, the merged rows are the reference's. -/
theorem merged_at (hs : Gates.Columns (A0 m c) 768 768) (hb : Gates.Columns (A0 m c) 2304 768) (hm : Gates.Columns (A1 m c) 512 512) (h2 : Gates.Finite (A2 m c)) (h3 : Gates.Finite (A3 m c)) (h4 : Gates.Finite (A4 m c)) (h5 : Gates.Finite (A5 m c)) (h6 : Gates.Finite (A6 m c)) (h7 : Gates.Finite (A7 m c)) (t : Fin cfg0.N) (r : Fin 512) (d : Fin 2048) :
    merged (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r d
      = Cert.MergeRefIdeal.Read.val_main_v58 (F := Ideal) (A0 m c) (A1 m c) (A2 m c) (A3 m c) (A4 m c) (A5 m c) (A6 m c) (A7 m c) (ix2 (row t r) d) := by
  rw [Cert.MergeRefIdeal.Read.val_main_v58_apply, Cert.MergeRefIdeal.Read.val_main_v38_apply, ref_sb, ref_bd, ref_mm]
  unfold merged
  rw [mu_at _ _ (A1 m c) (row t) 1024 (by omega) (read6 m c t) (read7 m c t), mu_at _ _ (A1 m c) (row t) 3072 (by omega) (read8 m c t) (read9 m c t),
    mu_at _ _ (A1 m c) (row t) 5120 (by omega) (read10 m c t) (read11 m c t)]
  simp only [read0, read1, read2, read3, read4, read5, read12, read13, read14]
  rw [Gates.branch _ _ _ _ (fun k => h2 _) (fun k => hs _ _ _ k.isLt rfl) (fun k => h5 _), Gates.branch _ _ _ _ (fun k => h3 _) (fun k => hb _ _ _ k.isLt rfl) (fun k => h6 _),
    Gates.branch _ _ _ _ (fun k => h4 _) (fun k => hm _ _ _ k.isLt rfl) (fun k => h7 _)]
  rfl

set_option maxHeartbeats 1000000 in
/-- The output array holds the reference's term of the arguments. -/
theorem final (hs : Gates.Columns (A0 m c) 768 768) (hb : Gates.Columns (A0 m c) 2304 768) (hm : Gates.Columns (A1 m c) 512 512) (h2 : Gates.Finite (A2 m c)) (h3 : Gates.Finite (A3 m c)) (h4 : Gates.Finite (A4 m c)) (h5 : Gates.Finite (A5 m c)) (h6 : Gates.Finite (A6 m c)) (h7 : Gates.Finite (A7 m c)) :
    (dats m 0 c).arrAt 15 cfg0.N = Cert.MergeRefIdeal.Read.val_main_v59 (F := Ideal) (A0 m c) (A1 m c) (A2 m c) (A3 m c) (A4 m c) (A5 m c) (A6 m c) (A7 m c) := by
  refine (dats m 0 c).arrAt_eq_of_covers 15 _ (by decide +kernel) fun t hf y => ?_
  blk_simp
  rw [after0_15, out_eq]
  obtain ⟨r, j, rfl⟩ : ∃ (r : Fin 512) (j : Fin 2048), y = ix2 r j := ⟨y 0, y 1, (ix2_eta y).symm⟩
  refine (merged_at m c hs hb hm h2 h3 h4 h5 h6 h7 t r j).trans (Eq.symm ?_)
  refine Blocks.at2 (Cert.MergeRefIdeal.Read.val_main_v59 (F := Ideal) (A0 m c) (A1 m c) (A2 m c) (A3 m c) (A4 m c) (A5 m c) (A6 m c) (A7 m c)) (((cfg0.win 15).blk t).view.emb (ix2 r j)) (row t r) j ?_ ?_
  · show win0_15.index t 0 * 512 + 1 * r.val = 512 * t.val + r.val
    rw [show win0_15.index t = ![t.val, 0] from (idx t).2.2.2.2.2.2.2.2.2.2.2.2.2.2.2]; show t.val * 512 + 1 * r.val = _; omega
  · show win0_15.index t 1 * 2048 + 1 * j.val = j.val
    rw [show win0_15.index t = ![t.val, 0] from (idx t).2.2.2.2.2.2.2.2.2.2.2.2.2.2.2]; show 0 * 2048 + 1 * j.val = _; omega

end Cert.Proof.Merge

end
-- ==== Proof.Merge.Pre.lean ====
/- What the precondition of this call says: no argument it names has an infinite element. -/
module

public import proofs.«01_k».proof.Proof.Merge.Vals
public import proofs.«01_k».proof.Defs

@[expose] public section

set_option maxRecDepth 16384

noncomputable section

namespace Cert.Proof.Merge

open Idealize.ShloMosaic Idealize.SL.Sem Idealize.ShloMosaic.TcCoe
open Cert.MergeIdeal Cert.MergeIdeal.Gen

set_option maxHeartbeats 1000000 in
/-- Under the precondition every element of the output gates, the attentions' rows and the weights is a number. -/
theorem finite_of_pre [Cert.Pre_me_finite.Facts] (m : (ℓ : Loc nD τ sig) → Buf (Elt Ideal) ℓ) (h : Cert.Pre_MergeIdeal_me_finite m) (c : Dev nD) :
    Gates.Columns (A0 m c) 768 768 ∧ Gates.Columns (A0 m c) 2304 768 ∧ Gates.Columns (A1 m c) 512 512
      ∧ Gates.Finite (A2 m c) ∧ Gates.Finite (A3 m c) ∧ Gates.Finite (A4 m c) ∧ Gates.Finite (A5 m c) ∧ Gates.Finite (A6 m c) ∧ Gates.Finite (A7 m c) := by
  obtain ⟨e0, e1, e2, e3, e4, e5, e6, e7, e8⟩ := h c
  refine ⟨fun r d k hk hd => ?_, fun r d k hk hd => ?_, fun r d k hk hd => ?_,
    fun i => Gates.finite_of_test (congrFun e3 i), fun i => Gates.finite_of_test (congrFun e4 i), fun i => Gates.finite_of_test (congrFun e5 i), fun i => Gates.finite_of_test (congrFun e6 i), fun i => Gates.finite_of_test (congrFun e7 i), fun i => Gates.finite_of_test (congrFun e8 i)⟩
  · obtain ⟨y, hy⟩ := Gates.finite_of_test (congrFun e0 (ix2 r (⟨k, hk⟩ : Fin 768)))
    exact ⟨y, (Blocks.at2 (A0 m c) _ r d (by show 0 + r.val = r.val; omega) (by show 768 + k = d.val; omega)).symm.trans hy⟩
  · obtain ⟨y, hy⟩ := Gates.finite_of_test (congrFun e1 (ix2 r (⟨k, hk⟩ : Fin 768)))
    exact ⟨y, (Blocks.at2 (A0 m c) _ r d (by show 0 + r.val = r.val; omega) (by show 2304 + k = d.val; omega)).symm.trans hy⟩
  · obtain ⟨y, hy⟩ := Gates.finite_of_test (congrFun e2 (ix2 r (⟨k, hk⟩ : Fin 512)))
    exact ⟨y, (Blocks.at2 (A1 m c) _ r d (by show 0 + r.val = r.val; omega) (by show 512 + k = d.val; omega)).symm.trans hy⟩

end Cert.Proof.Merge

end
-- ==== Proof.MergeOut.Run.lean ====
module

public import proofs.«01_k».proof.Proof.Gen.MergeOutIdeal.Value
public import proofs.«01_k».proof.Proof.Vals.Gates
public import proofs.«01_k».proof.Proof.Vals.Blocks
public import Idealize.ShloMosaic.Lib.Pipeline.ValueKit
public import Idealize.ShloMosaic.Lib.Pointwise
public import Idealize.ShloMosaic.Lib.VecWindow
public import Idealize.ShloMosaic.Lib.WholeRead
public import Idealize.ShloMosaic.Lib.Pipeline.ReadBack
public import Idealize.ShloMosaic.Lib.IdealHost

@[expose] public section

set_option maxRecDepth 16384

noncomputable section

namespace Cert.Proof.MergeOut

open Idealize.ShloMosaic Idealize.SL.Sem Idealize.ShloMosaic.TcCoe
open Cert.MergeOutIdeal Cert.MergeOutIdeal.Gen

/-- A load of a whole memref held at the contents that read `X` is the load of `X`. -/
theorem readAt_ld {sp : Space} {s : Shape} {e : EltTy} {m : Memref sig .tc sp s e} (h : m.IsWhole) (X : s.Idx → Elt Ideal e)
    (R : Rect s) : View.readAt (Elt Ideal) m.view R.toLoadRect (h.unread X) = View.ld X R :=
  funext fun x => Memref.IsWhole.readAt_unread h X R.toLoadRect x

theorem zero2 : (![0, 0] : Fin 2 → ℕ) = fun _ => 0 := by decide

/-- The half merge gate of a column, from the gates of the columns' two halves. -/
def mu (a b : Vec Ideal S128x1024 .bf16) (r : Fin 128) (d : Fin 2048) : EReal :=
  if h : d.val < 1024 then a (ix2 r (⟨d.val, h⟩ : Fin 1024)) else b (ix2 r (⟨d.val - 1024, by omega⟩ : Fin 1024))

/-- The merged rows: the three branches' terms. -/
def merged (x1 x2 : Vec Ideal S128x768 .bf16) (x3 : Vec Ideal S128x512 .bf16) (x4 x5 : Vec Ideal S128x768 .bf16)
    (x6 : Vec Ideal S128x512 .bf16) (x7 x8 x9 x10 x11 x12 : Vec Ideal S128x1024 .bf16) (x13 x14 : Vec Ideal S768x2048 .bf16)
    (x15 : Vec Ideal S512x2048 .bf16) (r : Fin 128) (d : Fin 2048) : EReal :=
  Gates.halfTerm (fun k : Fin 768 => x1 (ix2 r k)) (fun k => x4 (ix2 r k)) (fun k => x13 (ix2 k d)) (mu x7 x8 r d)
    + Gates.halfTerm (fun k : Fin 768 => x2 (ix2 r k)) (fun k => x5 (ix2 r k)) (fun k => x14 (ix2 k d)) (mu x9 x10 r d)
    + Gates.halfTerm (fun k : Fin 512 => x3 (ix2 r k)) (fun k => x6 (ix2 r k)) (fun k => x15 (ix2 k d)) (mu x11 x12 r d)

section
variable (x1 x2 : Vec Ideal S128x768 .bf16) (x3 : Vec Ideal S128x512 .bf16) (x4 x5 : Vec Ideal S128x768 .bf16)
    (x6 : Vec Ideal S128x512 .bf16) (x7 x8 x9 x10 x11 x12 : Vec Ideal S128x1024 .bf16) (x13 x14 : Vec Ideal S768x2048 .bf16)
    (x15 : Vec Ideal S512x2048 .bf16)

/-- What is stored in the first half of the columns. -/
theorem first_half (w13 w14 : Vec Ideal S768x1024 .bf16) (w15 : Vec Ideal S512x1024 .bf16) (r : Fin 128) (d : Fin 1024) :
    k0_pay8 (F := Ideal) (k0_pay5 x3 x6) (k0_pay6 x1 x4 w13 x7) (k0_pay7 x2 x5 w14) x9 w15 x11 (ix2 r d)
    = Gates.halfTerm (fun k : Fin 768 => x1 (ix2 r k)) (fun k => x4 (ix2 r k)) (fun k => w13 (ix2 k d)) (x7 (ix2 r d))
      + Gates.halfTerm (fun k : Fin 768 => x2 (ix2 r k)) (fun k => x5 (ix2 r k)) (fun k => w14 (ix2 k d)) (x9 (ix2 r d))
      + Gates.halfTerm (fun k : Fin 512 => x3 (ix2 r k)) (fun k => x6 (ix2 r k)) (fun k => w15 (ix2 k d)) (x11 (ix2 r d)) := by
  pointwise [k0_pay8, k0_pay7, k0_pay6, k0_pay5, k0_pay4, k0_pay3]
  rfl

/-- What is stored in the second half of the columns. -/
theorem second_half (w13 w14 : Vec Ideal S768x1024 .bf16) (w15 : Vec Ideal S512x1024 .bf16) (r : Fin 128) (d : Fin 1024) :
    k0_pay1 (F := Ideal) (k0_pay5 x3 x6) (k0_pay9 (k0_pay3 x1 x4) (k0_pay4 x2 x5) w13 x8 w14 x10) (k0_pay10 w15)
      (constant S128x1024 .f32 0x00000000#32) x12 (ix2 r d)
    = Gates.halfTerm (fun k : Fin 768 => x1 (ix2 r k)) (fun k => x4 (ix2 r k)) (fun k => w13 (ix2 k d)) (x8 (ix2 r d))
      + Gates.halfTerm (fun k : Fin 768 => x2 (ix2 r k)) (fun k => x5 (ix2 r k)) (fun k => w14 (ix2 k d)) (x10 (ix2 r d))
      + Gates.halfTerm (fun k : Fin 512 => x3 (ix2 r k)) (fun k => x6 (ix2 r k)) (fun k => w15 (ix2 k d)) (x12 (ix2 r d)) := by
  pointwise [k0_pay1, k0_pay10, k0_pay9, k0_pay5, k0_pay4, k0_pay3]
  rfl

/-- The half merge gate of a column of the first half. -/
theorem mu_first (a b : Vec Ideal S128x1024 .bf16) (r r' : Fin 128) (d : Fin 1024) (d' : Fin 2048) (hr : r' = r)
    (h : d'.val = 0 + d.val) : mu a b r' d' = a (ix2 r d) := by
  subst hr
  unfold mu
  rw [dif_pos (show d'.val < 1024 by omega)]
  exact congrArg a (congrArg (ix2 r') (Fin.ext (by show d'.val = _; omega)))

/-- The half merge gate of a column of the second half. -/
theorem mu_second (a b : Vec Ideal S128x1024 .bf16) (r r' : Fin 128) (d : Fin 1024) (d' : Fin 2048) (hr : r' = r)
    (h : d'.val = 1024 + d.val) : mu a b r' d' = b (ix2 r d) := by
  subst hr
  unfold mu
  rw [dif_neg (show ¬ d'.val < 1024 by omega)]
  exact congrArg b (congrArg (ix2 r') (Fin.ext (by show d'.val - 1024 = _; omega)))

/-- The terms of the first half's columns are the merged rows'. -/
theorem merged_first (r r' : Fin 128) (d : Fin 1024) (d' : Fin 2048) (hr : r' = r) (h : d'.val = 0 + d.val) :
    Gates.halfTerm (fun k : Fin 768 => x1 (ix2 r k)) (fun k => x4 (ix2 r k))
        (fun k => View.ld x13 (Rect.unit (s := S768x2048) ![0, 0] S768x1024.size inb_S768x2048_S768x1024_0_0) (ix2 k d)) (x7 (ix2 r d))
      + Gates.halfTerm (fun k : Fin 768 => x2 (ix2 r k)) (fun k => x5 (ix2 r k))
        (fun k => View.ld x14 (Rect.unit (s := S768x2048) ![0, 0] S768x1024.size inb_S768x2048_S768x1024_0_0) (ix2 k d)) (x9 (ix2 r d))
      + Gates.halfTerm (fun k : Fin 512 => x3 (ix2 r k)) (fun k => x6 (ix2 r k))
        (fun k => View.ld x15 (Rect.unit (s := S512x2048) ![0, 0] S512x1024.size inb_S512x2048_S512x1024_0_0) (ix2 k d)) (x11 (ix2 r d))
    = merged x1 x2 x3 x4 x5 x6 x7 x8 x9 x10 x11 x12 x13 x14 x15 r' d' := by
  unfold merged
  rw [mu_first x7 x8 r r' d d' hr h, mu_first x9 x10 r r' d d' hr h, mu_first x11 x12 r r' d d' hr h, hr]
  have e13 : ∀ k : Fin 768, View.ld x13 (Rect.unit (s := S768x2048) ![0, 0] S768x1024.size inb_S768x2048_S768x1024_0_0) (ix2 k d) = x13 (ix2 k d') := fun k => Blocks.ld_cols _ _ _ k d d' h
  have e14 : ∀ k : Fin 768, View.ld x14 (Rect.unit (s := S768x2048) ![0, 0] S768x1024.size inb_S768x2048_S768x1024_0_0) (ix2 k d) = x14 (ix2 k d') := fun k => Blocks.ld_cols _ _ _ k d d' h
  have e15 : ∀ k : Fin 512, View.ld x15 (Rect.unit (s := S512x2048) ![0, 0] S512x1024.size inb_S512x2048_S512x1024_0_0) (ix2 k d) = x15 (ix2 k d') := fun k => Blocks.ld_cols _ _ _ k d d' h
  rw [funext e13, funext e14, funext e15]

/-- The terms of the second half's columns are the merged rows'. -/
theorem merged_second (r r' : Fin 128) (d : Fin 1024) (d' : Fin 2048) (hr : r' = r) (h : d'.val = 1024 + d.val) :
    Gates.halfTerm (fun k : Fin 768 => x1 (ix2 r k)) (fun k => x4 (ix2 r k))
        (fun k => View.ld x13 (Rect.unit (s := S768x2048) ![0, 1024] S768x1024.size inb_S768x2048_S768x1024_0_1024) (ix2 k d)) (x8 (ix2 r d))
      + Gates.halfTerm (fun k : Fin 768 => x2 (ix2 r k)) (fun k => x5 (ix2 r k))
        (fun k => View.ld x14 (Rect.unit (s := S768x2048) ![0, 1024] S768x1024.size inb_S768x2048_S768x1024_0_1024) (ix2 k d)) (x10 (ix2 r d))
      + Gates.halfTerm (fun k : Fin 512 => x3 (ix2 r k)) (fun k => x6 (ix2 r k))
        (fun k => View.ld x15 (Rect.unit (s := S512x2048) ![0, 1024] S512x1024.size inb_S512x2048_S512x1024_0_1024) (ix2 k d)) (x12 (ix2 r d))
    = merged x1 x2 x3 x4 x5 x6 x7 x8 x9 x10 x11 x12 x13 x14 x15 r' d' := by
  unfold merged
  rw [mu_second x7 x8 r r' d d' hr h, mu_second x9 x10 r r' d d' hr h, mu_second x11 x12 r r' d d' hr h, hr]
  have e13 : ∀ k : Fin 768, View.ld x13 (Rect.unit (s := S768x2048) ![0, 1024] S768x1024.size inb_S768x2048_S768x1024_0_1024) (ix2 k d) = x13 (ix2 k d') := fun k => Blocks.ld_cols _ _ _ k d d' h
  have e14 : ∀ k : Fin 768, View.ld x14 (Rect.unit (s := S768x2048) ![0, 1024] S768x1024.size inb_S768x2048_S768x1024_0_1024) (ix2 k d) = x14 (ix2 k d') := fun k => Blocks.ld_cols _ _ _ k d d' h
  have e15 : ∀ k : Fin 512, View.ld x15 (Rect.unit (s := S512x2048) ![0, 1024] S512x1024.size inb_S512x2048_S512x1024_0_1024) (ix2 k d) = x15 (ix2 k d') := fun k => Blocks.ld_cols _ _ _ k d d' h
  rw [funext e13, funext e14, funext e15]

/-- The two stores together hold the merged rows. -/
theorem stored : View.canon (Val := Elt Ideal) (e := .bf16) [⟨Rect.unit (s := S128x2048) ![0, 1024] ![128, 1024] inb_S128x2048_S128x1024_0_1024,
      k0_pay1 (F := Ideal) (k0_pay5 x3 x6) (k0_pay9 (k0_pay3 x1 x4) (k0_pay4 x2 x5)
        (View.ld x13 (Rect.unit ![0, 1024] S768x1024.size inb_S768x2048_S768x1024_0_1024)) x8
        (View.ld x14 (Rect.unit ![0, 1024] S768x1024.size inb_S768x2048_S768x1024_0_1024)) x10)
        (k0_pay10 (View.ld x15 (Rect.unit ![0, 1024] S512x1024.size inb_S512x2048_S512x1024_0_1024)))
        (constant S128x1024 .f32 0x00000000#32) x12⟩,
    ⟨Rect.unit (s := S128x2048) ![0, 0] S128x1024.size inb_S128x2048_S128x1024_0_0,
      k0_pay8 (F := Ideal) (k0_pay5 x3 x6)
        (k0_pay6 x1 x4 (View.ld x13 (Rect.unit ![0, 0] S768x1024.size inb_S768x2048_S768x1024_0_0)) x7)
        (k0_pay7 x2 x5 (View.ld x14 (Rect.unit ![0, 0] S768x1024.size inb_S768x2048_S768x1024_0_0))) x9
        (View.ld x15 (Rect.unit ![0, 0] S512x1024.size inb_S512x2048_S512x1024_0_0)) x11⟩]
    = fun y => merged x1 x2 x3 x4 x5 x6 x7 x8 x9 x10 x11 x12 x13 x14 x15 (y 0) (y 1) := by
  refine Blocks.canon_pieces _ _ ?_ (View.cover_of_tiled _ S128x1024.size (by rfl))
  refine ⟨fun x => ?_, fun x => ?_, trivial⟩
  · have h0 : ((Rect.unit (s := S128x2048) ![0, 1024] ![128, 1024] inb_S128x2048_S128x1024_0_1024).emb x) 0 = (x 0 : Fin 128) :=
      Fin.ext (show 0 + 1 * (x 0).val = _ by omega)
    have h1 : (((Rect.unit (s := S128x2048) ![0, 1024] ![128, 1024] inb_S128x2048_S128x1024_0_1024).emb x) 1).val = 1024 + (x 1 : Fin 1024).val :=
      show 1024 + 1 * (x 1).val = _ by omega
    refine (congrArg _ (ix2_eta x).symm).trans ((second_half x1 x2 x3 x4 x5 x6 x8 x10 x12 _ _ _ (x 0) (x 1)).trans
      (merged_second x1 x2 x3 x4 x5 x6 x7 x8 x9 x10 x11 x12 x13 x14 x15 _ _ _ _ h0 h1))
  · have h0 : ((Rect.unit (s := S128x2048) ![0, 0] ![128, 1024] inb_S128x2048_S128x1024_0_0).emb x) 0 = (x 0 : Fin 128) :=
      Fin.ext (show 0 + 1 * (x 0).val = _ by omega)
    have h1 : (((Rect.unit (s := S128x2048) ![0, 0] ![128, 1024] inb_S128x2048_S128x1024_0_0).emb x) 1).val = 0 + (x 1 : Fin 1024).val :=
      show 0 + 1 * (x 1).val = _ by omega
    refine (congrArg _ (ix2_eta x).symm).trans ((first_half x1 x2 x3 x4 x5 x6 x7 x9 x11 _ _ _ (x 0) (x 1)).trans
      (merged_first x1 x2 x3 x4 x5 x6 x7 x8 x9 x10 x11 x12 x13 x14 x15 _ _ _ _ h0 h1))

/-- The same of loads that are whole blocks. -/
theorem stored_of (l1 l2 : Vec Ideal S128x768 .bf16) (l3 : Vec Ideal S128x512 .bf16) (l4 l5 : Vec Ideal S128x768 .bf16)
    (l6 : Vec Ideal S128x512 .bf16) (l7 l8 l9 l10 l11 l12 : Vec Ideal S128x1024 .bf16) (e1 : l1 = x1) (e2 : l2 = x2) (e3 : l3 = x3) (e4 : l4 = x4) (e5 : l5 = x5) (e6 : l6 = x6)
    (e7 : l7 = x7) (e8 : l8 = x8) (e9 : l9 = x9) (e10 : l10 = x10) (e11 : l11 = x11) (e12 : l12 = x12) : View.canon (Val := Elt Ideal) (e := .bf16) [⟨Rect.unit (s := S128x2048) ![0, 1024] ![128, 1024] inb_S128x2048_S128x1024_0_1024,
      k0_pay1 (F := Ideal) (k0_pay5 l3 l6) (k0_pay9 (k0_pay3 l1 l4) (k0_pay4 l2 l5)
        (View.ld x13 (Rect.unit ![0, 1024] S768x1024.size inb_S768x2048_S768x1024_0_1024)) l8
        (View.ld x14 (Rect.unit ![0, 1024] S768x1024.size inb_S768x2048_S768x1024_0_1024)) l10)
        (k0_pay10 (View.ld x15 (Rect.unit ![0, 1024] S512x1024.size inb_S512x2048_S512x1024_0_1024)))
        (constant S128x1024 .f32 0x00000000#32) l12⟩,
    ⟨Rect.unit (s := S128x2048) ![0, 0] S128x1024.size inb_S128x2048_S128x1024_0_0,
      k0_pay8 (F := Ideal) (k0_pay5 l3 l6)
        (k0_pay6 l1 l4 (View.ld x13 (Rect.unit ![0, 0] S768x1024.size inb_S768x2048_S768x1024_0_0)) l7)
        (k0_pay7 l2 l5 (View.ld x14 (Rect.unit ![0, 0] S768x1024.size inb_S768x2048_S768x1024_0_0))) l9
        (View.ld x15 (Rect.unit ![0, 0] S512x1024.size inb_S512x2048_S512x1024_0_0)) l11⟩]
    = fun y => merged x1 x2 x3 x4 x5 x6 x7 x8 x9 x10 x11 x12 x13 x14 x15 (y 0) (y 1) := by
  subst e1 e2 e3 e4 e5 e6 e7 e8 e9 e10 e11 e12
  exact stored _ _ _ _ _ _ _ _ _ _ _ _ _ _ _

end

variable (m : (ℓ : Loc nD τ sig) → Buf (Elt Ideal) ℓ) (c : Dev nD)

set_option maxHeartbeats 1000000 in
/-- What the point leaves in its output block: the last payload of the merged rows. -/
theorem out_eq (t : Fin cfg0.N) : outsAt0 m c t
    = k0_pay2 (F := Ideal) (fun y => merged (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t)
        (iblk m c 14 t) (iblk m c 15 t) (y 0) (y 1)) (iblk m c 16 t) (iblk m c 0 t) (iblk m c 17 t) := by
  unfold outsAt0 out0_A_18
  generalize hs0_0 t = h1
  unfold kernelRun0_A
  dsimp only
  refine (View.read_writes_full _ _ _ _ _).trans ?_
  refine congr (congr (congr (congrArg k0_pay2 ?_) ?_) ?_) ?_
  · unfold kernelRun0_A.sl.v87 kernelRun0_A.sl.HS0_2
    have hc : ∀ L, scM0_0.view.readCov L (Rect.unit (s := S128x2048) ![0, 0] ![128, 2048] inb_S128x2048_S128x2048_0_0).toLoadRect
        = View.canon (Val := Elt Ideal) L := fun L => (View.readCov_eq_canon' _ _ _).trans (funext fun y => congrArg _ (funext fun a => Fin.ext (by
      show (![0, 0] : Fin 2 → ℕ) a + 1 * (y a).val = _
      rw [congrFun zero2 a]; omega)))
    rw [hc]
    unfold kernelRun0_A.sl.r_2 kernelRun0_A.sl.r_3 kernelRun0_A.sl.r_4 kernelRun0_A.sl.r_5 kernelRun0_A.sl.r_6 kernelRun0_A.sl.cst_38
    unfold kernelRun0_A.sl.r kernelRun0_A.sl.r_1
    simp only [readAt_ld]
    exact stored_of (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _ _ _ _ _ _ _ _ _ _ _ _
      (View.ld_unit_zero zero2 _ _) (View.ld_unit_zero zero2 _ _) (View.ld_unit_zero zero2 _ _) (View.ld_unit_zero zero2 _ _) (View.ld_unit_zero zero2 _ _) (View.ld_unit_zero zero2 _ _)
      (View.ld_unit_zero zero2 _ _) (View.ld_unit_zero zero2 _ _) (View.ld_unit_zero zero2 _ _) (View.ld_unit_zero zero2 _ _) (View.ld_unit_zero zero2 _ _) (View.ld_unit_zero zero2 _ _)
  · exact (readAt_ld _ _ _).trans (View.ld_unit_zero zero2 _ _)
  · exact (readAt_ld _ _ _).trans (View.ld_unit_zero zero2 _ _)
  · exact (readAt_ld _ _ _).trans (View.ld_unit_zero zero2 _ _)

end Cert.Proof.MergeOut

end
-- ==== Proof.MergeOut.Ref.lean ====
/- The sample rows' merge and output projection: the reference's branches at an index. -/
module

public import proofs.«01_k».proof.Proof.Vals.Gates
public import proofs.«01_k».proof.Proof.Gen.MergeOutRefIdeal.Run
public import proofs.«01_k».proof.Proof.Gen.MergeOutRefIdeal.Read
public import Idealize.ShloMosaic.Lib.Pipeline.ValueKit
public import Idealize.ShloMosaic.Lib.Pointwise
public import Idealize.ShloMosaic.Lib.IdealHost

@[expose] public section

set_option maxRecDepth 16384

noncomputable section

namespace Cert.Proof.MergeOut

open Idealize.ShloMosaic Idealize.SL.Sem Idealize.ShloMosaic.TcCoe
open Cert.MergeOutRefIdeal Cert.MergeOutRefIdeal.Gen Cert.MergeOutRefIdeal.Read

/-- The reference's superblock branch. -/
theorem ref_sb (x1 : FVec Ideal S128x3072 .bf16) (x2 : FVec Ideal S128x7168 .bf16) (x3 : FVec Ideal S128x768 .bf16) (x6 : FVec Ideal S768x2048 .f32)
    (r : Fin 128) (d : Fin 2048) : val_main_v18 (F := Ideal) x1 x2 x3 x6 (ix2 r d)
    = Gates.gateTerm (fun k : Fin 768 => x3 (ix2 r k)) (fun k => x1 (ix2 r (⟨768 + k.val, by omega⟩ : Fin 3072)))
        (fun k => x6 (ix2 k d)) (x2 (ix2 r (⟨1024 + d.val, by omega⟩ : Fin 7168))) := by
  unfold val_main_v18 val_main_v9 val_main_v8 val_main_cst_1 val_main_v7 val_main_v6 val_main_cst_0 val_main_v5 val_main_v4 val_main_v3 val_main_v2 val_main_cst val_main_v1 val_main_v0
    val_main_v17 val_main_v16 val_main_v15 val_main_call0_v5 val_main_call0_v4 val_main_call0_cst_0 val_main_call0_v3 val_main_call0_v2 val_main_call0_cst val_main_call0_v1 val_main_call0_v0
    val_main_v14 val_main_v13 val_main_v12 val_main_cst_2 val_main_v11 val_main_v10 Gates.gateTerm
  pointwise
  simp only [Gates.two_word, Ideal.ofBits_one_f32]
  rfl

/-- The reference's band branch. -/
theorem ref_bd (x1 : FVec Ideal S128x3072 .bf16) (x2 : FVec Ideal S128x7168 .bf16) (x4 : FVec Ideal S128x768 .bf16) (x7 : FVec Ideal S768x2048 .f32)
    (r : Fin 128) (d : Fin 2048) : val_main_v37 (F := Ideal) x1 x2 x4 x7 (ix2 r d)
    = Gates.gateTerm (fun k : Fin 768 => x4 (ix2 r k)) (fun k => x1 (ix2 r (⟨2304 + k.val, by omega⟩ : Fin 3072)))
        (fun k => x7 (ix2 k d)) (x2 (ix2 r (⟨3072 + d.val, by omega⟩ : Fin 7168))) := by
  unfold val_main_v37 val_main_v28 val_main_v27 val_main_cst_5 val_main_v26 val_main_v25 val_main_cst_4 val_main_v24 val_main_v23 val_main_v22 val_main_v21 val_main_cst_3 val_main_v20 val_main_v19
    val_main_v36 val_main_v35 val_main_v34 val_main_call1_v5 val_main_call1_v4 val_main_call1_cst_0 val_main_call1_v3 val_main_call1_v2 val_main_call1_cst val_main_call1_v1 val_main_call1_v0
    val_main_v33 val_main_v32 val_main_v31 val_main_cst_6 val_main_v30 val_main_v29 Gates.gateTerm
  pointwise
  simp only [Gates.two_word, Ideal.ofBits_one_f32]
  rfl

/-- The reference's memory branch. -/
theorem ref_mm (x2 : FVec Ideal S128x7168 .bf16) (x5 : FVec Ideal S128x512 .bf16) (x8 : FVec Ideal S512x2048 .f32)
    (r : Fin 128) (d : Fin 2048) : val_main_v57 (F := Ideal) x2 x5 x8 (ix2 r d)
    = Gates.gateTerm (fun k : Fin 512 => x5 (ix2 r k)) (fun k => x2 (ix2 r (⟨512 + k.val, by omega⟩ : Fin 7168)))
        (fun k => x8 (ix2 k d)) (x2 (ix2 r (⟨5120 + d.val, by omega⟩ : Fin 7168))) := by
  unfold val_main_v57 val_main_v48 val_main_v47 val_main_cst_9 val_main_v46 val_main_v45 val_main_cst_8 val_main_v44 val_main_v43 val_main_v42 val_main_v41 val_main_cst_7 val_main_v40 val_main_v39
    val_main_v56 val_main_v55 val_main_v54 val_main_call2_v5 val_main_call2_v4 val_main_call2_cst_0 val_main_call2_v3 val_main_call2_v2 val_main_call2_cst val_main_call2_v1 val_main_call2_v0
    val_main_v53 val_main_v52 val_main_v51 val_main_cst_10 val_main_v50 val_main_v49 Gates.gateTerm
  pointwise
  simp only [Gates.two_word, Ideal.ofBits_one_f32]
  rfl

end Cert.Proof.MergeOut

end
-- ==== Proof.MergeOut.Vals.lean ====
/- The sample rows' merge and output projection: the operands a point reads, and its result array. -/
module

public import proofs.«01_k».proof.Proof.Gen.MergeOutIdeal.Value
public import proofs.«01_k».proof.Proof.MergeOut.Run
public import proofs.«01_k».proof.Proof.MergeOut.Ref
public import Idealize.ShloMosaic.Lib.Pipeline.ValueKit
public import Idealize.ShloMosaic.Lib.Pointwise
public import Idealize.ShloMosaic.Lib.IdealHost

@[expose] public section

set_option maxRecDepth 16384

noncomputable section

namespace Cert.Proof.MergeOut

open Idealize.ShloMosaic Idealize.SL.Sem Idealize.ShloMosaic.TcCoe
open Cert.MergeOutIdeal Cert.MergeOutIdeal.Gen

/-- Every window is one block; the gates' windows are columns of the packed projections. -/
theorem idx : ∀ t : Fin cfg0.N, win0_0.index t = ![0, 0] ∧ win0_1.index t = ![0, 0] ∧ win0_2.index t = ![0, 0] ∧ win0_3.index t = ![0, 0]
    ∧ win0_4.index t = ![0, 1] ∧ win0_5.index t = ![0, 3] ∧ win0_6.index t = ![0, 1] ∧ win0_7.index t = ![0, 1] ∧ win0_8.index t = ![0, 2]
    ∧ win0_9.index t = ![0, 3] ∧ win0_10.index t = ![0, 4] ∧ win0_11.index t = ![0, 5] ∧ win0_12.index t = ![0, 6]
    ∧ win0_13.index t = ![0, 0] ∧ win0_14.index t = ![0, 0] ∧ win0_15.index t = ![0, 0] ∧ win0_16.index t = ![0, 0]
    ∧ win0_17.index t = ![0, 0] ∧ win0_18.index t = ![0, 0] :=
  (by decide +kernel : ∀ t : Fin grid0.N, _)

variable (m : (ℓ : Loc nD τ sig) → Buf (Elt Ideal) ℓ) (c : Dev nD)

/-- Argument 0 at the launch. -/
abbrev A0 := m ((c : Thread nD τ).loc main_arg0)
/-- Argument 1 at the launch. -/
abbrev A1 := m ((c : Thread nD τ).loc main_arg1)
/-- Argument 2 at the launch. -/
abbrev A2 := m ((c : Thread nD τ).loc main_arg2)
/-- Argument 3 at the launch. -/
abbrev A3 := m ((c : Thread nD τ).loc main_arg3)
/-- Argument 4 at the launch. -/
abbrev A4 := m ((c : Thread nD τ).loc main_arg4)
/-- Argument 5 at the launch. -/
abbrev A5 := m ((c : Thread nD τ).loc main_arg5)
/-- Argument 6 at the launch. -/
abbrev A6 := m ((c : Thread nD τ).loc main_arg6)
/-- Argument 7 at the launch. -/
abbrev A7 := m ((c : Thread nD τ).loc main_arg7)
/-- Argument 8 at the launch. -/
abbrev A8 := m ((c : Thread nD τ).loc main_arg8)
/-- Argument 9 at the launch. -/
abbrev A9 := m ((c : Thread nD τ).loc main_arg9)
/-- Argument 10 at the launch. -/
abbrev A10 := m ((c : Thread nD τ).loc main_arg10)

/-- The residual rows. -/
theorem read0 (t : Fin cfg0.N) (r : Fin 128) (k : Fin 2048) : iblk m c 0 t (ix2 r k) = A0 m c (ix2 r k) := by
  blk_point [iblk, V, idx t]

/-- The superblock branch's attention rows. -/
theorem read1 (t : Fin cfg0.N) (r : Fin 128) (k : Fin 768) : iblk m c 1 t (ix2 r k) = A3 m c (ix2 r k) := by
  blk_point [iblk, V, idx t]

/-- The band branch's attention rows. -/
theorem read2 (t : Fin cfg0.N) (r : Fin 128) (k : Fin 768) : iblk m c 2 t (ix2 r k) = A4 m c (ix2 r k) := by
  blk_point [iblk, V, idx t]

/-- The memory branch's attention rows. -/
theorem read3 (t : Fin cfg0.N) (r : Fin 128) (k : Fin 512) : iblk m c 3 t (ix2 r k) = A5 m c (ix2 r k) := by
  blk_point [iblk, V, idx t]

/-- The superblock branch's output gate. -/
theorem read4 (t : Fin cfg0.N) (r : Fin 128) (k : Fin 768) : iblk m c 4 t (ix2 r k) = A1 m c (ix2 r (⟨768 + k.val, by omega⟩ : Fin 3072)) := by
  blk_point [iblk, V, idx t]

/-- The band branch's output gate. -/
theorem read5 (t : Fin cfg0.N) (r : Fin 128) (k : Fin 768) : iblk m c 5 t (ix2 r k) = A1 m c (ix2 r (⟨2304 + k.val, by omega⟩ : Fin 3072)) := by
  blk_point [iblk, V, idx t]

/-- The memory branch's output gate. -/
theorem read6 (t : Fin cfg0.N) (r : Fin 128) (k : Fin 512) : iblk m c 6 t (ix2 r k) = A2 m c (ix2 r (⟨512 + k.val, by omega⟩ : Fin 7168)) := by
  blk_point [iblk, V, idx t]

/-- Columns 0 to 1024 of the merge gates. -/
theorem read7 (t : Fin cfg0.N) (r : Fin 128) (k : Fin 1024) : iblk m c 7 t (ix2 r k) = A2 m c (ix2 r (⟨1024 + k.val, by omega⟩ : Fin 7168)) := by
  blk_point [iblk, V, idx t]

/-- Columns 1024 to 2048 of the merge gates. -/
theorem read8 (t : Fin cfg0.N) (r : Fin 128) (k : Fin 1024) : iblk m c 8 t (ix2 r k) = A2 m c (ix2 r (⟨2048 + k.val, by omega⟩ : Fin 7168)) := by
  blk_point [iblk, V, idx t]

/-- Columns 2048 to 3072 of the merge gates. -/
theorem read9 (t : Fin cfg0.N) (r : Fin 128) (k : Fin 1024) : iblk m c 9 t (ix2 r k) = A2 m c (ix2 r (⟨3072 + k.val, by omega⟩ : Fin 7168)) := by
  blk_point [iblk, V, idx t]

/-- Columns 3072 to 4096 of the merge gates. -/
theorem read10 (t : Fin cfg0.N) (r : Fin 128) (k : Fin 1024) : iblk m c 10 t (ix2 r k) = A2 m c (ix2 r (⟨4096 + k.val, by omega⟩ : Fin 7168)) := by
  blk_point [iblk, V, idx t]

/-- Columns 4096 to 5120 of the merge gates. -/
theorem read11 (t : Fin cfg0.N) (r : Fin 128) (k : Fin 1024) : iblk m c 11 t (ix2 r k) = A2 m c (ix2 r (⟨5120 + k.val, by omega⟩ : Fin 7168)) := by
  blk_point [iblk, V, idx t]

/-- Columns 5120 to 6144 of the merge gates. -/
theorem read12 (t : Fin cfg0.N) (r : Fin 128) (k : Fin 1024) : iblk m c 12 t (ix2 r k) = A2 m c (ix2 r (⟨6144 + k.val, by omega⟩ : Fin 7168)) := by
  blk_point [iblk, V, idx t]

/-- Half the superblock branch's weights. -/
theorem read13 (t : Fin cfg0.N) (k : Fin 768) (d : Fin 2048) : iblk m c 13 t (ix2 k d) = ((1 / 2 : ℝ) : EReal) * A6 m c (ix2 k d) := by
  rw [← Gates.half_word]
  blk_point [iblk, V, idx t]

/-- Half the band branch's weights. -/
theorem read14 (t : Fin cfg0.N) (k : Fin 768) (d : Fin 2048) : iblk m c 14 t (ix2 k d) = ((1 / 2 : ℝ) : EReal) * A7 m c (ix2 k d) := by
  rw [← Gates.half_word]
  blk_point [iblk, V, idx t]

/-- Half the memory branch's weights. -/
theorem read15 (t : Fin cfg0.N) (k : Fin 512) (d : Fin 2048) : iblk m c 15 t (ix2 k d) = ((1 / 2 : ℝ) : EReal) * A8 m c (ix2 k d) := by
  rw [← Gates.half_word]
  blk_point [iblk, V, idx t]

/-- The output weights. -/
theorem read16 (t : Fin cfg0.N) (r : Fin 2048) (k : Fin 2048) : iblk m c 16 t (ix2 r k) = A9 m c (ix2 r k) := by
  blk_point [iblk, V, idx t]

/-- The normalisation's gain. -/
theorem read17 (t : Fin cfg0.N) (k : Fin 2048) : iblk m c 17 t (ix2 (0 : Fin 1) k) = A10 m c (ix1 k) := by
  blk_point [iblk, V, idx t]

/-- Two neighbouring blocks of the merge gates are columns of one. -/
theorem mu_at (a b : Vec Ideal S128x1024 .bf16) (f : S128x7168.Idx → EReal) (o : ℕ) (ho : o + 2048 ≤ 7168)
    (ha : ∀ (r : Fin 128) (k : Fin 1024), a (ix2 r k) = f (ix2 r (⟨o + k.val, by omega⟩ : Fin 7168)))
    (hb : ∀ (r : Fin 128) (k : Fin 1024), b (ix2 r k) = f (ix2 r (⟨o + 1024 + k.val, by omega⟩ : Fin 7168))) (r : Fin 128) (d : Fin 2048) :
    mu a b r d = f (ix2 r (⟨o + d.val, by omega⟩ : Fin 7168)) := by
  unfold mu
  split
  · exact ha r _
  · refine (hb r _).trans (congrArg f (congrArg (ix2 r) (Fin.ext ?_)))
    show o + 1024 + (d.val - 1024) = o + d.val
    omega

/-- With no infinity among the gates, the rows and the weights, the merged rows are the reference's. -/
theorem merged_at (hs : Gates.Columns (A1 m c) 768 768) (hb : Gates.Columns (A1 m c) 2304 768) (hm : Gates.Columns (A2 m c) 512 512) (h3 : Gates.Finite (A3 m c)) (h4 : Gates.Finite (A4 m c)) (h5 : Gates.Finite (A5 m c))
    (h6 : Gates.Finite (A6 m c)) (h7 : Gates.Finite (A7 m c)) (h8 : Gates.Finite (A8 m c)) (t : Fin cfg0.N) (r : Fin 128) (d : Fin 2048) :
    merged (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t)
        (iblk m c 14 t) (iblk m c 15 t) r d
      = Cert.MergeOutRefIdeal.Read.val_main_v58 (F := Ideal) (A1 m c) (A2 m c) (A3 m c) (A4 m c) (A5 m c) (A6 m c) (A7 m c) (A8 m c) (ix2 r d) := by
  rw [Cert.MergeOutRefIdeal.Read.val_main_v58_apply, Cert.MergeOutRefIdeal.Read.val_main_v38_apply, ref_sb, ref_bd, ref_mm]
  unfold merged
  rw [mu_at _ _ (A2 m c) 1024 (by omega) (read7 m c t) (read8 m c t), mu_at _ _ (A2 m c) 3072 (by omega) (read9 m c t) (read10 m c t),
    mu_at _ _ (A2 m c) 5120 (by omega) (read11 m c t) (read12 m c t)]
  simp only [read1, read2, read3, read4, read5, read6, read13, read14, read15]
  rw [Gates.branch _ _ _ _ (fun k => h3 _) (fun k => hs _ _ _ k.isLt rfl) (fun k => h6 _), Gates.branch _ _ _ _ (fun k => h4 _) (fun k => hb _ _ _ k.isLt rfl) (fun k => h7 _),
    Gates.branch _ _ _ _ (fun k => h5 _) (fun k => hm _ _ _ k.isLt rfl) (fun k => h8 _)]
  rfl

/-- A column of the normalised product added to the residual. -/
def post (M : Fin 2048 → EReal) (W : Fin 2048 → Fin 2048 → EReal) (x g : Fin 2048 → EReal) (j : Fin 2048) : EReal :=
  x j + (∑ k, M k * W k j) * Ideal.rsqrt (Ideal.div (∑ l, (∑ k, M k * W k l) * (∑ k, M k * W k l)) (Ideal.ofBits .f32 0x45000000#32) + Ideal.ofBits .f32 0x358637BD#32) * g j

set_option maxHeartbeats 1000000 in
/-- The payload stored last. -/
theorem pay_post (M x : S128x2048.Idx → EReal) (W : S2048x2048.Idx → EReal) (g : S1x2048.Idx → EReal) (r : Fin 128) (j : Fin 2048) :
    k0_pay2 (F := Ideal) M W x g (ix2 r j)
      = post (fun k => M (ix2 r k)) (fun k l => W (ix2 k l)) (fun k => x (ix2 r k)) (fun k => g (ix2 0 k)) j := by
  pointwise [k0_pay2]
  rfl

set_option maxHeartbeats 1000000 in
/-- The reference's result of its merged rows. -/
theorem ref_post (x0 : FVec Ideal S128x2048 .f32) (x1 : FVec Ideal S128x3072 .bf16) (x2 : FVec Ideal S128x7168 .bf16) (x3 x4 : FVec Ideal S128x768 .bf16)
    (x5 : FVec Ideal S128x512 .bf16) (x6 x7 : FVec Ideal S768x2048 .f32) (x8 : FVec Ideal S512x2048 .f32) (x9 : FVec Ideal S2048x2048 .f32)
    (x10 : FVec Ideal S2048 .f32) (r : Fin 128) (j : Fin 2048) :
    Cert.MergeOutRefIdeal.Read.val_main_v73 (F := Ideal) x0 x1 x2 x3 x4 x5 x6 x7 x8 x9 x10 (ix2 r j)
      = post (fun k => Cert.MergeOutRefIdeal.Read.val_main_v58 (F := Ideal) x1 x2 x3 x4 x5 x6 x7 x8 (ix2 r k)) (fun k l => x9 (ix2 k l))
          (fun k => x0 (ix2 r k)) (fun k => x10 (ix1 k)) j := by
  open Cert.MergeOutRefIdeal.Read in
  unfold val_main_v73 val_main_v72 val_main_v71 val_main_v70 val_main_v69 val_main_v68 val_main_v67 val_main_v66 val_main_v65 val_main_cst_13
    val_main_v64 val_main_v63 val_main_cst_12 val_main_v62 val_main_v61 val_main_cst_11 val_main_v60 val_main_v59
  generalize Cert.MergeOutRefIdeal.Read.val_main_v58 (F := Ideal) x1 x2 x3 x4 x5 x6 x7 x8 = M
  pointwise
  rfl

set_option maxHeartbeats 1000000 in
/-- The output array holds the reference's term of the arguments. -/
theorem final (hs : Gates.Columns (A1 m c) 768 768) (hb : Gates.Columns (A1 m c) 2304 768) (hm : Gates.Columns (A2 m c) 512 512) (h3 : Gates.Finite (A3 m c)) (h4 : Gates.Finite (A4 m c)) (h5 : Gates.Finite (A5 m c))
    (h6 : Gates.Finite (A6 m c)) (h7 : Gates.Finite (A7 m c)) (h8 : Gates.Finite (A8 m c)) :
    (dats m 0 c).arrAt 18 cfg0.N = Cert.MergeOutRefIdeal.Read.val_main_v73 (F := Ideal) (A0 m c) (A1 m c) (A2 m c) (A3 m c) (A4 m c) (A5 m c)
      (A6 m c) (A7 m c) (A8 m c) (A9 m c) (A10 m c) := by
  refine (dats m 0 c).arrAt_eq_of_covers 18 _ (by decide +kernel) fun t hf y => ?_
  blk_simp
  rw [after0_18, out_eq]
  obtain ⟨r, j, rfl⟩ : ∃ (r : Fin 128) (j : Fin 2048), y = ix2 r j := ⟨y 0, y 1, (ix2_eta y).symm⟩
  refine (pay_post _ _ _ _ r j).trans (Eq.trans ?_ ((Blocks.at2 (Cert.MergeOutRefIdeal.Read.val_main_v73 (F := Ideal) (A0 m c) (A1 m c) (A2 m c) (A3 m c)
    (A4 m c) (A5 m c) (A6 m c) (A7 m c) (A8 m c) (A9 m c) (A10 m c)) (((cfg0.win 18).blk t).view.emb (ix2 r j)) r j ?_ ?_).trans
      (ref_post _ _ _ _ _ _ _ _ _ _ _ r j)).symm)
  · exact congr (congr (congr (congr (congrArg post (funext fun k => merged_at m c hs hb hm h3 h4 h5 h6 h7 h8 t r k))
      (funext fun k => funext fun l => read16 m c t k l)) (funext fun k => read0 m c t r k)) (funext fun k => read17 m c t k)) rfl
  · show win0_18.index t 0 * 128 + 1 * r.val = r.val
    rw [show win0_18.index t = ![0, 0] from (idx t).2.2.2.2.2.2.2.2.2.2.2.2.2.2.2.2.2.2]; show 0 * 128 + 1 * r.val = _; omega
  · show win0_18.index t 1 * 2048 + 1 * j.val = j.val
    rw [show win0_18.index t = ![0, 0] from (idx t).2.2.2.2.2.2.2.2.2.2.2.2.2.2.2.2.2.2]; show 0 * 2048 + 1 * j.val = _; omega

end Cert.Proof.MergeOut

end
-- ==== Proof.MergeOut.Pre.lean ====
/- What the precondition of this call says: no argument it names has an infinite element. -/
module

public import proofs.«01_k».proof.Proof.MergeOut.Vals
public import proofs.«01_k».proof.Defs

@[expose] public section

set_option maxRecDepth 16384

noncomputable section

namespace Cert.Proof.MergeOut

open Idealize.ShloMosaic Idealize.SL.Sem Idealize.ShloMosaic.TcCoe
open Cert.MergeOutIdeal Cert.MergeOutIdeal.Gen

set_option maxHeartbeats 1000000 in
/-- Under the precondition every element of the output gates, the attentions' rows and the weights is a number. -/
theorem finite_of_pre [Cert.Pre_mo_finite.Facts] (m : (ℓ : Loc nD τ sig) → Buf (Elt Ideal) ℓ) (h : Cert.Pre_MergeOutIdeal_mo_finite m) (c : Dev nD) :
    Gates.Columns (A1 m c) 768 768 ∧ Gates.Columns (A1 m c) 2304 768 ∧ Gates.Columns (A2 m c) 512 512
      ∧ Gates.Finite (A3 m c) ∧ Gates.Finite (A4 m c) ∧ Gates.Finite (A5 m c) ∧ Gates.Finite (A6 m c) ∧ Gates.Finite (A7 m c) ∧ Gates.Finite (A8 m c) := by
  obtain ⟨e0, e1, e2, e3, e4, e5, e6, e7, e8⟩ := h c
  refine ⟨fun r d k hk hd => ?_, fun r d k hk hd => ?_, fun r d k hk hd => ?_,
    fun i => Gates.finite_of_test (congrFun e3 i), fun i => Gates.finite_of_test (congrFun e4 i), fun i => Gates.finite_of_test (congrFun e5 i), fun i => Gates.finite_of_test (congrFun e6 i), fun i => Gates.finite_of_test (congrFun e7 i), fun i => Gates.finite_of_test (congrFun e8 i)⟩
  · obtain ⟨y, hy⟩ := Gates.finite_of_test (congrFun e0 (ix2 r (⟨k, hk⟩ : Fin 768)))
    exact ⟨y, (Blocks.at2 (A1 m c) _ r d (by show 0 + r.val = r.val; omega) (by show 768 + k = d.val; omega)).symm.trans hy⟩
  · obtain ⟨y, hy⟩ := Gates.finite_of_test (congrFun e1 (ix2 r (⟨k, hk⟩ : Fin 768)))
    exact ⟨y, (Blocks.at2 (A1 m c) _ r d (by show 0 + r.val = r.val; omega) (by show 2304 + k = d.val; omega)).symm.trans hy⟩
  · obtain ⟨y, hy⟩ := Gates.finite_of_test (congrFun e2 (ix2 r (⟨k, hk⟩ : Fin 512)))
    exact ⟨y, (Blocks.at2 (A2 m c) _ r d (by show 0 + r.val = r.val; omega) (by show 512 + k = d.val; omega)).symm.trans hy⟩

end Cert.Proof.MergeOut

end
-- ==== Proof.Att.Loop.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.VecWindow
public import Idealize.ShloMosaic.Lib.Pipeline.Value

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The loop's counter with `n` blocks to go: the word of `n - 1`. -/
def jw (n : ℕ) : BitVec 32 := Scalar.subi (BitVec.ofNat 32 n) 1#32

theorem jw_zero : Scalar.cmpi .sge (jw 0) 0#32 = 0#1 := by decide

theorem and_zero (b : BitVec 1) : ¬ Scalar.andi 0#1 b = 1#1 := by revert b; decide
theorem and_right {a b : BitVec 1} (h : ¬ b = 1#1) : ¬ Scalar.andi a b = 1#1 := by revert h; revert a b; decide

/-- The label of the loop is the printed loop function. -/
theorem defs_row (i : grid0.Coords) (arg15 : Memref sig .tc .vmem S4352x128 .bf16) (harg15 : arg15.IsWhole)
    (arg16 : Memref sig .tc .vmem S4352x128 .bf16) (harg16 : arg16.IsWhole) (v2002 : IVec S4096x256 32)
    (arg3 : Memref sig .tc .vmem S1x4096x128 .bf16) (harg3 : arg3.IsWhole)
    (arg14 : Memref sig .tc .vmem S4096x1 .f32) (harg14 : arg14.IsWhole) (v1 : FVec F S512x256 .bf16)
    (arg13 : Memref sig .tc .vmem S4096x128 .f32) (harg13 : arg13.IsWhole) (v2007 : IVec S4096x1 1) (j a : BitVec 32) :
    defs₀ (F := F) .tc 1 ⟨i, arg15, harg15, arg16, harg16, v2002, arg3, harg3, arg14, harg14, v1, arg13, harg13, v2007, j, a⟩
      = cc0_while1 i arg15 harg15 arg16 harg16 v2002 arg3 harg3 arg14 harg14 v1 arg13 harg13 v2007 j a := by
  unfold defs₀; rw [Defs.onTc_tc]
theorem jw_succ : ∀ n : Fin 14, Scalar.cmpi .sge (jw (n.val + 1)) 0#32 = 1#1 ∧ Scalar.subi (jw (n.val + 1)) 1#32 = jw n.val
    ∧ k0_chk1 (jw (n.val + 1)) := by decide +kernel

/-- A load of a whole memref held at the contents that read `X` is the load of `X`. -/
theorem readAt_ld {sp : Space} {s : Shape} {e : EltTy} {m : Memref sig .tc sp s e} (h : m.IsWhole) (X : s.Idx → Elt F e)
    (R : Rect s) : View.readAt (Elt F) m.view R.toLoadRect (h.unread X) = View.ld X R :=
  funext fun x => Memref.IsWhole.readAt_unread h X R.toLoadRect x

theorem zero2 : (![0, 0] : Fin 2 → ℕ) = fun _ => 0 := by decide
theorem zero3 : (![0, 0, 0] : Fin 3 → ℕ) = fun _ => 0 := by decide

/-- The block of 256 rows that the loop reads of a padded buffer when `n + 1` blocks are to go. -/
def padBlk (n : ℕ) (x : Vec F S4352x128 .bf16) : Vec F S256x128 .bf16 :=
  if h : k0_chk1 (jw (n + 1)) then
    View.ld x (Rect.unit (s := S4352x128) (k0_off4 (jw (n + 1))) S256x128.size (k0_off4_inb (jw (n + 1)) h))
  else fun _ => Scalar.ofBits .bf16 0x0000#16

/-- The accumulator after one turn of the loop. -/
def stepAcc (i : grid0.Coords) (v2002 : IVec S4096x256 32) (v1 : FVec F S512x256 .bf16) (x3 : Vec F S1x4096x128 .bf16)
    (x15 x16 : Vec F S4352x128 .bf16) (n : ℕ) (A : Vec F S4096x128 .f32) (C : Vec F S4096x1 .f32) : Vec F S4096x128 .f32 :=
  k0_pay4 (padBlk n x16) (k0_pay257 v2002 (jw (n + 1)) (BitVec.ofNat 32 (i 2).val))
    (k0_pay260 v2002 v1 (jw (n + 1)) (BitVec.ofNat 32 (i 2).val) (padBlk n x15) x3 C) A

/-- The carry after one turn of the loop. -/
def stepCarry (i : grid0.Coords) (v2002 : IVec S4096x256 32) (x3 : Vec F S1x4096x128 .bf16)
    (x15 : Vec F S4352x128 .bf16) (n : ℕ) (C : Vec F S4096x1 .f32) : Vec F S4096x1 .f32 :=
  k0_pay5 C (k0_pay259 v2002 (jw (n + 1)) (BitVec.ofNat 32 (i 2).val) (padBlk n x15) x3)

/-- Whether another turn is wanted after one turn of the loop. -/
def stepAlive (i : grid0.Coords) (v2002 : IVec S4096x256 32) (v2007 : IVec S4096x1 1) (x3 : Vec F S1x4096x128 .bf16)
    (x15 : Vec F S4352x128 .bf16) (n : ℕ) (C : Vec F S4096x1 .f32) : BitVec 32 :=
  Scalar.extui (Scalar.cmpf .ogt (k0_pay6 v2007 C (k0_pay259 v2002 (jw (n + 1)) (BitVec.ofNat 32 (i 2).val) (padBlk n x15) x3))
    (Named.named (F := F) κ "dead" 0xC3200000#32))

/-- The accumulator and the carry that the loop leaves, with `n` blocks to go. -/
def loopOut (i : grid0.Coords) (v2002 : IVec S4096x256 32) (v1 : FVec F S512x256 .bf16) (v2007 : IVec S4096x1 1)
    (x3 : Vec F S1x4096x128 .bf16) (x15 x16 : Vec F S4352x128 .bf16) :
    ℕ → BitVec 32 → Vec F S4096x128 .f32 → Vec F S4096x1 .f32 → Vec F S4096x128 .f32 × Vec F S4096x1 .f32
  | 0, _, A, C => (A, C)
  | n + 1, alive, A, C =>
    if Scalar.cmpi .sgt alive 0#32 = 1#1 then
      loopOut i v2002 v1 v2007 x3 x15 x16 n (stepAlive i v2002 v2007 x3 x15 n C) (stepAcc i v2002 v1 x3 x15 x16 n A C)
        (stepCarry i v2002 x3 x15 n C)
    else (A, C)

set_option maxHeartbeats 4000000 in
/-- The loop, run from a counter with `n` blocks to go, leaves `loopOut`. -/
theorem loop_wp (c : Dev nD) (i : grid0.Coords) (arg15 : Memref sig .tc .vmem S4352x128 .bf16) (harg15 : arg15.IsWhole)
    (arg16 : Memref sig .tc .vmem S4352x128 .bf16) (harg16 : arg16.IsWhole) (v2002 : IVec S4096x256 32)
    (arg3 : Memref sig .tc .vmem S1x4096x128 .bf16) (harg3 : arg3.IsWhole)
    (arg14 : Memref sig .tc .vmem S4096x1 .f32) (harg14 : arg14.IsWhole) (v1 : FVec F S512x256 .bf16)
    (arg13 : Memref sig .tc .vmem S4096x128 .f32) (harg13 : arg13.IsWhole) (v2007 : IVec S4096x1 1)
    (x3 : Vec F S1x4096x128 .bf16) (x15 x16 : Vec F S4352x128 .bf16) (E : Set ℕ) :
    ∀ (n : ℕ), n < 15 → ∀ (arg20 : BitVec 32) (A : Vec F S4096x128 .f32) (C : Vec F S4096x1 .f32) (K : BitVec 32 × BitVec 32 → sProp 𝕄),
      iprop(owns (c : Thread nD τ) arg3 fullShare x3 ∗ owns (c : Thread nD τ) arg13 fullShare A ∗ owns (c : Thread nD τ) arg14 fullShare C
          ∗ owns (c : Thread nD τ) arg15 fullShare x15 ∗ owns (c : Thread nD τ) arg16 fullShare x16
          ∗ (∀ r, iprop(owns (c : Thread nD τ) arg3 fullShare x3
              ∗ owns (c : Thread nD τ) arg13 fullShare (loopOut i v2002 v1 v2007 x3 x15 x16 n arg20 A C).1
              ∗ owns (c : Thread nD τ) arg14 fullShare (loopOut i v2002 v1 v2007 x3 x15 x16 n arg20 A C).2
              ∗ owns (c : Thread nD τ) arg15 fullShare x15 ∗ owns (c : Thread nD τ) arg16 fullShare x16) -∗ K r))
        ⊢ wp frame (wpE (defs₀ (F := F)) Variants.nat (c : Thread nD τ) (some n)) E
            (defs₀ .tc 1 ⟨i, arg15, harg15, arg16, harg16, v2002, arg3, harg3, arg14, harg14, v1, arg13, harg13, v2007, jw n, arg20⟩) K := by
  intro n
  induction n with
  | zero =>
    intro hn arg20 A C K
    rw [defs_row]
    simp only [cc0_while1_eq_skeleton]; unfold cc0_while1_skel
    have hc : ¬ Scalar.andi (Scalar.cmpi .sge (jw 0) 0#32) (Scalar.cmpi .sgt arg20 0#32) = 1#1 := by
      rw [jw_zero]; exact and_zero _
    iintro ⟨H3, H13, H14, H15, H16, Hk⟩
    rw [if_neg hc]
    rw [wp_pure]; imodintro
    iapply Hk
    isplitl [H3]; · iexact H3
    isplitl [H13]; · iexact H13
    isplitl [H14]; · iexact H14
    isplitl [H15]; · iexact H15
    iexact H16
  | succ n ih =>
    intro hn arg20 A C K
    rw [defs_row]
    simp only [cc0_while1_eq_skeleton]; unfold cc0_while1_skel
    simp only [k0_part53_eq_skeleton]
    obtain ⟨hj, hs, hk⟩ := jw_succ ⟨n, by omega⟩
    dsimp only at hj hs hk
    by_cases h20 : Scalar.cmpi .sgt arg20 0#32 = 1#1
    · have hc : Scalar.andi (Scalar.cmpi .sge (jw (n + 1)) 0#32) (Scalar.cmpi .sgt arg20 0#32) = 1#1 := by
        rw [hj, h20]; decide
      rw [show loopOut i v2002 v1 v2007 x3 x15 x16 (n + 1) arg20 A C = loopOut i v2002 v1 v2007 x3 x15 x16 n
        (stepAlive i v2002 v2007 x3 x15 n C) (stepAcc i v2002 v1 x3 x15 x16 n A C) (stepCarry i v2002 x3 x15 n C) from if_pos h20]
      unfold owns
      iintro ⟨⟨%f3, %hf3, H3⟩, ⟨%f13, %hf13, H13⟩, ⟨%f14, %hf14, H14⟩, ⟨%f15, %hf15, H15⟩, ⟨%f16, %hf16, H16⟩, Hk⟩
      obtain rfl := harg3.eq_unread hf3; obtain rfl := harg13.eq_unread hf13; obtain rfl := harg14.eq_unread hf14
      obtain rfl := harg15.eq_unread hf15; obtain rfl := harg16.eq_unread hf16
      sl_exec (disch := first | sl_exact hc | sl_exact hk)
      have e0 : loop_wp.sl.r c arg16 harg16 x16 n hk = padBlk n x16 := by
        unfold loop_wp.sl.r; rw [readAt_ld]; unfold padBlk; rw [dif_pos hk]
      have e2 : loop_wp.sl.r_2 c arg14 harg14 C = C := by
        unfold loop_wp.sl.r_2; rw [readAt_ld]; exact View.ld_unit_zero zero2 _ C
      have e3 : loop_wp.sl.r_3 c i arg15 harg15 v2002 arg3 harg3 x3 x15 n hk
          = k0_pay259 v2002 (jw (n + 1)) (BitVec.ofNat 32 (i 2).val) (padBlk n x15) x3 := by
        unfold loop_wp.sl.r_3; rw [readAt_ld, readAt_ld, View.ld_unit_zero zero3 _ x3]; unfold padBlk; rw [dif_pos hk]
      have e4 : loop_wp.sl.r_4 c i arg15 harg15 v2002 arg3 harg3 arg14 harg14 v1 x3 x15 n C hk
          = k0_pay260 v2002 v1 (jw (n + 1)) (BitVec.ofNat 32 (i 2).val) (padBlk n x15) x3 C := by
        unfold loop_wp.sl.r_4; rw [readAt_ld, readAt_ld, readAt_ld, View.ld_unit_zero zero3 _ x3, View.ld_unit_zero zero2 _ C]
        unfold padBlk; rw [dif_pos hk]
      rw [hs, e0, e2, e3, e4, readAt_ld, View.ld_unit_zero zero2 _ A]
      iapply (wp_call Variants.nat (c : Thread nD τ) (some (n + 1)) E n (fun u hu => by cases hu; exact Nat.lt_succ_self n))
      iapply (ih (by omega) _ (stepAcc i v2002 v1 x3 x15 x16 n A C) (stepCarry i v2002 x3 x15 n C) _)
      unfold owns
      isplitl [H3]; · iexists _; isplitr; · ipureintro; exact hf3
                      iexact H3
      isplitl [H13]; · iexists _; isplitr; swap; · iexact H13
                       ipureintro; exact View.read_writes_full _ _ _ _ _
      isplitl [H14]; · iexists _; isplitr; swap; · iexact H14
                       ipureintro; exact View.read_writes_full _ _ _ _ _
      isplitl [H15]; · iexists _; isplitr; · ipureintro; exact hf15
                       iexact H15
      isplitl [H16]; · iexists _; isplitr; · ipureintro; exact hf16
                       iexact H16
      iintro %r ⟨H3, H13, H14, H15, H16⟩
      rw [wp_ret]; imodintro
      iapply Hk
      isplitl [H3]; · iexact H3
      isplitl [H13]; · iexact H13
      isplitl [H14]; · iexact H14
      isplitl [H15]; · iexact H15
      iexact H16
    · have hc : ¬ Scalar.andi (Scalar.cmpi .sge (jw (n + 1)) 0#32) (Scalar.cmpi .sgt arg20 0#32) = 1#1 := and_right h20
      rw [show loopOut i v2002 v1 v2007 x3 x15 x16 (n + 1) arg20 A C = (A, C) from if_neg h20]
      iintro ⟨H3, H13, H14, H15, H16, Hk⟩
      rw [if_neg hc]
      rw [wp_pure]; imodintro
      iapply Hk
      isplitl [H3]; · iexact H3
      isplitl [H13]; · iexact H13
      isplitl [H14]; · iexact H14
      isplitl [H15]; · iexact H15
      iexact H16

end Cert.KernelIdeal.Att

end
-- ==== Proof.Att.Run.lean ====
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Att.Loop

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem pt_first (i : grid0.Coords) : (i 2).val = 0 := by
  have := (i 2).isLt
  simpa using this

set_option maxHeartbeats 4000000 in
theorem body_run (c : Dev nD) (i : grid0.Coords) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S512x256 .bf16) (harg6 : arg6.IsWhole) (arg7 : Memref sig .tc .vmem S1x4096x128 .bf16) (harg7 : arg7.IsWhole) (arg8 : Memref sig .tc .vmem S1x4096x128 .bf16) (harg8 : arg8.IsWhole) (arg9 : Memref sig .tc .vmem S1x4096x128 .bf16) (harg9 : arg9.IsWhole) (arg10 : Memref sig .tc .vmem S1x256x768 .f32) (harg10 : arg10.IsWhole) (arg11 : Memref sig .tc .vmem S1x4096x128 .bf16) (harg11 : arg11.IsWhole) (arg12 : Memref sig .tc .vmem S1x4096x128 .bf16) (harg12 : arg12.IsWhole) (arg13 : Memref sig .tc .vmem S4096x128 .f32) (harg13 : arg13.IsWhole) (arg14 : Memref sig .tc .vmem S4096x1 .f32) (harg14 : arg14.IsWhole) (arg15 : Memref sig .tc .vmem S4352x128 .bf16) (harg15 : arg15.IsWhole) (arg16 : Memref sig .tc .vmem S4352x128 .bf16) (harg16 : arg16.IsWhole) (arg17 : Memref sig .tc .vmem S4608x128 .bf16) (harg17 : arg17.IsWhole) (arg18 : Memref sig .tc .vmem S4608x128 .bf16) (harg18 : arg18.IsWhole)
    (hc0 : Scalar.cmpi .ne (Scalar.extui (Scalar.cmpi .eq (BitVec.ofNat 32 (i 2).val) 0#32)) 0#32 = 1#1)
    (x3 : Vec F S1x4096x128 .bf16) (x4 : Vec F S1x4096x128 .bf16) (x5 : Vec F S1x4096x128 .bf16) (x6 : Vec F S512x256 .bf16) (x7 : Vec F S1x4096x128 .bf16) (x8 : Vec F S1x4096x128 .bf16) (x9 : Vec F S1x4096x128 .bf16) (x10 : Vec F S1x256x768 .f32) :
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.nat c none) E (cc0_prompt_attention i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
    intro E K
    simp only [cc0_prompt_attention_eq_skeleton]; unfold cc0_prompt_attention_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec_parts (disch := first | sl_exact hc0)
    have e10 : body_run.sl.v2010 i = jw 14 := by
      show Scalar.subi (Scalar.addi (Scalar.muli 16#32 (BitVec.ofNat 32 (i 2).val)) 16#32) 3#32 = jw 14
      rw [pt_first i]; decide
    rw [e10]
    iapply (wp_call Variants.nat (c : Thread nD τ) none E 14 (fun u hu => nomatch hu))
    iapply (loop_wp c i arg15 harg15 arg16 harg16 _ arg3 harg3 arg14 harg14 _ arg13 harg13 _ x3 _ _ E 14 (by decide) _ _ _ _)
    unfold owns
    isplitl [H3]; · iexists _; isplitr; · ipureintro; exact harg3.read_unread _
                    iexact H3
    isplitl [H13]; · iexists _; isplitr; swap; · iexact H13
                     ipureintro; rfl
    isplitl [H14]; · iexists _; isplitr; swap; · iexact H14
                     ipureintro; rfl
    isplitl [H15]; · iexists _; isplitr; swap; · iexact H15
                     ipureintro; rfl
    isplitl [H16]; · iexists _; isplitr; swap; · iexact H16
                     ipureintro; rfl
    iintro %r ⟨⟨%f3, %hf3, H3⟩, ⟨%f13, %hf13, H13⟩, ⟨%f14, %hf14, H14⟩, ⟨%f15, %hf15, H15⟩, ⟨%f16, %hf16, H16⟩⟩
    obtain rfl := harg3.eq_unread hf3
    sl_exec
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    iexists _, _; isplitr; swap; · iexact H18
    ipureintro; rfl

end Cert.KernelIdeal.Att

end
-- ==== Proof.Att.Frame.lean ====
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Att.Run
public import Idealize.ShloMosaic.Lib.Claim

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s buffers when the call begins: what the host operations leave. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor

set_option maxHeartbeats 1600000 in
/-- The program up to the call: the host operations, then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7] (by simp only [List.Forall]; exact ⟨hostOps0_sub, hostOps0_1_sub, hostOps0_2_sub, hostOps0_3_sub, hostOps0_4_sub, hostOps0_5_sub, hostOps0_6_sub, hostOps0_7_sub⟩)
    (by simp only [List.Forall]; exact ⟨hostOps0_fresh, hostOps0_1_fresh, hostOps0_2_fresh, hostOps0_3_fresh, hostOps0_4_fresh, hostOps0_5_fresh, hostOps0_6_fresh, hostOps0_7_fresh⟩) main_chain

set_option maxHeartbeats 1600000 in
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.mem_singleton]
    repeat' apply And.intro
    all_goals exact StableHlo.devRef_ne_of_ne (by decide)))
set_option maxHeartbeats 1600000 in
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.mem_singleton]
    repeat' apply And.intro
    all_goals exact StableHlo.devRef_ne_of_ne (by decide)))
set_option maxHeartbeats 1600000 in
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.mem_singleton]
    repeat' apply And.intro
    all_goals exact StableHlo.devRef_ne_of_ne (by decide)))

/-- Window `w`'s block at point `t`, read off its array as the call finds it. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

abbrev ms0_0 (t : Fin (cfg0 (F := F)).N) : Memref sig .tc .vmem S1x4096x128 .bf16 := win0_0.stage ((cfg0 (F := F)).slots t 0)
abbrev ms0_1 (t : Fin (cfg0 (F := F)).N) : Memref sig .tc .vmem S1x4096x128 .bf16 := win0_1.stage ((cfg0 (F := F)).slots t 1)
abbrev ms0_2 (t : Fin (cfg0 (F := F)).N) : Memref sig .tc .vmem S1x4096x128 .bf16 := win0_2.stage ((cfg0 (F := F)).slots t 2)
abbrev ms0_3 (t : Fin (cfg0 (F := F)).N) : Memref sig .tc .vmem S512x256 .bf16 := win0_3.stage ((cfg0 (F := F)).slots t 3)
abbrev ms0_4 (t : Fin (cfg0 (F := F)).N) : Memref sig .tc .vmem S1x4096x128 .bf16 := win0_4.stage ((cfg0 (F := F)).slots t 4)
abbrev ms0_5 (t : Fin (cfg0 (F := F)).N) : Memref sig .tc .vmem S1x4096x128 .bf16 := win0_5.stage ((cfg0 (F := F)).slots t 5)
abbrev ms0_6 (t : Fin (cfg0 (F := F)).N) : Memref sig .tc .vmem S1x4096x128 .bf16 := win0_6.stage ((cfg0 (F := F)).slots t 6)
abbrev ms0_7 (t : Fin (cfg0 (F := F)).N) : Memref sig .tc .vmem S1x256x768 .f32 := win0_7.stage ((cfg0 (F := F)).slots t 7)
abbrev ms0_8 (t : Fin (cfg0 (F := F)).N) : Memref sig .tc .vmem S1x4096x128 .bf16 := win0_8.stage ((cfg0 (F := F)).slots t 8)
abbrev ms0_9 (t : Fin (cfg0 (F := F)).N) : Memref sig .tc .vmem S1x4096x128 .bf16 := win0_9.stage ((cfg0 (F := F)).slots t 9)
abbrev scM0_0 : Memref sig .tc .vmem S4096x128 .f32 := Memref.whole cc0_scratch0
abbrev scM0_1 : Memref sig .tc .vmem S4096x1 .f32 := Memref.whole cc0_scratch1
abbrev scM0_2 : Memref sig .tc .vmem S4352x128 .bf16 := Memref.whole cc0_scratch2
abbrev scM0_3 : Memref sig .tc .vmem S4352x128 .bf16 := Memref.whole cc0_scratch3
abbrev scM0_4 : Memref sig .tc .vmem S4608x128 .bf16 := Memref.whole cc0_scratch4
abbrev scM0_5 : Memref sig .tc .vmem S4608x128 .bf16 := Memref.whole cc0_scratch5

/-- The call's invariant, its scratch buffers as memrefs at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-- The outputs: nothing is said of what the frame leaves in them. -/
def forgets0 : Fin 10 → Bool := fun w => w.val == 8 || w.val == 9

/-- The pipeline's proof data: each input at its block, the outputs at anything. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0 (F := F)) ⟨8, h⟩ t
    | ⟨9, h⟩ => Pipeline.Dat.unnamed (cfg := cfg0 (F := F)) ⟨9, h⟩ t
    | ⟨_ + 10, h⟩ => absurd h (Nat.not_lt.2 (Nat.le_add_left _ _))
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := by dsimp only [dats]; try rfl
theorem before0_0 (c : Dev nD) (t : Fin (cfg0 (F := F)).N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem after0_1 (c : Dev nD) (t : Fin (cfg0 (F := F)).N) : (dats m 0 c).after 1 t = iblk m c 1 t := by dsimp only [dats]; try rfl
theorem before0_1 (c : Dev nD) (t : Fin (cfg0 (F := F)).N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem after0_2 (c : Dev nD) (t : Fin (cfg0 (F := F)).N) : (dats m 0 c).after 2 t = iblk m c 2 t := by dsimp only [dats]; try rfl
theorem before0_2 (c : Dev nD) (t : Fin (cfg0 (F := F)).N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem after0_3 (c : Dev nD) (t : Fin (cfg0 (F := F)).N) : (dats m 0 c).after 3 t = iblk m c 3 t := by dsimp only [dats]; try rfl
theorem before0_3 (c : Dev nD) (t : Fin (cfg0 (F := F)).N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem after0_4 (c : Dev nD) (t : Fin (cfg0 (F := F)).N) : (dats m 0 c).after 4 t = iblk m c 4 t := by dsimp only [dats]; try rfl
theorem before0_4 (c : Dev nD) (t : Fin (cfg0 (F := F)).N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem after0_5 (c : Dev nD) (t : Fin (cfg0 (F := F)).N) : (dats m 0 c).after 5 t = iblk m c 5 t := by dsimp only [dats]; try rfl
theorem before0_5 (c : Dev nD) (t : Fin (cfg0 (F := F)).N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)
theorem after0_6 (c : Dev nD) (t : Fin (cfg0 (F := F)).N) : (dats m 0 c).after 6 t = iblk m c 6 t := by dsimp only [dats]; try rfl
theorem before0_6 (c : Dev nD) (t : Fin (cfg0 (F := F)).N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans
    (by unfold Dat.fetched Dat.blockOf iblk; rw [A_eq]; try rfl)
theorem after0_7 (c : Dev nD) (t : Fin (cfg0 (F := F)).N) : (dats m 0 c).after 7 t = iblk m c 7 t := by dsimp only [dats]; try rfl
theorem before0_7 (c : Dev nD) (t : Fin (cfg0 (F := F)).N) (d) : (dats m 0 c).before 7 t d = iblk m c 7 t :=
  ((dats m 0 c).before_in_eq_fetched 7 rfl (fun _ => rfl) (fun _ _ _ => rfl)
    (fun t => by rw [after0_7]; unfold Dat.blockOf iblk; rw [A_eq]; try rfl) t d).trans
    (by unfold Dat.fetched Dat.blockOf iblk; rw [A_eq]; try rfl)

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d))

/-- and what it returns. -/
def bodyPost (c : Dev nD) (t : Fin (cfg0 (F := F)).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ d, owns (c : Thread nD τ) (ms0_8 t) fullShare d)
    ∗ (∃ d, owns (c : Thread nD τ) (ms0_9 t) fullShare d))

/-- The condition under which the body fills its padded buffers holds at every point. -/
theorem cond_pt (i : grid0.Coords) : Scalar.cmpi .ne (Scalar.extui (Scalar.cmpi .eq (BitVec.ofNat 32 (i 2).val) 0#32)) 0#32 = 1#1 := by
  rw [pt_first i]; decide

set_option maxHeartbeats 3200000 in
/-- The body at any point, from what it is called with to what it returns. -/
theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [show (cfg0 (F := F)).idle 0 ((cfg0 (F := F)).grid.coords t) = false from rfl]; try rfl, after0_0]
  rw [show (dats m 0 c).leavesExact 1 t = owns (c : Thread nD τ) (ms0_1 t) fullShare ((dats m 0 c).after 1 t) from by
    unfold Dat.leavesExact; rw [show (cfg0 (F := F)).idle 1 ((cfg0 (F := F)).grid.coords t) = false from rfl]; try rfl, after0_1]
  rw [show (dats m 0 c).leavesExact 2 t = owns (c : Thread nD τ) (ms0_2 t) fullShare ((dats m 0 c).after 2 t) from by
    unfold Dat.leavesExact; rw [show (cfg0 (F := F)).idle 2 ((cfg0 (F := F)).grid.coords t) = false from rfl]; try rfl, after0_2]
  rw [show (dats m 0 c).leavesExact 3 t = owns (c : Thread nD τ) (ms0_3 t) fullShare ((dats m 0 c).after 3 t) from by
    unfold Dat.leavesExact; rw [show (cfg0 (F := F)).idle 3 ((cfg0 (F := F)).grid.coords t) = false from rfl]; try rfl, after0_3]
  rw [show (dats m 0 c).leavesExact 4 t = owns (c : Thread nD τ) (ms0_4 t) fullShare ((dats m 0 c).after 4 t) from by
    unfold Dat.leavesExact; rw [show (cfg0 (F := F)).idle 4 ((cfg0 (F := F)).grid.coords t) = false from rfl]; try rfl, after0_4]
  rw [show (dats m 0 c).leavesExact 5 t = owns (c : Thread nD τ) (ms0_5 t) fullShare ((dats m 0 c).after 5 t) from by
    unfold Dat.leavesExact; rw [show (cfg0 (F := F)).idle 5 ((cfg0 (F := F)).grid.coords t) = false from rfl]; try rfl, after0_5]
  rw [show (dats m 0 c).leavesExact 6 t = owns (c : Thread nD τ) (ms0_6 t) fullShare ((dats m 0 c).after 6 t) from by
    unfold Dat.leavesExact; rw [show (cfg0 (F := F)).idle 6 ((cfg0 (F := F)).grid.coords t) = false from rfl]; try rfl, after0_6]
  rw [show (dats m 0 c).leavesExact 7 t = owns (c : Thread nD τ) (ms0_7 t) fullShare ((dats m 0 c).after 7 t) from by
    unfold Dat.leavesExact; rw [show (cfg0 (F := F)).idle 7 ((cfg0 (F := F)).grid.coords t) = false from rfl]; try rfl, after0_7]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_run c (grid0.coords t) _ _ _ _ _ _ _ _ _ _ _ _ _ _ _ _ _ _ _ _ _ _ _ _ _ _ _ _ _ _ _ _ (cond_pt _) (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) Variants.nat () Set.univ forgets0 := fun t => by
  rw [bigSep_W0, bigSep_W0, body_row]
  exact triple_restated (sound_body m c t) rfl .rfl fun _ => .rfl

set_option backward.isDefEq.respectTransparency.types false in
/-- The launch: the program runs, and every semaphore counter is zero at the end. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.nat forgets0 m ρ main
    (hbody := fun c => (body_obligation m c).loose) (hq := fun _ _ _ => rfl)
    (howed := fun _ _ => rfl) (V := V m) (hmain := hmain m Variants.nat) (hA := A_eq m) (hΦ := fun _ _ => rfl)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

set_option maxHeartbeats 1140000 in
/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((A_eq m c 0).trans (V_main_arg0 m c)),
      (Pipeline.RDat.FramePost.arr_in h c 1 rfl).trans ((A_eq m c 1).trans (V_main_arg1 m c)),
      ((h c).2 main_arg2 (Pipeline.mem_restRefs_of main_arg2 (by decide) (by decide : ∀ w : Fin 10, (spec0 w).arr.view.ref ≠ main_arg2))).trans (V_main_arg2 m c)⟩) (run_main m ρ)

/-- The frame: the program runs, the argument arrays end unchanged, every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Att

end
-- ==== Proof.lean ====
module

public import proofs.«01_k».proof.Proof.MgProj.Vals
public import proofs.«01_k».proof.Proof.MgProj.Call
public import proofs.«01_k».proof.Proof.Gen.MgProjRefIdeal.Run
public import proofs.«01_k».proof.Proof.Gen.MgProjRefIdeal.Read
public import proofs.«01_k».proof.Proof.MgProjP.Call
public import proofs.«01_k».proof.Proof.QgProj.Vals
public import proofs.«01_k».proof.Proof.QgProj.Call
public import proofs.«01_k».proof.Proof.Gen.QgProjRefIdeal.Run
public import proofs.«01_k».proof.Proof.Gen.QgProjRefIdeal.Read
public import proofs.«01_k».proof.Proof.QgProjP.Call
public import proofs.«01_k».proof.Proof.Vals.OutProj
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.Gen.OutProj.Frame
public import proofs.«01_k».proof.Proof.Vals.MemKv
public import proofs.«01_k».proof.Proof.Gen.MemKvIdeal.Value
public import proofs.«01_k».proof.Proof.Gen.MemKvRefIdeal.Run
public import proofs.«01_k».proof.Proof.Gen.MemKvRefIdeal.Read
public import proofs.«01_k».proof.Proof.Gen.MemKv.Frame
public import proofs.«01_k».proof.Proof.KvProj.Finals
public import proofs.«01_k».proof.Proof.KvProj.Call
public import proofs.«01_k».proof.Proof.Gen.KvProjRefIdeal.Run
public import proofs.«01_k».proof.Proof.Gen.KvProjRefIdeal.Read
public import proofs.«01_k».proof.Proof.KvProjP.Call
public import proofs.«01_k».proof.Proof.Merge.Pre
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.Merge.Frame
public import proofs.«01_k».proof.Proof.MergeOut.Pre
public import proofs.«01_k».proof.Proof.Gen.MergeOutIdeal.Value
public import proofs.«01_k».proof.Proof.Gen.MergeOutRefIdeal.Run
public import proofs.«01_k».proof.Proof.Gen.MergeOutRefIdeal.Read
public import proofs.«01_k».proof.Proof.Gen.MergeOut.Frame
public import proofs.«01_k».proof.Proof.Gen.Pre_me_finite
public import proofs.«01_k».proof.Proof.Gen.Pre_mo_finite
public import proofs.«01_k».proof.Proof.Att.Frame
public import proofs.«01_k».proof.Proof.AttP.Frame
public import proofs.«01_k».proof.Proof.Gen.ReferenceIdeal
public import proofs.«01_k».proof.Defs
public import Idealize.ShloMosaic.Adequacy
public import Idealize.ShloMosaic.Init
public import Idealize.ShloMosaic.Lib.Claim
public import Idealize.ShloMosaic.Lib.Quiescent

@[expose] public section

/-!
The top of the proof: for each call the runs, and the equality of its results with the plain mathematics,
which the modules beside this one prove window by window.
-/

noncomputable section

namespace Cert.Proof

open Idealize.ShloMosaic Idealize.ShloMosaic.Tactic

/-- The reference of the prompt attention runs and leaves its arguments and every semaphore as they were. -/
theorem attentionRef : Cert.quiescent_ReferenceIdeal (hReferenceIdeal := Cert.ReferenceIdeal.Gen.facts) := by
  intro m g _
  hlo_run
  · simp
  · refine sem_eq_zero_of_no_sems ?_ _
    rfl

/-- The named constants of the prompt attention. -/
theorem attentionNames : Cert.preserves_Kernel_KernelIdeal :=
  ⟨IdealRules.named_const.statement Cert.KernelIdeal.κ "log2e" .f32 0x3FB8AA3B#32 _ rfl,
    IdealRules.named_const.statement Cert.KernelIdeal.κ "mask" .f32 0xF149F2CA#32 _ rfl,
    IdealRules.named_const.statement Cert.KernelIdeal.κ "dead" .f32 0xC3200000#32 _ rfl⟩

/-- The merge gates and memory queries: the kernel's results are the reference's. -/
theorem mgProj : Cert.algebraic_MgProjIdeal_MgProjRefIdeal
    (hMgProjIdeal := Cert.MgProjIdeal.Gen.facts) (hMgProjRefIdeal := Cert.MgProjRefIdeal.Gen.facts) := by
  pair_intro
  · run_from Cert.MgProjIdeal.Col.run_blocks m g
  · run_from Cert.MgProjRefIdeal.Value.run m' g'
    · exact (Cert.MgProjRefIdeal.Read.val_main_v11_eq ..).trans (Cert.Proof.MgProj.final_p m c).symm
    · exact (Cert.MgProjRefIdeal.Read.val_main_v18_eq ..).trans (Cert.Proof.MgProj.final_s m c).symm

/-- The reference of the merge gates and memory queries runs and leaves its arguments and every semaphore as they were. -/
theorem mgProjRef : Cert.quiescent_MgProjRefIdeal (hMgProjRefIdeal := Cert.MgProjRefIdeal.Gen.facts) := by
  intro m g _
  hlo_run
  · simp
  · refine sem_eq_zero_of_no_sems ?_ _
    rfl

/-- The attention queries and gates: the kernel's results are the reference's. -/
theorem qgProj : Cert.algebraic_QgProjIdeal_QgProjRefIdeal
    (hQgProjIdeal := Cert.QgProjIdeal.Gen.facts) (hQgProjRefIdeal := Cert.QgProjRefIdeal.Gen.facts) := by
  pair_intro
  · run_from Cert.QgProjIdeal.Col.run_blocks m g
  · run_from Cert.QgProjRefIdeal.Value.run m' g'
    · refine (Cert.QgProjRefIdeal.Read.val_main_v18_eq ..).trans ?_
      simp only [(hagree c).1, (hagree c).2.1, (hagree c).2.2]
      exact (Cert.Proof.QgProj.final_p m c).symm
    · refine (Cert.QgProjRefIdeal.Read.val_main_v37_eq ..).trans ?_
      simp only [(hagree c).1, (hagree c).2.1, (hagree c).2.2]
      exact (Cert.Proof.QgProj.final_s m c).symm

/-- The reference of the attention queries and gates runs and leaves its arguments and every semaphore as they were. -/
theorem qgProjRef : Cert.quiescent_QgProjRefIdeal (hQgProjRefIdeal := Cert.QgProjRefIdeal.Gen.facts) := by
  intro m g _
  hlo_run
  · simp
  · refine sem_eq_zero_of_no_sems ?_ _
    rfl

/-- The output projection with its norm and residual: the kernel's results are the reference's. -/
theorem outProj : Cert.algebraic_OutProjIdeal_OutProjRefIdeal
    (hOutProjIdeal := Cert.OutProjIdeal.Gen.facts) (hOutProjRefIdeal := Cert.OutProjRefIdeal.Gen.facts) := by
  pair_intro
  · run_from Cert.OutProjIdeal.Value.run_blocks m g
  · run_from Cert.OutProjRefIdeal.Value.run m' g'
    exact (Cert.OutProjRefIdeal.Read.val_main_v15_eq ..).trans (Cert.Proof.OutProj.final m c).symm

/-- The reference of the output projection with its norm and residual runs and leaves its arguments and every semaphore as they were. -/
theorem outProjRef : Cert.quiescent_OutProjRefIdeal (hOutProjRefIdeal := Cert.OutProjRefIdeal.Gen.facts) := by
  intro m g _
  hlo_run
  · simp
  · refine sem_eq_zero_of_no_sems ?_ _
    rfl

/-- The keys and values of the memory slots: the kernel's results are the reference's. -/
theorem memKv : Cert.algebraic_MemKvIdeal_MemKvRefIdeal
    (hMemKvIdeal := Cert.MemKvIdeal.Gen.facts) (hMemKvRefIdeal := Cert.MemKvRefIdeal.Gen.facts) := by
  pair_intro
  · run_from Cert.MemKvIdeal.Value.run_blocks m g
  · run_from Cert.MemKvRefIdeal.Value.run m' g'
    · exact (Cert.MemKvRefIdeal.Read.val_main_v14_eq ..).trans (Cert.Proof.MemKv.final_k m c).symm
    · exact (Cert.MemKvRefIdeal.Read.val_main_v15_eq ..).trans (Cert.Proof.MemKv.final_v m c).symm

/-- The reference of the keys and values of the memory slots runs and leaves its arguments and every semaphore as they were. -/
theorem memKvRef : Cert.quiescent_MemKvRefIdeal (hMemKvRefIdeal := Cert.MemKvRefIdeal.Gen.facts) := by
  intro m g _
  hlo_run
  · simp
  · refine sem_eq_zero_of_no_sems ?_ _
    rfl

set_option maxHeartbeats 1000000 in
/-- The keys and values of both attentions: the kernel's results are the reference's. -/
theorem kvProj : Cert.algebraic_KvProjIdeal_KvProjRefIdeal
    (hKvProjIdeal := Cert.KvProjIdeal.Gen.facts) (hKvProjRefIdeal := Cert.KvProjRefIdeal.Gen.facts) := by
  pair_intro
  · run_from Cert.KvProjIdeal.Kv.run_blocks m g
  · run_from Cert.KvProjRefIdeal.Value.run m' g'
    · refine (Cert.KvProjRefIdeal.Read.val_main_v19_eq ..).trans ?_
      simp only [(hagree c).1, (hagree c).2.1, (hagree c).2.2.1, (hagree c).2.2.2]
      exact (Cert.Proof.KvProj.final_y m c).symm
    · exact (Cert.KvProjRefIdeal.Read.val_main_v20_eq ..).trans (Cert.Proof.KvProj.final_h m c).symm
    · exact (Cert.KvProjRefIdeal.Read.val_main_v22_eq ..).trans (Cert.Proof.KvProj.final_sbk m c).symm
    · exact (Cert.KvProjRefIdeal.Read.val_main_v24_eq ..).trans (Cert.Proof.KvProj.final_sbv m c).symm
    · exact (Cert.KvProjRefIdeal.Read.val_main_v27_eq ..).trans (Cert.Proof.KvProj.final_bdk m c).symm
    · exact (Cert.KvProjRefIdeal.Read.val_main_v30_eq ..).trans (Cert.Proof.KvProj.final_bdv m c).symm
    · refine (Cert.KvProjRefIdeal.Read.val_main_v50_eq ..).trans ?_
      simp only [(hagree c).1, (hagree c).2.1, (hagree c).2.2.1, (hagree c).2.2.2]
      exact (Cert.Proof.KvProj.final_ys m c).symm
    · exact (Cert.KvProjRefIdeal.Read.val_main_v51_eq ..).trans (Cert.Proof.KvProj.final_hs m c).symm
    · exact (Cert.KvProjRefIdeal.Read.val_main_v53_eq ..).trans (Cert.Proof.KvProj.final_sbks m c).symm
    · exact (Cert.KvProjRefIdeal.Read.val_main_v55_eq ..).trans (Cert.Proof.KvProj.final_sbvs m c).symm
    · exact (Cert.KvProjRefIdeal.Read.val_main_v57_eq ..).trans (Cert.Proof.KvProj.final_bdks m c).symm
    · exact (Cert.KvProjRefIdeal.Read.val_main_v59_eq ..).trans (Cert.Proof.KvProj.final_bdvs m c).symm

/-- The reference of the keys and values of both attentions runs and leaves its arguments and every semaphore as they were. -/
theorem kvProjRef : Cert.quiescent_KvProjRefIdeal (hKvProjRefIdeal := Cert.KvProjRefIdeal.Gen.facts) := by
  intro m g _
  hlo_run
  · simp
  · refine sem_eq_zero_of_no_sems ?_ _
    rfl

/-- The merge of the prompt rows' branches: the kernel's result is the reference's where no element is infinite. -/
theorem merge : Cert.algebraic_MergeIdeal_MergeRefIdeal_pre_me_finite
    (hMergeIdeal := Cert.MergeIdeal.Gen.facts) (hMergeRefIdeal := Cert.MergeRefIdeal.Gen.facts) (hPre_me_finite := Cert.Pre_me_finite.Gen.facts) := by
  pair_intro
  · run_from Cert.MergeIdeal.Value.run_blocks m g
  · run_from Cert.MergeRefIdeal.Value.run m' g'
    letI := Cert.Pre_me_finite.Gen.facts
    obtain ⟨h0, h1, h2, h3, h4, h5, h6, h7, h8⟩ := Cert.Proof.Merge.finite_of_pre m hpre c
    obtain ⟨a0, a1, a2, a3, a4, a5, a6, a7⟩ := hagree c
    refine (Cert.MergeRefIdeal.Read.val_main_v59_eq ..).trans ?_
    simp only [a0, a1, a2, a3, a4, a5, a6, a7]
    exact (Cert.Proof.Merge.final m c h0 h1 h2 h3 h4 h5 h6 h7 h8).symm

/-- The reference of the merge of the prompt rows' branches runs and leaves its arguments and every semaphore as they were. -/
theorem mergeRef : Cert.quiescent_MergeRefIdeal (hMergeRefIdeal := Cert.MergeRefIdeal.Gen.facts) := by
  intro m g _
  hlo_run
  · simp
  · refine sem_eq_zero_of_no_sems ?_ _
    rfl

/-- The sample rows' merge and output projection: the kernel's result is the reference's where no element is infinite. -/
theorem mergeOut : Cert.algebraic_MergeOutIdeal_MergeOutRefIdeal_pre_mo_finite
    (hMergeOutIdeal := Cert.MergeOutIdeal.Gen.facts) (hMergeOutRefIdeal := Cert.MergeOutRefIdeal.Gen.facts) (hPre_mo_finite := Cert.Pre_mo_finite.Gen.facts) := by
  pair_intro
  · run_from Cert.MergeOutIdeal.Value.run_blocks m g
  · run_from Cert.MergeOutRefIdeal.Value.run m' g'
    letI := Cert.Pre_mo_finite.Gen.facts
    obtain ⟨h0, h1, h2, h3, h4, h5, h6, h7, h8⟩ := Cert.Proof.MergeOut.finite_of_pre m hpre c
    obtain ⟨a0, a1, a2, a3, a4, a5, a6, a7, a8, a9, a10⟩ := hagree c
    refine (Cert.MergeOutRefIdeal.Read.val_main_v73_eq ..).trans ?_
    simp only [a0, a1, a2, a3, a4, a5, a6, a7, a8, a9, a10]
    exact (Cert.Proof.MergeOut.final m c h0 h1 h2 h3 h4 h5 h6 h7 h8).symm

/-- The reference of the sample rows' merge and output projection runs and leaves its arguments and every semaphore as they were. -/
theorem mergeOutRef : Cert.quiescent_MergeOutRefIdeal (hMergeOutRefIdeal := Cert.MergeOutRefIdeal.Gen.facts) := by
  intro m g _
  hlo_run
  · simp
  · refine sem_eq_zero_of_no_sems ?_ _
    rfl

/-- Everything claimed: the frames of the kernels, of their idealizations and of their references, the names
of the attention's constants, and the equalities above. -/
theorem claim : Cert.Claim :=
  ⟨Cert.Kernel.Gen.facts,
    Cert.KernelIdeal.Gen.facts,
    Cert.ReferenceIdeal.Gen.facts,
    Cert.MgProj.Gen.facts,
    Cert.MgProjIdeal.Gen.facts,
    Cert.MgProjRefIdeal.Gen.facts,
    Cert.QgProj.Gen.facts,
    Cert.QgProjIdeal.Gen.facts,
    Cert.QgProjRefIdeal.Gen.facts,
    Cert.OutProj.Gen.facts,
    Cert.OutProjIdeal.Gen.facts,
    Cert.OutProjRefIdeal.Gen.facts,
    Cert.MemKv.Gen.facts,
    Cert.MemKvIdeal.Gen.facts,
    Cert.MemKvRefIdeal.Gen.facts,
    Cert.KvProj.Gen.facts,
    Cert.KvProjIdeal.Gen.facts,
    Cert.KvProjRefIdeal.Gen.facts,
    Cert.Merge.Gen.facts,
    Cert.MergeIdeal.Gen.facts,
    Cert.MergeRefIdeal.Gen.facts,
    Cert.MergeOut.Gen.facts,
    Cert.MergeOutIdeal.Gen.facts,
    Cert.MergeOutRefIdeal.Gen.facts,
    Cert.Pre_me_finite.Gen.facts,
    Cert.Pre_mo_finite.Gen.facts,
    fun m ρ _ => Cert.Kernel.Att.frame m ρ,
    fun m ρ _ => Cert.KernelIdeal.Att.frame m ρ,
    attentionRef,
    fun m ρ _ => Cert.MgProj.Col.frame m ρ,
    fun m ρ _ => Cert.MgProjIdeal.Col.frame m ρ,
    mgProjRef,
    fun m ρ _ => Cert.QgProj.Col.frame m ρ,
    fun m ρ _ => Cert.QgProjIdeal.Col.frame m ρ,
    qgProjRef,
    fun m ρ _ => Cert.OutProj.Gen.frame m ρ,
    fun m ρ _ => Cert.OutProjIdeal.Gen.frame m ρ,
    outProjRef,
    fun m ρ _ => Cert.MemKv.Gen.frame m ρ,
    fun m ρ _ => Cert.MemKvIdeal.Gen.frame m ρ,
    memKvRef,
    fun m ρ _ => Cert.KvProj.Kv.frame m ρ,
    fun m ρ _ => Cert.KvProjIdeal.Kv.frame m ρ,
    kvProjRef,
    fun m ρ _ => Cert.Merge.Gen.frame m ρ,
    fun m ρ _ => Cert.MergeIdeal.Gen.frame m ρ,
    fun m ρ _ => Cert.MergeIdeal.Gen.frame m ρ,
    mergeRef,
    fun m ρ _ => mergeRef m ρ trivial,
    fun m ρ _ => Cert.MergeOut.Gen.frame m ρ,
    fun m ρ _ => Cert.MergeOutIdeal.Gen.frame m ρ,
    fun m ρ _ => Cert.MergeOutIdeal.Gen.frame m ρ,
    mergeOutRef,
    fun m ρ _ => mergeOutRef m ρ trivial,
    attentionNames, trivial, mgProj, trivial, qgProj, trivial, outProj, trivial, memKv, trivial, kvProj, trivial, merge, trivial, mergeOut⟩

end Cert.Proof

end
